-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  IdealRules.named_const.Statement Cert.KernelIdeal.κ "log_gamma_0" .f32 0xBD020AEC#32 ((Real.log (31 / 32) : ℝ) : EReal)
  ∧ IdealRules.named_const.Statement Cert.KernelIdeal.κ "log_gamma_1" .f32 0xBC8102B3#32 ((Real.log (63 / 64) : ℝ) : EReal)
  ∧ IdealRules.named_const.Statement Cert.KernelIdeal.κ "log_gamma_2" .f32 0xBC0080AC#32 ((Real.log (127 / 128) : ℝ) : EReal)
  ∧ IdealRules.named_const.Statement Cert.KernelIdeal.κ "log_gamma_3" .f32 0xBB80402B#32 ((Real.log (255 / 256) : ℝ) : EReal)
  ∧ IdealRules.named_const.Statement Cert.KernelIdeal.κ "log_gamma_4" .f32 0xBB00200B#32 ((Real.log (511 / 512) : ℝ) : EReal)
  ∧ IdealRules.named_const.Statement Cert.KernelIdeal.κ "log_gamma_5" .f32 0xBA801003#32 ((Real.log (1023 / 1024) : ℝ) : EReal)
  ∧ IdealRules.named_const.Statement Cert.KernelIdeal.κ "gamma_chunk_0" .f32 0x36AA3C24#32 ((481826222923995177288493177782928668628444535488028449884700930703492537446443879411755043665915451784138996893510848751963428875393165510380117531209692566196063446652247838296994879517858274761019053864744536613669608718282663691428999254491614332233770644727712416494515002706441742397462172761308509745786022675305593821180525990432963011275752534746616935669291926144170749490495385458502654174432192925009580506308347586265018583369875210171637708008817013204088010393587925520330894190983486734215915493181552038989941141689675020766913044331854481012230136650321921 / 94971145180789141405469863695884969990692470634685116742800956330585166286696033875105787408321105016172948848387979899381078776548058719274153038481919330076987462588432197778346974895637755344856609332899271782077461008182119361693275785914457910967149403472811089067095457018656127063791202559391107981952290497413671516189054715030212151457729925746607341068107450556036691253445520158175442766273106804460580598760425795931407058821363012979657287013264796313022267140908229491284859997425339970007394059640858536497878915778164024704513828250590897948604589281308443672576 : ℝ) : EReal)
  ∧ IdealRules.named_const.Statement Cert.KernelIdeal.κ "gamma_chunk_1" .f32 0x3B1AEE92#32 ((8846489984760138951979824404893609302559416390036461683408615148896924187960477324062675755667947268500492326103751196599198518634893143464369142810808478889501409212482466511140866578816927941072385380955347437309404268010321953936495798206179740882028911733730238624837066039940541077056503924530830250951873816141381693901880889040581266930103112580019917908829190490429051939837915970807043707374917386041051630930980499767256893417177966018962914260397761557277455667548004471108789581067269737218854263837094222704257279005970844906694063249623715953445686342222668699457976474987450710968584045574493718816370279740811329150115634507644810453366273369453055411136671556785359360860161 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.KernelIdeal.κ "gamma_chunk_2" .f32 0x3D498A25#32 ((7254856842618488864125694456637680034209856276189893854730650937054254954086135361225935961417324460156263355776303788104853772509440364996914397331546512694845231111868722707550467538919557383720319473219012153246201686186581017678809187190219148516113305966858689353614734607795265783672453020793873975827227756101502221709743912557746786218471666068787959107165845088967695252123944000708686453398960072117474296439315374837715573462267994750080995533363782446145157672355722064054132049835496952344807201945925342059753956561202269270857452352276832429682599892317840674674862530611234434014921333681721653939162400684463660391649125694770713885335130373390257742108407429207814640474738193756412948051487899512795623097088250955788821466019431672464720856509872991386154427621624834547426788410462781441 / 147444421139692424806332508947970678792346040212568770945456743318661362280834640607498748459196742576650163591891066959000280984370213842273285029708032466536084583113729486015826557532750465299832071590813090201185303983764925247730707050970404354136800293878475729689379390379781802923363105435406771752250409197047028005596060976859205959473970248303316808753252115729411497720357971050627997031988036134171378490368600800077874111539929616255078628845724518087275904701673495933036782952356123974276863106747252513781162686071130177205386369245496129876475767411074510311386444547332882472126067840027882117834454260409440463934514725266489345605325846320312063708991630461869660133395361671512521158824824732790407722642574316638186104056738766559573230837027133444201105427930770976052393421467136557056 : ℝ) : EReal)
  ∧ IdealRules.named_const.Statement Cert.KernelIdeal.κ "gamma_chunk_3" .f32 0x3E63D0AC#32 ((1292496234871531949696885932438011521491686757305765377914297481390537386763994035385829421998946859240290414882953241311136249866251185991521996772975546866348883509690206279955419087526750165986099969010010685481399426167360628914069896903227649852555904218144114155223448489324142601592472573494648209095865258596095054198783184803186221103319341620116562718284311866711433516287196576026975921951649424351368798629209300254154289766612009342622687999737249656812855226653165903049416760067607343130976003587240255604307026236788291655779652094295951246974444953026487767775470477065159642602844149331248631819057185499342712374703316386958206660260822372476027397357455988009650774739387130244353520497167179165982451202918170816476152349376317491298062012900228921536829698630368585342631662400986193789410162766522021440502985878158372466848370612238244690838289482336072173094577986152131643393659032881259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  ∧ IdealRules.named_const.Statement Cert.KernelIdeal.κ "gamma_chunk_4" .f32 0x3EF1ACA4#32 ((108050219066214858162361016573330962026504829671434510172018766753584264002745537922618275485636490803146748867789518157917348906885067305766454245526006334581014422696603455911932229343631659701755726478562586465208924642563656911936699314572507116315356666619267718525206126519668575578490338528455427131272057515883826696885342959643031921398813014700152379497781674722844447759485987911120632663334816135630681335890139386784788275775393134219319657265786526162974961101168868239281646125362095274251984528622571352698273683541082979884335080883624075576016716755658424369001070464166468040601601800797428096835131470683641493449779961319748737257863501249245564672672749365715984586712506575420356947111920133010343992309498638734658231580406007069923069623479870596197637606636211028022370582663842273469866751782888342508123770447097101243049181500341258858921295223756539563037135585805119510670052789172076209571526611197986406704160762188801615200343972166923907061797010085697124784361517923559604265960460356171489159454075453441 / 228910131428177603701755406038597370992866256605996714416239305740707356279544553417171483432814473032565478203542224449422544427767103399934794267554112492152570643747783615393289357881580751887291609577050486119385936116125581404470429097773717389138692933902315347725871293766854763709974986644983264429564711070350563522040399138184502765579565271776437524767219607364330343620246397252375590392067099313695524738912790075431862503208410123955197790844902368915156543066869228757701257705464810732957386428986999720416931970101723139791242081350688640076611213184787464723604890702270021713895829613969276994985014364487678263308362490038590335423610626980191000005473125921597417923940324803866846904812245997039463026449953790335867383604239048081272376364499889154174619381286132139726802541904422153396907189539634801218849822748376475140814390481137971610636651543538899732162561295745248744175743178153962997058705210024539453107059157058925528424545393257507597364998430284303652618537241371092574259540395037079680377978341031936 : ℝ) : EReal)
  ∧ IdealRules.named_const.Statement Cert.KernelIdeal.κ "gamma_chunk_5" .f32 0x3F2FE9F0#32 ((6197882598200780558972841822412795098009856076495053031557825691722863345061859416817120876997296778101705386700350581957676731435999341120728922625237536904559823209452910591606609113095286858885302768267315903706495853775729711243960113935301081668514367196818919064772178007430512112330247798615880528256680821478429739412589725563189780286300928299333453619554680252190882371479574865557270560207779442298604699825168498314545693605740898940532395493138082054385081519214587848668293515451855047749281463104105506199399648645075717296529098085827836417814897680253008737369395168697175481938949567128898691543454077493785792252689087387866596353370400694555957477810222223426598807488602240966977185456412276583064892867111419360018929971321104179796050893334426983417293206325618533630963287225716830901707531391202990984179015968936636363268357792913143016496482904562994945207179208758193459801025005670442006164404248596330505942681622318111584310382118733341174481137405915914174499640887547169791563375159011090662941920613292635600057763305275479484994348638124965188016497266770127749538918405792111499823213537913630130376012313215816596848641 / 9019518416950528558373478086511232658951474842525520401496114928154304263954966638953020103274038169821978036310387105187439981983038679543190552246151273693942430142430214083685203206060500793611640634047888641084801170845605063334103743639179436252101154643375533557849579891726251950146428978850105516362034204960607121369958942503226437204196452448471269253300696978879636095437453409277681885696982308658433120767281076066105051771156066244607221345945266065486445664418226651139092674586681359212098059833861221228710626721320869724746184863955622162546234638825771342548855451709230916475881564603234959416156932444801211659142200921408360597108039135985669806212057156206663539212378905677937882406546561037396635425165843343857133953586158290319569289376437788637610819165094090272546217161805776234786903154610120291328498719159205664801129636695538349715728280593823253491223728898318034697583114552626234434370877814140762055366083260852745620423716424511260012738181745813374647152733067517775871845874530787928515094116349419316639753203075339289947427722432809910728602878067223827332337510877965115796034585470544985654584014864170694475776 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v135_0)) (v1 : (c : Dev Cert.KernelIdeal.nD) → Buf (Elt Ideal) ((c.tc : Thread Cert.KernelIdeal.nD Cert.KernelIdeal.τ).loc Cert.KernelIdeal.main_v135_1)) (v2 : (c : Dev Cert.KernelIdeal.nD) → Buf (Elt Ideal) ((c.tc : Thread Cert.KernelIdeal.nD Cert.KernelIdeal.τ).loc Cert.KernelIdeal.main_v135_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135_0) = v0 c
          ∧ r.2.mem ((c.tc : Thread Cert.KernelIdeal.nD Cert.KernelIdeal.τ).loc Cert.KernelIdeal.main_v135_1) = v1 c
          ∧ r.2.mem ((c.tc : Thread Cert.KernelIdeal.nD Cert.KernelIdeal.τ).loc Cert.KernelIdeal.main_v135_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v60_0)) (v1 : (c : Dev Cert.Kernel2Ideal.nD) → Buf (Elt Ideal) ((c.tc : Thread Cert.Kernel2Ideal.nD Cert.Kernel2Ideal.τ).loc Cert.Kernel2Ideal.main_v60_1)) (v2 : (c : Dev Cert.Kernel2Ideal.nD) → Buf (Elt Ideal) ((c.tc : Thread Cert.Kernel2Ideal.nD Cert.Kernel2Ideal.τ).loc Cert.Kernel2Ideal.main_v60_2)) (v3 : (c : Dev Cert.Kernel2Ideal.nD) → Buf (Elt Ideal) ((c.tc : Thread Cert.Kernel2Ideal.nD Cert.Kernel2Ideal.τ).loc Cert.Kernel2Ideal.main_v60_3)) (v4 : (c : Dev Cert.Kernel2Ideal.nD) → Buf (Elt Ideal) ((c.tc : Thread Cert.Kernel2Ideal.nD Cert.Kernel2Ideal.τ).loc Cert.Kernel2Ideal.main_v60_4)) (v5 : (c : Dev Cert.Kernel2Ideal.nD) → Buf (Elt Ideal) ((c.tc : Thread Cert.Kernel2Ideal.nD Cert.Kernel2Ideal.τ).loc Cert.Kernel2Ideal.main_v60_5)) (v6 : (c : Dev Cert.Kernel2Ideal.nD) → Buf (Elt Ideal) ((c.tc : Thread Cert.Kernel2Ideal.nD Cert.Kernel2Ideal.τ).loc Cert.Kernel2Ideal.main_v60_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v60_0) = v0 c
          ∧ r.2.mem ((c.tc : Thread Cert.Kernel2Ideal.nD Cert.Kernel2Ideal.τ).loc Cert.Kernel2Ideal.main_v60_1) = v1 c
          ∧ r.2.mem ((c.tc : Thread Cert.Kernel2Ideal.nD Cert.Kernel2Ideal.τ).loc Cert.Kernel2Ideal.main_v60_2) = v2 c
          ∧ r.2.mem ((c.tc : Thread Cert.Kernel2Ideal.nD Cert.Kernel2Ideal.τ).loc Cert.Kernel2Ideal.main_v60_3) = v3 c
          ∧ r.2.mem ((c.tc : Thread Cert.Kernel2Ideal.nD Cert.Kernel2Ideal.τ).loc Cert.Kernel2Ideal.main_v60_4) = v4 c
          ∧ r.2.mem ((c.tc : Thread Cert.Kernel2Ideal.nD Cert.Kernel2Ideal.τ).loc Cert.Kernel2Ideal.main_v60_5) = v5 c
          ∧ r.2.mem ((c.tc : Thread Cert.Kernel2Ideal.nD Cert.Kernel2Ideal.τ).loc Cert.Kernel2Ideal.main_v60_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_v141) = v1 c
          ∧ r.2.mem ((c.tc : Thread Cert.Reference2Ideal.nD Cert.Reference2Ideal.τ).loc Cert.Reference2Ideal.main_v142) = v2 c
          ∧ r.2.mem ((c.tc : Thread Cert.Reference2Ideal.nD Cert.Reference2Ideal.τ).loc Cert.Reference2Ideal.main_v143) = v3 c
          ∧ r.2.mem ((c.tc : Thread Cert.Reference2Ideal.nD Cert.Reference2Ideal.τ).loc Cert.Reference2Ideal.main_v144) = v4 c
          ∧ r.2.mem ((c.tc : Thread Cert.Reference2Ideal.nD Cert.Reference2Ideal.τ).loc Cert.Reference2Ideal.main_v147) = v5 c
          ∧ r.2.mem ((c.tc : Thread Cert.Reference2Ideal.nD Cert.Reference2Ideal.τ).loc Cert.Reference2Ideal.main_v150) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_v103) = v1 c
          ∧ r.2.mem ((c.tc : Thread Cert.Reference4Ideal.nD Cert.Reference4Ideal.τ).loc Cert.Reference4Ideal.main_v104) = v2 c
          ∧ r.2.mem ((c.tc : Thread Cert.Reference4Ideal.nD Cert.Reference4Ideal.τ).loc Cert.Reference4Ideal.main_v105) = v3 c
          ∧ r.2.mem ((c.tc : Thread Cert.Reference4Ideal.nD Cert.Reference4Ideal.τ).loc Cert.Reference4Ideal.main_v106) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v33_1)) (v1 : (c : Dev Cert.Kernel5Ideal.nD) → Buf (Elt Ideal) ((c.tc : Thread Cert.Kernel5Ideal.nD Cert.Kernel5Ideal.τ).loc Cert.Kernel5Ideal.main_v33_2)) (v2 : (c : Dev Cert.Kernel5Ideal.nD) → Buf (Elt Ideal) ((c.tc : Thread Cert.Kernel5Ideal.nD Cert.Kernel5Ideal.τ).loc Cert.Kernel5Ideal.main_v33_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_1) = v0 c
          ∧ r.2.mem ((c.tc : Thread Cert.Kernel5Ideal.nD Cert.Kernel5Ideal.τ).loc Cert.Kernel5Ideal.main_v33_2) = v1 c
          ∧ r.2.mem ((c.tc : Thread Cert.Kernel5Ideal.nD Cert.Kernel5Ideal.τ).loc Cert.Kernel5Ideal.main_v33_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S1x4112x768 : Shape := ⟨3, ![1, 4112, 768]⟩
abbrev S_ : Shape := ⟨0, ![]⟩

class Facts : Prop where
  bcast_S_S1x4112x768 : S_.BroadcastsInDim S1x4112x768 (![] : Fin 0 → Fin S1x4112x768.rank)
  reducesTo_S1x4112x768_S_d0_1_2 : S1x4112x768.ReducesTo [0, 1, 2] S_
  h_S_ : 0 < S_.numel

variable [Facts]

def fn_part1 {F : FTy → Type} [FloatOps F] (main_v8 : IVec S_ 1) (main_v12 : IVec S_ 1) (main_v15 : IVec S1x4112x768 1) (main_c_5 : IVec S_ 1) : IVec S_ 1 :=
  let main_v16 : IVec S_ 1 := (fun x v => Host.reduce IntOp.andi x v reducesTo_S1x4112x768_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S1x4112x768 .f32) (main_arg1 : FVec F S1x4112x768 .f32) (main_arg2 : FVec F S1x4112x768 .f32) (main_arg3 : FVec F S1x4112x768 .f32) : IVec S_ 1 :=
  let main_v0 : FVec F S1x4112x768 .f32 := Host.absf main_arg0
  let main_cst : FVec F S_ .f32 := constant S_ .f32 0x7F800000#32
  let main_v1 : FVec F S1x4112x768 .f32 := broadcastInDim S1x4112x768 ![] bcast_S_S1x4112x768 main_cst
  let main_v2 : IVec S1x4112x768 1 := cmpf .olt main_v0 main_v1
  let main_c : IVec S_ 1 := constantI S_ 1 1#1
  let main_v3 : IVec S_ 1 := (fun x v => Host.reduce IntOp.andi x v reducesTo_S1x4112x768_S_d0_1_2 h_S_) main_v2 main_c
  let main_v4 : FVec F S1x4112x768 .f32 := Host.absf main_arg1
  let main_cst_0 : FVec F S_ .f32 := constant S_ .f32 0x7F800000#32
  let main_v5 : FVec F S1x4112x768 .f32 := broadcastInDim S1x4112x768 ![] bcast_S_S1x4112x768 main_cst_0
  let main_v6 : IVec S1x4112x768 1 := cmpf .olt main_v4 main_v5
  let main_c_1 : IVec S_ 1 := constantI S_ 1 1#1
  let main_v7 : IVec S_ 1 := (fun x v => Host.reduce IntOp.andi x v reducesTo_S1x4112x768_S_d0_1_2 h_S_) main_v6 main_c_1
  let main_v8 : IVec S_ 1 := andi main_v3 main_v7
  let main_v9 : FVec F S1x4112x768 .f32 := Host.absf main_arg2
  let main_cst_2 : FVec F S_ .f32 := constant S_ .f32 0x7F800000#32
  let main_v10 : FVec F S1x4112x768 .f32 := broadcastInDim S1x4112x768 ![] bcast_S_S1x4112x768 main_cst_2
  let main_v11 : IVec S1x4112x768 1 := cmpf .olt main_v9 main_v10
  let main_c_3 : IVec S_ 1 := constantI S_ 1 1#1
  let main_v12 : IVec S_ 1 := (fun x v => Host.reduce IntOp.andi x v reducesTo_S1x4112x768_S_d0_1_2 h_S_) main_v11 main_c_3
  let main_v13 : FVec F S1x4112x768 .f32 := Host.absf main_arg3
  let main_cst_4 : FVec F S_ .f32 := constant S_ .f32 0x7F800000#32
  let main_v14 : FVec F S1x4112x768 .f32 := broadcastInDim S1x4112x768 ![] bcast_S_S1x4112x768 main_cst_4
  let main_v15 : IVec S1x4112x768 1 := cmpf .olt main_v13 main_v14
  let main_c_5 : IVec S_ 1 := constantI S_ 1 1#1
  fn_part1 (F := F) main_v8 main_v12 main_v15 main_c_5
-- ==== Pre_finite2.lean ====
abbrev S4112x768 : Shape := ⟨2, ![4112, 768]⟩
abbrev S4112x256 : Shape := ⟨2, ![4112, 256]⟩
abbrev S4112x1024 : Shape := ⟨2, ![4112, 1024]⟩
abbrev S768 : Shape := ⟨1, ![768]⟩
abbrev S1024x1024 : Shape := ⟨2, ![1024, 1024]⟩
abbrev S1024 : Shape := ⟨1, ![1024]⟩
abbrev S_ : Shape := ⟨0, ![]⟩

class Facts : Prop where
  bcast_S_S4112x768 : S_.BroadcastsInDim S4112x768 (![] : Fin 0 → Fin S4112x768.rank)
  reducesTo_S4112x768_S_d0_1 : S4112x768.ReducesTo [0, 1] S_
  h_S_ : 0 < S_.numel
  bcast_S_S4112x256 : S_.BroadcastsInDim S4112x256 (![] : Fin 0 → Fin S4112x256.rank)
  reducesTo_S4112x256_S_d0_1 : S4112x256.ReducesTo [0, 1] S_
  bcast_S_S4112x1024 : S_.BroadcastsInDim S4112x1024 (![] : Fin 0 → Fin S4112x1024.rank)
  reducesTo_S4112x1024_S_d0_1 : S4112x1024.ReducesTo [0, 1] S_
  bcast_S_S768 : S_.BroadcastsInDim S768 (![] : Fin 0 → Fin S768.rank)
  reducesTo_S768_S_d0 : S768.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg9 : FVec F S4112x1024 .f32) (main_arg10 : FVec F S4112x1024 .f32) (main_v28 : IVec S_ 1) (main_v32 : IVec S_ 1) (main_v33 : FVec F S1024 .f32) : IVec S_ 1 :=
  let main_cst_12 : FVec F S_ .f32 := constant S_ .f32 0x7F800000#32
  let main_v34 : FVec F S1024 .f32 := broadcastInDim S1024 ![] bcast_S_S1024 main_cst_12
  let main_v35 : IVec S1024 1 := cmpf .olt main_v33 main_v34
  let main_c_13 : IVec S_ 1 := constantI S_ 1 1#1
  let main_v36 : IVec S_ 1 := (fun x v => Host.reduce IntOp.andi x v reducesTo_S1024_S_d0 h_S_) main_v35 main_c_13
  let main_v37 : IVec S_ 1 := andi main_v32 main_v36
  let main_v38 : FVec F S4112x1024 .f32 := Host.absf main_arg9
  let main_cst_14 : FVec F S_ .f32 := constant S_ .f32 0x7F800000#32
  let main_v39 : FVec F S4112x1024 .f32 := broadcastInDim S4112x1024 ![] bcast_S_S4112x1024 main_cst_14
  let main_v40 : IVec S4112x1024 1 := cmpf .olt main_v38 main_v39
  let main_c_15 : IVec S_ 1 := constantI S_ 1 1#1
  let main_v41 : IVec S_ 1 := (fun x v => Host.reduce IntOp.andi x v reducesTo_S4112x1024_S_d0_1 h_S_) main_v40 main_c_15
  let main_v42 : FVec F S4112x1024 .f32 := Host.absf main_arg10
  let main_cst_16 : FVec F S_ .f32 := constant S_ .f32 0x7F800000#32
  let main_v43 : FVec F S4112x1024 .f32 := broadcastInDim S4112x1024 ![] bcast_S_S4112x1024 main_cst_16
  let main_v44 : IVec S4112x1024 1 := cmpf .olt main_v42 main_v43
  let main_c_17 : IVec S_ 1 := constantI S_ 1 1#1
  let main_v45 : IVec S_ 1 := (fun x v => Host.reduce IntOp.andi x v reducesTo_S4112x1024_S_d0_1 h_S_) main_v44 main_c_17
  let main_v46 : IVec S_ 1 := andi main_v41 main_v45
  let main_v47 : IVec S_ 1 := andi main_v37 main_v46
  let main_v48 : IVec S_ 1 := andi main_v28 main_v47
  main_v48

def fn_part1 {F : FTy → Type} [FloatOps F] (main_arg4 : FVec F S768 .f32) (main_arg5 : FVec F S768 .f32) (main_arg6 : FVec F S1024x1024 .f32) (main_arg7 : FVec F S1024 .f32) (main_arg9 : FVec F S4112x1024 .f32) (main_arg10 : FVec F S4112x1024 .f32) (main_v13 : IVec S_ 1) (main_v16 : IVec S4112x1024 1) : IVec S_ 1 :=
  let main_c_5 : IVec S_ 1 := constantI S_ 1 1#1
  let main_v17 : IVec S_ 1 := (fun x v => Host.reduce IntOp.andi x v reducesTo_S4112x1024_S_d0_1 h_S_) main_v16 main_c_5
  let main_v18 : FVec F S768 .f32 := Host.absf main_arg4
  let main_cst_6 : FVec F S_ .f32 := constant S_ .f32 0x7F800000#32
  let main_v19 : FVec F S768 .f32 := broadcastInDim S768 ![] bcast_S_S768 main_cst_6
  let main_v20 : IVec S768 1 := cmpf .olt main_v18 main_v19
  let main_c_7 : IVec S_ 1 := constantI S_ 1 1#1
  let main_v21 : IVec S_ 1 := (fun x v => Host.reduce IntOp.andi x v reducesTo_S768_S_d0 h_S_) main_v20 main_c_7
  let main_v22 : IVec S_ 1 := andi main_v17 main_v21
  let main_v23 : FVec F S768 .f32 := Host.absf main_arg5
  let main_cst_8 : FVec F S_ .f32 := constant S_ .f32 0x7F800000#32
  let main_v24 : FVec F S768 .f32 := broadcastInDim S768 ![] bcast_S_S768 main_cst_8
  let main_v25 : IVec S768 1 := cmpf .olt main_v23 main_v24
  let main_c_9 : IVec S_ 1 := constantI S_ 1 1#1
  let main_v26 : IVec S_ 1 := (fun x v => Host.reduce IntOp.andi x v reducesTo_S768_S_d0 h_S_) main_v25 main_c_9
  let main_v27 : IVec S_ 1 := andi main_v22 main_v26
  let main_v28 : IVec S_ 1 := andi main_v13 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : FVec F S1024 .f32 := Host.absf main_arg7
  fn_part2 (F := F) main_arg9 main_arg10 main_v28 main_v32 main_v33

def fn {F : FTy → Type} [FloatOps F] (main_arg0 : FVec F S4112x768 .f32) (main_arg1 : FVec F S4112x768 .f32) (main_arg2 : FVec F S4112x256 .f32) (main_arg3 : FVec F S4112x1024 .f32) (main_arg4 : FVec F S768 .f32) (main_arg5 : FVec F S768 .f32) (main_arg6 : FVec F S1024x1024 .f32) (main_arg7 : FVec F S1024 .f32) (main_arg8 : FVec F S1024 .f32) (main_arg9 : FVec F S4112x1024 .f32) (main_arg10 : FVec F S4112x1024 .f32) : IVec S_ 1 :=
  let main_v0 : FVec F S4112x768 .f32 := Host.absf main_arg0
  let main_cst : FVec F S_ .f32 := constant S_ .f32 0x7F800000#32
  let main_v1 : FVec F S4112x768 .f32 := broadcastInDim S4112x768 ![] bcast_S_S4112x768 main_cst
  let main_v2 : IVec S4112x768 1 := cmpf .olt main_v0 main_v1
  let main_c : IVec S_ 1 := constantI S_ 1 1#1
  let main_v3 : IVec S_ 1 := (fun x v => Host.reduce IntOp.andi x v reducesTo_S4112x768_S_d0_1 h_S_) main_v2 main_c
  let main_v4 : FVec F S4112x768 .f32 := Host.absf main_arg1
  let main_cst_0 : FVec F S_ .f32 := constant S_ .f32 0x7F800000#32
  let main_v5 : FVec F S4112x768 .f32 := broadcastInDim S4112x768 ![] bcast_S_S4112x768 main_cst_0
  let main_v6 : IVec S4112x768 1 := cmpf .olt main_v4 main_v5
  let main_c_1 : IVec S_ 1 := constantI S_ 1 1#1
  let main_v7 : IVec S_ 1 := (fun x v => Host.reduce IntOp.andi x v reducesTo_S4112x768_S_d0_1 h_S_) main_v6 main_c_1
  let main_v8 : IVec S_ 1 := andi main_v3 main_v7
  let main_v9 : FVec F S4112x256 .f32 := Host.absf main_arg2
  let main_cst_2 : FVec F S_ .f32 := constant S_ .f32 0x7F800000#32
  let main_v10 : FVec F S4112x256 .f32 := broadcastInDim S4112x256 ![] bcast_S_S4112x256 main_cst_2
  let main_v11 : IVec S4112x256 1 := cmpf .olt main_v9 main_v10
  let main_c_3 : IVec S_ 1 := constantI S_ 1 1#1
  let main_v12 : IVec S_ 1 := (fun x v => Host.reduce IntOp.andi x v reducesTo_S4112x256_S_d0_1 h_S_) main_v11 main_c_3
  let main_v13 : IVec S_ 1 := andi main_v8 main_v12
  let main_v14 : FVec F S4112x1024 .f32 := Host.absf main_arg3
  let main_cst_4 : FVec F S_ .f32 := constant S_ .f32 0x7F800000#32
  let main_v15 : FVec F S4112x1024 .f32 := broadcastInDim S4112x1024 ![] bcast_S_S4112x1024 main_cst_4
  let main_v16 : IVec S4112x1024 1 := cmpf .olt main_v14 main_v15
  fn_part1 (F := F) main_arg4 main_arg5 main_arg6 main_arg7 main_arg9 main_arg10 main_v13 main_v16
-- ==== Pre_finite4.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_v18 : IVec S_ 1) (main_v27 : IVec S_ 1) (main_v31 : IVec S_ 1) (main_v32 : FVec F S4096x1024 .f32) (main_cst_12 : FVec F S_ .f32) : IVec S_ 1 :=
  let main_v33 : FVec F S4096x1024 .f32 := broadcastInDim S4096x1024 ![] bcast_S_S4096x1024 main_cst_12
  let main_v34 : IVec S4096x1024 1 := cmpf .olt main_v32 main_v33
  let main_c_13 : IVec S_ 1 := constantI S_ 1 1#1
  let main_v35 : IVec S_ 1 := (fun x v => Host.reduce IntOp.andi x v reducesTo_S4096x1024_S_d0_1 h_S_) main_v34 main_c_13
  let main_v36 : IVec S_ 1 := andi main_v31 main_v35
  let main_v37 : IVec S_ 1 := andi main_v27 main_v36
  let main_v38 : IVec S_ 1 := andi main_v18 main_v37
  main_v38

def fn_part1 {F : FTy → Type} [FloatOps F] (main_arg4 : FVec F S4096x1024 .f32) (main_arg5 : FVec F S1024 .f32) (main_arg6 : FVec F S1024 .f32) (main_arg7 : FVec F S4096x1024 .f32) (main_v8 : IVec S_ 1) (main_v12 : IVec S_ 1) (main_v15 : IVec S1024x4096 1) (main_c_5 : IVec S_ 1) : IVec S_ 1 :=
  let main_v16 : IVec S_ 1 := (fun x v => Host.reduce IntOp.andi x v reducesTo_S1024x4096_S_d0_1 h_S_) main_v15 main_c_5
  let main_v17 : IVec S_ 1 := andi main_v12 main_v16
  let main_v18 : IVec S_ 1 := andi main_v8 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : FVec F S1024 .f32 := Host.absf main_arg5
  let main_cst_8 : FVec F S_ .f32 := constant S_ .f32 0x7F800000#32
  let main_v24 : FVec F S1024 .f32 := broadcastInDim S1024 ![] bcast_S_S1024 main_cst_8
  let main_v25 : IVec S1024 1 := cmpf .olt main_v23 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v22 main_v26
  let main_v28 : FVec F S1024 .f32 := Host.absf main_arg6
  let main_cst_10 : FVec F S_ .f32 := constant S_ .f32 0x7F800000#32
  let main_v29 : FVec F S1024 .f32 := broadcastInDim S1024 ![] bcast_S_S1024 main_cst_10
  let main_v30 : IVec S1024 1 := cmpf .olt main_v28 main_v29
  let main_c_11 : IVec S_ 1 := constantI S_ 1 1#1
  let main_v31 : IVec S_ 1 := (fun x v => Host.reduce IntOp.andi x v reducesTo_S1024_S_d0 h_S_) main_v30 main_c_11
  let main_v32 : FVec F S4096x1024 .f32 := Host.absf main_arg7
  let main_cst_12 : FVec F S_ .f32 := constant S_ .f32 0x7F800000#32
  fn_part2 (F := F) main_v18 main_v27 main_v31 main_v32 main_cst_12

def fn {F : FTy → Type} [FloatOps F] (main_arg0 : FVec F S4112x1024 .f32) (main_arg1 : FVec F S1024 .f32) (main_arg2 : FVec F S1024 .f32) (main_arg3 : FVec F S1024x4096 .f32) (main_arg4 : FVec F S4096x1024 .f32) (main_arg5 : FVec F S1024 .f32) (main_arg6 : FVec F S1024 .f32) (main_arg7 : FVec F S4096x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : FVec F S1024x4096 .f32 := Host.absf main_arg3
  let main_cst_4 : FVec F S_ .f32 := constant S_ .f32 0x7F800000#32
  let main_v14 : FVec F S1024x4096 .f32 := broadcastInDim S1024x4096 ![] bcast_S_S1024x4096 main_cst_4
  let main_v15 : IVec S1024x4096 1 := cmpf .olt main_v13 main_v14
  let main_c_5 : IVec S_ 1 := constantI S_ 1 1#1
  fn_part1 (F := F) main_arg4 main_arg5 main_arg6 main_arg7 main_v8 main_v12 main_v15 main_c_5
-- ==== Pre_finite5.lean ====
abbrev S4096x1024 : Shape := ⟨2, ![4096, 1024]⟩
abbrev S16x1024 : Shape := ⟨2, ![16, 1024]⟩
abbrev S1024 : Shape := ⟨1, ![1024]⟩
abbrev S1024x3328 : Shape := ⟨2, ![1024, 3328]⟩
abbrev S4112x256 : Shape := ⟨2, ![4112, 256]⟩
abbrev S4112x768 : Shape := ⟨2, ![4112, 768]⟩
abbrev S4112x1024 : Shape := ⟨2, ![4112, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S1024x3328 : S_.BroadcastsInDim S1024x3328 (![] : Fin 0 → Fin S1024x3328.rank)
  reducesTo_S1024x3328_S_d0_1 : S1024x3328.ReducesTo [0, 1] S_
  bcast_S_S4112x256 : S_.BroadcastsInDim S4112x256 (![] : Fin 0 → Fin S4112x256.rank)
  reducesTo_S4112x256_S_d0_1 : S4112x256.ReducesTo [0, 1] S_
  bcast_S_S4112x768 : S_.BroadcastsInDim S4112x768 (![] : Fin 0 → Fin S4112x768.rank)
  reducesTo_S4112x768_S_d0_1 : S4112x768.ReducesTo [0, 1] S_
  bcast_S_S4112x1024 : S_.BroadcastsInDim S4112x1024 (![] : Fin 0 → Fin S4112x1024.rank)
  reducesTo_S4112x1024_S_d0_1 : S4112x1024.ReducesTo [0, 1] S_

variable [Facts]

def fn_part2 {F : FTy → Type} [FloatOps F] (main_arg9 : FVec F S4112x768 .f32) (main_arg10 : FVec F S4112x1024 .f32) (main_v18 : IVec S_ 1) (main_v32 : IVec S_ 1) (main_v33 : FVec F S4112x768 .f32) : IVec S_ 1 :=
  let main_cst_12 : FVec F S_ .f32 := constant S_ .f32 0x7F800000#32
  let main_v34 : FVec F S4112x768 .f32 := broadcastInDim S4112x768 ![] bcast_S_S4112x768 main_cst_12
  let main_v35 : IVec S4112x768 1 := cmpf .olt main_v33 main_v34
  let main_c_13 : IVec S_ 1 := constantI S_ 1 1#1
  let main_v36 : IVec S_ 1 := (fun x v => Host.reduce IntOp.andi x v reducesTo_S4112x768_S_d0_1 h_S_) main_v35 main_c_13
  let main_v37 : FVec F S4112x768 .f32 := Host.absf main_arg9
  let main_cst_14 : FVec F S_ .f32 := constant S_ .f32 0x7F800000#32
  let main_v38 : FVec F S4112x768 .f32 := broadcastInDim S4112x768 ![] bcast_S_S4112x768 main_cst_14
  let main_v39 : IVec S4112x768 1 := cmpf .olt main_v37 main_v38
  let main_c_15 : IVec S_ 1 := constantI S_ 1 1#1
  let main_v40 : IVec S_ 1 := (fun x v => Host.reduce IntOp.andi x v reducesTo_S4112x768_S_d0_1 h_S_) main_v39 main_c_15
  let main_v41 : IVec S_ 1 := andi main_v36 main_v40
  let main_v42 : FVec F S4112x1024 .f32 := Host.absf main_arg10
  let main_cst_16 : FVec F S_ .f32 := constant S_ .f32 0x7F800000#32
  let main_v43 : FVec F S4112x1024 .f32 := broadcastInDim S4112x1024 ![] bcast_S_S4112x1024 main_cst_16
  let main_v44 : IVec S4112x1024 1 := cmpf .olt main_v42 main_v43
  let main_c_17 : IVec S_ 1 := constantI S_ 1 1#1
  let main_v45 : IVec S_ 1 := (fun x v => Host.reduce IntOp.andi x v reducesTo_S4112x1024_S_d0_1 h_S_) main_v44 main_c_17
  let main_v46 : IVec S_ 1 := andi main_v41 main_v45
  let main_v47 : IVec S_ 1 := andi main_v32 main_v46
  let main_v48 : IVec S_ 1 := andi main_v18 main_v47
  main_v48

def fn_part1 {F : FTy → Type} [FloatOps F] (main_arg5 : FVec F S4112x256 .f32) (main_arg6 : FVec F S4112x768 .f32) (main_arg7 : FVec F S4112x768 .f32) (main_arg8 : FVec F S4112x768 .f32) (main_arg9 : FVec F S4112x768 .f32) (main_arg10 : FVec F S4112x1024 .f32) (main_v8 : IVec S_ 1) (main_v12 : IVec S_ 1) (main_v15 : IVec S1024x3328 1) (main_c_5 : IVec S_ 1) : IVec S_ 1 :=
  let main_v16 : IVec S_ 1 := (fun x v => Host.reduce IntOp.andi x v reducesTo_S1024x3328_S_d0_1 h_S_) main_v15 main_c_5
  let main_v17 : IVec S_ 1 := andi main_v12 main_v16
  let main_v18 : IVec S_ 1 := andi main_v8 main_v17
  let main_v19 : FVec F S4112x256 .f32 := Host.absf main_arg5
  let main_cst_6 : FVec F S_ .f32 := constant S_ .f32 0x7F800000#32
  let main_v20 : FVec F S4112x256 .f32 := broadcastInDim S4112x256 ![] bcast_S_S4112x256 main_cst_6
  let main_v21 : IVec S4112x256 1 := cmpf .olt main_v19 main_v20
  let main_c_7 : IVec S_ 1 := constantI S_ 1 1#1
  let main_v22 : IVec S_ 1 := (fun x v => Host.reduce IntOp.andi x v reducesTo_S4112x256_S_d0_1 h_S_) main_v21 main_c_7
  let main_v23 : FVec F S4112x768 .f32 := Host.absf main_arg6
  let main_cst_8 : FVec F S_ .f32 := constant S_ .f32 0x7F800000#32
  let main_v24 : FVec F S4112x768 .f32 := broadcastInDim S4112x768 ![] bcast_S_S4112x768 main_cst_8
  let main_v25 : IVec S4112x768 1 := cmpf .olt main_v23 main_v24
  let main_c_9 : IVec S_ 1 := constantI S_ 1 1#1
  let main_v26 : IVec S_ 1 := (fun x v => Host.reduce IntOp.andi x v reducesTo_S4112x768_S_d0_1 h_S_) main_v25 main_c_9
  let main_v27 : IVec S_ 1 := andi main_v22 main_v26
  let main_v28 : FVec F S4112x768 .f32 := Host.absf main_arg7
  let main_cst_10 : FVec F S_ .f32 := constant S_ .f32 0x7F800000#32
  let main_v29 : FVec F S4112x768 .f32 := broadcastInDim S4112x768 ![] bcast_S_S4112x768 main_cst_10
  let main_v30 : IVec S4112x768 1 := cmpf .olt main_v28 main_v29
  let main_c_11 : IVec S_ 1 := constantI S_ 1 1#1
  let main_v31 : IVec S_ 1 := (fun x v => Host.reduce IntOp.andi x v reducesTo_S4112x768_S_d0_1 h_S_) main_v30 main_c_11
  let main_v32 : IVec S_ 1 := andi main_v27 main_v31
  let main_v33 : FVec F S4112x768 .f32 := Host.absf main_arg8
  fn_part2 (F := F) main_arg9 main_arg10 main_v18 main_v32 main_v33

def fn {F : FTy → Type} [FloatOps F] (main_arg0 : FVec F S4096x1024 .f32) (main_arg1 : FVec F S16x1024 .f32) (main_arg2 : FVec F S1024 .f32) (main_arg3 : FVec F S1024 .f32) (main_arg4 : FVec F S1024x3328 .f32) (main_arg5 : FVec F S4112x256 .f32) (main_arg6 : FVec F S4112x768 .f32) (main_arg7 : FVec F S4112x768 .f32) (main_arg8 : FVec F S4112x768 .f32) (main_arg9 : FVec F S4112x768 .f32) (main_arg10 : FVec F S4112x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : FVec F S1024x3328 .f32 := Host.absf main_arg4
  let main_cst_4 : FVec F S_ .f32 := constant S_ .f32 0x7F800000#32
  let main_v14 : FVec F S1024x3328 .f32 := broadcastInDim S1024x3328 ![] bcast_S_S1024x3328 main_cst_4
  let main_v15 : IVec S1024x3328 1 := cmpf .olt main_v13 main_v14
  let main_c_5 : IVec S_ 1 := constantI S_ 1 1#1
  fn_part1 (F := F) main_arg5 main_arg6 main_arg7 main_arg8 main_arg9 main_arg10 main_v8 main_v12 main_v15 main_c_5
-- ==== Kernel.lean ====
abbrev S1x4112x768 : Shape := ⟨3, ![1, 4112, 768]⟩
abbrev S64 : Shape := ⟨1, ![64]⟩
abbrev S_ : Shape := ⟨0, ![]⟩
abbrev S11 : Shape := ⟨1, ![11]⟩
abbrev S11x1x1 : Shape := ⟨3, ![11, 1, 1]⟩
abbrev S1x1x64 : Shape := ⟨3, ![1, 1, 64]⟩
abbrev S11x1x64 : Shape := ⟨3, ![11, 1, 64]⟩
abbrev S384 : Shape := ⟨1, ![384]⟩
abbrev S1x384x1 : Shape := ⟨3, ![1, 384, 1]⟩
abbrev S1x384x64 : Shape := ⟨3, ![1, 384, 64]⟩
abbrev S11x384x64 : Shape := ⟨3, ![11, 384, 64]⟩
abbrev S4224x64 : Shape := ⟨2, ![4224, 64]⟩
abbrev S4224x128 : Shape := ⟨2, ![4224, 128]⟩
abbrev S4112x768 : Shape := ⟨2, ![4112, 768]⟩
abbrev S4224x768 : Shape := ⟨2, ![4224, 768]⟩
abbrev S4224x6x128 : Shape := ⟨3, ![4224, 6, 128]⟩
abbrev S4224x6x64 : Shape := ⟨3, ![4224, 6, 64]⟩
abbrev S4224x1x128 : Shape := ⟨3, ![4224, 1, 128]⟩
abbrev S6x4224x128 : Shape := ⟨3, ![6, 4224, 128]⟩
abbrev S6 : Shape := ⟨1, ![6]⟩
abbrev S11x1 : Shape := ⟨2, ![11, 1]⟩
abbrev S4224 : Shape := ⟨1, ![4224]⟩
abbrev S1x4224 : Shape := ⟨2, ![1, 4224]⟩
abbrev S11x4224 : Shape := ⟨2, ![11, 4224]⟩
abbrev S1x11x4224 : Shape := ⟨3, ![1, 11, 4224]⟩
abbrev S6x1x1 : Shape := ⟨3, ![6, 1, 1]⟩
abbrev S6x11x4224 : Shape := ⟨3, ![6, 11, 4224]⟩
abbrev S6x11x4224x1 : Shape := ⟨4, ![6, 11, 4224, 1]⟩
abbrev S6x1x4224x128 : Shape := ⟨4, ![6, 1, 4224, 128]⟩
abbrev S6x11x4224x128 : Shape := ⟨4, ![6, 11, 4224, 128]⟩
abbrev S6x128x11x128 : Shape := ⟨4, ![6, 128, 11, 128]⟩
abbrev S11x6x128x128 : Shape := ⟨4, ![11, 6, 128, 128]⟩
abbrev S11x768x128 : Shape := ⟨3, ![11, 768, 128]⟩
abbrev S384x768 : Shape := ⟨2, ![384, 768]⟩
abbrev S1x768x128 : Shape := ⟨3, ![1, 768, 128]⟩
abbrev S384x128 : Shape := ⟨2, ![384, 128]⟩
abbrev S6x128x128 : Shape := ⟨3, ![6, 128, 128]⟩
abbrev S6x384x384 : Shape := ⟨3, ![6, 384, 384]⟩
abbrev S6x384x128 : Shape := ⟨3, ![6, 384, 128]⟩
abbrev S384x384 : Shape := ⟨2, ![384, 384]⟩
abbrev S1x384x384 : Shape := ⟨3, ![1, 384, 384]⟩
abbrev S1x384x128 : Shape := ⟨3, ![1, 384, 128]⟩
abbrev S1x128x128 : Shape := ⟨3, ![1, 128, 128]⟩
abbrev S128x128 : Shape := ⟨2, ![128, 128]⟩

abbrev nBuf : Space → Nat
  | .hbm => 168
  | .vmem => 24
  | .smem => 0
  | _ => 0

abbrev hbmTy0_0 (i : Nat) : BufTy := match i % 128 with
  | 0 => ⟨S1x4112x768, .f32⟩
  | 1 => ⟨S1x4112x768, .f32⟩
  | 2 => ⟨S1x4112x768, .f32⟩
  | 3 => ⟨S1x4112x768, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S11, .f32⟩
  | 21 => ⟨S_, .f32⟩
  | 22 => ⟨S11, .f32⟩
  | 23 => ⟨S11, .f32⟩
  | 24 => ⟨S11x1x1, .f32⟩
  | 25 => ⟨S1x1x64, .f32⟩
  | 26 => ⟨S11x1x64, .f32⟩
  | 27 => ⟨S11x1x64, .f32⟩
  | 28 => ⟨S11x1x64, .f32⟩
  | 29 => ⟨S384, .f32⟩
  | 30 => ⟨S_, .f32⟩
  | 31 => ⟨S384, .f32⟩
  | 32 => ⟨S384, .f32⟩
  | 33 => ⟨S1x384x1, .f32⟩
  | 34 => ⟨S1x1x64, .f32⟩
  | 35 => ⟨S1x384x64, .f32⟩
  | 36 => ⟨S1x384x64, .f32⟩
  | 37 => ⟨S1x384x64, .f32⟩
  | 38 => ⟨S11x1x64, .f32⟩
  | 39 => ⟨S1x384x64, .f32⟩
  | 40 => ⟨S11x384x64, .f32⟩
  | 41 => ⟨S11x384x64, .f32⟩
  | 42 => ⟨S11x384x64, .f32⟩
  | 43 => ⟨S11x1x64, .f32⟩
  | 44 => ⟨S1x384x64, .f32⟩
  | 45 => ⟨S11x384x64, .f32⟩
  | 46 => ⟨S11x384x64, .f32⟩
  | 47 => ⟨S11x384x64, .f32⟩
  | 48 => ⟨S11x384x64, .f32⟩
  | 49 => ⟨S4224x64, .f32⟩
  | 50 => ⟨S11x1x64, .f32⟩
  | 51 => ⟨S1x384x64, .f32⟩
  | 52 => ⟨S11x384x64, .f32⟩
  | 53 => ⟨S11x384x64, .f32⟩
  | 54 => ⟨S11x384x64, .f32⟩
  | 55 => ⟨S11x1x64, .f32⟩
  | 56 => ⟨S1x384x64, .f32⟩
  | 57 => ⟨S11x384x64, .f32⟩
  | 58 => ⟨S11x384x64, .f32⟩
  | 59 => ⟨S11x384x64, .f32⟩
  | 60 => ⟨S11x384x64, .f32⟩
  | 61 => ⟨S4224x64, .f32⟩
  | 62 => ⟨S4224x128, .f32⟩
  | 63 => ⟨S4224x64, .f32⟩
  | 64 => ⟨S4224x128, .f32⟩
  | 65 => ⟨S4112x768, .f32⟩
  | 66 => ⟨S_, .i32⟩
  | 67 => ⟨S_, .f32⟩
  | 68 => ⟨S4224x768, .f32⟩
  | 69 => ⟨S4224x6x128, .f32⟩
  | 70 => ⟨S4224x6x64, .f32⟩
  | 71 => ⟨S4224x6x64, .f32⟩
  | 72 => ⟨S4224x6x128, .f32⟩
  | 73 => ⟨S4224x1x128, .f32⟩
  | 74 => ⟨S4224x6x128, .f32⟩
  | 75 => ⟨S4224x6x128, .f32⟩
  | 76 => ⟨S4224x1x128, .f32⟩
  | 77 => ⟨S4224x6x128, .f32⟩
  | 78 => ⟨S4224x6x128, .f32⟩
  | 79 => ⟨S4224x6x128, .f32⟩
  | 80 => ⟨S4224x768, .f32⟩
  | 81 => ⟨S4224x768, .bf16⟩
  | 82 => ⟨S4112x768, .f32⟩
  | 83 => ⟨S_, .i32⟩
  | 84 => ⟨S_, .f32⟩
  | 85 => ⟨S4224x768, .f32⟩
  | 86 => ⟨S4224x6x128, .f32⟩
  | 87 => ⟨S4224x6x64, .f32⟩
  | 88 => ⟨S4224x6x64, .f32⟩
  | 89 => ⟨S4224x6x128, .f32⟩
  | 90 => ⟨S4224x1x128, .f32⟩
  | 91 => ⟨S4224x6x128, .f32⟩
  | 92 => ⟨S4224x6x128, .f32⟩
  | 93 => ⟨S4224x1x128, .f32⟩
  | 94 => ⟨S4224x6x128, .f32⟩
  | 95 => ⟨S4224x6x128, .f32⟩
  | 96 => ⟨S4224x6x128, .f32⟩
  | 97 => ⟨S4224x768, .f32⟩
  | 98 => ⟨S_, .f32⟩
  | 99 => ⟨S4224x768, .f32⟩
  | 100 => ⟨S4224x768, .f32⟩
  | 101 => ⟨S4224x768, .bf16⟩
  | 102 => ⟨S4112x768, .f32⟩
  | 103 => ⟨S_, .i32⟩
  | 104 => ⟨S_, .f32⟩
  | 105 => ⟨S4224x768, .f32⟩
  | 106 => ⟨S4224x768, .bf16⟩
  | 107 => ⟨S4112x768, .f32⟩
  | 108 => ⟨S_, .i32⟩
  | 109 => ⟨S_, .f32⟩
  | 110 => ⟨S4224x768, .f32⟩
  | 111 => ⟨S4224x768, .f32⟩
  | 112 => ⟨S4224x6x128, .f32⟩
  | 113 => ⟨S6x4224x128, .f32⟩
  | 114 => ⟨S4224x768, .f32⟩
  | 115 => ⟨S4224x6x128, .f32⟩
  | 116 => ⟨S6x4224x128, .f32⟩
  | 117 => ⟨S6, .f32⟩
  | 118 => ⟨S_, .f32⟩
  | 119 => ⟨S6, .f32⟩
  | 120 => ⟨S6, .f32⟩
  | 121 => ⟨S_, .f32⟩
  | 122 => ⟨S6, .f32⟩
  | 123 => ⟨S6, .f32⟩
  | 124 => ⟨S6, .f32⟩
  | 125 => ⟨S6, .f32⟩
  | 126 => ⟨S11, .f32⟩
  | 127 => ⟨S_, .f32⟩
  | _ => ⟨S1x4112x768, .f32⟩

abbrev hbmTy0_1 (i : Nat) : BufTy := match i % 128 with
  | 0 => ⟨S11, .f32⟩
  | 1 => ⟨S11, .f32⟩
  | 2 => ⟨S_, .f32⟩
  | 3 => ⟨S11, .f32⟩
  | 4 => ⟨S11, .f32⟩
  | 5 => ⟨S11x1, .f32⟩
  | 6 => ⟨S4224, .f32⟩
  | 7 => ⟨S1x4224, .f32⟩
  | 8 => ⟨S11x4224, .f32⟩
  | 9 => ⟨S11x4224, .f32⟩
  | 10 => ⟨S11x4224, .f32⟩
  | 11 => ⟨S1x11x4224, .f32⟩
  | 12 => ⟨S_, .f32⟩
  | 13 => ⟨S1x11x4224, .f32⟩
  | 14 => ⟨S1x11x4224, .i1⟩
  | 15 => ⟨S_, .f32⟩
  | 16 => ⟨S11x4224, .f32⟩
  | 17 => ⟨S11x4224, .f32⟩
  | 18 => ⟨S1x11x4224, .f32⟩
  | 19 => ⟨S6x1x1, .f32⟩
  | 20 => ⟨S6x11x4224, .f32⟩
  | 21 => ⟨S6x11x4224, .f32⟩
  | 22 => ⟨S6x11x4224, .f32⟩
  | 23 => ⟨S6x11x4224, .f32⟩
  | 24 => ⟨S_, .f32⟩
  | 25 => ⟨S_, .f32⟩
  | 26 => ⟨S6x11x4224, .i1⟩
  | 27 => ⟨S6x11x4224, .f32⟩
  | 28 => ⟨S6x11x4224, .f32⟩
  | 29 => ⟨S6x11x4224x1, .f32⟩
  | 30 => ⟨S6x1x4224x128, .f32⟩
  | 31 => ⟨S6x11x4224x128, .f32⟩
  | 32 => ⟨S6x11x4224x128, .f32⟩
  | 33 => ⟨S6x11x4224x128, .f32⟩
  | 34 => ⟨S6x128x11x128, .f32⟩
  | 35 => ⟨S11x6x128x128, .f32⟩
  | 36 => ⟨S11x768x128, .f32⟩
  | 37 => ⟨S4224x768, .bf16⟩
  | 38 => ⟨S4224x768, .bf16⟩
  | 39 => ⟨S4224x768, .bf16⟩
  | _ => ⟨S1x4112x768, .f32⟩

abbrev hbmTy (i : Nat) : BufTy := match i / 128 with
  | 0 => hbmTy0_0 i
  | 1 => hbmTy0_1 i
  | _ => ⟨S1x4112x768, .f32⟩

abbrev bufTy : (tb : Table) → Fin (tcTables nBuf tb) → BufTy
  | .hbm, ⟨i, _⟩ => hbmTy i
  | .local _ .vmem, ⟨0, _⟩ => ⟨S384x768, .bf16⟩
  | .local _ .vmem, ⟨1, _⟩ => ⟨S384x768, .bf16⟩
  | .local _ .vmem, ⟨2, _⟩ => ⟨S384x768, .bf16⟩
  | .local _ .vmem, ⟨3, _⟩ => ⟨S384x768, .bf16⟩
  | .local _ .vmem, ⟨4, _⟩ => ⟨S384x768, .bf16⟩
  | .local _ .vmem, ⟨5, _⟩ => ⟨S384x768, .bf16⟩
  | .local _ .vmem, ⟨6, _⟩ => ⟨S384x768, .f32⟩
  | .local _ .vmem, ⟨7, _⟩ => ⟨S384x768, .f32⟩
  | .local _ .vmem, ⟨8, _⟩ => ⟨S1x768x128, .f32⟩
  | .local _ .vmem, ⟨9, _⟩ => ⟨S1x768x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x768, .bf16⟩
  | .local _ .vmem, ⟨15, _⟩ => ⟨S384x768, .bf16⟩
  | .local _ .vmem, ⟨16, _⟩ => ⟨S384x768, .bf16⟩
  | .local _ .vmem, ⟨17, _⟩ => ⟨S384x768, .bf16⟩
  | .local _ .vmem, ⟨18, _⟩ => ⟨S384x768, .bf16⟩
  | .local _ .vmem, ⟨19, _⟩ => ⟨S384x768, .bf16⟩
  | .local _ .vmem, ⟨20, _⟩ => ⟨S6x128x128, .f32⟩
  | .local _ .vmem, ⟨21, _⟩ => ⟨S6x384x384, .f32⟩
  | .local _ .vmem, ⟨22, _⟩ => ⟨S6x384x128, .f32⟩
  | .local _ .vmem, ⟨23, _⟩ => ⟨S6x384x128, .f32⟩
  | _, _ => ⟨S1x4112x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c : Ref sig .tc := ⟨.hbm, 66, rfl⟩
abbrev main_call0_v0 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_c_6 : Ref sig .tc := ⟨.hbm, 83, rfl⟩
abbrev main_call1_v0 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_c_8 : Ref sig .tc := ⟨.hbm, 103, rfl⟩
abbrev main_call2_v0 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_c_9 : Ref sig .tc := ⟨.hbm, 108, rfl⟩
abbrev main_call3_v0 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_10 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_12 : Ref sig .tc := ⟨.hbm, 127, rfl⟩
abbrev main_v105 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_14 : Ref sig .tc := ⟨.hbm, 140, rfl⟩
abbrev main_v116 : Ref sig .tc := ⟨.hbm, 141, rfl⟩
abbrev main_v117 : Ref sig .tc := ⟨.hbm, 142, rfl⟩
abbrev main_cst_15 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_16 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135_0 : Ref sig .tc := ⟨.hbm, 165, rfl⟩
abbrev main_v135_1 : Ref sig .tc := ⟨.hbm, 166, rfl⟩
abbrev main_v135_2 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

abbrev stage0_0 : Fin 2 → Memref sig .tc .vmem S384x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "gamma_chunk_0" => some ((481826222923995177288493177782928668628444535488028449884700930703492537446443879411755043665915451784138996893510848751963428875393165510380117531209692566196063446652247838296994879517858274761019053864744536613669608718282663691428999254491614332233770644727712416494515002706441742397462172761308509745786022675305593821180525990432963011275752534746616935669291926144170749490495385458502654174432192925009580506308347586265018583369875210171637708008817013204088010393587925520330894190983486734215915493181552038989941141689675020766913044331854481012230136650321921 / 94971145180789141405469863695884969990692470634685116742800956330585166286696033875105787408321105016172948848387979899381078776548058719274153038481919330076987462588432197778346974895637755344856609332899271782077461008182119361693275785914457910967149403472811089067095457018656127063791202559391107981952290497413671516189054715030212151457729925746607341068107450556036691253445520158175442766273106804460580598760425795931407058821363012979657287013264796313022267140908229491284859997425339970007394059640858536497878915778164024704513828250590897948604589281308443672576 : ℝ) : EReal)
  | "gamma_chunk_1" => some ((8846489984760138951979824404893609302559416390036461683408615148896924187960477324062675755667947268500492326103751196599198518634893143464369142810808478889501409212482466511140866578816927941072385380955347437309404268010321953936495798206179740882028911733730238624837066039940541077056503924530830250951873816141381693901880889040581266930103112580019917908829190490429051939837915970807043707374917386041051630930980499767256893417177966018962914260397761557277455667548004471108789581067269737218854263837094222704257279005970844906694063249623715953445686342222668699457976474987450710968584045574493718816370279740811329150115634507644810453366273369453055411136671556785359360860161 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "gamma_chunk_2" => some ((7254856842618488864125694456637680034209856276189893854730650937054254954086135361225935961417324460156263355776303788104853772509440364996914397331546512694845231111868722707550467538919557383720319473219012153246201686186581017678809187190219148516113305966858689353614734607795265783672453020793873975827227756101502221709743912557746786218471666068787959107165845088967695252123944000708686453398960072117474296439315374837715573462267994750080995533363782446145157672355722064054132049835496952344807201945925342059753956561202269270857452352276832429682599892317840674674862530611234434014921333681721653939162400684463660391649125694770713885335130373390257742108407429207814640474738193756412948051487899512795623097088250955788821466019431672464720856509872991386154427621624834547426788410462781441 / 147444421139692424806332508947970678792346040212568770945456743318661362280834640607498748459196742576650163591891066959000280984370213842273285029708032466536084583113729486015826557532750465299832071590813090201185303983764925247730707050970404354136800293878475729689379390379781802923363105435406771752250409197047028005596060976859205959473970248303316808753252115729411497720357971050627997031988036134171378490368600800077874111539929616255078628845724518087275904701673495933036782952356123974276863106747252513781162686071130177205386369245496129876475767411074510311386444547332882472126067840027882117834454260409440463934514725266489345605325846320312063708991630461869660133395361671512521158824824732790407722642574316638186104056738766559573230837027133444201105427930770976052393421467136557056 : ℝ) : EReal)
  | "gamma_chunk_3" => some ((1292496234871531949696885932438011521491686757305765377914297481390537386763994035385829421998946859240290414882953241311136249866251185991521996772975546866348883509690206279955419087526750165986099969010010685481399426167360628914069896903227649852555904218144114155223448489324142601592472573494648209095865258596095054198783184803186221103319341620116562718284311866711433516287196576026975921951649424351368798629209300254154289766612009342622687999737249656812855226653165903049416760067607343130976003587240255604307026236788291655779652094295951246974444953026487767775470477065159642602844149331248631819057185499342712374703316386958206660260822372476027397357455988009650774739387130244353520497167179165982451202918170816476152349376317491298062012900228921536829698630368585342631662400986193789410162766522021440502985878158372466848370612238244690838289482336072173094577986152131643393659032881259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | "gamma_chunk_4" => some ((108050219066214858162361016573330962026504829671434510172018766753584264002745537922618275485636490803146748867789518157917348906885067305766454245526006334581014422696603455911932229343631659701755726478562586465208924642563656911936699314572507116315356666619267718525206126519668575578490338528455427131272057515883826696885342959643031921398813014700152379497781674722844447759485987911120632663334816135630681335890139386784788275775393134219319657265786526162974961101168868239281646125362095274251984528622571352698273683541082979884335080883624075576016716755658424369001070464166468040601601800797428096835131470683641493449779961319748737257863501249245564672672749365715984586712506575420356947111920133010343992309498638734658231580406007069923069623479870596197637606636211028022370582663842273469866751782888342508123770447097101243049181500341258858921295223756539563037135585805119510670052789172076209571526611197986406704160762188801615200343972166923907061797010085697124784361517923559604265960460356171489159454075453441 / 228910131428177603701755406038597370992866256605996714416239305740707356279544553417171483432814473032565478203542224449422544427767103399934794267554112492152570643747783615393289357881580751887291609577050486119385936116125581404470429097773717389138692933902315347725871293766854763709974986644983264429564711070350563522040399138184502765579565271776437524767219607364330343620246397252375590392067099313695524738912790075431862503208410123955197790844902368915156543066869228757701257705464810732957386428986999720416931970101723139791242081350688640076611213184787464723604890702270021713895829613969276994985014364487678263308362490038590335423610626980191000005473125921597417923940324803866846904812245997039463026449953790335867383604239048081272376364499889154174619381286132139726802541904422153396907189539634801218849822748376475140814390481137971610636651543538899732162561295745248744175743178153962997058705210024539453107059157058925528424545393257507597364998430284303652618537241371092574259540395037079680377978341031936 : ℝ) : EReal)
  | "gamma_chunk_5" => some ((6197882598200780558972841822412795098009856076495053031557825691722863345061859416817120876997296778101705386700350581957676731435999341120728922625237536904559823209452910591606609113095286858885302768267315903706495853775729711243960113935301081668514367196818919064772178007430512112330247798615880528256680821478429739412589725563189780286300928299333453619554680252190882371479574865557270560207779442298604699825168498314545693605740898940532395493138082054385081519214587848668293515451855047749281463104105506199399648645075717296529098085827836417814897680253008737369395168697175481938949567128898691543454077493785792252689087387866596353370400694555957477810222223426598807488602240966977185456412276583064892867111419360018929971321104179796050893334426983417293206325618533630963287225716830901707531391202990984179015968936636363268357792913143016496482904562994945207179208758193459801025005670442006164404248596330505942681622318111584310382118733341174481137405915914174499640887547169791563375159011090662941920613292635600057763305275479484994348638124965188016497266770127749538918405792111499823213537913630130376012313215816596848641 / 9019518416950528558373478086511232658951474842525520401496114928154304263954966638953020103274038169821978036310387105187439981983038679543190552246151273693942430142430214083685203206060500793611640634047888641084801170845605063334103743639179436252101154643375533557849579891726251950146428978850105516362034204960607121369958942503226437204196452448471269253300696978879636095437453409277681885696982308658433120767281076066105051771156066244607221345945266065486445664418226651139092674586681359212098059833861221228710626721320869724746184863955622162546234638825771342548855451709230916475881564603234959416156932444801211659142200921408360597108039135985669806212057156206663539212378905677937882406546561037396635425165843343857133953586158290319569289376437788637610819165094090272546217161805776234786903154610120291328498719159205664801129636695538349715728280593823253491223728898318034697583114552626234434370877814140762055366083260852745620423716424511260012738181745813374647152733067517775871845874530787928515094116349419316639753203075339289947427722432809910728602878067223827332337510877965115796034585470544985654584014864170694475776 : ℝ) : EReal)
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | "log_gamma_4" => some ((Real.log (511 / 512) : ℝ) : EReal)
  | "log_gamma_5" => some ((Real.log (1023 / 1024) : ℝ) : EReal)
  | _ => none
-- ==== ReferenceIdeal.lean ====
abbrev S1x4112x768 : Shape := ⟨3, ![1, 4112, 768]⟩
abbrev S1x4112x6x128 : Shape := ⟨4, ![1, 4112, 6, 128]⟩
abbrev S4112 : Shape := ⟨1, ![4112]⟩
abbrev S64 : Shape := ⟨1, ![64]⟩
abbrev S_ : Shape := ⟨0, ![]⟩
abbrev S4112x1 : Shape := ⟨2, ![4112, 1]⟩
abbrev S1x64 : Shape := ⟨2, ![1, 64]⟩
abbrev S4112x64 : Shape := ⟨2, ![4112, 64]⟩
abbrev S1x4112x1x64 : Shape := ⟨4, ![1, 4112, 1, 64]⟩
abbrev S1x4112x6x64 : Shape := ⟨4, ![1, 4112, 6, 64]⟩
abbrev S6 : Shape := ⟨1, ![6]⟩
abbrev S1x4112 : Shape := ⟨2, ![1, 4112]⟩
abbrev S4112x4112 : Shape := ⟨2, ![4112, 4112]⟩
abbrev S1x4112x4112 : Shape := ⟨3, ![1, 4112, 4112]⟩
abbrev S6x1x1 : Shape := ⟨3, ![6, 1, 1]⟩
abbrev S6x4112x4112 : Shape := ⟨3, ![6, 4112, 4112]⟩
abbrev S1x6x4112x128 : Shape := ⟨4, ![1, 6, 4112, 128]⟩
abbrev S1x6x4112x4112 : Shape := ⟨4, ![1, 6, 4112, 4112]⟩
abbrev S1x6x128x4112 : Shape := ⟨4, ![1, 6, 128, 4112]⟩
abbrev S4112x768 : Shape := ⟨2, ![4112, 768]⟩
abbrev S4224x768 : Shape := ⟨2, ![4224, 768]⟩

abbrev nBuf : Space → Nat
  | .hbm => 171
  | .vmem => 0
  | .smem => 0
  | _ => 0

abbrev hbmTy0_0 (i : Nat) : BufTy := match i % 128 with
  | 0 => ⟨S1x4112x768, .f32⟩
  | 1 => ⟨S1x4112x768, .f32⟩
  | 2 => ⟨S1x4112x768, .f32⟩
  | 3 => ⟨S1x4112x768, .f32⟩
  | 4 => ⟨S1x4112x6x128, .f32⟩
  | 5 => ⟨S1x4112x6x128, .f32⟩
  | 6 => ⟨S1x4112x6x128, .f32⟩
  | 7 => ⟨S4112, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S4112x1, .f32⟩
  | 25 => ⟨S1x64, .f32⟩
  | 26 => ⟨S4112x64, .f32⟩
  | 27 => ⟨S4112x64, .f32⟩
  | 28 => ⟨S4112x64, .f32⟩
  | 29 => ⟨S4112x64, .f32⟩
  | 30 => ⟨S1x4112x1x64, .f32⟩
  | 31 => ⟨S4112x64, .f32⟩
  | 32 => ⟨S1x4112x1x64, .f32⟩
  | 33 => ⟨S1x4112x6x64, .f32⟩
  | 34 => ⟨S1x4112x6x64, .f32⟩
  | 35 => ⟨S1x4112x6x64, .f32⟩
  | 36 => ⟨S1x4112x6x64, .f32⟩
  | 37 => ⟨S1x4112x6x64, .f32⟩
  | 38 => ⟨S1x4112x6x64, .f32⟩
  | 39 => ⟨S1x4112x6x64, .f32⟩
  | 40 => ⟨S1x4112x6x64, .f32⟩
  | 41 => ⟨S1x4112x6x64, .f32⟩
  | 42 => ⟨S1x4112x6x64, .f32⟩
  | 43 => ⟨S1x4112x6x64, .f32⟩
  | 44 => ⟨S1x4112x6x64, .f32⟩
  | 45 => ⟨S1x4112x6x128, .f32⟩
  | 46 => ⟨S1x4112x6x64, .f32⟩
  | 47 => ⟨S1x4112x6x64, .f32⟩
  | 48 => ⟨S1x4112x6x64, .f32⟩
  | 49 => ⟨S1x4112x6x64, .f32⟩
  | 50 => ⟨S1x4112x6x64, .f32⟩
  | 51 => ⟨S1x4112x6x64, .f32⟩
  | 52 => ⟨S1x4112x6x64, .f32⟩
  | 53 => ⟨S1x4112x6x64, .f32⟩
  | 54 => ⟨S1x4112x6x64, .f32⟩
  | 55 => ⟨S1x4112x6x64, .f32⟩
  | 56 => ⟨S1x4112x6x64, .f32⟩
  | 57 => ⟨S1x4112x6x64, .f32⟩
  | 58 => ⟨S1x4112x6x128, .f32⟩
  | 59 => ⟨S_, .f32⟩
  | 60 => ⟨S1x4112x6x128, .f32⟩
  | 61 => ⟨S1x4112x6x128, .f32⟩
  | 62 => ⟨S6, .f32⟩
  | 63 => ⟨S_, .f32⟩
  | 64 => ⟨S6, .f32⟩
  | 65 => ⟨S6, .f32⟩
  | 66 => ⟨S_, .f32⟩
  | 67 => ⟨S6, .f32⟩
  | 68 => ⟨S6, .f32⟩
  | 69 => ⟨S6, .f32⟩
  | 70 => ⟨S6, .f32⟩
  | 71 => ⟨S4112, .f32⟩
  | 72 => ⟨S4112x1, .f32⟩
  | 73 => ⟨S1x4112, .f32⟩
  | 74 => ⟨S4112x4112, .f32⟩
  | 75 => ⟨S4112x4112, .f32⟩
  | 76 => ⟨S4112x4112, .f32⟩
  | 77 => ⟨S1x4112x4112, .f32⟩
  | 78 => ⟨S_, .f32⟩
  | 79 => ⟨S1x4112x4112, .f32⟩
  | 80 => ⟨S1x4112x4112, .i1⟩
  | 81 => ⟨S_, .f32⟩
  | 82 => ⟨S4112x4112, .f32⟩
  | 83 => ⟨S4112x4112, .f32⟩
  | 84 => ⟨S1x4112x4112, .f32⟩
  | 85 => ⟨S6x1x1, .f32⟩
  | 86 => ⟨S6x4112x4112, .f32⟩
  | 87 => ⟨S6x4112x4112, .f32⟩
  | 88 => ⟨S6x4112x4112, .f32⟩
  | 89 => ⟨S6x4112x4112, .f32⟩
  | 90 => ⟨S_, .f32⟩
  | 91 => ⟨S_, .f32⟩
  | 92 => ⟨S6x4112x4112, .i1⟩
  | 93 => ⟨S6x4112x4112, .f32⟩
  | 94 => ⟨S6x4112x4112, .f32⟩
  | 95 => ⟨S1x6x4112x128, .f32⟩
  | 96 => ⟨S1x6x4112x128, .f32⟩
  | 97 => ⟨S1x6x4112x128, .f32⟩
  | 98 => ⟨S1x6x4112x4112, .f32⟩
  | 99 => ⟨S1x6x4112x4112, .f32⟩
  | 100 => ⟨S1x6x4112x4112, .f32⟩
  | 101 => ⟨S1x6x4112x128, .f32⟩
  | 102 => ⟨S1x4112x6x128, .f32⟩
  | 103 => ⟨S1x4112x6x128, .f32⟩
  | 104 => ⟨S1x6x4112x128, .f32⟩
  | 105 => ⟨S1x6x128x4112, .f32⟩
  | 106 => ⟨S1x6x4112x128, .f32⟩
  | 107 => ⟨S1x6x4112x4112, .f32⟩
  | 108 => ⟨S1x6x4112x4112, .f32⟩
  | 109 => ⟨S1x6x4112x128, .f32⟩
  | 110 => ⟨S1x6x4112x128, .f32⟩
  | 111 => ⟨S1x4112x6x128, .f32⟩
  | 112 => ⟨S1x4112x6x128, .f32⟩
  | 113 => ⟨S1x4112x6x128, .f32⟩
  | 114 => ⟨S_, .f32⟩
  | 115 => ⟨S1x4112x6x128, .f32⟩
  | 116 => ⟨S1x4112x6x128, .f32⟩
  | 117 => ⟨S1x4112x6x64, .f32⟩
  | 118 => ⟨S1x4112x6x64, .f32⟩
  | 119 => ⟨S1x4112x6x64, .f32⟩
  | 120 => ⟨S1x4112x6x64, .f32⟩
  | 121 => ⟨S1x4112x6x64, .f32⟩
  | 122 => ⟨S1x4112x6x64, .f32⟩
  | 123 => ⟨S1x4112x6x64, .f32⟩
  | 124 => ⟨S1x4112x6x64, .f32⟩
  | 125 => ⟨S1x4112x6x64, .f32⟩
  | 126 => ⟨S1x4112x6x64, .f32⟩
  | 127 => ⟨S1x4112x6x64, .f32⟩
  | _ => ⟨S1x4112x768, .f32⟩

abbrev hbmTy0_1 (i : Nat) : BufTy := match i % 128 with
  | 0 => ⟨S1x4112x6x64, .f32⟩
  | 1 => ⟨S1x4112x6x64, .f32⟩
  | 2 => ⟨S_, .f32⟩
  | 3 => ⟨S1x4112x6x128, .f32⟩
  | 4 => ⟨S_, .f32⟩
  | 5 => ⟨S1x4112x6x128, .f32⟩
  | 6 => ⟨S1x4112x6x128, .f32⟩
  | 7 => ⟨S1x4112x6x64, .f32⟩
  | 8 => ⟨S1x4112x6x64, .f32⟩
  | 9 => ⟨S1x4112x6x64, .f32⟩
  | 10 => ⟨S1x4112x6x64, .f32⟩
  | 11 => ⟨S1x4112x6x64, .f32⟩
  | 12 => ⟨S1x4112x6x64, .f32⟩
  | 13 => ⟨S1x4112x6x64, .f32⟩
  | 14 => ⟨S1x4112x6x64, .f32⟩
  | 15 => ⟨S1x4112x6x64, .f32⟩
  | 16 => ⟨S1x4112x6x64, .f32⟩
  | 17 => ⟨S1x4112x6x64, .f32⟩
  | 18 => ⟨S1x4112x6x64, .f32⟩
  | 19 => ⟨S1x4112x6x64, .f32⟩
  | 20 => ⟨S_, .f32⟩
  | 21 => ⟨S1x4112x6x128, .f32⟩
  | 22 => ⟨S_, .f32⟩
  | 23 => ⟨S1x4112x6x128, .f32⟩
  | 24 => ⟨S1x4112x6x128, .f32⟩
  | 25 => ⟨S1x4112x768, .f32⟩
  | 26 => ⟨S1x4112x768, .f32⟩
  | 27 => ⟨S1x4112x768, .f32⟩
  | 28 => ⟨S4112x768, .f32⟩
  | 29 => ⟨S_, .i32⟩
  | 30 => ⟨S_, .f32⟩
  | 31 => ⟨S4224x768, .f32⟩
  | 32 => ⟨S4224x768, .bf16⟩
  | 33 => ⟨S4112x768, .f32⟩
  | 34 => ⟨S_, .i32⟩
  | 35 => ⟨S_, .f32⟩
  | 36 => ⟨S4224x768, .f32⟩
  | 37 => ⟨S4224x768, .bf16⟩
  | 38 => ⟨S4112x768, .f32⟩
  | 39 => ⟨S_, .i32⟩
  | 40 => ⟨S_, .f32⟩
  | 41 => ⟨S4224x768, .f32⟩
  | 42 => ⟨S4224x768, .bf16⟩
  | _ => ⟨S1x4112x768, .f32⟩

abbrev hbmTy (i : Nat) : BufTy := match i / 128 with
  | 0 => hbmTy0_0 i
  | 1 => hbmTy0_1 i
  | _ => ⟨S1x4112x768, .f32⟩

abbrev bufTy : (tb : Table) → Fin (tcTables nBuf tb) → BufTy
  | .hbm, ⟨i, _⟩ => hbmTy i
  | _, _ => ⟨S1x4112x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_11 : Ref sig .tc := ⟨.hbm, 130, rfl⟩
abbrev main_v111 : Ref sig .tc := ⟨.hbm, 131, rfl⟩
abbrev main_cst_12 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_13 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_c : Ref sig .tc := ⟨.hbm, 157, rfl⟩
abbrev main_call1_v0 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_c_15 : Ref sig .tc := ⟨.hbm, 162, rfl⟩
abbrev main_call2_v0 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_c_16 : Ref sig .tc := ⟨.hbm, 167, rfl⟩
abbrev main_call3_v0 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== Kernel2.lean ====
abbrev S4112x768 : Shape := ⟨2, ![4112, 768]⟩
abbrev S4112x256 : Shape := ⟨2, ![4112, 256]⟩
abbrev S4112x1024 : Shape := ⟨2, ![4112, 1024]⟩
abbrev S768 : Shape := ⟨1, ![768]⟩
abbrev S1024x1024 : Shape := ⟨2, ![1024, 1024]⟩
abbrev S1024 : Shape := ⟨1, ![1024]⟩
abbrev S4112x6x128 : Shape := ⟨3, ![4112, 6, 128]⟩
abbrev S_ : Shape := ⟨0, ![]⟩
abbrev S4112x6 : Shape := ⟨2, ![4112, 6]⟩
abbrev S4112x6x1 : Shape := ⟨3, ![4112, 6, 1]⟩
abbrev S1x768 : Shape := ⟨2, ![1, 768]⟩
abbrev S4112 : Shape := ⟨1, ![4112]⟩
abbrev S4112x1 : Shape := ⟨2, ![4112, 1]⟩
abbrev S4224x1024 : Shape := ⟨2, ![4224, 1024]⟩
abbrev S4224x1 : Shape := ⟨2, ![4224, 1]⟩
abbrev S4224x768 : Shape := ⟨2, ![4224, 768]⟩
abbrev S2x768 : Shape := ⟨2, ![2, 768]⟩
abbrev S1x1024 : Shape := ⟨2, ![1, 1024]⟩
abbrev S4224x256 : Shape := ⟨2, ![4224, 256]⟩
abbrev S2x1024 : Shape := ⟨2, ![2, 1024]⟩
abbrev S384x1024 : Shape := ⟨2, ![384, 1024]⟩
abbrev S384x1 : Shape := ⟨2, ![384, 1]⟩
abbrev S384x768 : Shape := ⟨2, ![384, 768]⟩
abbrev S384x256 : Shape := ⟨2, ![384, 256]⟩
abbrev S384 : Shape := ⟨1, ![384]⟩
abbrev S384x128 : Shape := ⟨2, ![384, 128]⟩
abbrev S1x128 : Shape := ⟨2, ![1, 128]⟩
abbrev S128 : Shape := ⟨1, ![128]⟩

abbrev nBuf : Space → Nat
  | .hbm => 111
  | .vmem => 29
  | .smem => 0
  | _ => 0

abbrev bufTy : (tb : Table) → Fin (tcTables nBuf tb) → BufTy
  | .hbm, ⟨0, _⟩ => ⟨S4112x768, .f32⟩
  | .hbm, ⟨1, _⟩ => ⟨S4112x768, .f32⟩
  | .hbm, ⟨2, _⟩ => ⟨S4112x256, .f32⟩
  | .hbm, ⟨3, _⟩ => ⟨S4112x1024, .f32⟩
  | .hbm, ⟨4, _⟩ => ⟨S768, .f32⟩
  | .hbm, ⟨5, _⟩ => ⟨S768, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4112x1024, .f32⟩
  | .hbm, ⟨10, _⟩ => ⟨S4112x1024, .f32⟩
  | .hbm, ⟨11, _⟩ => ⟨S4112x6x128, .f32⟩
  | .hbm, ⟨12, _⟩ => ⟨S_, .f32⟩
  | .hbm, ⟨13, _⟩ => ⟨S4112x6, .f32⟩
  | .hbm, ⟨14, _⟩ => ⟨S4112x6x1, .f32⟩
  | .hbm, ⟨15, _⟩ => ⟨S_, .f32⟩
  | .hbm, ⟨16, _⟩ => ⟨S4112x6x1, .f32⟩
  | .hbm, ⟨17, _⟩ => ⟨S4112x6x1, .f32⟩
  | .hbm, ⟨18, _⟩ => ⟨S4112x6x128, .f32⟩
  | .hbm, ⟨19, _⟩ => ⟨S4112x6x128, .f32⟩
  | .hbm, ⟨20, _⟩ => ⟨S4112x6x128, .f32⟩
  | .hbm, ⟨21, _⟩ => ⟨S_, .f32⟩
  | .hbm, ⟨22, _⟩ => ⟨S4112x6, .f32⟩
  | .hbm, ⟨23, _⟩ => ⟨S4112x6x1, .f32⟩
  | .hbm, ⟨24, _⟩ => ⟨S_, .f32⟩
  | .hbm, ⟨25, _⟩ => ⟨S4112x6x1, .f32⟩
  | .hbm, ⟨26, _⟩ => ⟨S4112x6x1, .f32⟩
  | .hbm, ⟨27, _⟩ => ⟨S_, .f32⟩
  | .hbm, ⟨28, _⟩ => ⟨S4112x6x1, .f32⟩
  | .hbm, ⟨29, _⟩ => ⟨S4112x6x1, .f32⟩
  | .hbm, ⟨30, _⟩ => ⟨S4112x6x1, .f32⟩
  | .hbm, ⟨31, _⟩ => ⟨S4112x6x128, .f32⟩
  | .hbm, ⟨32, _⟩ => ⟨S4112x6x128, .f32⟩
  | .hbm, ⟨33, _⟩ => ⟨S4112x768, .f32⟩
  | .hbm, ⟨34, _⟩ => ⟨S1x768, .f32⟩
  | .hbm, ⟨35, _⟩ => ⟨S4112x768, .f32⟩
  | .hbm, ⟨36, _⟩ => ⟨S4112x768, .f32⟩
  | .hbm, ⟨37, _⟩ => ⟨S1x768, .f32⟩
  | .hbm, ⟨38, _⟩ => ⟨S4112x768, .f32⟩
  | .hbm, ⟨39, _⟩ => ⟨S4112x768, .f32⟩
  | .hbm, ⟨40, _⟩ => ⟨S4112x768, .f32⟩
  | .hbm, ⟨41, _⟩ => ⟨S4112x768, .f32⟩
  | .hbm, ⟨42, _⟩ => ⟨S_, .f32⟩
  | .hbm, ⟨43, _⟩ => ⟨S4112x768, .f32⟩
  | .hbm, ⟨44, _⟩ => ⟨S4112x768, .f32⟩
  | .hbm, ⟨45, _⟩ => ⟨S_, .f32⟩
  | .hbm, ⟨46, _⟩ => ⟨S4112x768, .f32⟩
  | .hbm, ⟨47, _⟩ => ⟨S4112x768, .f32⟩
  | .hbm, ⟨48, _⟩ => ⟨S4112x768, .f32⟩
  | .hbm, ⟨49, _⟩ => ⟨S4112x768, .f32⟩
  | .hbm, ⟨50, _⟩ => ⟨S4112x1024, .f32⟩
  | .hbm, ⟨51, _⟩ => ⟨S_, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S_, .f32⟩
  | .hbm, ⟨57, _⟩ => ⟨S4112, .f32⟩
  | .hbm, ⟨58, _⟩ => ⟨S4112x1, .f32⟩
  | .hbm, ⟨59, _⟩ => ⟨S_, .f32⟩
  | .hbm, ⟨60, _⟩ => ⟨S4112x1, .f32⟩
  | .hbm, ⟨61, _⟩ => ⟨S4112x1, .f32⟩
  | .hbm, ⟨62, _⟩ => ⟨S4112x1024, .f32⟩
  | .hbm, ⟨63, _⟩ => ⟨S4112x1024, .f32⟩
  | .hbm, ⟨64, _⟩ => ⟨S4112x1024, .f32⟩
  | .hbm, ⟨65, _⟩ => ⟨S_, .f32⟩
  | .hbm, ⟨66, _⟩ => ⟨S4112, .f32⟩
  | .hbm, ⟨67, _⟩ => ⟨S4112x1, .f32⟩
  | .hbm, ⟨68, _⟩ => ⟨S_, .f32⟩
  | .hbm, ⟨69, _⟩ => ⟨S4112x1, .f32⟩
  | .hbm, ⟨70, _⟩ => ⟨S4112x1, .f32⟩
  | .hbm, ⟨71, _⟩ => ⟨S_, .f32⟩
  | .hbm, ⟨72, _⟩ => ⟨S4112x1, .f32⟩
  | .hbm, ⟨73, _⟩ => ⟨S4112x1, .f32⟩
  | .hbm, ⟨74, _⟩ => ⟨S4112x1, .f32⟩
  | .hbm, ⟨75, _⟩ => ⟨S_, .i32⟩
  | .hbm, ⟨76, _⟩ => ⟨S_, .f32⟩
  | .hbm, ⟨77, _⟩ => ⟨S4224x1024, .f32⟩
  | .hbm, ⟨78, _⟩ => ⟨S_, .i32⟩
  | .hbm, ⟨79, _⟩ => ⟨S_, .f32⟩
  | .hbm, ⟨80, _⟩ => ⟨S4224x1024, .f32⟩
  | .hbm, ⟨81, _⟩ => ⟨S4112x1024, .f32⟩
  | .hbm, ⟨82, _⟩ => ⟨S4112x1024, .f32⟩
  | .hbm, ⟨83, _⟩ => ⟨S_, .i32⟩
  | .hbm, ⟨84, _⟩ => ⟨S_, .f32⟩
  | .hbm, ⟨85, _⟩ => ⟨S4224x1024, .f32⟩
  | .hbm, ⟨86, _⟩ => ⟨S_, .i32⟩
  | .hbm, ⟨87, _⟩ => ⟨S_, .f32⟩
  | .hbm, ⟨88, _⟩ => ⟨S4224x1, .f32⟩
  | .hbm, ⟨89, _⟩ => ⟨S_, .i32⟩
  | .hbm, ⟨90, _⟩ => ⟨S_, .f32⟩
  | .hbm, ⟨91, _⟩ => ⟨S4224x1024, .f32⟩
  | .hbm, ⟨92, _⟩ => ⟨S4224x1024, .bf16⟩
  | .hbm, ⟨93, _⟩ => ⟨S_, .i32⟩
  | .hbm, ⟨94, _⟩ => ⟨S_, .f32⟩
  | .hbm, ⟨95, _⟩ => ⟨S4224x768, .f32⟩
  | .hbm, ⟨96, _⟩ => ⟨S_, .i32⟩
  | .hbm, ⟨97, _⟩ => ⟨S_, .f32⟩
  | .hbm, ⟨98, _⟩ => ⟨S4224x768, .f32⟩
  | .hbm, ⟨99, _⟩ => ⟨S1x768, .f32⟩
  | .hbm, ⟨100, _⟩ => ⟨S1x768, .f32⟩
  | .hbm, ⟨101, _⟩ => ⟨S2x768, .f32⟩
  | .hbm, ⟨102, _⟩ => ⟨S1x1024, .f32⟩
  | .hbm, ⟨103, _⟩ => ⟨S1024x1024, .bf16⟩
  | .hbm, ⟨104, _⟩ => ⟨S4224x768, .f32⟩
  | .hbm, ⟨105, _⟩ => ⟨S4224x768, .bf16⟩
  | .hbm, ⟨106, _⟩ => ⟨S4224x256, .f32⟩
  | .hbm, ⟨107, _⟩ => ⟨S4224x1024, .f32⟩
  | .hbm, ⟨108, _⟩ => ⟨S1024x1024, .bf16⟩
  | .hbm, ⟨109, _⟩ => ⟨S2x1024, .f32⟩
  | .hbm, ⟨110, _⟩ => ⟨S2x768, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1, .f32⟩
  | .local _ .vmem, ⟨7, _⟩ => ⟨S384x1, .f32⟩
  | .local _ .vmem, ⟨8, _⟩ => ⟨S384x1024, .bf16⟩
  | .local _ .vmem, ⟨9, _⟩ => ⟨S384x1024, .bf16⟩
  | .local _ .vmem, ⟨10, _⟩ => ⟨S384x768, .f32⟩
  | .local _ .vmem, ⟨11, _⟩ => ⟨S384x768, .f32⟩
  | .local _ .vmem, ⟨12, _⟩ => ⟨S384x768, .f32⟩
  | .local _ .vmem, ⟨13, _⟩ => ⟨S384x768, .f32⟩
  | .local _ .vmem, ⟨14, _⟩ => ⟨S2x768, .f32⟩
  | .local _ .vmem, ⟨15, _⟩ => ⟨S1x1024, .f32⟩
  | .local _ .vmem, ⟨16, _⟩ => ⟨S1024x1024, .bf16⟩
  | .local _ .vmem, ⟨17, _⟩ => ⟨S384x768, .f32⟩
  | .local _ .vmem, ⟨18, _⟩ => ⟨S384x768, .f32⟩
  | .local _ .vmem, ⟨19, _⟩ => ⟨S384x768, .bf16⟩
  | .local _ .vmem, ⟨20, _⟩ => ⟨S384x768, .bf16⟩
  | .local _ .vmem, ⟨21, _⟩ => ⟨S384x256, .f32⟩
  | .local _ .vmem, ⟨22, _⟩ => ⟨S384x256, .f32⟩
  | .local _ .vmem, ⟨23, _⟩ => ⟨S384x1024, .f32⟩
  | .local _ .vmem, ⟨24, _⟩ => ⟨S384x1024, .f32⟩
  | .local _ .vmem, ⟨25, _⟩ => ⟨S1024x1024, .bf16⟩
  | .local _ .vmem, ⟨26, _⟩ => ⟨S2x1024, .f32⟩
  | .local _ .vmem, ⟨27, _⟩ => ⟨S2x768, .f32⟩
  | .local _ .vmem, ⟨28, _⟩ => ⟨S1024x1024, .f32⟩
  | _, _ => ⟨S4112x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c : Ref sig .tc := ⟨.hbm, 75, rfl⟩
abbrev main_call1_v0 : Ref sig .tc := ⟨.hbm, 76, rfl⟩
abbrev main_v45 : Ref sig .tc := ⟨.hbm, 77, rfl⟩
abbrev main_c_10 : Ref sig .tc := ⟨.hbm, 78, rfl⟩
abbrev main_call2_v0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_call3_v0 : Ref sig .tc := ⟨.hbm, 84, rfl⟩
abbrev main_v49 : Ref sig .tc := ⟨.hbm, 85, rfl⟩
abbrev main_c_12 : Ref sig .tc := ⟨.hbm, 86, rfl⟩
abbrev main_call4_v0 : Ref sig .tc := ⟨.hbm, 87, rfl⟩
abbrev main_v50 : Ref sig .tc := ⟨.hbm, 88, rfl⟩
abbrev main_c_13 : Ref sig .tc := ⟨.hbm, 89, rfl⟩
abbrev main_call5_v0 : Ref sig .tc := ⟨.hbm, 90, rfl⟩
abbrev main_v51 : Ref sig .tc := ⟨.hbm, 91, rfl⟩
abbrev main_v52 : Ref sig .tc := ⟨.hbm, 92, rfl⟩
abbrev main_c_14 : Ref sig .tc := ⟨.hbm, 93, rfl⟩
abbrev main_call6_v0 : Ref sig .tc := ⟨.hbm, 94, rfl⟩
abbrev main_v53 : Ref sig .tc := ⟨.hbm, 95, rfl⟩
abbrev main_c_15 : Ref sig .tc := ⟨.hbm, 96, rfl⟩
abbrev main_call7_v0 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60_0 : Ref sig .tc := ⟨.hbm, 104, rfl⟩
abbrev main_v60_1 : Ref sig .tc := ⟨.hbm, 105, rfl⟩
abbrev main_v60_2 : Ref sig .tc := ⟨.hbm, 106, rfl⟩
abbrev main_v60_3 : Ref sig .tc := ⟨.hbm, 107, rfl⟩
abbrev main_v60_4 : Ref sig .tc := ⟨.hbm, 108, rfl⟩
abbrev main_v60_5 : Ref sig .tc := ⟨.hbm, 109, rfl⟩
abbrev main_v60_6 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v454 : BitVec 1 := Scalar.cmpi .eq arg0 c10_i32
  let v455 : BitVec 32 := Scalar.extui v454
  let c0_i32_142 : BitVec 32 := 0#32
  let v456 : BitVec 1 := Scalar.cmpi .ne v455 c0_i32_142
  v456

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S4112x768 : Shape := ⟨2, ![4112, 768]⟩
abbrev S4112x256 : Shape := ⟨2, ![4112, 256]⟩
abbrev S4112x1024 : Shape := ⟨2, ![4112, 1024]⟩
abbrev S768 : Shape := ⟨1, ![768]⟩
abbrev S1024x1024 : Shape := ⟨2, ![1024, 1024]⟩
abbrev S1024 : Shape := ⟨1, ![1024]⟩
abbrev S4112x6x128 : Shape := ⟨3, ![4112, 6, 128]⟩
abbrev S_ : Shape := ⟨0, ![]⟩
abbrev S4112x6 : Shape := ⟨2, ![4112, 6]⟩
abbrev S4112x6x1 : Shape := ⟨3, ![4112, 6, 1]⟩
abbrev S1x768 : Shape := ⟨2, ![1, 768]⟩
abbrev S4112 : Shape := ⟨1, ![4112]⟩
abbrev S4112x1 : Shape := ⟨2, ![4112, 1]⟩
abbrev S1x1024 : Shape := ⟨2, ![1, 1024]⟩
abbrev S4224x768 : Shape := ⟨2, ![4224, 768]⟩
abbrev S4224x256 : Shape := ⟨2, ![4224, 256]⟩
abbrev S4224x1024 : Shape := ⟨2, ![4224, 1024]⟩
abbrev S2x1024 : Shape := ⟨2, ![2, 1024]⟩
abbrev S2x768 : Shape := ⟨2, ![2, 768]⟩

abbrev nBuf : Space → Nat
  | .hbm => 221
  | .vmem => 0
  | .smem => 0
  | _ => 0

abbrev hbmTy0_0 (i : Nat) : BufTy := match i % 128 with
  | 0 => ⟨S4112x768, .f32⟩
  | 1 => ⟨S4112x768, .f32⟩
  | 2 => ⟨S4112x256, .f32⟩
  | 3 => ⟨S4112x1024, .f32⟩
  | 4 => ⟨S768, .f32⟩
  | 5 => ⟨S768, .f32⟩
  | 6 => ⟨S1024x1024, .f32⟩
  | 7 => ⟨S1024, .f32⟩
  | 8 => ⟨S1024, .f32⟩
  | 9 => ⟨S4112x1024, .f32⟩
  | 10 => ⟨S4112x1024, .f32⟩
  | 11 => ⟨S4112x6x128, .f32⟩
  | 12 => ⟨S_, .f32⟩
  | 13 => ⟨S4112x6, .f32⟩
  | 14 => ⟨S4112x6x1, .f32⟩
  | 15 => ⟨S_, .f32⟩
  | 16 => ⟨S4112x6x1, .f32⟩
  | 17 => ⟨S4112x6x1, .f32⟩
  | 18 => ⟨S4112x6x128, .f32⟩
  | 19 => ⟨S4112x6x128, .f32⟩
  | 20 => ⟨S4112x6x128, .f32⟩
  | 21 => ⟨S_, .f32⟩
  | 22 => ⟨S4112x6, .f32⟩
  | 23 => ⟨S4112x6x1, .f32⟩
  | 24 => ⟨S_, .f32⟩
  | 25 => ⟨S4112x6x1, .f32⟩
  | 26 => ⟨S4112x6x1, .f32⟩
  | 27 => ⟨S_, .f32⟩
  | 28 => ⟨S4112x6x1, .f32⟩
  | 29 => ⟨S4112x6x1, .f32⟩
  | 30 => ⟨S4112x6x1, .f32⟩
  | 31 => ⟨S4112x6x1, .f32⟩
  | 32 => ⟨S_, .f32⟩
  | 33 => ⟨S4112x6x1, .f32⟩
  | 34 => ⟨S4112x6x1, .f32⟩
  | 35 => ⟨S4112x6x128, .f32⟩
  | 36 => ⟨S4112x6x128, .f32⟩
  | 37 => ⟨S4112x768, .f32⟩
  | 38 => ⟨S1x768, .f32⟩
  | 39 => ⟨S4112x768, .f32⟩
  | 40 => ⟨S4112x768, .f32⟩
  | 41 => ⟨S1x768, .f32⟩
  | 42 => ⟨S4112x768, .f32⟩
  | 43 => ⟨S4112x768, .f32⟩
  | 44 => ⟨S4112x768, .f32⟩
  | 45 => ⟨S4112x768, .f32⟩
  | 46 => ⟨S_, .f32⟩
  | 47 => ⟨S4112x768, .f32⟩
  | 48 => ⟨S4112x768, .f32⟩
  | 49 => ⟨S_, .f32⟩
  | 50 => ⟨S4112x768, .f32⟩
  | 51 => ⟨S4112x768, .f32⟩
  | 52 => ⟨S_, .f32⟩
  | 53 => ⟨S4112x768, .f32⟩
  | 54 => ⟨S4112x768, .f32⟩
  | 55 => ⟨S4112x768, .f32⟩
  | 56 => ⟨S4112x768, .f32⟩
  | 57 => ⟨S4112x768, .f32⟩
  | 58 => ⟨S4112x1024, .f32⟩
  | 59 => ⟨S4112x1024, .f32⟩
  | 60 => ⟨S_, .f32⟩
  | 61 => ⟨S4112x1024, .f32⟩
  | 62 => ⟨S4112x1024, .f32⟩
  | 63 => ⟨S4112x1024, .f32⟩
  | 64 => ⟨S_, .f32⟩
  | 65 => ⟨S4112, .f32⟩
  | 66 => ⟨S4112x1, .f32⟩
  | 67 => ⟨S_, .f32⟩
  | 68 => ⟨S4112x1, .f32⟩
  | 69 => ⟨S4112x1, .f32⟩
  | 70 => ⟨S4112x1024, .f32⟩
  | 71 => ⟨S4112x1024, .f32⟩
  | 72 => ⟨S4112x1024, .f32⟩
  | 73 => ⟨S_, .f32⟩
  | 74 => ⟨S4112, .f32⟩
  | 75 => ⟨S4112x1, .f32⟩
  | 76 => ⟨S_, .f32⟩
  | 77 => ⟨S4112x1, .f32⟩
  | 78 => ⟨S4112x1, .f32⟩
  | 79 => ⟨S_, .f32⟩
  | 80 => ⟨S4112x1, .f32⟩
  | 81 => ⟨S4112x1, .f32⟩
  | 82 => ⟨S4112x1, .f32⟩
  | 83 => ⟨S4112x1, .f32⟩
  | 84 => ⟨S_, .f32⟩
  | 85 => ⟨S4112x1, .f32⟩
  | 86 => ⟨S4112x1, .f32⟩
  | 87 => ⟨S4112x1024, .f32⟩
  | 88 => ⟨S4112x1024, .f32⟩
  | 89 => ⟨S1x1024, .f32⟩
  | 90 => ⟨S4112x1024, .f32⟩
  | 91 => ⟨S4112x1024, .f32⟩
  | 92 => ⟨S1x1024, .f32⟩
  | 93 => ⟨S4112x1024, .f32⟩
  | 94 => ⟨S4112x1024, .f32⟩
  | 95 => ⟨S_, .f32⟩
  | 96 => ⟨S4112x1024, .f32⟩
  | 97 => ⟨S4112x1024, .f32⟩
  | 98 => ⟨S_, .f32⟩
  | 99 => ⟨S4112x1024, .f32⟩
  | 100 => ⟨S4112x1024, .f32⟩
  | 101 => ⟨S4112x1024, .f32⟩
  | 102 => ⟨S4112x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S4112x1024, .f32⟩
  | 109 => ⟨S_, .f32⟩
  | 110 => ⟨S1024, .f32⟩
  | 111 => ⟨S1x1024, .f32⟩
  | 112 => ⟨S4112x1024, .f32⟩
  | 113 => ⟨S4112x1024, .f32⟩
  | 114 => ⟨S_, .f32⟩
  | 115 => ⟨S1024, .f32⟩
  | 116 => ⟨S4112x1024, .f32⟩
  | 117 => ⟨S_, .f32⟩
  | 118 => ⟨S4112, .f32⟩
  | 119 => ⟨S4112x1, .f32⟩
  | 120 => ⟨S4112x1024, .f32⟩
  | 121 => ⟨S4112x1024, .f32⟩
  | 122 => ⟨S4112x1, .f32⟩
  | 123 => ⟨S_, .f32⟩
  | 124 => ⟨S4112x1, .f32⟩
  | 125 => ⟨S4112x1, .f32⟩
  | 126 => ⟨S_, .f32⟩
  | 127 => ⟨S4112, .f32⟩
  | _ => ⟨S4112x768, .f32⟩

abbrev hbmTy0_1 (i : Nat) : BufTy := match i % 128 with
  | 0 => ⟨S4112x1024, .f32⟩
  | 1 => ⟨S4112x1024, .f32⟩
  | 2 => ⟨S4112x1024, .f32⟩
  | 3 => ⟨S4112x1024, .f32⟩
  | 4 => ⟨S4112x1024, .f32⟩
  | 5 => ⟨S4112x1024, .f32⟩
  | 6 => ⟨S_, .f32⟩
  | 7 => ⟨S4112, .f32⟩
  | 8 => ⟨S4112x1, .f32⟩
  | 9 => ⟨S_, .f32⟩
  | 10 => ⟨S4112x1, .f32⟩
  | 11 => ⟨S4112x1, .f32⟩
  | 12 => ⟨S_, .f32⟩
  | 13 => ⟨S4112, .f32⟩
  | 14 => ⟨S4112x1024, .f32⟩
  | 15 => ⟨S4112x1024, .f32⟩
  | 16 => ⟨S_, .f32⟩
  | 17 => ⟨S4112x1024, .f32⟩
  | 18 => ⟨S4112x1024, .f32⟩
  | 19 => ⟨S1024x1024, .f32⟩
  | 20 => ⟨S1024x1024, .f32⟩
  | 21 => ⟨S4112x1024, .f32⟩
  | 22 => ⟨S4112x256, .f32⟩
  | 23 => ⟨S4112x768, .f32⟩
  | 24 => ⟨S4112x768, .f32⟩
  | 25 => ⟨S4112x768, .f32⟩
  | 26 => ⟨S4112x768, .f32⟩
  | 27 => ⟨S4112x768, .f32⟩
  | 28 => ⟨S4112x768, .f32⟩
  | 29 => ⟨S4112x768, .f32⟩
  | 30 => ⟨S_, .f32⟩
  | 31 => ⟨S768, .f32⟩
  | 32 => ⟨S1x768, .f32⟩
  | 33 => ⟨S_, .f32⟩
  | 34 => ⟨S768, .f32⟩
  | 35 => ⟨S4112x768, .f32⟩
  | 36 => ⟨S_, .f32⟩
  | 37 => ⟨S768, .f32⟩
  | 38 => ⟨S1x768, .f32⟩
  | 39 => ⟨S4112x768, .f32⟩
  | 40 => ⟨S4112x768, .f32⟩
  | 41 => ⟨S_, .f32⟩
  | 42 => ⟨S768, .f32⟩
  | 43 => ⟨S4112x6x128, .f32⟩
  | 44 => ⟨S4112x6x128, .f32⟩
  | 45 => ⟨S_, .f32⟩
  | 46 => ⟨S4112x6, .f32⟩
  | 47 => ⟨S4112x6x1, .f32⟩
  | 48 => ⟨S4112x6x128, .f32⟩
  | 49 => ⟨S4112x6x128, .f32⟩
  | 50 => ⟨S4112x6x1, .f32⟩
  | 51 => ⟨S_, .f32⟩
  | 52 => ⟨S4112x6x1, .f32⟩
  | 53 => ⟨S4112x6x1, .f32⟩
  | 54 => ⟨S_, .f32⟩
  | 55 => ⟨S4112x6, .f32⟩
  | 56 => ⟨S4112x6x128, .f32⟩
  | 57 => ⟨S4112x6x128, .f32⟩
  | 58 => ⟨S4112x6x128, .f32⟩
  | 59 => ⟨S4112x6x128, .f32⟩
  | 60 => ⟨S4112x6x128, .f32⟩
  | 61 => ⟨S4112x6x128, .f32⟩
  | 62 => ⟨S_, .f32⟩
  | 63 => ⟨S4112x6, .f32⟩
  | 64 => ⟨S4112x6x1, .f32⟩
  | 65 => ⟨S_, .f32⟩
  | 66 => ⟨S4112x6x1, .f32⟩
  | 67 => ⟨S4112x6x1, .f32⟩
  | 68 => ⟨S_, .f32⟩
  | 69 => ⟨S4112x6, .f32⟩
  | 70 => ⟨S4112x6x128, .f32⟩
  | 71 => ⟨S4112x6x128, .f32⟩
  | 72 => ⟨S4112x768, .f32⟩
  | 73 => ⟨S_, .i32⟩
  | 74 => ⟨S_, .f32⟩
  | 75 => ⟨S4224x768, .f32⟩
  | 76 => ⟨S_, .i32⟩
  | 77 => ⟨S_, .f32⟩
  | 78 => ⟨S4224x768, .f32⟩
  | 79 => ⟨S4224x768, .bf16⟩
  | 80 => ⟨S_, .i32⟩
  | 81 => ⟨S_, .f32⟩
  | 82 => ⟨S4224x256, .f32⟩
  | 83 => ⟨S_, .i32⟩
  | 84 => ⟨S_, .f32⟩
  | 85 => ⟨S4224x1024, .f32⟩
  | 86 => ⟨S1024x1024, .bf16⟩
  | 87 => ⟨S1x1024, .f32⟩
  | 88 => ⟨S1x1024, .f32⟩
  | 89 => ⟨S2x1024, .f32⟩
  | 90 => ⟨S1x768, .f32⟩
  | 91 => ⟨S1x768, .f32⟩
  | 92 => ⟨S2x768, .f32⟩
  | _ => ⟨S4112x768, .f32⟩

abbrev hbmTy (i : Nat) : BufTy := match i / 128 with
  | 0 => hbmTy0_0 i
  | 1 => hbmTy0_1 i
  | _ => ⟨S4112x768, .f32⟩

abbrev bufTy : (tb : Table) → Fin (tcTables nBuf tb) → BufTy
  | .hbm, ⟨i, _⟩ => hbmTy i
  | _, _ => ⟨S4112x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v27_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v27_1 : Ref sig .tc := ⟨.hbm, 55, rfl⟩
abbrev main_v27_0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_cst_10 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_cst_13 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_cst_15 : Ref sig .tc := ⟨.hbm, 106, rfl⟩
abbrev main_v67 : Ref sig .tc := ⟨.hbm, 107, rfl⟩
abbrev main_v68 : Ref sig .tc := ⟨.hbm, 108, rfl⟩
abbrev main_cst_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_17 : Ref sig .tc := ⟨.hbm, 114, rfl⟩
abbrev main_v73 : Ref sig .tc := ⟨.hbm, 115, rfl⟩
abbrev main_v74 : Ref sig .tc := ⟨.hbm, 116, rfl⟩
abbrev main_cst_18 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_cst_22 : Ref sig .tc := ⟨.hbm, 137, rfl⟩
abbrev main_v91 : Ref sig .tc := ⟨.hbm, 138, rfl⟩
abbrev main_v92 : Ref sig .tc := ⟨.hbm, 139, rfl⟩
abbrev main_cst_23 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_24 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v105 : Ref sig .tc := ⟨.hbm, 157, rfl⟩
abbrev main_cst_25 : Ref sig .tc := ⟨.hbm, 158, rfl⟩
abbrev main_v106 : Ref sig .tc := ⟨.hbm, 159, rfl⟩
abbrev main_v107 : Ref sig .tc := ⟨.hbm, 160, rfl⟩
abbrev main_cst_26 : Ref sig .tc := ⟨.hbm, 161, rfl⟩
abbrev main_v108 : Ref sig .tc := ⟨.hbm, 162, rfl⟩
abbrev main_v109 : Ref sig .tc := ⟨.hbm, 163, rfl⟩
abbrev main_cst_27 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_28 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_29 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_30 : Ref sig .tc := ⟨.hbm, 179, rfl⟩
abbrev main_v122 : Ref sig .tc := ⟨.hbm, 180, rfl⟩
abbrev main_v123 : Ref sig .tc := ⟨.hbm, 181, rfl⟩
abbrev main_cst_31 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_cst_32 : Ref sig .tc := ⟨.hbm, 190, rfl⟩
abbrev main_v131 : Ref sig .tc := ⟨.hbm, 191, rfl⟩
abbrev main_v132 : Ref sig .tc := ⟨.hbm, 192, rfl⟩
abbrev main_cst_33 : Ref sig .tc := ⟨.hbm, 193, rfl⟩
abbrev main_v133 : Ref sig .tc := ⟨.hbm, 194, rfl⟩
abbrev main_v134 : Ref sig .tc := ⟨.hbm, 195, rfl⟩
abbrev main_cst_34 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_c : Ref sig .tc := ⟨.hbm, 201, rfl⟩
abbrev main_call2_v0 : Ref sig .tc := ⟨.hbm, 202, rfl⟩
abbrev main_v139 : Ref sig .tc := ⟨.hbm, 203, rfl⟩
abbrev main_c_35 : Ref sig .tc := ⟨.hbm, 204, rfl⟩
abbrev main_call3_v0 : Ref sig .tc := ⟨.hbm, 205, rfl⟩
abbrev main_v140 : Ref sig .tc := ⟨.hbm, 206, rfl⟩
abbrev main_v141 : Ref sig .tc := ⟨.hbm, 207, rfl⟩
abbrev main_c_36 : Ref sig .tc := ⟨.hbm, 208, rfl⟩
abbrev main_call4_v0 : Ref sig .tc := ⟨.hbm, 209, rfl⟩
abbrev main_v142 : Ref sig .tc := ⟨.hbm, 210, rfl⟩
abbrev main_c_37 : Ref sig .tc := ⟨.hbm, 211, rfl⟩
abbrev main_call5_v0 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩

abbrev nD : Nat := 1
abbrev τ : Topo := Topo.v7x

variable {F : FTy → Type} [FloatOps F]
-- ==== Kernel3.lean ====
abbrev S4112x1024 : Shape := ⟨2, ![4112, 1024]⟩
abbrev S1024x4096 : Shape := ⟨2, ![1024, 4096]⟩
abbrev S4096x1024 : Shape := ⟨2, ![4096, 1024]⟩
abbrev S4112x4096 : Shape := ⟨2, ![4112, 4096]⟩
abbrev S_ : Shape := ⟨0, ![]⟩
abbrev S1024x8x512 : Shape := ⟨3, ![1024, 8, 512]⟩
abbrev S8x1024x512 : Shape := ⟨3, ![8, 1024, 512]⟩
abbrev S4224x1024 : Shape := ⟨2, ![4224, 1024]⟩
abbrev S4224x4096 : Shape := ⟨2, ![4224, 4096]⟩
abbrev S8x512x1024 : Shape := ⟨3, ![8, 512, 1024]⟩
abbrev S1408x1024 : Shape := ⟨2, ![1408, 1024]⟩
abbrev S1408x512 : Shape := ⟨2, ![1408, 512]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 28
  | .vmem => 17
  | .smem => 0
  | _ => 0

abbrev bufTy : (tb : Table) → Fin (tcTables nBuf tb) → BufTy
  | .hbm, ⟨0, _⟩ => ⟨S4112x1024, .f32⟩
  | .hbm, ⟨1, _⟩ => ⟨S1024x4096, .f32⟩
  | .hbm, ⟨2, _⟩ => ⟨S4096x1024, .f32⟩
  | .hbm, ⟨3, _⟩ => ⟨S4112x1024, .f32⟩
  | .hbm, ⟨4, _⟩ => ⟨S4112x4096, .f32⟩
  | .hbm, ⟨5, _⟩ => ⟨S_, .f32⟩
  | .hbm, ⟨6, _⟩ => ⟨S4112x4096, .f32⟩
  | .hbm, ⟨7, _⟩ => ⟨S4112x4096, .f32⟩
  | .hbm, ⟨8, _⟩ => ⟨S1024x8x512, .f32⟩
  | .hbm, ⟨9, _⟩ => ⟨S8x1024x512, .f32⟩
  | .hbm, ⟨10, _⟩ => ⟨S8x1024x512, .bf16⟩
  | .hbm, ⟨11, _⟩ => ⟨S_, .i32⟩
  | .hbm, ⟨12, _⟩ => ⟨S_, .f32⟩
  | .hbm, ⟨13, _⟩ => ⟨S4224x1024, .f32⟩
  | .hbm, ⟨14, _⟩ => ⟨S4224x1024, .bf16⟩
  | .hbm, ⟨15, _⟩ => ⟨S_, .i32⟩
  | .hbm, ⟨16, _⟩ => ⟨S_, .f32⟩
  | .hbm, ⟨17, _⟩ => ⟨S4224x1024, .f32⟩
  | .hbm, ⟨18, _⟩ => ⟨S4224x1024, .bf16⟩
  | .hbm, ⟨19, _⟩ => ⟨S_, .i32⟩
  | .hbm, ⟨20, _⟩ => ⟨S_, .f32⟩
  | .hbm, ⟨21, _⟩ => ⟨S4224x4096, .f32⟩
  | .hbm, ⟨22, _⟩ => ⟨S4224x4096, .bf16⟩
  | .hbm, ⟨23, _⟩ => ⟨S4096x1024, .bf16⟩
  | .hbm, ⟨24, _⟩ => ⟨S8x512x1024, .bf16⟩
  | .hbm, ⟨25, _⟩ => ⟨S8x1024x512, .bf16⟩
  | .hbm, ⟨26, _⟩ => ⟨S8x512x1024, .bf16⟩
  | .hbm, ⟨27, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x512, .bf16⟩
  | .local _ .vmem, ⟨5, _⟩ => ⟨S1408x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S4224x1024, .f32⟩
  | .local _ .vmem, ⟨15, _⟩ => ⟨S1024x512, .f32⟩
  | .local _ .vmem, ⟨16, _⟩ => ⟨S512x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 3], ![false, false]⟩

def k0_cond6 (i : grid0.Coords) : BitVec 1 :=
  let arg1 : BitVec 32 := BitVec.ofNat 32 (i 1).val
  let c2_i32_31 : BitVec 32 := 2#32
  let v47 : BitVec 1 := Scalar.cmpi .eq arg1 c2_i32_31
  let v48 : BitVec 32 := Scalar.extui v47
  let c0_i32_32 : BitVec 32 := 0#32
  let v49 : BitVec 1 := Scalar.cmpi .ne v48 c0_i32_32
  v49

def k0_cond2 (i : grid0.Coords) : BitVec 1 :=
  let arg0 : BitVec 32 := BitVec.ofNat 32 (i 0).val
  let c0_i32_24 : BitVec 32 := 0#32
  let v33 : BitVec 1 := Scalar.cmpi .eq arg0 c0_i32_24
  let arg1 : BitVec 32 := BitVec.ofNat 32 (i 1).val
  let c0_i32_25 : BitVec 32 := 0#32
  let v34 : BitVec 1 := Scalar.cmpi .eq arg1 c0_i32_25
  let v35 : BitVec 1 := Scalar.andi v33 v34
  let v36 : BitVec 32 := Scalar.extui v35
  let c0_i32_26 : BitVec 32 := 0#32
  let v37 : BitVec 1 := Scalar.cmpi .ne v36 c0_i32_26
  v37

def k0_cond3 (i : grid0.Coords) : BitVec 1 :=
  let arg1 : BitVec 32 := BitVec.ofNat 32 (i 1).val
  let c0_i32_27 : BitVec 32 := 0#32
  let v38 : BitVec 1 := Scalar.cmpi .eq arg1 c0_i32_27
  let v39 : BitVec 32 := Scalar.extui v38
  let c0_i32_28 : BitVec 32 := 0#32
  let v40 : BitVec 1 := Scalar.cmpi .ne v39 c0_i32_28
  v40

def k0_cond4 (i : grid0.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_29 : BitVec 32 := 0#32
  let v43 : BitVec 1 := Scalar.cmpi .ne v42 c0_i32_29
  v43

def k0_cond5 (i : grid0.Coords) : BitVec 1 :=
  let arg1 : BitVec 32 := BitVec.ofNat 32 (i 1).val
  let c2_i32 : BitVec 32 := 2#32
  let v44 : BitVec 1 := Scalar.cmpi .eq arg1 c2_i32
  let v45 : BitVec 32 := Scalar.extui v44
  let c0_i32_30 : BitVec 32 := 0#32
  let v46 : BitVec 1 := Scalar.cmpi .ne v45 c0_i32_30
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S4112x1024 : Shape := ⟨2, ![4112, 1024]⟩
abbrev S1024x4096 : Shape := ⟨2, ![1024, 4096]⟩
abbrev S4096x1024 : Shape := ⟨2, ![4096, 1024]⟩
abbrev S4112x4096 : Shape := ⟨2, ![4112, 4096]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4224x1024 : Shape := ⟨2, ![4224, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x4096, .f32⟩
  | .hbm, ⟨2, _⟩ => ⟨S4096x1024, .f32⟩
  | .hbm, ⟨3, _⟩ => ⟨S4112x1024, .f32⟩
  | .hbm, ⟨4, _⟩ => ⟨S4112x4096, .f32⟩
  | .hbm, ⟨5, _⟩ => ⟨S_, .f32⟩
  | .hbm, ⟨6, _⟩ => ⟨S4112x4096, .f32⟩
  | .hbm, ⟨7, _⟩ => ⟨S4112x4096, .f32⟩
  | .hbm, ⟨8, _⟩ => ⟨S_, .f32⟩
  | .hbm, ⟨9, _⟩ => ⟨S4112x4096, .f32⟩
  | .hbm, ⟨10, _⟩ => ⟨S4112x4096, .i1⟩
  | .hbm, ⟨11, _⟩ => ⟨S_, .f32⟩
  | .hbm, ⟨12, _⟩ => ⟨S4112x4096, .f32⟩
  | .hbm, ⟨13, _⟩ => ⟨S4112x4096, .f32⟩
  | .hbm, ⟨14, _⟩ => ⟨S_, .f32⟩
  | .hbm, ⟨15, _⟩ => ⟨S4112x4096, .f32⟩
  | .hbm, ⟨16, _⟩ => ⟨S4112x4096, .f32⟩
  | .hbm, ⟨17, _⟩ => ⟨S4112x1024, .f32⟩
  | .hbm, ⟨18, _⟩ => ⟨S1024x4096, .f32⟩
  | .hbm, ⟨19, _⟩ => ⟨S4096x1024, .f32⟩
  | .hbm, ⟨20, _⟩ => ⟨S4112x4096, .f32⟩
  | .hbm, ⟨21, _⟩ => ⟨S4112x4096, .f32⟩
  | .hbm, ⟨22, _⟩ => ⟨S_, .f32⟩
  | .hbm, ⟨23, _⟩ => ⟨S4112x4096, .f32⟩
  | .hbm, ⟨24, _⟩ => ⟨S4112x4096, .f32⟩
  | .hbm, ⟨25, _⟩ => ⟨S4096x1024, .f32⟩
  | .hbm, ⟨26, _⟩ => ⟨S1024x4096, .f32⟩
  | .hbm, ⟨27, _⟩ => ⟨S4112x1024, .f32⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S8x512x1024, .f32⟩
  | .hbm, ⟨32, _⟩ => ⟨S8x512x1024, .bf16⟩
  | .hbm, ⟨33, _⟩ => ⟨S_, .i32⟩
  | .hbm, ⟨34, _⟩ => ⟨S_, .f32⟩
  | .hbm, ⟨35, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call1_v0 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel4.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S4224x4096 : Shape := ⟨2, ![4224, 4096]⟩
abbrev S4224x1024 : Shape := ⟨2, ![4224, 1024]⟩
abbrev S8x128 : Shape := ⟨2, ![8, 128]⟩
abbrev S384x4096 : Shape := ⟨2, ![384, 4096]⟩
abbrev S384x1024 : Shape := ⟨2, ![384, 1024]⟩
abbrev S128x1024 : Shape := ⟨2, ![128, 1024]⟩
abbrev S384x512 : Shape := ⟨2, ![384, 512]⟩
abbrev S512x1024 : Shape := ⟨2, ![512, 1024]⟩
abbrev S384 : Shape := ⟨1, ![384]⟩
abbrev S384x1 : Shape := ⟨2, ![384, 1]⟩
abbrev S1x384x1024 : Shape := ⟨3, ![1, 384, 1024]⟩
abbrev S1 : Shape := ⟨1, ![1]⟩
abbrev S1x1x1 : Shape := ⟨3, ![1, 1, 1]⟩

abbrev nBuf : Space → Nat
  | .hbm => 56
  | .vmem => 23
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S4112x1024, .f32⟩
  | .hbm, ⟨17, _⟩ => ⟨S_, .f32⟩
  | .hbm, ⟨18, _⟩ => ⟨S4112, .f32⟩
  | .hbm, ⟨19, _⟩ => ⟨S4112x1, .f32⟩
  | .hbm, ⟨20, _⟩ => ⟨S_, .f32⟩
  | .hbm, ⟨21, _⟩ => ⟨S4112x1, .f32⟩
  | .hbm, ⟨22, _⟩ => ⟨S4112x1, .f32⟩
  | .hbm, ⟨23, _⟩ => ⟨S_, .f32⟩
  | .hbm, ⟨24, _⟩ => ⟨S4112x1, .f32⟩
  | .hbm, ⟨25, _⟩ => ⟨S4112x1, .f32⟩
  | .hbm, ⟨26, _⟩ => ⟨S4112x1, .f32⟩
  | .hbm, ⟨27, _⟩ => ⟨S4112x1024, .f32⟩
  | .hbm, ⟨28, _⟩ => ⟨S4112x1024, .f32⟩
  | .hbm, ⟨29, _⟩ => ⟨S1x1024, .f32⟩
  | .hbm, ⟨30, _⟩ => ⟨S4112x1024, .f32⟩
  | .hbm, ⟨31, _⟩ => ⟨S4112x1024, .f32⟩
  | .hbm, ⟨32, _⟩ => ⟨S1x1024, .f32⟩
  | .hbm, ⟨33, _⟩ => ⟨S4112x1024, .f32⟩
  | .hbm, ⟨34, _⟩ => ⟨S4112x1024, .f32⟩
  | .hbm, ⟨35, _⟩ => ⟨S4112x4096, .f32⟩
  | .hbm, ⟨36, _⟩ => ⟨S_, .f32⟩
  | .hbm, ⟨37, _⟩ => ⟨S4112x4096, .f32⟩
  | .hbm, ⟨38, _⟩ => ⟨S4112x4096, .f32⟩
  | .hbm, ⟨39, _⟩ => ⟨S_, .i32⟩
  | .hbm, ⟨40, _⟩ => ⟨S_, .f32⟩
  | .hbm, ⟨41, _⟩ => ⟨S4224x4096, .f32⟩
  | .hbm, ⟨42, _⟩ => ⟨S4224x4096, .bf16⟩
  | .hbm, ⟨43, _⟩ => ⟨S_, .i32⟩
  | .hbm, ⟨44, _⟩ => ⟨S_, .f32⟩
  | .hbm, ⟨45, _⟩ => ⟨S4224x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S4096x1024, .bf16⟩
  | .hbm, ⟨51, _⟩ => ⟨S4224x1024, .f32⟩
  | .hbm, ⟨52, _⟩ => ⟨S4224x1024, .bf16⟩
  | .hbm, ⟨53, _⟩ => ⟨S8x128, .f32⟩
  | .hbm, ⟨54, _⟩ => ⟨S1x1024, .f32⟩
  | .hbm, ⟨55, _⟩ => ⟨S1x1024, .f32⟩
  | .local _ .vmem, ⟨0, _⟩ => ⟨S384x4096, .bf16⟩
  | .local _ .vmem, ⟨1, _⟩ => ⟨S384x4096, .bf16⟩
  | .local _ .vmem, ⟨2, _⟩ => ⟨S384x1024, .f32⟩
  | .local _ .vmem, ⟨3, _⟩ => ⟨S384x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S4096x1024, .bf16⟩
  | .local _ .vmem, ⟨15, _⟩ => ⟨S384x1024, .f32⟩
  | .local _ .vmem, ⟨16, _⟩ => ⟨S384x1024, .f32⟩
  | .local _ .vmem, ⟨17, _⟩ => ⟨S384x1024, .bf16⟩
  | .local _ .vmem, ⟨18, _⟩ => ⟨S384x1024, .bf16⟩
  | .local _ .vmem, ⟨19, _⟩ => ⟨S8x128, .f32⟩
  | .local _ .vmem, ⟨20, _⟩ => ⟨S1x1024, .f32⟩
  | .local _ .vmem, ⟨21, _⟩ => ⟨S1x1024, .f32⟩
  | .local _ .vmem, ⟨22, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_c : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_v32_2 : Ref sig .tc := ⟨.hbm, 53, rfl⟩
abbrev main_v32_3 : Ref sig .tc := ⟨.hbm, 54, rfl⟩
abbrev main_v32_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S4096 : Shape := ⟨1, ![4096]⟩
abbrev S4224x1024 : Shape := ⟨2, ![4224, 1024]⟩
abbrev S8x128 : Shape := ⟨2, ![8, 128]⟩

abbrev nBuf : Space → Nat
  | .hbm => 150
  | .vmem => 0
  | .smem => 0
  | _ => 0

abbrev hbmTy0_0 (i : Nat) : BufTy := match i % 128 with
  | 0 => ⟨S4112x1024, .f32⟩
  | 1 => ⟨S1024, .f32⟩
  | 2 => ⟨S1024, .f32⟩
  | 3 => ⟨S1024x4096, .f32⟩
  | 4 => ⟨S4096x1024, .f32⟩
  | 5 => ⟨S1024, .f32⟩
  | 6 => ⟨S1024, .f32⟩
  | 7 => ⟨S4096x1024, .f32⟩
  | 8 => ⟨S_, .f32⟩
  | 9 => ⟨S4112, .f32⟩
  | 10 => ⟨S4112x1, .f32⟩
  | 11 => ⟨S_, .f32⟩
  | 12 => ⟨S4112x1, .f32⟩
  | 13 => ⟨S4112x1, .f32⟩
  | 14 => ⟨S4112x1024, .f32⟩
  | 15 => ⟨S4112x1024, .f32⟩
  | 16 => ⟨S4112x1024, .f32⟩
  | 17 => ⟨S_, .f32⟩
  | 18 => ⟨S4112, .f32⟩
  | 19 => ⟨S4112x1, .f32⟩
  | 20 => ⟨S_, .f32⟩
  | 21 => ⟨S4112x1, .f32⟩
  | 22 => ⟨S4112x1, .f32⟩
  | 23 => ⟨S_, .f32⟩
  | 24 => ⟨S4112x1, .f32⟩
  | 25 => ⟨S4112x1, .f32⟩
  | 26 => ⟨S4112x1, .f32⟩
  | 27 => ⟨S4112x1024, .f32⟩
  | 28 => ⟨S4112x1024, .f32⟩
  | 29 => ⟨S1x1024, .f32⟩
  | 30 => ⟨S4112x1024, .f32⟩
  | 31 => ⟨S4112x1024, .f32⟩
  | 32 => ⟨S1x1024, .f32⟩
  | 33 => ⟨S4112x1024, .f32⟩
  | 34 => ⟨S4112x1024, .f32⟩
  | 35 => ⟨S_, .f32⟩
  | 36 => ⟨S4112x1024, .f32⟩
  | 37 => ⟨S4112x1024, .f32⟩
  | 38 => ⟨S4112x4096, .f32⟩
  | 39 => ⟨S_, .f32⟩
  | 40 => ⟨S4112x4096, .f32⟩
  | 41 => ⟨S4112x4096, .f32⟩
  | 42 => ⟨S4112x4096, .f32⟩
  | 43 => ⟨S4112x1024, .f32⟩
  | 44 => ⟨S4112x1024, .f32⟩
  | 45 => ⟨S_, .f32⟩
  | 46 => ⟨S4112, .f32⟩
  | 47 => ⟨S4112x1, .f32⟩
  | 48 => ⟨S_, .f32⟩
  | 49 => ⟨S4112x1, .f32⟩
  | 50 => ⟨S4112x1, .f32⟩
  | 51 => ⟨S4112x1024, .f32⟩
  | 52 => ⟨S4112x1024, .f32⟩
  | 53 => ⟨S4112x1024, .f32⟩
  | 54 => ⟨S_, .f32⟩
  | 55 => ⟨S4112, .f32⟩
  | 56 => ⟨S4112x1, .f32⟩
  | 57 => ⟨S_, .f32⟩
  | 58 => ⟨S4112x1, .f32⟩
  | 59 => ⟨S4112x1, .f32⟩
  | 60 => ⟨S_, .f32⟩
  | 61 => ⟨S4112x1, .f32⟩
  | 62 => ⟨S4112x1, .f32⟩
  | 63 => ⟨S4112x1, .f32⟩
  | 64 => ⟨S4112x1, .f32⟩
  | 65 => ⟨S_, .f32⟩
  | 66 => ⟨S4112x1, .f32⟩
  | 67 => ⟨S4112x1, .f32⟩
  | 68 => ⟨S4112x1024, .f32⟩
  | 69 => ⟨S4112x1024, .f32⟩
  | 70 => ⟨S1x1024, .f32⟩
  | 71 => ⟨S4112x1024, .f32⟩
  | 72 => ⟨S4112x1024, .f32⟩
  | 73 => ⟨S1x1024, .f32⟩
  | 74 => ⟨S4112x1024, .f32⟩
  | 75 => ⟨S4112x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096, .f32⟩
  | 84 => ⟨S_, .f32⟩
  | 85 => ⟨S4096, .f32⟩
  | 86 => ⟨S4096, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S4096, .f32⟩
  | 95 => ⟨S_, .f32⟩
  | 96 => ⟨S4096, .f32⟩
  | 97 => ⟨S4096, .f32⟩
  | 98 => ⟨S4096x1024, .f32⟩
  | 99 => ⟨S4096x1024, .f32⟩
  | 100 => ⟨S_, .f32⟩
  | 101 => ⟨S4112x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S4112x1024, .f32⟩
  | 108 => ⟨S_, .f32⟩
  | 109 => ⟨S1024, .f32⟩
  | 110 => ⟨S1x1024, .f32⟩
  | 111 => ⟨S4112x1024, .f32⟩
  | 112 => ⟨S4112x1024, .f32⟩
  | 113 => ⟨S_, .f32⟩
  | 114 => ⟨S1024, .f32⟩
  | 115 => ⟨S4112x1024, .f32⟩
  | 116 => ⟨S_, .f32⟩
  | 117 => ⟨S4112, .f32⟩
  | 118 => ⟨S4112x1, .f32⟩
  | 119 => ⟨S4112x1024, .f32⟩
  | 120 => ⟨S4112x1024, .f32⟩
  | 121 => ⟨S4112x1, .f32⟩
  | 122 => ⟨S_, .f32⟩
  | 123 => ⟨S4112x1, .f32⟩
  | 124 => ⟨S4112x1, .f32⟩
  | 125 => ⟨S_, .f32⟩
  | 126 => ⟨S4112, .f32⟩
  | 127 => ⟨S4112x1024, .f32⟩
  | _ => ⟨S4112x1024, .f32⟩

abbrev hbmTy0_1 (i : Nat) : BufTy := match i % 128 with
  | 0 => ⟨S4112x1024, .f32⟩
  | 1 => ⟨S4112x1024, .f32⟩
  | 2 => ⟨S4112x1024, .f32⟩
  | 3 => ⟨S4112x1024, .f32⟩
  | 4 => ⟨S4112x1024, .f32⟩
  | 5 => ⟨S_, .f32⟩
  | 6 => ⟨S4112, .f32⟩
  | 7 => ⟨S4112x1, .f32⟩
  | 8 => ⟨S_, .f32⟩
  | 9 => ⟨S4112x1, .f32⟩
  | 10 => ⟨S4112x1, .f32⟩
  | 11 => ⟨S_, .f32⟩
  | 12 => ⟨S4112, .f32⟩
  | 13 => ⟨S4112x1024, .f32⟩
  | 14 => ⟨S4112x1024, .f32⟩
  | 15 => ⟨S_, .i32⟩
  | 16 => ⟨S_, .f32⟩
  | 17 => ⟨S4224x1024, .f32⟩
  | 18 => ⟨S4224x1024, .bf16⟩
  | 19 => ⟨S8x128, .f32⟩
  | 20 => ⟨S1x1024, .f32⟩
  | 21 => ⟨S1x1024, .f32⟩
  | _ => ⟨S4112x1024, .f32⟩

abbrev hbmTy (i : Nat) : BufTy := match i / 128 with
  | 0 => hbmTy0_0 i
  | 1 => hbmTy0_1 i
  | _ => ⟨S4112x1024, .f32⟩

abbrev bufTy : (tb : Table) → Fin (tcTables nBuf tb) → BufTy
  | .hbm, ⟨i, _⟩ => hbmTy i
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_cst_16 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_cst_20 : Ref sig .tc := ⟨.hbm, 102, rfl⟩
abbrev main_v71 : Ref sig .tc := ⟨.hbm, 103, rfl⟩
abbrev main_v72 : Ref sig .tc := ⟨.hbm, 104, rfl⟩
abbrev main_cst_21 : Ref sig .tc := ⟨.hbm, 105, rfl⟩
abbrev main_v73 : Ref sig .tc := ⟨.hbm, 106, rfl⟩
abbrev main_v74 : Ref sig .tc := ⟨.hbm, 107, rfl⟩
abbrev main_cst_22 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_23 : Ref sig .tc := ⟨.hbm, 113, rfl⟩
abbrev main_v79 : Ref sig .tc := ⟨.hbm, 114, rfl⟩
abbrev main_v80 : Ref sig .tc := ⟨.hbm, 115, rfl⟩
abbrev main_cst_24 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_25 : Ref sig .tc := ⟨.hbm, 122, rfl⟩
abbrev main_v86 : Ref sig .tc := ⟨.hbm, 123, rfl⟩
abbrev main_v87 : Ref sig .tc := ⟨.hbm, 124, rfl⟩
abbrev main_cst_26 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_27 : Ref sig .tc := ⟨.hbm, 133, rfl⟩
abbrev main_v95 : Ref sig .tc := ⟨.hbm, 134, rfl⟩
abbrev main_v96 : Ref sig .tc := ⟨.hbm, 135, rfl⟩
abbrev main_cst_28 : Ref sig .tc := ⟨.hbm, 136, rfl⟩
abbrev main_v97 : Ref sig .tc := ⟨.hbm, 137, rfl⟩
abbrev main_v98 : Ref sig .tc := ⟨.hbm, 138, rfl⟩
abbrev main_cst_29 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c : Ref sig .tc := ⟨.hbm, 143, rfl⟩
abbrev main_call1_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]
-- ==== Kernel5.lean ====
abbrev S4096x1024 : Shape := ⟨2, ![4096, 1024]⟩
abbrev S16x1024 : Shape := ⟨2, ![16, 1024]⟩
abbrev S1024 : Shape := ⟨1, ![1024]⟩
abbrev S1024x3328 : Shape := ⟨2, ![1024, 3328]⟩
abbrev S4112x256 : Shape := ⟨2, ![4112, 256]⟩
abbrev S4112x768 : Shape := ⟨2, ![4112, 768]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S4224x256 : Shape := ⟨2, ![4224, 256]⟩
abbrev S4224x768 : Shape := ⟨2, ![4224, 768]⟩
abbrev S4224x1024 : Shape := ⟨2, ![4224, 1024]⟩
abbrev S4224x1 : Shape := ⟨2, ![4224, 1]⟩
abbrev S1x1024 : Shape := ⟨2, ![1, 1024]⟩
abbrev S3328x1024 : Shape := ⟨2, ![3328, 1024]⟩
abbrev S8x128 : Shape := ⟨2, ![8, 128]⟩
abbrev S704x256 : Shape := ⟨2, ![704, 256]⟩
abbrev S704x768 : Shape := ⟨2, ![704, 768]⟩
abbrev S704x1024 : Shape := ⟨2, ![704, 1024]⟩
abbrev S704x1 : Shape := ⟨2, ![704, 1]⟩
abbrev S2x704x1024 : Shape := ⟨3, ![2, 704, 1024]⟩
abbrev S2 : Shape := ⟨1, ![2]⟩
abbrev S1 : Shape := ⟨1, ![1]⟩
abbrev S1x704x1024 : Shape := ⟨3, ![1, 704, 1024]⟩
abbrev S256x1024 : Shape := ⟨2, ![256, 1024]⟩
abbrev S768x1024 : Shape := ⟨2, ![768, 1024]⟩
abbrev S704 : Shape := ⟨1, ![704]⟩

abbrev nBuf : Space → Nat
  | .hbm => 70
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1024x3328, .f32⟩
  | .hbm, ⟨5, _⟩ => ⟨S4112x256, .f32⟩
  | .hbm, ⟨6, _⟩ => ⟨S4112x768, .f32⟩
  | .hbm, ⟨7, _⟩ => ⟨S4112x768, .f32⟩
  | .hbm, ⟨8, _⟩ => ⟨S4112x768, .f32⟩
  | .hbm, ⟨9, _⟩ => ⟨S4112x768, .f32⟩
  | .hbm, ⟨10, _⟩ => ⟨S4112x1024, .f32⟩
  | .hbm, ⟨11, _⟩ => ⟨S4112x1024, .f32⟩
  | .hbm, ⟨12, _⟩ => ⟨S_, .f32⟩
  | .hbm, ⟨13, _⟩ => ⟨S4112, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S4112x1024, .f32⟩
  | .hbm, ⟨21, _⟩ => ⟨S_, .f32⟩
  | .hbm, ⟨22, _⟩ => ⟨S4112, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S4112x1, .f32⟩
  | .hbm, ⟨31, _⟩ => ⟨S_, .i32⟩
  | .hbm, ⟨32, _⟩ => ⟨S_, .f32⟩
  | .hbm, ⟨33, _⟩ => ⟨S4224x256, .f32⟩
  | .hbm, ⟨34, _⟩ => ⟨S_, .i32⟩
  | .hbm, ⟨35, _⟩ => ⟨S_, .f32⟩
  | .hbm, ⟨36, _⟩ => ⟨S4224x768, .f32⟩
  | .hbm, ⟨37, _⟩ => ⟨S4224x768, .bf16⟩
  | .hbm, ⟨38, _⟩ => ⟨S_, .i32⟩
  | .hbm, ⟨39, _⟩ => ⟨S_, .f32⟩
  | .hbm, ⟨40, _⟩ => ⟨S4224x768, .f32⟩
  | .hbm, ⟨41, _⟩ => ⟨S4224x768, .bf16⟩
  | .hbm, ⟨42, _⟩ => ⟨S_, .i32⟩
  | .hbm, ⟨43, _⟩ => ⟨S_, .f32⟩
  | .hbm, ⟨44, _⟩ => ⟨S4224x768, .f32⟩
  | .hbm, ⟨45, _⟩ => ⟨S4224x768, .bf16⟩
  | .hbm, ⟨46, _⟩ => ⟨S_, .i32⟩
  | .hbm, ⟨47, _⟩ => ⟨S_, .f32⟩
  | .hbm, ⟨48, _⟩ => ⟨S4224x768, .f32⟩
  | .hbm, ⟨49, _⟩ => ⟨S4224x768, .bf16⟩
  | .hbm, ⟨50, _⟩ => ⟨S_, .i32⟩
  | .hbm, ⟨51, _⟩ => ⟨S_, .f32⟩
  | .hbm, ⟨52, _⟩ => ⟨S4224x1024, .f32⟩
  | .hbm, ⟨53, _⟩ => ⟨S4112x1024, .f32⟩
  | .hbm, ⟨54, _⟩ => ⟨S4112x1024, .f32⟩
  | .hbm, ⟨55, _⟩ => ⟨S_, .i32⟩
  | .hbm, ⟨56, _⟩ => ⟨S_, .f32⟩
  | .hbm, ⟨57, _⟩ => ⟨S4224x1024, .f32⟩
  | .hbm, ⟨58, _⟩ => ⟨S_, .i32⟩
  | .hbm, ⟨59, _⟩ => ⟨S_, .f32⟩
  | .hbm, ⟨60, _⟩ => ⟨S4224x1, .f32⟩
  | .hbm, ⟨61, _⟩ => ⟨S1x1024, .f32⟩
  | .hbm, ⟨62, _⟩ => ⟨S3328x1024, .f32⟩
  | .hbm, ⟨63, _⟩ => ⟨S3328x1024, .bf16⟩
  | .hbm, ⟨64, _⟩ => ⟨S_, .f32⟩
  | .hbm, ⟨65, _⟩ => ⟨S8x128, .f32⟩
  | .hbm, ⟨66, _⟩ => ⟨S4224x1024, .f32⟩
  | .hbm, ⟨67, _⟩ => ⟨S16x1024, .f32⟩
  | .hbm, ⟨68, _⟩ => ⟨S1x1024, .f32⟩
  | .hbm, ⟨69, _⟩ => ⟨S1x1024, .f32⟩
  | .local _ .vmem, ⟨0, _⟩ => ⟨S704x256, .f32⟩
  | .local _ .vmem, ⟨1, _⟩ => ⟨S704x256, .f32⟩
  | .local _ .vmem, ⟨2, _⟩ => ⟨S704x768, .bf16⟩
  | .local _ .vmem, ⟨3, _⟩ => ⟨S704x768, .bf16⟩
  | .local _ .vmem, ⟨4, _⟩ => ⟨S704x768, .bf16⟩
  | .local _ .vmem, ⟨5, _⟩ => ⟨S704x768, .bf16⟩
  | .local _ .vmem, ⟨6, _⟩ => ⟨S704x768, .bf16⟩
  | .local _ .vmem, ⟨7, _⟩ => ⟨S704x768, .bf16⟩
  | .local _ .vmem, ⟨8, _⟩ => ⟨S704x768, .bf16⟩
  | .local _ .vmem, ⟨9, _⟩ => ⟨S704x768, .bf16⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .f32⟩
  | .local _ .vmem, ⟨14, _⟩ => ⟨S704x1, .f32⟩
  | .local _ .vmem, ⟨15, _⟩ => ⟨S704x1, .f32⟩
  | .local _ .vmem, ⟨16, _⟩ => ⟨S1x1024, .f32⟩
  | .local _ .vmem, ⟨17, _⟩ => ⟨S3328x1024, .bf16⟩
  | .local _ .vmem, ⟨18, _⟩ => ⟨S8x128, .f32⟩
  | .local _ .vmem, ⟨19, _⟩ => ⟨S16x1024, .f32⟩
  | .local _ .vmem, ⟨20, _⟩ => ⟨S1x1024, .f32⟩
  | .local _ .vmem, ⟨21, _⟩ => ⟨S1x1024, .f32⟩
  | .local _ .vmem, ⟨22, _⟩ => ⟨S2x704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_call0_v0 : Ref sig .tc := ⟨.hbm, 32, rfl⟩
abbrev main_v15 : Ref sig .tc := ⟨.hbm, 33, rfl⟩
abbrev main_c_4 : Ref sig .tc := ⟨.hbm, 34, rfl⟩
abbrev main_call1_v0 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_call2_v0 : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_c_7 : Ref sig .tc := ⟨.hbm, 46, rfl⟩
abbrev main_call4_v0 : Ref sig .tc := ⟨.hbm, 47, rfl⟩
abbrev main_v22 : Ref sig .tc := ⟨.hbm, 48, rfl⟩
abbrev main_v23 : Ref sig .tc := ⟨.hbm, 49, rfl⟩
abbrev main_c_8 : Ref sig .tc := ⟨.hbm, 50, rfl⟩
abbrev main_call5_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_9 : Ref sig .tc := ⟨.hbm, 55, rfl⟩
abbrev main_call6_v0 : Ref sig .tc := ⟨.hbm, 56, rfl⟩
abbrev main_v27 : Ref sig .tc := ⟨.hbm, 57, rfl⟩
abbrev main_c_10 : Ref sig .tc := ⟨.hbm, 58, rfl⟩
abbrev main_call7_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33_0 : Ref sig .tc := ⟨.hbm, 66, rfl⟩
abbrev main_v33_1 : Ref sig .tc := ⟨.hbm, 67, rfl⟩
abbrev main_v33_2 : Ref sig .tc := ⟨.hbm, 68, rfl⟩
abbrev main_v33_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c2_i32_5 : BitVec 32 := 2#32
  let v13 : BitVec 1 := Scalar.cmpi .sge arg0 c2_i32_5
  let v14 : BitVec 32 := Scalar.extui v13
  let c0_i32_6 : BitVec 32 := 0#32
  let v15 : BitVec 1 := Scalar.cmpi .ne v14 c0_i32_6
  v15

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 2 → Nat :=
  let arg0 : BitVec 32 := BitVec.ofNat 32 (i 0).val
  let c704_i32_66 : BitVec 32 := 704#32
  let v137 : BitVec 32 := Scalar.muli arg0 c704_i32_66
  let c0_i32_67 : BitVec 32 := 0#32
  ![v137.toNat, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_68 : BitVec 32 := 0#32
  let c0_i32_69 : BitVec 32 := 0#32
  ![v9.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v116 : Index := Scalar.indexCast v9
  let c0_53 : Index := 0#32
  let c0_54 : Index := 0#32
  ![v116.toNat, 0, 0]
def k0_off5 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off6 (i : grid0.Coords) : Fin 2 → Nat :=
  let arg0 : BitVec 32 := BitVec.ofNat 32 (i 0).val
  let c704_i32_61 : BitVec 32 := 704#32
  let v128 : BitVec 32 := Scalar.muli arg0 c704_i32_61
  let c0_i32_62 : BitVec 32 := 0#32
  ![v128.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_63 : BitVec 32 := 0#32
  let c0_i32_64 : BitVec 32 := 0#32
  ![v9.toNat, 0, 0]
def k0_cond3 (i : grid0.Coords) : BitVec 1 :=
  let arg0 : BitVec 32 := BitVec.ofNat 32 (i 0).val
  let c5_i32 : BitVec 32 := 5#32
  let v134 : BitVec 1 := Scalar.cmpi .eq arg0 c5_i32
  let v135 : BitVec 32 := Scalar.extui v134
  let c0_i32_65 : BitVec 32 := 0#32
  let v136 : BitVec 1 := Scalar.cmpi .ne v135 c0_i32_65
  v136

def k0_off8 (i : grid0.Coords) : Fin 2 → Nat :=
  let arg0 : BitVec 32 := BitVec.ofNat 32 (i 0).val
  let c704_i32_66 : BitVec 32 := 704#32
  let v137 : BitVec 32 := Scalar.muli arg0 c704_i32_66
  let c0_i32_69 : BitVec 32 := 0#32
  ![v137.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3328x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4096x1024 : Shape := ⟨2, ![4096, 1024]⟩
abbrev S16x1024 : Shape := ⟨2, ![16, 1024]⟩
abbrev S1024 : Shape := ⟨1, ![1024]⟩
abbrev S1024x3328 : Shape := ⟨2, ![1024, 3328]⟩
abbrev S4112x256 : Shape := ⟨2, ![4112, 256]⟩
abbrev S4112x768 : Shape := ⟨2, ![4112, 768]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x3328 : Shape := ⟨2, ![4112, 3328]⟩
abbrev S3328x1024 : Shape := ⟨2, ![3328, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1024x3328, .f32⟩
  | .hbm, ⟨5, _⟩ => ⟨S4112x256, .f32⟩
  | .hbm, ⟨6, _⟩ => ⟨S4112x768, .f32⟩
  | .hbm, ⟨7, _⟩ => ⟨S4112x768, .f32⟩
  | .hbm, ⟨8, _⟩ => ⟨S4112x768, .f32⟩
  | .hbm, ⟨9, _⟩ => ⟨S4112x768, .f32⟩
  | .hbm, ⟨10, _⟩ => ⟨S4112x1024, .f32⟩
  | .hbm, ⟨11, _⟩ => ⟨S4112x1024, .f32⟩
  | .hbm, ⟨12, _⟩ => ⟨S_, .f32⟩
  | .hbm, ⟨13, _⟩ => ⟨S4112, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S4112x1024, .f32⟩
  | .hbm, ⟨21, _⟩ => ⟨S_, .f32⟩
  | .hbm, ⟨22, _⟩ => ⟨S4112, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S4112x1, .f32⟩
  | .hbm, ⟨31, _⟩ => ⟨S4112x1, .f32⟩
  | .hbm, ⟨32, _⟩ => ⟨S_, .f32⟩
  | .hbm, ⟨33, _⟩ => ⟨S4112x1, .f32⟩
  | .hbm, ⟨34, _⟩ => ⟨S4112x1, .f32⟩
  | .hbm, ⟨35, _⟩ => ⟨S4112x1024, .f32⟩
  | .hbm, ⟨36, _⟩ => ⟨S4112x1024, .f32⟩
  | .hbm, ⟨37, _⟩ => ⟨S1x1024, .f32⟩
  | .hbm, ⟨38, _⟩ => ⟨S4112x1024, .f32⟩
  | .hbm, ⟨39, _⟩ => ⟨S4112x1024, .f32⟩
  | .hbm, ⟨40, _⟩ => ⟨S1x1024, .f32⟩
  | .hbm, ⟨41, _⟩ => ⟨S4112x1024, .f32⟩
  | .hbm, ⟨42, _⟩ => ⟨S4112x1024, .f32⟩
  | .hbm, ⟨43, _⟩ => ⟨S4112x3328, .f32⟩
  | .hbm, ⟨44, _⟩ => ⟨S4112x256, .f32⟩
  | .hbm, ⟨45, _⟩ => ⟨S4112x768, .f32⟩
  | .hbm, ⟨46, _⟩ => ⟨S4112x768, .f32⟩
  | .hbm, ⟨47, _⟩ => ⟨S4112x768, .f32⟩
  | .hbm, ⟨48, _⟩ => ⟨S4112x768, .f32⟩
  | .hbm, ⟨49, _⟩ => ⟨S4112x3328, .f32⟩
  | .hbm, ⟨50, _⟩ => ⟨S3328x1024, .f32⟩
  | .hbm, ⟨51, _⟩ => ⟨S1024x3328, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4112x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4112x1024, .f32⟩
  | .hbm, ⟨65, _⟩ => ⟨S4112x1024, .f32⟩
  | .hbm, ⟨66, _⟩ => ⟨S_, .f32⟩
  | .hbm, ⟨67, _⟩ => ⟨S1024, .f32⟩
  | .hbm, ⟨68, _⟩ => ⟨S4112x1024, .f32⟩
  | .hbm, ⟨69, _⟩ => ⟨S_, .f32⟩
  | .hbm, ⟨70, _⟩ => ⟨S4112, .f32⟩
  | .hbm, ⟨71, _⟩ => ⟨S4112x1, .f32⟩
  | .hbm, ⟨72, _⟩ => ⟨S4112x1024, .f32⟩
  | .hbm, ⟨73, _⟩ => ⟨S4112x1024, .f32⟩
  | .hbm, ⟨74, _⟩ => ⟨S4112x1, .f32⟩
  | .hbm, ⟨75, _⟩ => ⟨S_, .f32⟩
  | .hbm, ⟨76, _⟩ => ⟨S4112x1, .f32⟩
  | .hbm, ⟨77, _⟩ => ⟨S4112x1, .f32⟩
  | .hbm, ⟨78, _⟩ => ⟨S_, .f32⟩
  | .hbm, ⟨79, _⟩ => ⟨S4112, .f32⟩
  | .hbm, ⟨80, _⟩ => ⟨S4112x1024, .f32⟩
  | .hbm, ⟨81, _⟩ => ⟨S4112x1024, .f32⟩
  | .hbm, ⟨82, _⟩ => ⟨S4112x1024, .f32⟩
  | .hbm, ⟨83, _⟩ => ⟨S4112x1024, .f32⟩
  | .hbm, ⟨84, _⟩ => ⟨S4112x1024, .f32⟩
  | .hbm, ⟨85, _⟩ => ⟨S4112x1024, .f32⟩
  | .hbm, ⟨86, _⟩ => ⟨S_, .f32⟩
  | .hbm, ⟨87, _⟩ => ⟨S4112, .f32⟩
  | .hbm, ⟨88, _⟩ => ⟨S4112x1, .f32⟩
  | .hbm, ⟨89, _⟩ => ⟨S_, .f32⟩
  | .hbm, ⟨90, _⟩ => ⟨S4112x1, .f32⟩
  | .hbm, ⟨91, _⟩ => ⟨S4112x1, .f32⟩
  | .hbm, ⟨92, _⟩ => ⟨S_, .f32⟩
  | .hbm, ⟨93, _⟩ => ⟨S4112, .f32⟩
  | .hbm, ⟨94, _⟩ => ⟨S4112x1024, .f32⟩
  | .hbm, ⟨95, _⟩ => ⟨S4112x1024, .f32⟩
  | .hbm, ⟨96, _⟩ => ⟨S16x1024, .f32⟩
  | .hbm, ⟨97, _⟩ => ⟨S4096x1024, .f32⟩
  | .hbm, ⟨98, _⟩ => ⟨S1x1024, .f32⟩
  | .hbm, ⟨99, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Proof.Host.lean ====
module

public import proofs.«01_k».proof.Proof.Gen.KernelIdeal.Value
public import Idealize.ShloMosaic.Lib.StableHlo.RunRead

@[expose] public section

set_option maxRecDepth 16384

noncomputable section

namespace Cert.KernelIdeal.Ret

open Idealize.ShloMosaic Idealize.ShloMosaic.TcCoe
open Idealize.SL Idealize.SL.Sem
open Cert.KernelIdeal.Gen

variable {F : FTy → Type} [FloatOps F] [Named F]

/-! # The arrays the host prepares for the region -/

/-- Two halves of 64 columns side by side. -/
def catT {α : Type} (a b : S4224x64.Idx → α) : S4224x128.Idx → α :=
  concatenate S4224x128 1 [⟨S4224x64, a⟩, ⟨S4224x64, b⟩] concatenates_S4224x64_S4224x64_S4224x128_d1

theorem catT_eq {α : Type} (a b : S4224x64.Idx → α) :
    concatenate S4224x128 1 [⟨S4224x64, a⟩, ⟨S4224x64, b⟩] concatenates_S4224x64_S4224x64_S4224x128_d1 = catT a b := rfl

/-- The same for every head of every row. -/
def catH {α : Type} (a b : S4224x6x64.Idx → α) : S4224x6x128.Idx → α :=
  concatenate S4224x6x128 2 [⟨S4224x6x64, a⟩, ⟨S4224x6x64, b⟩] concatenates_S4224x6x64_S4224x6x64_S4224x6x128_d2

theorem catH_eq {α : Type} (a b : S4224x6x64.Idx → α) :
    concatenate S4224x6x128 2 [⟨S4224x6x64, a⟩, ⟨S4224x6x64, b⟩] concatenates_S4224x6x64_S4224x6x64_S4224x6x128_d2 = catH a b := rfl

/-- The rotary embedding's frequencies. -/
def hInv : FVec F S64 .f32 :=
  Host.divf (broadcastInDim S64 ![] bcast_S_S64 (constant S_ .f32 0x3F800000#32))
    (Host.powf (broadcastInDim S64 ![] bcast_S_S64 (constant S_ .f32 0x461C4000#32))
      (Host.divf (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))

/-- The angle of a chunk's first row. -/
def hBase : FVec F S11x1x64 .f32 :=
  mulf (broadcastInDim S11x1x64 ![0, 1, 2] bcast_S11x1x1_S11x1x64_0_1_2 (broadcastInDim S11x1x1 ![0] bcast_S11_S11x1x1_0
      (mulf (sitofp .f32 (iotaInDim S11 32 0)) (broadcastInDim S11 ![] bcast_S_S11 (constant S_ .f32 0x43C00000#32)))))
    (broadcastInDim S11x1x64 ![0, 1, 2] bcast_S1x1x64_S11x1x64_0_1_2 (broadcastInDim S1x1x64 ![2] bcast_S64_S1x1x64_2 hInv))

/-- The angle of a row within its chunk, the padding taken off. -/
def hStep : FVec F S1x384x64 .f32 :=
  mulf (broadcastInDim S1x384x64 ![0, 1, 2] bcast_S1x384x1_S1x384x64_0_1_2 (broadcastInDim S1x384x1 ![1] bcast_S384_S1x384x1_1
      (subf (sitofp .f32 (iotaInDim S384 32 0)) (broadcastInDim S384 ![] bcast_S_S384 (constant S_ .f32 0x42E00000#32)))))
    (broadcastInDim S1x384x64 ![0, 1, 2] bcast_S1x1x64_S1x384x64_0_1_2 (broadcastInDim S1x1x64 ![2] bcast_S64_S1x1x64_2 hInv))

/-- The cosine table, one half. -/
def hCos : FVec F S4224x64 .f32 :=
  shapeCast S4224x64 (subf
    (mulf (broadcastInDim S11x384x64 ![0, 1, 2] bcast_S11x1x64_S11x384x64_0_1_2 (Host.cos hBase))
      (broadcastInDim S11x384x64 ![0, 1, 2] bcast_S1x384x64_S11x384x64_0_1_2 (Host.cos hStep)))
    (mulf (broadcastInDim S11x384x64 ![0, 1, 2] bcast_S11x1x64_S11x384x64_0_1_2 (Host.sin hBase))
      (broadcastInDim S11x384x64 ![0, 1, 2] bcast_S1x384x64_S11x384x64_0_1_2 (Host.sin hStep)))) shapeCasts_S11x384x64_S4224x64

/-- The sine table, one half. -/
def hSin : FVec F S4224x64 .f32 :=
  shapeCast S4224x64 (addf
    (mulf (broadcastInDim S11x384x64 ![0, 1, 2] bcast_S11x1x64_S11x384x64_0_1_2 (Host.sin hBase))
      (broadcastInDim S11x384x64 ![0, 1, 2] bcast_S1x384x64_S11x384x64_0_1_2 (Host.cos hStep)))
    (mulf (broadcastInDim S11x384x64 ![0, 1, 2] bcast_S11x1x64_S11x384x64_0_1_2 (Host.cos hBase))
      (broadcastInDim S11x384x64 ![0, 1, 2] bcast_S1x384x64_S11x384x64_0_1_2 (Host.sin hStep)))) shapeCasts_S11x384x64_S4224x64

/-- The cosine table. -/
def hCos2 : FVec F S4224x128 .f32 := catT hCos hCos

/-- The sine table, its first half negated. -/
def hSin2 : FVec F S4224x128 .f32 := catT (Host.negf hSin) hSin

/-- An argument with its rows of padding. -/
def hPad (x : FVec F S1x4112x768 .f32) : FVec F S4224x768 .f32 :=
  pad S4224x768 ![112, 0] ![0, 0] ![0, 0] (shapeCast S4112x768 x shapeCasts_S1x4112x768_S4112x768) (sitofp .f32 (constantI S_ 32 0#32) : FVec F S_ .f32)
    pads_S4112x768_S4224x768_11200_000 h_S_

/-- The rotary embedding of every head. -/
def hRot (x : FVec F S4224x768 .f32) : FVec F S4224x768 .f32 :=
  shapeCast S4224x768 (addf
    (mulf (shapeCast S4224x6x128 x shapeCasts_S4224x768_S4224x6x128)
      (broadcastInDim S4224x6x128 ![0, 1, 2] bcast_S4224x1x128_S4224x6x128_0_1_2
        (broadcastInDim S4224x1x128 ![0, 2] bcast_S4224x128_S4224x1x128_0_2 hCos2)))
    (mulf (catH (extractStridedSlice S4224x6x64 ![0, 0, 64] (shapeCast S4224x6x128 x shapeCasts_S4224x768_S4224x6x128) slices_S4224x6x128_S4224x6x64_0_0_64)
        (extractStridedSlice S4224x6x64 ![0, 0, 0] (shapeCast S4224x6x128 x shapeCasts_S4224x768_S4224x6x128) slices_S4224x6x128_S4224x6x64_0_0_0))
      (broadcastInDim S4224x6x128 ![0, 1, 2] bcast_S4224x1x128_S4224x6x128_0_1_2
        (broadcastInDim S4224x1x128 ![0, 2] bcast_S4224x128_S4224x1x128_0_2 hSin2)))) shapeCasts_S4224x6x128_S4224x768

/-- The queries. -/
def hQ (x : FVec F S1x4112x768 .f32) : FVec F S4224x768 .bf16 := truncf .bf16 (hRot (hPad x)) bitsLt_bf16_f32

/-- The keys, scaled. -/
def hK (x : FVec F S1x4112x768 .f32) : FVec F S4224x768 .bf16 :=
  truncf .bf16 (mulf (hRot (hPad x)) (broadcastInDim S4224x768 ![] bcast_S_S4224x768 (constant S_ .f32 0x3DB504F3#32))) bitsLt_bf16_f32

/-- The values. -/
def hV (x : FVec F S1x4112x768 .f32) : FVec F S4224x768 .bf16 := truncf .bf16 (hPad x) bitsLt_bf16_f32

/-- The logarithm of every head's decay. -/
def hLog : FVec F S6 .f32 :=
  Host.log1p (Host.negf (Host.powf (broadcastInDim S6 ![] bcast_S_S6 (constant S_ .f32 0x40000000#32))
    (subf (broadcastInDim S6 ![] bcast_S_S6 (constant S_ .f32 0xC0A00000#32)) (sitofp .f32 (iotaInDim S6 32 0)))))

/-- The rows from one row to the last before a chunk. -/
def hDist : FVec F S11x4224 .f32 :=
  subf (broadcastInDim S11x4224 ![0, 1] bcast_S11x1_S11x4224_0_1 (broadcastInDim S11x1 ![0] bcast_S11_S11x1_0
      (subf (mulf (broadcastInDim S11 ![] bcast_S_S11 (constant S_ .f32 0x43C00000#32)) (sitofp .f32 (iotaInDim S11 32 0)))
        (broadcastInDim S11 ![] bcast_S_S11 (constant S_ .f32 0x3F800000#32)))))
    (broadcastInDim S11x4224 ![0, 1] bcast_S1x4224_S11x4224_0_1
      (broadcastInDim S1x4224 ![1] bcast_S4224_S1x4224_1 (sitofp .f32 (iotaInDim S4224 32 0))))

/-- The decay over these rows, zero for the rows that are not before the chunk. -/
def hDecay : FVec F S6x11x4224 .f32 :=
  select (broadcastInDim S6x11x4224 ![0, 1, 2] bcast_S1x11x4224_S6x11x4224_0_1_2
      (cmpf .oge (broadcastInDim S1x11x4224 ![1, 2] bcast_S11x4224_S1x11x4224_1_2 (hDist (F := F)))
        (broadcastInDim S1x11x4224 ![] bcast_S_S1x11x4224 (constant S_ .f32 0x00000000#32))))
    (Host.exp (mulf (broadcastInDim S6x11x4224 ![0, 1, 2] bcast_S1x11x4224_S6x11x4224_0_1_2
        (broadcastInDim S1x11x4224 ![1, 2] bcast_S11x4224_S1x11x4224_1_2
          (maximumf hDist (broadcastInDim S11x4224 ![] bcast_S_S11x4224 (constant S_ .f32 0x00000000#32)))))
      (broadcastInDim S6x11x4224 ![0, 1, 2] bcast_S6x1x1_S6x11x4224_0_1_2 (broadcastInDim S6x1x1 ![0] bcast_S6_S6x1x1_0 hLog))))
    (broadcastInDim S6x11x4224 ![] bcast_S_S6x11x4224 (constant S_ .f32 0x00000000#32))

/-- Head by head. -/
def hHeads (x : FVec F S4224x768 .bf16) : FVec F S6x4224x128 .f32 :=
  transpose S6x4224x128 [1, 0, 2] (shapeCast S4224x6x128 (extf .f32 x bitsLt_bf16_f32) shapeCasts_S4224x768_S4224x6x128)
    transposes_S4224x6x128_S6x4224x128_1_0_2

/-- The state every chunk finds. -/
def hStates (k v : FVec F S4224x768 .bf16) : FVec F S11x768x128 .f32 :=
  shapeCast S11x768x128 (transpose S11x6x128x128 [2, 0, 3, 1]
    (Host.dotGeneral dot_S6x4224x128_S6x11x4224x128_S6x128x11x128_1_2_2_13_0_0 none (hHeads v)
      (mulf (broadcastInDim S6x11x4224x128 ![0, 1, 2, 3] bcast_S6x11x4224x1_S6x11x4224x128_0_1_2_3
          (broadcastInDim S6x11x4224x1 ![0, 1, 2] bcast_S6x11x4224_S6x11x4224x1_0_1_2 hDecay))
        (broadcastInDim S6x11x4224x128 ![0, 1, 2, 3] bcast_S6x1x4224x128_S6x11x4224x128_0_1_2_3
          (broadcastInDim S6x1x4224x128 ![0, 2, 3] bcast_S6x4224x128_S6x1x4224x128_0_2_3 (hHeads k)))))
    transposes_S6x128x11x128_S11x6x128x128_2_0_3_1) shapeCasts_S11x6x128x128_S11x768x128

variable (m : (ℓ : Loc nD τ sig) → Buf (Elt F) ℓ) (c : Dev nD)

theorem V_cos : V m c main_v51 = hCos2 := by
  unfold V
  after_reads_simp [catT_eq, catH_eq]
  rfl

theorem V_sin : V m c main_v53 = hSin2 := by
  unfold V
  after_reads_simp [catT_eq, catH_eq]
  rfl

theorem V_d : V m c main_v90 = hPad (m (c, Proc.devRef .tc main_arg3)) := by
  unfold V
  after_reads_simp [catT_eq, catH_eq]
  rfl

theorem V_v : V m c main_v88 = hV (m (c, Proc.devRef .tc main_arg2)) := by
  unfold V
  after_reads_simp [catT_eq, catH_eq]
  rfl

theorem V_q : V m c main_v68 = hQ (m (c, Proc.devRef .tc main_arg0)) := by
  unfold V
  after_reads_simp [catT_eq, catH_eq]
  rfl

theorem V_k : V m c main_v85 = hK (m (c, Proc.devRef .tc main_arg1)) := by
  unfold V
  after_reads_simp [catT_eq, catH_eq]
  rfl

theorem V_decay : V m c main_v126 = hDecay := by
  unfold V
  after_reads_simp [catT_eq, catH_eq]
  rfl

theorem V_states : V m c main_v134 = hStates (hK (m (c, Proc.devRef .tc main_arg1))) (hV (m (c, Proc.devRef .tc main_arg2))) := by
  unfold V
  after_reads_simp [catT_eq, catH_eq]
  rfl

end Cert.KernelIdeal.Ret
-- ==== Proof.Body.lean ====
module

public import proofs.«01_k».proof.Proof.Gen.KernelIdeal.Value
public import Idealize.ShloMosaic.Lib.WritesUnit
public import Idealize.ShloMosaic.Lib.WholeRead
public import Idealize.ShloMosaic.Lib.ValueIdx

@[expose] public section

set_option maxRecDepth 16384

noncomputable section

namespace Cert.KernelIdeal.Ret

open Idealize.ShloMosaic Idealize.ShloMosaic.TcCoe Idealize.ShloMosaic.ValueIdx
open Idealize.SL Idealize.SL.Sem
open Cert.KernelIdeal.Gen

variable {F : FTy → Type} [FloatOps F] [Named F]

/-! ## The parts of a chunk that belong to one head -/

/-- The 128 columns of head `h` of a chunk's rows. -/
def lane {α : Type} (x : S384x768.Idx → α) (h : Fin 6) : S384x128.Idx → α :=
  fun j => x (ix2 (j 0) (⟨128 * h.val + (j 1).val, by have h1 : (j 1).val < 128 := (j 1).isLt; have := h.isLt; omega⟩ : Fin 768))

/-- Head `h`'s table of a stack of six. -/
def plane {α : Type} {A B : ℕ} (x : (⟨3, ![6, A, B]⟩ : Shape).Idx → α) (h : Fin 6) : (⟨3, ![1, A, B]⟩ : Shape).Idx → α :=
  fun j => x (ix3 h (j 1) (j 2))

/-- Head `h`'s state of a chunk's six, one above the other. -/
def stRow {α : Type} (x : S1x768x128.Idx → α) (h : Fin 6) : S1x128x128.Idx → α :=
  fun j => x (ix3 (0 : Fin 1) (⟨128 * h.val + (j 1).val, by have h1 : (j 1).val < 128 := (j 1).isLt; have := h.isLt; omega⟩ : Fin 768) (j 2))

/-! ## One head of one chunk: what the body computes of its loads -/

/-- The gradient of the scores, with the decay. -/
def cS (a b : FVec F S384x128 .bf16) (dm : Vec F S1x384x384 .f32) : FVec F S384x384 .f32 :=
  mulf (matmul dot_S384x128_S384x128_S384x384_1_1_0_0_n_n none a b (constant S384x384 .f32 0x00000000#32))
    (shapeCast S384x384 dm shapeCasts_S1x384x384_S384x384)

/-- The rotary embedding's transpose on a block. -/
def cRot (x : FVec F S384x128 .f32) (cos sin : Vec F S384x128 .f32) : FVec F S384x128 .f32 :=
  subf (mulf x (shapeCast S384x128 cos shapeCasts_S384x128_S384x128))
    (mulf (dynamicRotate 1 64#32 none x rotates_S384x128_d1) (shapeCast S384x128 sin shapeCasts_S384x128_S384x128))

/-- The cotangent with the decay from the chunk's start. -/
def cDox (d : Vec F S384x128 .f32) (xi : Vec F S1x384x128 .f32) : FVec F S384x128 .f32 :=
  mulf (shapeCast S384x128 d shapeCasts_S384x128_S384x128) (shapeCast S384x128 xi shapeCasts_S1x384x128_S384x128)

/-- dq's block before the rotary embedding's transpose. -/
def cDqr (k v : Vec F S384x128 .bf16) (d : Vec F S384x128 .f32) (dm : Vec F S1x384x384 .f32) (xi : Vec F S1x384x128 .f32)
    (st : Vec F S1x128x128 .f32) : FVec F S384x128 .f32 :=
  addf (matmul dot_S384x384_S384x128_S384x128_1_0_0_1_n_n none
      (truncf .bf16 (cS (truncf .bf16 (shapeCast S384x128 d shapeCasts_S384x128_S384x128) bitsLt_bf16_f32)
        (shapeCast S384x128 v shapeCasts_S384x128_S384x128) dm) bitsLt_bf16_f32)
      (shapeCast S384x128 k shapeCasts_S384x128_S384x128) (constant S384x128 .f32 0x00000000#32))
    (matmul dot_S384x128_S128x128_S384x128_1_1_0_0_n_n none (truncf .bf16 (cDox d xi) bitsLt_bf16_f32)
      (truncf .bf16 (shapeCast S128x128 st shapeCasts_S1x128x128_S128x128) bitsLt_bf16_f32) (constant S384x128 .f32 0x00000000#32))

/-- dk's block before the rotary embedding's transpose. -/
def cDkr (q v : Vec F S384x128 .bf16) (d : Vec F S384x128 .f32) (dm : Vec F S1x384x384 .f32) (ze : Vec F S1x384x128 .f32)
    (dsn : Vec F S1x128x128 .f32) : FVec F S384x128 .f32 :=
  addf (matmul dot_S384x384_S384x128_S384x128_0_0_1_1_n_n none
      (truncf .bf16 (cS (truncf .bf16 (shapeCast S384x128 d shapeCasts_S384x128_S384x128) bitsLt_bf16_f32)
        (shapeCast S384x128 v shapeCasts_S384x128_S384x128) dm) bitsLt_bf16_f32)
      (shapeCast S384x128 q shapeCasts_S384x128_S384x128) (constant S384x128 .f32 0x00000000#32))
    (mulf (shapeCast S384x128 ze shapeCasts_S1x384x128_S384x128)
      (matmul dot_S384x128_S128x128_S384x128_1_1_0_0_n_n none (shapeCast S384x128 v shapeCasts_S384x128_S384x128)
        (truncf .bf16 (shapeCast S128x128 dsn shapeCasts_S1x128x128_S128x128) bitsLt_bf16_f32) (constant S384x128 .f32 0x00000000#32)))

/-- dq's block. -/
def cDq (k v : Vec F S384x128 .bf16) (d : Vec F S384x128 .f32) (dm : Vec F S1x384x384 .f32) (xi : Vec F S1x384x128 .f32)
    (st : Vec F S1x128x128 .f32) (cos sin : Vec F S384x128 .f32) : FVec F S384x128 .bf16 :=
  truncf .bf16 (cRot (cDqr k v d dm xi st) cos sin) bitsLt_bf16_f32

/-- dk's block. -/
def cDk (q v : Vec F S384x128 .bf16) (d : Vec F S384x128 .f32) (dm : Vec F S1x384x384 .f32) (ze : Vec F S1x384x128 .f32)
    (dsn : Vec F S1x128x128 .f32) (cos sin : Vec F S384x128 .f32) : FVec F S384x128 .bf16 :=
  truncf .bf16 (mulf (cRot (cDkr q v d dm ze dsn) cos sin) (broadcast S384x128 (Scalar.ofBits .f32 0x3DB504F3#32))) bitsLt_bf16_f32

/-- dv's block. -/
def cDv (q k : Vec F S384x128 .bf16) (d : Vec F S384x128 .f32) (dm : Vec F S1x384x384 .f32) (ze : Vec F S1x384x128 .f32)
    (dsn : Vec F S1x128x128 .f32) : FVec F S384x128 .bf16 :=
  truncf .bf16 (addf
    (matmul dot_S384x384_S384x128_S384x128_0_0_1_1_n_n none
      (truncf .bf16 (cS (shapeCast S384x128 q shapeCasts_S384x128_S384x128) (shapeCast S384x128 k shapeCasts_S384x128_S384x128) dm) bitsLt_bf16_f32)
      (truncf .bf16 (shapeCast S384x128 d shapeCasts_S384x128_S384x128) bitsLt_bf16_f32) (constant S384x128 .f32 0x00000000#32))
    (matmul dot_S384x128_S128x128_S384x128_1_0_0_1_n_n none
      (truncf .bf16 (mulf (extf .f32 (shapeCast S384x128 k shapeCasts_S384x128_S384x128) bitsLt_bf16_f32)
        (shapeCast S384x128 ze shapeCasts_S1x384x128_S384x128)) bitsLt_bf16_f32)
      (truncf .bf16 (shapeCast S128x128 dsn shapeCasts_S1x128x128_S128x128) bitsLt_bf16_f32) (constant S384x128 .f32 0x00000000#32))) bitsLt_bf16_f32

/-- The gradient of the state, one chunk further back. -/
def cDs (gc : F .f32) (q : Vec F S384x128 .bf16) (d : Vec F S384x128 .f32) (xi : Vec F S1x384x128 .f32) (dsn : Vec F S1x128x128 .f32) :
    FVec F S1x128x128 .f32 :=
  shapeCast S1x128x128 (addf (mulf (broadcast S128x128 gc) (shapeCast S128x128 dsn shapeCasts_S1x128x128_S128x128))
    (matmul dot_S384x128_S384x128_S128x128_0_0_1_1_n_n none (shapeCast S384x128 q shapeCasts_S384x128_S384x128)
      (truncf .bf16 (cDox d xi) bitsLt_bf16_f32) (constant S128x128 .f32 0x00000000#32))) shapeCasts_S128x128_S1x128x128

/-! ## Loads -/

theorem ld_lane {e : EltTy} (arg : Memref sig .tc .vmem S384x768 e) (ha : arg.IsWhole) (x : S384x768.Idx → Elt F e) (h : Fin 6)
    (o : Fin 2 → ℕ) (inb : ∀ a, o a + S384x128.size a ≤ S384x768.size a) (ho : o = ![0, 128 * h.val]) :
    View.readAt (Elt F) arg.view (Rect.unit (s := S384x768) o S384x128.size inb).toLoadRect (ha.unread x) = lane x h := by
  subst ho
  funext j
  refine (ha.readAt_unread x _ j).trans (congrArg x (funext fun a => Fin.ext ?_))
  match a with
  | ⟨0, _⟩ => show 0 + 1 * (j 0).val = (j 0).val; omega
  | ⟨1, _⟩ => show 128 * h.val + 1 * (j 1).val = 128 * h.val + (j 1).val; omega

theorem ld_plane {e : EltTy} {A B : ℕ} (arg : Memref sig .tc .vmem ⟨3, ![6, A, B]⟩ e) (ha : arg.IsWhole)
    (x : (⟨3, ![6, A, B]⟩ : Shape).Idx → Elt F e) (h : Fin 6)
    (o : Fin 3 → ℕ) (inb : ∀ a, o a + (⟨3, ![1, A, B]⟩ : Shape).size a ≤ (⟨3, ![6, A, B]⟩ : Shape).size a) (ho : o = ![h.val, 0, 0]) :
    View.readAt (Elt F) arg.view (Rect.unit (s := ⟨3, ![6, A, B]⟩) o (⟨3, ![1, A, B]⟩ : Shape).size inb).toLoadRect (ha.unread x)
      = plane x h := by
  subst ho
  funext j
  refine (ha.readAt_unread x _ j).trans (congrArg x (funext fun a => Fin.ext ?_))
  match a with
  | ⟨0, _⟩ => show h.val + 1 * (j 0).val = h.val; have : (j 0).val < 1 := (j 0).isLt; omega
  | ⟨1, _⟩ => show 0 + 1 * (j 1).val = (j 1).val; omega
  | ⟨2, _⟩ => show 0 + 1 * (j 2).val = (j 2).val; omega

theorem ld_st {e : EltTy} (arg : Memref sig .tc .vmem S1x768x128 e) (ha : arg.IsWhole) (x : S1x768x128.Idx → Elt F e) (h : Fin 6)
    (o : Fin 3 → ℕ) (inb : ∀ a, o a + S1x128x128.size a ≤ S1x768x128.size a) (ho : o = ![0, 128 * h.val, 0]) :
    View.readAt (Elt F) arg.view (Rect.unit (s := S1x768x128) o S1x128x128.size inb).toLoadRect (ha.unread x) = stRow x h := by
  subst ho
  funext j
  refine (ha.readAt_unread x _ j).trans (congrArg x (funext fun a => Fin.ext ?_))
  match a with
  | ⟨0, _⟩ => show 0 + 1 * (j 0).val = 0; have : (j 0).val < 1 := (j 0).isLt; omega
  | ⟨1, _⟩ => show 128 * h.val + 1 * (j 1).val = 128 * h.val + (j 1).val; omega
  | ⟨2, _⟩ => show 0 + 1 * (j 2).val = (j 2).val; omega

theorem ld_tab {e : EltTy} (arg : Memref sig .tc .vmem S384x128 e) (ha : arg.IsWhole) (x : S384x128.Idx → Elt F e)
    (o : Fin 2 → ℕ) (inb : ∀ a, o a + S384x128.size a ≤ S384x128.size a) (ho : o = ![0, 0]) :
    View.readAt (Elt F) arg.view (Rect.unit o S384x128.size inb).toLoadRect (ha.unread x) = x := by
  subst ho
  funext j
  refine (ha.readAt_unread x _ j).trans (congrArg x (funext fun a => Fin.ext ?_))
  match a with
  | ⟨0, _⟩ => show 0 + 1 * (j 0).val = (j 0).val; omega
  | ⟨1, _⟩ => show 0 + 1 * (j 1).val = (j 1).val; omega

/-! ## A list of stores read at a place of one head -/

theorem lane_hit {e : EltTy} {κ : Kind} {sp : Space} (v : View sig κ sp S384x768 e) (f) (h : Fin 6) (o : Fin 2 → ℕ)
    (inb : ∀ a, o a + S384x128.size a ≤ S384x768.size a) (w : S384x128.Idx → Elt F e) (L : List (View.Piece (Elt F) S384x768 e))
    (ho : o = ![0, 128 * h.val]) (i : S384x128.Idx) (y : S384x768.Idx) (hy0 : (y 0).val = (i 0).val) (hy1 : (y 1).val = 128 * h.val + (i 1).val) :
    v.read (Elt F) (v.writes (Elt F) f ((⟨Rect.unit (s := S384x768) o S384x128.size inb, w⟩ : View.Piece (Elt F) S384x768 e) :: L)) y = w i :=
  View.read_writes_cons_unit_of_mem v f inb w L y i ho fun a => by
    match a with
    | ⟨0, _⟩ => show (y 0).val = 0 + (i 0).val; omega
    | ⟨1, _⟩ => exact hy1

theorem lane_miss {e : EltTy} {κ : Kind} {sp : Space} (v : View sig κ sp S384x768 e) (f) (h h' : Fin 6) (o : Fin 2 → ℕ)
    (inb : ∀ a, o a + S384x128.size a ≤ S384x768.size a) (w : S384x128.Idx → Elt F e) (L : List (View.Piece (Elt F) S384x768 e))
    (ho : o = ![0, 128 * h'.val]) (hne : h' ≠ h) (i : S384x128.Idx) (y : S384x768.Idx) (hy1 : (y 1).val = 128 * h.val + (i 1).val) :
    v.read (Elt F) (v.writes (Elt F) f ((⟨Rect.unit (s := S384x768) o S384x128.size inb, w⟩ : View.Piece (Elt F) S384x768 e) :: L)) y
      = v.read (Elt F) (v.writes (Elt F) f L) y :=
  View.read_writes_cons_unit_of_not_mem v f inb w L y ho 1 (by
    have h1 : (i 1).val < 128 := (i 1).isLt
    have h2 : h'.val ≠ h.val := fun hh => hne (Fin.ext hh)
    show (y 1).val < 128 * h'.val ∨ 128 * h'.val + 128 ≤ (y 1).val
    omega)

theorem plane_hit {e : EltTy} {A B : ℕ} {κ : Kind} {sp : Space} (v : View sig κ sp (⟨3, ![6, A, B]⟩ : Shape) e) (f) (h : Fin 6)
    (o : Fin 3 → ℕ) (inb : ∀ a, o a + (⟨3, ![1, A, B]⟩ : Shape).size a ≤ (⟨3, ![6, A, B]⟩ : Shape).size a)
    (w : (⟨3, ![1, A, B]⟩ : Shape).Idx → Elt F e) (L : List (View.Piece (Elt F) (⟨3, ![6, A, B]⟩ : Shape) e))
    (ho : o = ![h.val, 0, 0]) (i : (⟨3, ![1, A, B]⟩ : Shape).Idx) (y : (⟨3, ![6, A, B]⟩ : Shape).Idx)
    (hy : y = ix3 h (i 1) (i 2)) :
    v.read (Elt F) (v.writes (Elt F) f ((⟨Rect.unit (s := ⟨3, ![6, A, B]⟩) o (⟨3, ![1, A, B]⟩ : Shape).size inb, w⟩ : View.Piece (Elt F) _ e) :: L)) y
      = w i :=
  View.read_writes_cons_unit_of_mem v f inb w L y i ho fun a => by
    subst hy
    match a with
    | ⟨0, _⟩ => show h.val = h.val + (i 0).val; have : (i 0).val < 1 := (i 0).isLt; omega
    | ⟨1, _⟩ => show (i 1).val = 0 + (i 1).val; omega
    | ⟨2, _⟩ => show (i 2).val = 0 + (i 2).val; omega

theorem plane_miss {e : EltTy} {A B : ℕ} {κ : Kind} {sp : Space} (v : View sig κ sp (⟨3, ![6, A, B]⟩ : Shape) e) (f) (h h' : Fin 6)
    (o : Fin 3 → ℕ) (inb : ∀ a, o a + (⟨3, ![1, A, B]⟩ : Shape).size a ≤ (⟨3, ![6, A, B]⟩ : Shape).size a)
    (w : (⟨3, ![1, A, B]⟩ : Shape).Idx → Elt F e) (L : List (View.Piece (Elt F) (⟨3, ![6, A, B]⟩ : Shape) e))
    (ho : o = ![h'.val, 0, 0]) (hne : h' ≠ h) (i : (⟨3, ![1, A, B]⟩ : Shape).Idx) (y : (⟨3, ![6, A, B]⟩ : Shape).Idx)
    (hy : y = ix3 h (i 1) (i 2)) :
    v.read (Elt F) (v.writes (Elt F) f ((⟨Rect.unit (s := ⟨3, ![6, A, B]⟩) o (⟨3, ![1, A, B]⟩ : Shape).size inb, w⟩ : View.Piece (Elt F) _ e) :: L)) y
      = v.read (Elt F) (v.writes (Elt F) f L) y :=
  View.read_writes_cons_unit_of_not_mem v f inb w L y ho 0 (by
    have h2 : h'.val ≠ h.val := fun hh => hne (Fin.ext hh)
    subst hy
    show h.val < h'.val ∨ h'.val + 1 ≤ h.val
    omega)

/-- Six stores, one per head, read at a place of head `h`. -/
theorem lanes_read {e : EltTy} {κ : Kind} {sp : Space} (v : View sig κ sp S384x768 e) (f) (w0 w1 w2 w3 w4 w5 : S384x128.Idx → Elt F e)
    (inb0 : ∀ a, (![0, 0] : Fin 2 → ℕ) a + S384x128.size a ≤ S384x768.size a) (inb1 : ∀ a, (![0, 128] : Fin 2 → ℕ) a + S384x128.size a ≤ S384x768.size a) (inb2 : ∀ a, (![0, 256] : Fin 2 → ℕ) a + S384x128.size a ≤ S384x768.size a) (inb3 : ∀ a, (![0, 384] : Fin 2 → ℕ) a + S384x128.size a ≤ S384x768.size a) (inb4 : ∀ a, (![0, 512] : Fin 2 → ℕ) a + S384x128.size a ≤ S384x768.size a) (inb5 : ∀ a, (![0, 640] : Fin 2 → ℕ) a + S384x128.size a ≤ S384x768.size a)
    (h : Fin 6) (i : S384x128.Idx) (y : S384x768.Idx) (hy0 : (y 0).val = (i 0).val) (hy1 : (y 1).val = 128 * h.val + (i 1).val) :
    v.read (Elt F) (v.writes (Elt F) f
      [⟨Rect.unit (s := S384x768) ![0, 640] S384x128.size inb5, w5⟩, ⟨Rect.unit (s := S384x768) ![0, 512] S384x128.size inb4, w4⟩,
       ⟨Rect.unit (s := S384x768) ![0, 384] S384x128.size inb3, w3⟩, ⟨Rect.unit (s := S384x768) ![0, 256] S384x128.size inb2, w2⟩,
       ⟨Rect.unit (s := S384x768) ![0, 128] S384x128.size inb1, w1⟩, ⟨Rect.unit (s := S384x768) ![0, 0] S384x128.size inb0, w0⟩]) y = (![w0, w1, w2, w3, w4, w5] : Fin 6 → _) h i := by
  by_cases h5 : h = 5
  · subst h5; exact lane_hit v f 5 _ _ _ _ rfl i y hy0 hy1
  refine (lane_miss v f h 5 _ _ _ _ rfl (Ne.symm h5) i y hy1).trans ?_
  by_cases h4 : h = 4
  · subst h4; exact lane_hit v f 4 _ _ _ _ rfl i y hy0 hy1
  refine (lane_miss v f h 4 _ _ _ _ rfl (Ne.symm h4) i y hy1).trans ?_
  by_cases h3 : h = 3
  · subst h3; exact lane_hit v f 3 _ _ _ _ rfl i y hy0 hy1
  refine (lane_miss v f h 3 _ _ _ _ rfl (Ne.symm h3) i y hy1).trans ?_
  by_cases h2 : h = 2
  · subst h2; exact lane_hit v f 2 _ _ _ _ rfl i y hy0 hy1
  refine (lane_miss v f h 2 _ _ _ _ rfl (Ne.symm h2) i y hy1).trans ?_
  by_cases h1 : h = 1
  · subst h1; exact lane_hit v f 1 _ _ _ _ rfl i y hy0 hy1
  refine (lane_miss v f h 1 _ _ _ _ rfl (Ne.symm h1) i y hy1).trans ?_
  have h0 : h = 0 := by
    have := h.isLt
    have e : ∀ n : Fin 6, h ≠ n → h.val ≠ n.val := fun n hn hh => hn (Fin.ext hh)
    have := e 5 h5; have := e 4 h4; have := e 3 h3; have := e 2 h2; have := e 1 h1
    exact Fin.ext (by show h.val = 0; simp at *; omega)
  subst h0; exact lane_hit v f 0 _ _ _ _ rfl i y hy0 hy1

/-- Six stores, one per head's table, over whatever came before. -/
theorem planes_read {e : EltTy} {A B : ℕ} {κ : Kind} {sp : Space} (v : View sig κ sp (⟨3, ![6, A, B]⟩ : Shape) e) (f)
    (w0 w1 w2 w3 w4 w5 : (⟨3, ![1, A, B]⟩ : Shape).Idx → Elt F e) (inb0 : ∀ a, (![0, 0, 0] : Fin 3 → ℕ) a + (⟨3, ![1, A, B]⟩ : Shape).size a ≤ (⟨3, ![6, A, B]⟩ : Shape).size a) (inb1 : ∀ a, (![1, 0, 0] : Fin 3 → ℕ) a + (⟨3, ![1, A, B]⟩ : Shape).size a ≤ (⟨3, ![6, A, B]⟩ : Shape).size a) (inb2 : ∀ a, (![2, 0, 0] : Fin 3 → ℕ) a + (⟨3, ![1, A, B]⟩ : Shape).size a ≤ (⟨3, ![6, A, B]⟩ : Shape).size a) (inb3 : ∀ a, (![3, 0, 0] : Fin 3 → ℕ) a + (⟨3, ![1, A, B]⟩ : Shape).size a ≤ (⟨3, ![6, A, B]⟩ : Shape).size a) (inb4 : ∀ a, (![4, 0, 0] : Fin 3 → ℕ) a + (⟨3, ![1, A, B]⟩ : Shape).size a ≤ (⟨3, ![6, A, B]⟩ : Shape).size a) (inb5 : ∀ a, (![5, 0, 0] : Fin 3 → ℕ) a + (⟨3, ![1, A, B]⟩ : Shape).size a ≤ (⟨3, ![6, A, B]⟩ : Shape).size a)
    (L : List (View.Piece (Elt F) (⟨3, ![6, A, B]⟩ : Shape) e))
    (h : Fin 6) (i : (⟨3, ![1, A, B]⟩ : Shape).Idx) (y : (⟨3, ![6, A, B]⟩ : Shape).Idx) (hy : y = ix3 h (i 1) (i 2)) :
    v.read (Elt F) (v.writes (Elt F) f
      (⟨Rect.unit (s := ⟨3, ![6, A, B]⟩) ![5, 0, 0] (⟨3, ![1, A, B]⟩ : Shape).size inb5, w5⟩ :: ⟨Rect.unit (s := ⟨3, ![6, A, B]⟩) ![4, 0, 0] (⟨3, ![1, A, B]⟩ : Shape).size inb4, w4⟩ ::
       ⟨Rect.unit (s := ⟨3, ![6, A, B]⟩) ![3, 0, 0] (⟨3, ![1, A, B]⟩ : Shape).size inb3, w3⟩ :: ⟨Rect.unit (s := ⟨3, ![6, A, B]⟩) ![2, 0, 0] (⟨3, ![1, A, B]⟩ : Shape).size inb2, w2⟩ ::
       ⟨Rect.unit (s := ⟨3, ![6, A, B]⟩) ![1, 0, 0] (⟨3, ![1, A, B]⟩ : Shape).size inb1, w1⟩ :: ⟨Rect.unit (s := ⟨3, ![6, A, B]⟩) ![0, 0, 0] (⟨3, ![1, A, B]⟩ : Shape).size inb0, w0⟩ :: L)) y
      = (![w0, w1, w2, w3, w4, w5] : Fin 6 → _) h i := by
  by_cases h5 : h = 5
  · subst h5; exact plane_hit v f 5 _ _ _ _ rfl i y hy
  refine (plane_miss v f h 5 _ _ _ _ rfl (Ne.symm h5) i y hy).trans ?_
  by_cases h4 : h = 4
  · subst h4; exact plane_hit v f 4 _ _ _ _ rfl i y hy
  refine (plane_miss v f h 4 _ _ _ _ rfl (Ne.symm h4) i y hy).trans ?_
  by_cases h3 : h = 3
  · subst h3; exact plane_hit v f 3 _ _ _ _ rfl i y hy
  refine (plane_miss v f h 3 _ _ _ _ rfl (Ne.symm h3) i y hy).trans ?_
  by_cases h2 : h = 2
  · subst h2; exact plane_hit v f 2 _ _ _ _ rfl i y hy
  refine (plane_miss v f h 2 _ _ _ _ rfl (Ne.symm h2) i y hy).trans ?_
  by_cases h1 : h = 1
  · subst h1; exact plane_hit v f 1 _ _ _ _ rfl i y hy
  refine (plane_miss v f h 1 _ _ _ _ rfl (Ne.symm h1) i y hy).trans ?_
  have h0 : h = 0 := by
    have := h.isLt
    have e : ∀ n : Fin 6, h ≠ n → h.val ≠ n.val := fun n hn hh => hn (Fin.ext hh)
    have := e 5 h5; have := e 4 h4; have := e 3 h3; have := e 2 h2; have := e 1 h1
    exact Fin.ext (by show h.val = 0; simp at *; omega)
  subst h0; exact plane_hit v f 0 _ _ _ _ rfl i y hy

/-! ## The loads and stores of the body, by head -/

theorem inbLane (h : Fin 6) : ∀ a, (![0, 128 * h.val] : Fin 2 → ℕ) a + S384x128.size a ≤ S384x768.size a := by
  revert h; decide

theorem inbSt (h : Fin 6) : ∀ a, (![0, 128 * h.val, 0] : Fin 3 → ℕ) a + S1x128x128.size a ≤ S1x768x128.size a := by
  revert h; decide

theorem inbTab : ∀ a, (![0, 0] : Fin 2 → ℕ) a + S384x128.size a ≤ S384x128.size a := by decide

theorem inbPlane (A B : ℕ) (h : Fin 6) : ∀ a, (![h.val, 0, 0] : Fin 3 → ℕ) a + (⟨3, ![1, A, B]⟩ : Shape).size a ≤ (⟨3, ![6, A, B]⟩ : Shape).size a := by
  intro a
  have := h.isLt
  match a with
  | ⟨0, _⟩ => show h.val + 1 ≤ 6; omega
  | ⟨1, _⟩ => show 0 + A ≤ A; omega
  | ⟨2, _⟩ => show 0 + B ≤ B; omega

def rdLane {e : EltTy} (arg : Memref sig .tc .vmem S384x768 e) (ha : arg.IsWhole) (x : S384x768.Idx → Elt F e) (h : Fin 6) : S384x128.Idx → Elt F e :=
  View.readAt (Elt F) arg.view (Rect.unit (s := S384x768) ![0, 128 * h.val] S384x128.size (inbLane h)).toLoadRect (ha.unread x)

def rdPlane {e : EltTy} {A B : ℕ} (arg : Memref sig .tc .vmem ⟨3, ![6, A, B]⟩ e) (ha : arg.IsWhole)
    (x : (⟨3, ![6, A, B]⟩ : Shape).Idx → Elt F e) (h : Fin 6) : (⟨3, ![1, A, B]⟩ : Shape).Idx → Elt F e :=
  View.readAt (Elt F) arg.view (Rect.unit (s := ⟨3, ![6, A, B]⟩) ![h.val, 0, 0] (⟨3, ![1, A, B]⟩ : Shape).size (inbPlane A B h)).toLoadRect (ha.unread x)

def rdSt {e : EltTy} (arg : Memref sig .tc .vmem S1x768x128 e) (ha : arg.IsWhole) (x : S1x768x128.Idx → Elt F e) (h : Fin 6) : S1x128x128.Idx → Elt F e :=
  View.readAt (Elt F) arg.view (Rect.unit (s := S1x768x128) ![0, 128 * h.val, 0] S1x128x128.size (inbSt h)).toLoadRect (ha.unread x)

def rdTab {e : EltTy} (arg : Memref sig .tc .vmem S384x128 e) (ha : arg.IsWhole) (x : S384x128.Idx → Elt F e) : S384x128.Idx → Elt F e :=
  View.readAt (Elt F) arg.view (Rect.unit (s := S384x128) ![0, 0] S384x128.size inbTab).toLoadRect (ha.unread x)

theorem rdLane_eq {e : EltTy} (arg : Memref sig .tc .vmem S384x768 e) (ha : arg.IsWhole) (x : S384x768.Idx → Elt F e) : rdLane arg ha x = lane x :=
  funext fun h => ld_lane arg ha x h _ _ rfl
theorem rdPlane_eq {e : EltTy} {A B : ℕ} (arg : Memref sig .tc .vmem ⟨3, ![6, A, B]⟩ e) (ha : arg.IsWhole)
    (x : (⟨3, ![6, A, B]⟩ : Shape).Idx → Elt F e) : rdPlane arg ha x = plane x := funext fun h => ld_plane arg ha x h _ _ rfl
theorem rdSt_eq {e : EltTy} (arg : Memref sig .tc .vmem S1x768x128 e) (ha : arg.IsWhole) (x : S1x768x128.Idx → Elt F e) : rdSt arg ha x = stRow x :=
  funext fun h => ld_st arg ha x h _ _ rfl
theorem rdTab_eq {e : EltTy} (arg : Memref sig .tc .vmem S384x128 e) (ha : arg.IsWhole) (x : S384x128.Idx → Elt F e) : rdTab arg ha x = x :=
  ld_tab arg ha x _ _ rfl

/-- The six stores of one output's block, the last head's first. -/
def lanePieces {e : EltTy} (g : Fin 6 → S384x128.Idx → Elt F e) : List (View.Piece (Elt F) S384x768 e) :=
  [⟨Rect.unit (s := S384x768) ![0, 640] S384x128.size (inbLane 5), g 5⟩, ⟨Rect.unit (s := S384x768) ![0, 512] S384x128.size (inbLane 4), g 4⟩,
   ⟨Rect.unit (s := S384x768) ![0, 384] S384x128.size (inbLane 3), g 3⟩, ⟨Rect.unit (s := S384x768) ![0, 256] S384x128.size (inbLane 2), g 2⟩,
   ⟨Rect.unit (s := S384x768) ![0, 128] S384x128.size (inbLane 1), g 1⟩, ⟨Rect.unit (s := S384x768) ![0, 0] S384x128.size (inbLane 0), g 0⟩]

/-- The six stores of a stack of tables, over the earlier ones `L`. -/
def planePieces {e : EltTy} {A B : ℕ} (g : Fin 6 → (⟨3, ![1, A, B]⟩ : Shape).Idx → Elt F e)
    (L : List (View.Piece (Elt F) (⟨3, ![6, A, B]⟩ : Shape) e)) : List (View.Piece (Elt F) (⟨3, ![6, A, B]⟩ : Shape) e) :=
  ⟨Rect.unit (s := ⟨3, ![6, A, B]⟩) ![5, 0, 0] (⟨3, ![1, A, B]⟩ : Shape).size (inbPlane A B 5), g 5⟩ ::
  ⟨Rect.unit (s := ⟨3, ![6, A, B]⟩) ![4, 0, 0] (⟨3, ![1, A, B]⟩ : Shape).size (inbPlane A B 4), g 4⟩ ::
  ⟨Rect.unit (s := ⟨3, ![6, A, B]⟩) ![3, 0, 0] (⟨3, ![1, A, B]⟩ : Shape).size (inbPlane A B 3), g 3⟩ ::
  ⟨Rect.unit (s := ⟨3, ![6, A, B]⟩) ![2, 0, 0] (⟨3, ![1, A, B]⟩ : Shape).size (inbPlane A B 2), g 2⟩ ::
  ⟨Rect.unit (s := ⟨3, ![6, A, B]⟩) ![1, 0, 0] (⟨3, ![1, A, B]⟩ : Shape).size (inbPlane A B 1), g 1⟩ ::
  ⟨Rect.unit (s := ⟨3, ![6, A, B]⟩) ![0, 0, 0] (⟨3, ![1, A, B]⟩ : Shape).size (inbPlane A B 0), g 0⟩ :: L

theorem lanePieces_read {e : EltTy} {κ : Kind} {sp : Space} (v : View sig κ sp S384x768 e) (f) (g : Fin 6 → S384x128.Idx → Elt F e) (h : Fin 6) :
    lane (v.read (Elt F) (v.writes (Elt F) f (lanePieces g))) h = g h := by
  funext i
  refine (lanes_read v f _ _ _ _ _ _ (inbLane 0) (inbLane 1) (inbLane 2) (inbLane 3) (inbLane 4) (inbLane 5) h i _ rfl rfl).trans ?_
  fin_cases h <;> rfl

theorem planePieces_read {e : EltTy} {A B : ℕ} {κ : Kind} {sp : Space} (v : View sig κ sp (⟨3, ![6, A, B]⟩ : Shape) e) (f)
    (g : Fin 6 → (⟨3, ![1, A, B]⟩ : Shape).Idx → Elt F e) (L : List (View.Piece (Elt F) (⟨3, ![6, A, B]⟩ : Shape) e)) (h : Fin 6) :
    plane (v.read (Elt F) (v.writes (Elt F) f (planePieces g L))) h = g h := by
  funext i
  refine (planes_read v f _ _ _ _ _ _ (inbPlane A B 0) (inbPlane A B 1) (inbPlane A B 2) (inbPlane A B 3) (inbPlane A B 4) (inbPlane A B 5) L h i _ rfl).trans ?_
  fin_cases h <;> rfl

end Cert.KernelIdeal.Ret
-- ==== Proof.CaseB.lean ====
module

public import proofs.«01_k».proof.Proof.Body

@[expose] public section

set_option maxRecDepth 16384

noncomputable section

namespace Cert.KernelIdeal.Ret

open Idealize.ShloMosaic Idealize.ShloMosaic.TcCoe Idealize.ShloMosaic.ValueIdx
open Idealize.SL Idealize.SL.Sem
open Cert.KernelIdeal.Gen

variable {F : FTy → Type} [FloatOps F] [Named F]
variable (m : (ℓ : Loc nD τ sig) → Buf (Elt F) ℓ)

/-- The factor a head's state loses over one chunk, as the body writes it. -/
def gammaChunk : Fin 6 → F .f32 :=
  ![Named.named κ "gamma_chunk_0" 0x36AA3C24#32, Named.named κ "gamma_chunk_1" 0x3B1AEE92#32, Named.named κ "gamma_chunk_2" 0x3D498A25#32,
    Named.named κ "gamma_chunk_3" 0x3E63D0AC#32, Named.named κ "gamma_chunk_4" 0x3EF1ACA4#32, Named.named κ "gamma_chunk_5" 0x3F2FE9F0#32]

/-- The contents of the carried scratch after point `n`: the gradient of the states, and the three decay tables. -/
abbrev gs (c : Dev nD) (n : ℕ) (hn : n < cfg0.N) : Vec F S6x128x128 .f32 := (outsAt0 m c n hn).2.2.2.1
abbrev dmAt (c : Dev nD) (n : ℕ) (hn : n < cfg0.N) : Vec F S6x384x384 .f32 := (outsAt0 m c n hn).2.2.2.2.1
abbrev zeAt (c : Dev nD) (n : ℕ) (hn : n < cfg0.N) : Vec F S6x384x128 .f32 := (outsAt0 m c n hn).2.2.2.2.2.1
abbrev xiAt (c : Dev nD) (n : ℕ) (hn : n < cfg0.N) : Vec F S6x384x128 .f32 := (outsAt0 m c n hn).2.2.2.2.2.2

variable (c : Dev nD) (t : Fin cfg0.N) (h0 : ¬t.val % 11 = 0) (h : Fin 6)
include h0

theorem dq_B (hp : t.val - 1 < cfg0.N) :
    lane (outsAt0 m c t.val t.isLt).1 h
      = cDq (lane (iblk m c 1 t) h) (lane (iblk m c 2 t) h) (lane (iblk m c 3 t) h) (plane (dmAt m c (t.val - 1) hp) h)
          (plane (xiAt m c (t.val - 1) hp) h) (stRow (iblk m c 4 t) h) (iblk m c 5 t) (iblk m c 6 t) := by
  have e : (outsAt0 m c t.val t.isLt).1 = VO0_7.read (Elt F) (VO0_7.writes (Elt F) VO0_7.junk (lanePieces fun h =>
      cDq (rdLane (ms0_1 t) (hs0_1 t) (iblk m c 1 t) h) (rdLane (ms0_2 t) (hs0_2 t) (iblk m c 2 t) h) (rdLane (ms0_3 t) (hs0_3 t) (iblk m c 3 t) h)
        (rdPlane scM0_1 (Memref.isWhole_whole _) (dmAt m c (t.val - 1) hp) h) (rdPlane scM0_3 (Memref.isWhole_whole _) (xiAt m c (t.val - 1) hp) h)
        (rdSt (ms0_4 t) (hs0_4 t) (iblk m c 4 t) h) (rdTab (ms0_5 t) (hs0_5 t) (iblk m c 5 t)) (rdTab (ms0_6 t) (hs0_6 t) (iblk m c 6 t)))) := by
    rw [outsAt0_B m c t h0]
    sl_kernel_rfl
  rw [e, lanePieces_read]
  simp only [rdLane_eq, rdPlane_eq, rdSt_eq, rdTab_eq]

theorem dk_B (hp : t.val - 1 < cfg0.N) :
    lane (outsAt0 m c t.val t.isLt).2.1 h
      = cDk (lane (iblk m c 0 t) h) (lane (iblk m c 2 t) h) (lane (iblk m c 3 t) h) (plane (dmAt m c (t.val - 1) hp) h)
          (plane (zeAt m c (t.val - 1) hp) h) (plane (gs m c (t.val - 1) hp) h) (iblk m c 5 t) (iblk m c 6 t) := by
  have e : (outsAt0 m c t.val t.isLt).2.1 = VO0_8.read (Elt F) (VO0_8.writes (Elt F) VO0_8.junk (lanePieces fun h =>
      cDk (rdLane (ms0_0 t) (hs0_0 t) (iblk m c 0 t) h) (rdLane (ms0_2 t) (hs0_2 t) (iblk m c 2 t) h) (rdLane (ms0_3 t) (hs0_3 t) (iblk m c 3 t) h)
        (rdPlane scM0_1 (Memref.isWhole_whole _) (dmAt m c (t.val - 1) hp) h) (rdPlane scM0_2 (Memref.isWhole_whole _) (zeAt m c (t.val - 1) hp) h)
        (rdPlane scM0_0 (Memref.isWhole_whole _) (gs m c (t.val - 1) hp) h) (rdTab (ms0_5 t) (hs0_5 t) (iblk m c 5 t)) (rdTab (ms0_6 t) (hs0_6 t) (iblk m c 6 t)))) := by
    rw [outsAt0_B m c t h0]
    sl_kernel_rfl
  rw [e, lanePieces_read]
  simp only [rdLane_eq, rdPlane_eq, rdSt_eq, rdTab_eq]

theorem dv_B (hp : t.val - 1 < cfg0.N) :
    lane (outsAt0 m c t.val t.isLt).2.2.1 h
      = cDv (lane (iblk m c 0 t) h) (lane (iblk m c 1 t) h) (lane (iblk m c 3 t) h) (plane (dmAt m c (t.val - 1) hp) h)
          (plane (zeAt m c (t.val - 1) hp) h) (plane (gs m c (t.val - 1) hp) h) := by
  have e : (outsAt0 m c t.val t.isLt).2.2.1 = VO0_9.read (Elt F) (VO0_9.writes (Elt F) VO0_9.junk (lanePieces fun h =>
      cDv (rdLane (ms0_0 t) (hs0_0 t) (iblk m c 0 t) h) (rdLane (ms0_1 t) (hs0_1 t) (iblk m c 1 t) h) (rdLane (ms0_3 t) (hs0_3 t) (iblk m c 3 t) h)
        (rdPlane scM0_1 (Memref.isWhole_whole _) (dmAt m c (t.val - 1) hp) h) (rdPlane scM0_2 (Memref.isWhole_whole _) (zeAt m c (t.val - 1) hp) h)
        (rdPlane scM0_0 (Memref.isWhole_whole _) (gs m c (t.val - 1) hp) h))) := by
    rw [outsAt0_B m c t h0]
    sl_kernel_rfl
  rw [e, lanePieces_read]
  simp only [rdLane_eq, rdPlane_eq]

theorem gs_B (hp : t.val - 1 < cfg0.N) :
    plane (gs m c t.val t.isLt) h
      = cDs (gammaChunk h) (lane (iblk m c 0 t) h) (lane (iblk m c 3 t) h) (plane (xiAt m c (t.val - 1) hp) h)
          (plane (gs m c (t.val - 1) hp) h) := by
  have e : gs m c t.val t.isLt = scM0_0.view.read (Elt F) (scM0_0.view.writes (Elt F) scM0_0.view.junk (planePieces (fun h =>
      cDs (gammaChunk h) (rdLane (ms0_0 t) (hs0_0 t) (iblk m c 0 t) h) (rdLane (ms0_3 t) (hs0_3 t) (iblk m c 3 t) h)
        (rdPlane scM0_3 (Memref.isWhole_whole _) (xiAt m c (t.val - 1) hp) h)
        (rdPlane scM0_0 (Memref.isWhole_whole _) (gs m c (t.val - 1) hp) h)) [])) := by
    unfold gs
    rw [outsAt0_B m c t h0]
    sl_kernel_rfl
  rw [e, planePieces_read]
  simp only [rdLane_eq, rdPlane_eq]

theorem dm_B (hp : t.val - 1 < cfg0.N) : dmAt m c t.val t.isLt = dmAt m c (t.val - 1) hp := by
  unfold dmAt; rw [outsAt0_B m c t h0]; rfl

theorem ze_B (hp : t.val - 1 < cfg0.N) : zeAt m c t.val t.isLt = zeAt m c (t.val - 1) hp := by
  unfold zeAt; rw [outsAt0_B m c t h0]; rfl

theorem xi_B (hp : t.val - 1 < cfg0.N) : xiAt m c t.val t.isLt = xiAt m c (t.val - 1) hp := by
  unfold xiAt; rw [outsAt0_B m c t h0]; rfl

end Cert.KernelIdeal.Ret
-- ==== Proof.CaseA.lean ====
module

public import proofs.«01_k».proof.Proof.CaseB

@[expose] public section

set_option maxRecDepth 16384

noncomputable section

namespace Cert.KernelIdeal.Ret

open Idealize.ShloMosaic Idealize.ShloMosaic.TcCoe Idealize.ShloMosaic.ValueIdx
open Idealize.SL Idealize.SL.Sem
open Cert.KernelIdeal.Gen

variable {F : FTy → Type} [FloatOps F] [Named F]

/-! ## The decay tables, as the first point writes them -/

/-- The logarithm of a head's decay, as the body writes it. -/
def logGamma : Fin 6 → F .f32 :=
  ![Named.named κ "log_gamma_0" 0xBD020AEC#32, Named.named κ "log_gamma_1" 0xBC8102B3#32, Named.named κ "log_gamma_2" 0xBC0080AC#32,
    Named.named κ "log_gamma_3" 0xBB80402B#32, Named.named κ "log_gamma_4" 0xBB00200B#32, Named.named κ "log_gamma_5" 0xBA801003#32]

/-- The decay between two rows of a chunk, zero above the diagonal. -/
def fDm (g : F .f32) : FVec F S1x384x384 .f32 :=
  shapeCast S1x384x384 (select (cmpf .oge (k0_pay5 (F := F)) (broadcast S384x384 (Scalar.ofBits .f32 0x00000000#32)))
    (exp (mulf (maximumf (k0_pay5 (F := F)) (broadcast S384x384 (Scalar.ofBits .f32 0x00000000#32))) (broadcast S384x384 g)))
    (broadcast S384x384 (Scalar.ofBits .f32 0x00000000#32))) shapeCasts_S384x384_S1x384x384

/-- The decay from a row to the chunk's end. -/
def fZe (g : F .f32) : FVec F S1x384x128 .f32 :=
  shapeCast S1x384x128 (exp (mulf (subf (broadcast S384x128 (Scalar.ofBits .f32 0x43BF8000#32)) (k0_pay6 (F := F))) (broadcast S384x128 g)))
    shapeCasts_S384x128_S1x384x128

/-- The decay from the chunk's start to a row. -/
def fXi (g : F .f32) : FVec F S1x384x128 .f32 :=
  shapeCast S1x384x128 (exp (mulf (addf (k0_pay6 (F := F)) (broadcast S384x128 (Scalar.ofBits .f32 0x3F800000#32))) (broadcast S384x128 g)))
    shapeCasts_S384x128_S1x384x128

/-! ## Loads of what the point itself has stored -/

def rdCov {e : EltTy} {A B : ℕ} {κ : Kind} {sp : Space} (v : View sig κ sp (⟨3, ![6, A, B]⟩ : Shape) e)
    (L : List (View.Piece (Elt F) (⟨3, ![6, A, B]⟩ : Shape) e)) (h : Fin 6) : (⟨3, ![1, A, B]⟩ : Shape).Idx → Elt F e :=
  v.readCov L (Rect.unit (s := ⟨3, ![6, A, B]⟩) ![h.val, 0, 0] (⟨3, ![1, A, B]⟩ : Shape).size (inbPlane A B h)).toLoadRect

theorem rdCov_plane {e : EltTy} {A B : ℕ} {κ : Kind} {sp : Space} (v : View sig κ sp (⟨3, ![6, A, B]⟩ : Shape) e)
    (L : List (View.Piece (Elt F) (⟨3, ![6, A, B]⟩ : Shape) e)) (h : Fin 6) :
    rdCov v L h = plane (v.read (Elt F) (v.writes (Elt F) v.junk L)) h := by
  funext j
  refine congrArg (v.read (Elt F) (v.writes (Elt F) v.junk L)) (funext fun a => Fin.ext ?_)
  match a with
  | ⟨0, _⟩ => show h.val + 1 * (j 0).val = h.val; have : (j 0).val < 1 := (j 0).isLt; omega
  | ⟨1, _⟩ => show 0 + 1 * (j 1).val = (j 1).val; omega
  | ⟨2, _⟩ => show 0 + 1 * (j 2).val = (j 2).val; omega

theorem rdCov_pieces {e : EltTy} {A B : ℕ} {κ : Kind} {sp : Space} (v : View sig κ sp (⟨3, ![6, A, B]⟩ : Shape) e)
    (g : Fin 6 → (⟨3, ![1, A, B]⟩ : Shape).Idx → Elt F e) (L : List (View.Piece (Elt F) (⟨3, ![6, A, B]⟩ : Shape) e)) (h : Fin 6) :
    rdCov v (planePieces g L) h = g h := by
  rw [rdCov_plane, planePieces_read]

theorem inbAll (A B : ℕ) : ∀ a, (![0, 0, 0] : Fin 3 → ℕ) a + (⟨3, ![6, A, B]⟩ : Shape).size a ≤ (⟨3, ![6, A, B]⟩ : Shape).size a := by
  intro a
  match a with
  | ⟨0, _⟩ => show 0 + 6 ≤ 6; omega
  | ⟨1, _⟩ => show 0 + A ≤ A; omega
  | ⟨2, _⟩ => show 0 + B ≤ B; omega

theorem all_hit {e : EltTy} {A B : ℕ} {κ : Kind} {sp : Space} (v : View sig κ sp (⟨3, ![6, A, B]⟩ : Shape) e) (f)
    (o : Fin 3 → ℕ) (inb : ∀ a, o a + (⟨3, ![6, A, B]⟩ : Shape).size a ≤ (⟨3, ![6, A, B]⟩ : Shape).size a)
    (w : (⟨3, ![6, A, B]⟩ : Shape).Idx → Elt F e) (ho : o = ![0, 0, 0]) (y : (⟨3, ![6, A, B]⟩ : Shape).Idx) :
    v.read (Elt F) (v.writes (Elt F) f [(⟨Rect.unit (s := ⟨3, ![6, A, B]⟩) o (⟨3, ![6, A, B]⟩ : Shape).size inb, w⟩ : View.Piece (Elt F) _ e)]) y
      = w y :=
  View.read_writes_cons_unit_of_mem v f inb w [] y y ho fun a =>
    match a with
    | ⟨0, _⟩ => (Nat.zero_add _).symm
    | ⟨1, _⟩ => (Nat.zero_add _).symm
    | ⟨2, _⟩ => (Nat.zero_add _).symm

/-- The stores into the states' gradient at the first point: zeros, then the heads `0 … n-1` in turn, each
    over the state it reads back. -/
def dsPieces {κ : Kind} {sp : Space} (v : View sig κ sp S6x128x128 .f32)
    (f : Fin 6 → (S1x128x128.Idx → Elt F .f32) → S1x128x128.Idx → Elt F .f32) : (n : ℕ) → n ≤ 6 → List (View.Piece (Elt F) S6x128x128 .f32)
  | 0, _ => [⟨Rect.unit (s := S6x128x128) ![0, 0, 0] S6x128x128.size (inbAll 128 128), k0_pay4⟩]
  | n + 1, hn => ⟨Rect.unit (s := S6x128x128) ![n, 0, 0] S1x128x128.size (inbPlane 128 128 ⟨n, hn⟩),
      f ⟨n, hn⟩ (rdCov v (dsPieces v f n (Nat.le_of_succ_le hn)) ⟨n, hn⟩)⟩ :: dsPieces v f n (Nat.le_of_succ_le hn)

theorem dsPieces_ge {κ : Kind} {sp : Space} (v : View sig κ sp S6x128x128 .f32) (f) (n : ℕ) (hn : n ≤ 6) (h : Fin 6) (hh : n ≤ h.val) :
    plane (v.read (Elt F) (v.writes (Elt F) v.junk (dsPieces v f n hn))) h = plane k0_pay4 h := by
  funext i
  induction n with
  | zero =>
    show v.read (Elt F) (v.writes (Elt F) v.junk (dsPieces v f 0 hn)) (ix3 h (i 1) (i 2)) = k0_pay4 (ix3 h (i 1) (i 2))
    generalize (ix3 h (i 1) (i 2) : S6x128x128.Idx) = y
    exact all_hit (A := 128) (B := 128) v v.junk ![0, 0, 0] (inbAll 128 128) k0_pay4 rfl y
  | succ n ih =>
    refine (plane_miss v v.junk h ⟨n, hn⟩ _ _ _ _ rfl (fun e => by rw [← e] at hh; exact absurd hh (Nat.not_succ_le_self n)) i _ rfl).trans ?_
    exact ih (Nat.le_of_succ_le hn) (Nat.le_of_succ_le hh)

theorem dsPieces_lt {κ : Kind} {sp : Space} (v : View sig κ sp S6x128x128 .f32) (f) (n : ℕ) (hn : n ≤ 6) (h : Fin 6) (hh : h.val < n) :
    plane (v.read (Elt F) (v.writes (Elt F) v.junk (dsPieces v f n hn))) h = f h (plane k0_pay4 h) := by
  induction n with
  | zero => exact absurd hh (Nat.not_lt_zero _)
  | succ n ih =>
    by_cases e : h = ⟨n, hn⟩
    · subst e
      funext i
      refine (plane_hit v v.junk ⟨n, hn⟩ _ _ _ _ rfl i _ rfl).trans ?_
      rw [rdCov_plane, dsPieces_ge v f n _ _ (le_refl n)]
    · rw [← ih (Nat.le_of_succ_le hn) (lt_of_le_of_ne (Nat.le_of_lt_succ hh) fun h' => e (Fin.ext h'))]
      funext i
      exact plane_miss v v.junk h ⟨n, hn⟩ _ _ _ _ rfl (fun h' => e h'.symm) i _ rfl

/-! ## The first point -/

variable (m : (ℓ : Loc nD τ sig) → Buf (Elt F) ℓ)
variable (c : Dev nD) (t : Fin cfg0.N) (h0 : t.val % 11 = 0)

/-- The stores into the decay tables. -/
abbrev dmL : List (View.Piece (Elt F) S6x384x384 .f32) := planePieces (fun h => fDm (logGamma h)) []
abbrev zeL : List (View.Piece (Elt F) S6x384x128 .f32) := planePieces (fun h => fZe (logGamma h)) []
abbrev xiL : List (View.Piece (Elt F) S6x384x128 .f32) := planePieces (fun h => fXi (logGamma h)) []

/-- One head's state gradient at the first point, over the state it reads back. -/
abbrev dsF (h : Fin 6) (dsn : S1x128x128.Idx → Elt F .f32) : S1x128x128.Idx → Elt F .f32 :=
  cDs (gammaChunk h) (rdLane (ms0_0 t) (hs0_0 t) (iblk m c 0 t) h) (rdLane (ms0_3 t) (hs0_3 t) (iblk m c 3 t) h) (rdCov scM0_3.view xiL h) dsn

abbrev dsL (n : ℕ) (hn : n ≤ 6) : List (View.Piece (Elt F) S6x128x128 .f32) := dsPieces scM0_0.view (dsF m c t) n hn

include h0

theorem dm_A : dmAt m c t.val t.isLt = scM0_1.view.read (Elt F) (scM0_1.view.writes (Elt F) scM0_1.view.junk dmL) := by
  unfold dmAt; rw [outsAt0_A m c t h0]; sl_kernel_rfl

theorem ze_A : zeAt m c t.val t.isLt = scM0_2.view.read (Elt F) (scM0_2.view.writes (Elt F) scM0_2.view.junk zeL) := by
  unfold zeAt; rw [outsAt0_A m c t h0]; sl_kernel_rfl

theorem xi_A : xiAt m c t.val t.isLt = scM0_3.view.read (Elt F) (scM0_3.view.writes (Elt F) scM0_3.view.junk xiL) := by
  unfold xiAt; rw [outsAt0_A m c t h0]; sl_kernel_rfl

theorem gs_A (h : Fin 6) : plane (gs m c t.val t.isLt) h
    = cDs (gammaChunk h) (lane (iblk m c 0 t) h) (lane (iblk m c 3 t) h) (fXi (logGamma h)) (plane k0_pay4 h) := by
  have e : gs m c t.val t.isLt = scM0_0.view.read (Elt F) (scM0_0.view.writes (Elt F) scM0_0.view.junk (dsL m c t 6 (le_refl 6))) := by
    unfold gs; rw [outsAt0_A m c t h0]; sl_kernel_rfl
  rw [e, dsPieces_lt _ _ 6 _ h h.isLt]
  simp only [dsF, rdLane_eq, rdCov_pieces]

theorem dq_A (h : Fin 6) :
    lane (outsAt0 m c t.val t.isLt).1 h
      = cDq (lane (iblk m c 1 t) h) (lane (iblk m c 2 t) h) (lane (iblk m c 3 t) h) (fDm (logGamma h))
          (fXi (logGamma h)) (stRow (iblk m c 4 t) h) (iblk m c 5 t) (iblk m c 6 t) := by
  have e : (outsAt0 m c t.val t.isLt).1 = VO0_7.read (Elt F) (VO0_7.writes (Elt F) VO0_7.junk (lanePieces fun h =>
      cDq (rdLane (ms0_1 t) (hs0_1 t) (iblk m c 1 t) h) (rdLane (ms0_2 t) (hs0_2 t) (iblk m c 2 t) h) (rdLane (ms0_3 t) (hs0_3 t) (iblk m c 3 t) h)
        (rdCov scM0_1.view dmL h) (rdCov scM0_3.view xiL h)
        (rdSt (ms0_4 t) (hs0_4 t) (iblk m c 4 t) h) (rdTab (ms0_5 t) (hs0_5 t) (iblk m c 5 t)) (rdTab (ms0_6 t) (hs0_6 t) (iblk m c 6 t)))) := by
    rw [outsAt0_A m c t h0]
    sl_kernel_rfl
  rw [e, lanePieces_read]
  simp only [rdLane_eq, rdCov_pieces, rdSt_eq, rdTab_eq]

theorem dk_A (h : Fin 6) :
    lane (outsAt0 m c t.val t.isLt).2.1 h
      = cDk (lane (iblk m c 0 t) h) (lane (iblk m c 2 t) h) (lane (iblk m c 3 t) h) (fDm (logGamma h))
          (fZe (logGamma h)) (plane k0_pay4 h) (iblk m c 5 t) (iblk m c 6 t) := by
  have e : (outsAt0 m c t.val t.isLt).2.1 = VO0_8.read (Elt F) (VO0_8.writes (Elt F) VO0_8.junk (lanePieces fun h =>
      cDk (rdLane (ms0_0 t) (hs0_0 t) (iblk m c 0 t) h) (rdLane (ms0_2 t) (hs0_2 t) (iblk m c 2 t) h) (rdLane (ms0_3 t) (hs0_3 t) (iblk m c 3 t) h)
        (rdCov scM0_1.view dmL h) (rdCov scM0_2.view zeL h)
        (rdCov scM0_0.view (dsL m c t h.val (Nat.le_of_lt h.isLt)) h) (rdTab (ms0_5 t) (hs0_5 t) (iblk m c 5 t)) (rdTab (ms0_6 t) (hs0_6 t) (iblk m c 6 t)))) := by
    rw [outsAt0_A m c t h0]
    sl_kernel_rfl
  rw [e, lanePieces_read, rdCov_plane scM0_0.view, dsPieces_ge _ _ _ _ h (le_refl _)]
  simp only [rdLane_eq, rdCov_pieces, rdTab_eq]

theorem dv_A (h : Fin 6) :
    lane (outsAt0 m c t.val t.isLt).2.2.1 h
      = cDv (lane (iblk m c 0 t) h) (lane (iblk m c 1 t) h) (lane (iblk m c 3 t) h) (fDm (logGamma h))
          (fZe (logGamma h)) (plane k0_pay4 h) := by
  have e : (outsAt0 m c t.val t.isLt).2.2.1 = VO0_9.read (Elt F) (VO0_9.writes (Elt F) VO0_9.junk (lanePieces fun h =>
      cDv (rdLane (ms0_0 t) (hs0_0 t) (iblk m c 0 t) h) (rdLane (ms0_1 t) (hs0_1 t) (iblk m c 1 t) h) (rdLane (ms0_3 t) (hs0_3 t) (iblk m c 3 t) h)
        (rdCov scM0_1.view dmL h) (rdCov scM0_2.view zeL h)
        (rdCov scM0_0.view (dsL m c t h.val (Nat.le_of_lt h.isLt)) h))) := by
    rw [outsAt0_A m c t h0]
    sl_kernel_rfl
  rw [e, lanePieces_read, rdCov_plane scM0_0.view, dsPieces_ge _ _ _ _ h (le_refl _)]
  simp only [rdLane_eq, rdCov_pieces]

end Cert.KernelIdeal.Ret
-- ==== Proof.Carry.lean ====
module

public import proofs.«01_k».proof.Proof.CaseA

@[expose] public section

set_option maxRecDepth 16384

noncomputable section

namespace Cert.KernelIdeal.Ret

open Idealize.ShloMosaic Idealize.ShloMosaic.TcCoe Idealize.ShloMosaic.ValueIdx
open Idealize.SL Idealize.SL.Sem
open Cert.KernelIdeal.Gen

variable {F : FTy → Type} [FloatOps F] [Named F]
variable (m : (ℓ : Loc nD τ sig) → Buf (Elt F) ℓ) (c : Dev nD)

/-! ## Every point alike

The walk goes from the last chunk to the first. The decay tables stay what the first point wrote; the gradient of the
states starts at zero and is carried from point to point. -/

/-- The gradient of head `h`'s state as point `n` finds it. -/
def dsBefore (h : Fin 6) : (n : ℕ) → n < cfg0.N + 1 → S1x128x128.Idx → Elt F .f32
  | 0, _ => plane k0_pay4 h
  | n + 1, hn => cDs (gammaChunk h) (lane (iblk m c 0 ⟨n, Nat.lt_of_succ_lt_succ hn⟩) h) (lane (iblk m c 3 ⟨n, Nat.lt_of_succ_lt_succ hn⟩) h)
      (fXi (logGamma h)) (dsBefore h n (Nat.lt_of_succ_lt hn))

theorem N_eq : cfg0.N = 11 := by decide

theorem pos_iff (t : Fin cfg0.N) : ¬ t.val % 11 = 0 ↔ t.val ≠ 0 := by
  have h1 : t.val < 11 := lt_of_lt_of_eq t.isLt N_eq
  omega

theorem tables (h : Fin 6) (n : ℕ) (hn : n < cfg0.N) :
    plane (dmAt m c n hn) h = fDm (logGamma h) ∧ plane (zeAt m c n hn) h = fZe (logGamma h) ∧ plane (xiAt m c n hn) h = fXi (logGamma h) := by
  induction n with
  | zero =>
    have h0 : (⟨0, hn⟩ : Fin cfg0.N).val % 11 = 0 := rfl
    refine ⟨?_, ?_, ?_⟩
    · rw [dm_A m c ⟨0, hn⟩ h0, planePieces_read]
    · rw [ze_A m c ⟨0, hn⟩ h0, planePieces_read]
    · rw [xi_A m c ⟨0, hn⟩ h0, planePieces_read]
  | succ n ih =>
    have h0 := (pos_iff ⟨n + 1, hn⟩).2 (Nat.succ_ne_zero n)
    obtain ⟨a, b, d⟩ := ih (Nat.lt_of_succ_lt hn)
    refine ⟨?_, ?_, ?_⟩
    · rw [dm_B m c ⟨n + 1, hn⟩ h0 (Nat.lt_of_succ_lt hn)]; exact a
    · rw [ze_B m c ⟨n + 1, hn⟩ h0 (Nat.lt_of_succ_lt hn)]; exact b
    · rw [xi_B m c ⟨n + 1, hn⟩ h0 (Nat.lt_of_succ_lt hn)]; exact d

theorem gs_eq (h : Fin 6) (n : ℕ) (hn : n < cfg0.N) :
    plane (gs m c n hn) h = dsBefore m c h (n + 1) (Nat.succ_lt_succ hn) := by
  induction n with
  | zero => exact gs_A m c ⟨0, hn⟩ rfl h
  | succ n ih =>
    have h0 := (pos_iff ⟨n + 1, hn⟩).2 (Nat.succ_ne_zero n)
    have e := gs_B m c ⟨n + 1, hn⟩ h0 h (Nat.lt_of_succ_lt hn)
    rw [(tables m c h ((⟨n + 1, hn⟩ : Fin cfg0.N).val - 1) (Nat.lt_of_succ_lt hn)).2.2] at e
    exact e.trans (congrArg (cDs _ _ _ _) (ih (Nat.lt_of_succ_lt hn)))

theorem dq_all (h : Fin 6) (n : ℕ) (hn : n < cfg0.N) :
    lane (outsAt0 m c n hn).1 h
      = cDq (lane (iblk m c 1 ⟨n, hn⟩) h) (lane (iblk m c 2 ⟨n, hn⟩) h) (lane (iblk m c 3 ⟨n, hn⟩) h) (fDm (logGamma h))
          (fXi (logGamma h)) (stRow (iblk m c 4 ⟨n, hn⟩) h) (iblk m c 5 ⟨n, hn⟩) (iblk m c 6 ⟨n, hn⟩) := by
  cases n with
  | zero => exact dq_A m c ⟨0, hn⟩ rfl h
  | succ n =>
    have e := dq_B m c ⟨n + 1, hn⟩ ((pos_iff ⟨n + 1, hn⟩).2 (Nat.succ_ne_zero n)) h (Nat.lt_of_succ_lt hn)
    obtain ⟨a, b, d⟩ := tables m c h ((⟨n + 1, hn⟩ : Fin cfg0.N).val - 1) (Nat.lt_of_succ_lt hn)
    rw [a, d] at e
    exact e

theorem dk_all (h : Fin 6) (n : ℕ) (hn : n < cfg0.N) :
    lane (outsAt0 m c n hn).2.1 h
      = cDk (lane (iblk m c 0 ⟨n, hn⟩) h) (lane (iblk m c 2 ⟨n, hn⟩) h) (lane (iblk m c 3 ⟨n, hn⟩) h) (fDm (logGamma h))
          (fZe (logGamma h)) (dsBefore m c h n (Nat.lt_succ_of_lt hn)) (iblk m c 5 ⟨n, hn⟩) (iblk m c 6 ⟨n, hn⟩) := by
  cases n with
  | zero => exact dk_A m c ⟨0, hn⟩ rfl h
  | succ n =>
    have e := dk_B m c ⟨n + 1, hn⟩ ((pos_iff ⟨n + 1, hn⟩).2 (Nat.succ_ne_zero n)) h (Nat.lt_of_succ_lt hn)
    obtain ⟨a, b, d⟩ := tables m c h ((⟨n + 1, hn⟩ : Fin cfg0.N).val - 1) (Nat.lt_of_succ_lt hn)
    rw [a, b, gs_eq m c h ((⟨n + 1, hn⟩ : Fin cfg0.N).val - 1)] at e
    exact e

theorem dv_all (h : Fin 6) (n : ℕ) (hn : n < cfg0.N) :
    lane (outsAt0 m c n hn).2.2.1 h
      = cDv (lane (iblk m c 0 ⟨n, hn⟩) h) (lane (iblk m c 1 ⟨n, hn⟩) h) (lane (iblk m c 3 ⟨n, hn⟩) h) (fDm (logGamma h))
          (fZe (logGamma h)) (dsBefore m c h n (Nat.lt_succ_of_lt hn)) := by
  cases n with
  | zero => exact dv_A m c ⟨0, hn⟩ rfl h
  | succ n =>
    have e := dv_B m c ⟨n + 1, hn⟩ ((pos_iff ⟨n + 1, hn⟩).2 (Nat.succ_ne_zero n)) h (Nat.lt_of_succ_lt hn)
    obtain ⟨a, b, d⟩ := tables m c h ((⟨n + 1, hn⟩ : Fin cfg0.N).val - 1) (Nat.lt_of_succ_lt hn)
    rw [a, b, gs_eq m c h ((⟨n + 1, hn⟩ : Fin cfg0.N).val - 1)] at e
    exact e

end Cert.KernelIdeal.Ret
-- ==== Proof.Ideal.lean ====
module

public import proofs.«01_k».proof.Proof.Carry
public import Idealize.ShloMosaic.Lib.Pointwise

@[expose] public section

set_option maxRecDepth 16384

noncomputable section

namespace Cert.KernelIdeal.Ret

open Idealize.ShloMosaic Idealize.ShloMosaic.TcCoe
open Cert.KernelIdeal.Gen

/-! # One head of one chunk over the real numbers -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of two axes holds the real numbers `X`. -/
def Is2 {A B : ℕ} (x : (⟨2, ![A, B]⟩ : Shape).Idx → EReal) (X : Fin A → Fin B → ℝ) : Prop := ∀ i j, x (ix2 i j) = (X i j : EReal)

/-- A block of one plane holds the real numbers `X`. -/
def Is3 {A B : ℕ} (x : (⟨3, ![1, A, B]⟩ : Shape).Idx → EReal) (X : Fin A → Fin B → ℝ) : Prop :=
  ∀ i j, x (ix3 (0 : Fin 1) i j) = (X i j : EReal)

theorem coe_max (a b : ℝ) : ((max a b : ℝ) : EReal) = max (a : EReal) (b : EReal) := EReal.coe_strictMono.monotone.map_max

theorem cS_real {a b : S384x128.Idx → EReal} {dm : S1x384x384.Idx → EReal} {A B D} (ha : Is2 a A) (hb : Is2 b B) (hd : Is3 dm D) :
    Is2 (cS (F := Ideal) a b dm) (fun i j => (∑ e, A i e * B j e) * D i j) := by
  intro i j
  simp only [cS, pointwise, ha _ _, hb _ _, hd _ _, zero_add, ← EReal.coe_mul, ← coe_sum]

theorem trunc_real {x : S384x128.Idx → EReal} {X} (hx : Is2 x X) :
    Is2 (truncf (F := Ideal) (φ := .f32) .bf16 x bitsLt_bf16_f32) X := by
  intro i j
  simp only [pointwise, hx _ _]

theorem truncS_real {x : S384x384.Idx → EReal} {X} (hx : Is2 x X) :
    Is2 (truncf (F := Ideal) (φ := .f32) .bf16 x bitsLt_bf16_f32) X := by
  intro i j
  simp only [pointwise, hx _ _]

theorem cast_real {x : S384x128.Idx → EReal} {X} (hx : Is2 x X) :
    Is2 (shapeCast S384x128 x shapeCasts_S384x128_S384x128) X := by
  intro i j
  simp only [pointwise, hx _ _]

theorem cDox_real {d : S384x128.Idx → EReal} {xi : S1x384x128.Idx → EReal} {D X} (hd : Is2 d D) (hx : Is3 xi X) :
    Is2 (cDox (F := Ideal) d xi) (fun i j => D i j * X i j) := by
  intro i j
  simp only [cDox, pointwise, hd _ _, hx _ _, ← EReal.coe_mul]

theorem cDqr_real {k v d : S384x128.Idx → EReal} {dm : S1x384x384.Idx → EReal} {xi : S1x384x128.Idx → EReal} {st : S1x128x128.Idx → EReal}
    {K V D DM XI ST} (hk : Is2 k K) (hv : Is2 v V) (hd : Is2 d D) (hdm : Is3 dm DM) (hxi : Is3 xi XI) (hst : Is3 st ST) :
    Is2 (cDqr (F := Ideal) k v d dm xi st)
      (fun i e => (∑ j, (∑ b, D i b * V j b) * DM i j * K j e) + ∑ b, D i b * XI i b * ST e b) := by
  intro i e
  have h1 := truncS_real (cS_real (trunc_real (cast_real hd)) (cast_real hv) hdm)
  have h2 := trunc_real (cDox_real hd hxi)
  have h3 := cast_real hk
  unfold cDqr
  generalize truncf (F := Ideal) (φ := .f32) .bf16 (cS _ _ dm) _ = S at h1 ⊢
  generalize truncf (F := Ideal) (φ := .f32) .bf16 (cDox d xi) _ = T at h2 ⊢
  generalize shapeCast S384x128 k _ = K' at h3 ⊢
  simp only [pointwise, h1 _ _, h2 _ _, h3 _ _, hst _ _, zero_add, ← EReal.coe_mul, ← coe_sum, ← EReal.coe_add]

theorem cDkr_real {q v d : S384x128.Idx → EReal} {dm : S1x384x384.Idx → EReal} {ze : S1x384x128.Idx → EReal} {dsn : S1x128x128.Idx → EReal}
    {Q V D DM ZE DS} (hq : Is2 q Q) (hv : Is2 v V) (hd : Is2 d D) (hdm : Is3 dm DM) (hze : Is3 ze ZE) (hds : Is3 dsn DS) :
    Is2 (cDkr (F := Ideal) q v d dm ze dsn)
      (fun j e => (∑ i, (∑ b, D i b * V j b) * DM i j * Q i e) + ZE j e * ∑ b, V j b * DS e b) := by
  intro j e
  have h1 := truncS_real (cS_real (trunc_real (cast_real hd)) (cast_real hv) hdm)
  have h2 := cast_real hv
  have h3 := cast_real hq
  unfold cDkr
  generalize truncf (F := Ideal) (φ := .f32) .bf16 (cS _ _ dm) _ = S at h1 ⊢
  generalize shapeCast S384x128 v _ = V' at h2 ⊢
  generalize shapeCast S384x128 q _ = Q' at h3 ⊢
  simp only [pointwise, h1 _ _, h2 _ _, h3 _ _, hds _ _, hze _ _, zero_add, ← EReal.coe_mul, ← coe_sum, ← EReal.coe_add]

theorem cDv_real {q k d : S384x128.Idx → EReal} {dm : S1x384x384.Idx → EReal} {ze : S1x384x128.Idx → EReal} {dsn : S1x128x128.Idx → EReal}
    {Q K D DM ZE DS} (hq : Is2 q Q) (hk : Is2 k K) (hd : Is2 d D) (hdm : Is3 dm DM) (hze : Is3 ze ZE) (hds : Is3 dsn DS) :
    Is2 (cDv (F := Ideal) q k d dm ze dsn)
      (fun j b => (∑ i, (∑ e, Q i e * K j e) * DM i j * D i b) + ∑ e, K j e * ZE j e * DS e b) := by
  intro j b
  have h1 := truncS_real (cS_real (cast_real hq) (cast_real hk) hdm)
  have h2 := trunc_real (cast_real hd)
  unfold cDv
  generalize truncf (F := Ideal) (φ := .f32) .bf16 (cS _ _ dm) _ = S at h1 ⊢
  generalize truncf (F := Ideal) (φ := .f32) .bf16 (shapeCast S384x128 d _) _ = D' at h2 ⊢
  simp only [pointwise, h1 _ _, h2 _ _, hk _ _, hds _ _, hze _ _, zero_add, ← EReal.coe_mul, ← coe_sum, ← EReal.coe_add]

theorem cDs_real {gc : EReal} {q d : S384x128.Idx → EReal} {xi : S1x384x128.Idx → EReal} {dsn : S1x128x128.Idx → EReal}
    {GC : ℝ} {Q D XI DS} (hg : gc = (GC : EReal)) (hq : Is2 q Q) (hd : Is2 d D) (hxi : Is3 xi XI) (hds : Is3 dsn DS) :
    Is3 (cDs (F := Ideal) gc q d xi dsn) (fun e b => GC * DS e b + ∑ i, Q i e * (D i b * XI i b)) := by
  intro e b
  have h2 := trunc_real (cDox_real hd hxi)
  unfold cDs
  generalize truncf (F := Ideal) (φ := .f32) .bf16 (cDox d xi) _ = T at h2 ⊢
  simp only [pointwise, h2 _ _, hq _ _, hds _ _, hg, zero_add, ← EReal.coe_mul, ← coe_sum, ← EReal.coe_add]

/-- The rotation by 64 columns. -/
def roll (e : Fin 128) : Fin 128 := ⟨(e.val + 64) % 128, Nat.mod_lt _ (by decide)⟩

theorem cRot_real {x cos sin : S384x128.Idx → EReal} {X C S} (hx : Is2 x X) (hc : Is2 cos C) (hs : Is2 sin S) :
    Is2 (cRot (F := Ideal) x cos sin) (fun i e => X i e * C i e - X i (roll e) * S i e) := by
  intro i e
  have h2 : ∀ (x : S384x128.Idx → EReal), dynamicRotate 1 64#32 none x rotates_S384x128_d1 (ix2 i e) = x (ix2 i (roll e)) := by
    intro x
    refine congrArg x (funext fun a => Fin.ext ?_)
    match a with
    | ⟨0, _⟩ => rfl
    | ⟨1, _⟩ => show (e.val + 128 - 64) % 128 = (e.val + 64) % 128; rw [show e.val + 128 - 64 = e.val + 64 by omega]
  simp only [cRot, pointwise, hx _ _, hc _ _, hs _ _, h2, ← EReal.coe_mul, ← EReal.coe_sub]

theorem cDq_real {k v d cos sin : S384x128.Idx → EReal} {dm : S1x384x384.Idx → EReal} {xi : S1x384x128.Idx → EReal}
    {st : S1x128x128.Idx → EReal} {X C S} (hx : Is2 (cDqr (F := Ideal) k v d dm xi st) X) (hc : Is2 cos C) (hs : Is2 sin S) :
    Is2 (cDq (F := Ideal) k v d dm xi st cos sin) (fun i e => X i e * C i e - X i (roll e) * S i e) :=
  trunc_real (cRot_real hx hc hs)

theorem cDk_real {q v d cos sin : S384x128.Idx → EReal} {dm : S1x384x384.Idx → EReal} {ze : S1x384x128.Idx → EReal}
    {dsn : S1x128x128.Idx → EReal} {X C S} {s : ℝ} (hx : Is2 (cDkr (F := Ideal) q v d dm ze dsn) X) (hc : Is2 cos C) (hs : Is2 sin S)
    (h : Ideal.ofBits .f32 0x3DB504F3#32 = (s : EReal)) :
    Is2 (cDk (F := Ideal) q v d dm ze dsn cos sin) (fun i e => (X i e * C i e - X i (roll e) * S i e) * s) := by
  intro i e
  have h1 := cRot_real hx hc hs
  unfold cDk
  generalize cRot (F := Ideal) _ cos sin = T at h1 ⊢
  simp only [pointwise, h1 _ _, h, ← EReal.coe_mul]

/-! ## The decay tables -/

theorem sitofp_nat (n : ℕ) (hn : n < 2 ^ 31) : FloatOps.sitofp (F := Ideal) FTy.f32 (BitVec.ofNat 32 n) = ((n : ℝ) : EReal) := by
  have h : (BitVec.ofNat 32 n).toInt = (n : ℤ) := by
    rw [BitVec.toInt_eq_toNat_cond, BitVec.toNat_ofNat]; omega
  show (((BitVec.ofNat 32 n).toInt : ℝ) : EReal) = _
  rw [h]; simp

theorem sitofp_sub (n k : ℕ) (hn : n < 2 ^ 30) (hk : k < 2 ^ 30) :
    FloatOps.sitofp (F := Ideal) FTy.f32 (IntOp.subi (BitVec.ofNat 32 n) (BitVec.ofNat 32 k)) = (((n : ℝ) - (k : ℝ) : ℝ) : EReal) := by
  have h : (BitVec.ofNat 32 n - BitVec.ofNat 32 k).toInt = (n : ℤ) - (k : ℤ) := by
    rw [BitVec.toInt_eq_toNat_cond, BitVec.toNat_sub, BitVec.toNat_ofNat, BitVec.toNat_ofNat]; omega
  show (((BitVec.ofNat 32 n - BitVec.ofNat 32 k).toInt : ℝ) : EReal) = _
  rw [h]; simp

theorem iota_real (i : Fin 384) (e : Fin 128) : k0_pay6 (F := Ideal) (ix2 i e) = ((i.val : ℝ) : EReal) := by
  simp only [k0_pay6, pointwise]
  exact (congrArg (fun n => FloatOps.sitofp (F := Ideal) FTy.f32 (BitVec.ofNat 32 n)) (by simp [List.foldl])).trans
    (sitofp_nat i.val (by omega))

theorem diff_real (i j : Fin 384) : k0_pay5 (F := Ideal) (ix2 i j) = (((i.val : ℝ) - (j.val : ℝ) : ℝ) : EReal) := by
  simp only [k0_pay5, pointwise]
  exact (congrArg₂ (fun n k => FloatOps.sitofp (F := Ideal) FTy.f32 (IntOp.subi (BitVec.ofNat 32 n) (BitVec.ofNat 32 k)))
    (by simp [List.foldl]) (by simp [List.foldl])).trans (sitofp_sub i.val j.val (by omega) (by omega))

theorem lit_383 : Ideal.ofBits FTy.f32 0x43BF8000#32 = ((383 : ℝ) : EReal) := by
  simp [Ideal.ofBits, Ideal.ieee, -EReal.coe_mul]; norm_num

theorem fXi_real {g : EReal} {G : ℝ} (hg : g = (G : EReal)) :
    Is3 (fXi (F := Ideal) g) (fun i _ => Real.exp (((i.val : ℝ) + 1) * G)) := by
  intro i e
  have h := iota_real i e
  unfold fXi
  generalize k0_pay6 (F := Ideal) = T at h ⊢
  simp only [pointwise, hg, h, ← EReal.coe_one, ← EReal.coe_mul, ← EReal.coe_add]
  rfl

theorem fZe_real {g : EReal} {G : ℝ} (hg : g = (G : EReal)) :
    Is3 (fZe (F := Ideal) g) (fun i _ => Real.exp ((383 - (i.val : ℝ)) * G)) := by
  intro i e
  have h := iota_real i e
  unfold fZe
  generalize k0_pay6 (F := Ideal) = T at h ⊢
  simp only [pointwise, hg, h, lit_383, ← EReal.coe_mul, ← EReal.coe_sub]
  rfl

theorem fDm_real {g : EReal} {G : ℝ} (hg : g = (G : EReal)) :
    Is3 (fDm (F := Ideal) g) (fun i j => if j.val ≤ i.val then Real.exp (((i.val : ℝ) - (j.val : ℝ)) * G) else 0) := by
  intro i j
  have h := diff_real i j
  unfold fDm
  generalize k0_pay5 (F := Ideal) = T at h ⊢
  simp only [pointwise, hg, h]
  by_cases hij : j.val ≤ i.val
  · have h1 : (0 : ℝ) ≤ (i.val : ℝ) - (j.val : ℝ) := by simpa using hij
    have h2 : (0 : EReal) ≤ (((i.val : ℝ) - (j.val : ℝ) : ℝ) : EReal) := by exact_mod_cast h1
    rw [if_pos h2, if_pos hij, max_eq_left h2, ← EReal.coe_mul]
    rfl
  · have h1 : ¬ (0 : ℝ) ≤ (i.val : ℝ) - (j.val : ℝ) := by simpa using hij
    have h2 : ¬ (0 : EReal) ≤ (((i.val : ℝ) - (j.val : ℝ) : ℝ) : EReal) := by exact_mod_cast h1
    rw [if_neg h2, if_neg hij]; rfl

theorem pay4_real (h : Fin 6) : Is3 (plane (k0_pay4 (F := Ideal)) h) (fun _ _ => 0) := by
  intro i j
  simp only [plane, k0_pay4, pointwise]
  rfl

/-- The decay of head `h` from one row to the next. -/
def gam (h : Fin 6) : ℝ := 1 - 1 / 2 ^ (h.val + 5)

theorem logGamma_real (h : Fin 6) : logGamma (F := Ideal) h = (Real.log (gam h) : EReal) := by
  match h with
  | 0 => exact (IdealRules.named_const.ideal_named_scalar κ "log_gamma_0" _ _ rfl).trans (congrArg Real.toEReal (by norm_num [gam]))
  | 1 => exact (IdealRules.named_const.ideal_named_scalar κ "log_gamma_1" _ _ rfl).trans (congrArg Real.toEReal (by norm_num [gam]))
  | 2 => exact (IdealRules.named_const.ideal_named_scalar κ "log_gamma_2" _ _ rfl).trans (congrArg Real.toEReal (by norm_num [gam]))
  | 3 => exact (IdealRules.named_const.ideal_named_scalar κ "log_gamma_3" _ _ rfl).trans (congrArg Real.toEReal (by norm_num [gam]))
  | 4 => exact (IdealRules.named_const.ideal_named_scalar κ "log_gamma_4" _ _ rfl).trans (congrArg Real.toEReal (by norm_num [gam]))
  | 5 => exact (IdealRules.named_const.ideal_named_scalar κ "log_gamma_5" _ _ rfl).trans (congrArg Real.toEReal (by norm_num [gam]))

set_option exponentiation.threshold 400 in
theorem gammaChunk_real (h : Fin 6) : gammaChunk (F := Ideal) h = ((gam h ^ 384 : ℝ) : EReal) := by
  match h with
  | 0 => exact (IdealRules.named_const.ideal_named_scalar κ "gamma_chunk_0" _ _ rfl).trans (congrArg Real.toEReal (by norm_num [gam]))
  | 1 => exact (IdealRules.named_const.ideal_named_scalar κ "gamma_chunk_1" _ _ rfl).trans (congrArg Real.toEReal (by norm_num [gam]))
  | 2 => exact (IdealRules.named_const.ideal_named_scalar κ "gamma_chunk_2" _ _ rfl).trans (congrArg Real.toEReal (by norm_num [gam]))
  | 3 => exact (IdealRules.named_const.ideal_named_scalar κ "gamma_chunk_3" _ _ rfl).trans (congrArg Real.toEReal (by norm_num [gam]))
  | 4 => exact (IdealRules.named_const.ideal_named_scalar κ "gamma_chunk_4" _ _ rfl).trans (congrArg Real.toEReal (by norm_num [gam]))
  | 5 => exact (IdealRules.named_const.ideal_named_scalar κ "gamma_chunk_5" _ _ rfl).trans (congrArg Real.toEReal (by norm_num [gam]))
-- ==== Proof.Math.lean ====
module

public import Mathlib.Algebra.BigOperators.Fin
public import Mathlib.Algebra.BigOperators.Ring.Finset
public import Mathlib.Analysis.SpecialFunctions.Log.Basic

@[expose] public section

noncomputable section

namespace Cert.KernelIdeal.Ret

open Finset

/-! # Sums with a decay, chunk by chunk

Rows are counted from zero, `T` to a chunk. -/

/-- The past of row `R`: every earlier row, with the decay to `R`. -/
def past (γ : ℝ) (N R : ℕ) (a : ℕ → ℝ) : ℝ := ∑ r ∈ range N, if r ≤ R then γ ^ (R - r) * a r else 0

/-- The future of row `R`: every later row, with the decay from `R`. -/
def future (γ : ℝ) (N R : ℕ) (a : ℕ → ℝ) : ℝ := ∑ r ∈ range N, if R ≤ r then γ ^ (r - R) * a r else 0

/-- What a chunk that starts at row `B` finds of the rows before it. -/
def before (γ : ℝ) (N B : ℕ) (a : ℕ → ℝ) : ℝ := ∑ r ∈ range N, if r < B then γ ^ (B - 1 - r) * a r else 0

/-- What the rows from `B` on send back to the rows before. -/
def after (γ : ℝ) (N B : ℕ) (a : ℕ → ℝ) : ℝ := ∑ x ∈ range (N - B), γ ^ (x + 1) * a (B + x)

theorem past_chunk (γ : ℝ) (N B T i : ℕ) (hB : B + T ≤ N) (hi : i < T) (a : ℕ → ℝ) :
    past γ N (B + i) a = (∑ j ∈ range T, (if j ≤ i then γ ^ (i - j) else 0) * a (B + j)) + γ ^ (i + 1) * before γ N B a := by
  obtain ⟨M, rfl⟩ := Nat.exists_eq_add_of_le hB
  unfold past before
  rw [sum_range_add, sum_range_add, sum_range_add, sum_range_add]
  have h1 : ∑ x ∈ range M, (if B + T + x ≤ B + i then γ ^ (B + i - (B + T + x)) * a (B + T + x) else 0) = 0 :=
    sum_eq_zero fun x _ => if_neg (by omega)
  have h2 : ∑ x ∈ range M, (if B + T + x < B then γ ^ (B - 1 - (B + T + x)) * a (B + T + x) else 0) = 0 :=
    sum_eq_zero fun x _ => if_neg (by omega)
  have h3 : ∑ x ∈ range T, (if B + x < B then γ ^ (B - 1 - (B + x)) * a (B + x) else 0) = 0 :=
    sum_eq_zero fun x _ => if_neg (by omega)
  rw [h1, h2, h3, add_zero, add_zero, add_zero, add_comm, mul_sum]
  refine congrArg₂ (· + ·) (sum_congr rfl fun j _ => ?_) (sum_congr rfl fun r hr => ?_)
  · by_cases h : j ≤ i
    · rw [if_pos (by omega), if_pos h, show B + i - (B + j) = i - j by omega]
    · rw [if_neg (by omega), if_neg h, zero_mul]
  · have hr' := mem_range.1 hr
    rw [if_pos (by omega), if_pos hr', ← mul_assoc, ← pow_add, show i + 1 + (B - 1 - r) = B + i - r by omega]

theorem future_chunk (γ : ℝ) (N B T j : ℕ) (hB : B + T ≤ N) (hj : j < T) (a : ℕ → ℝ) :
    future γ N (B + j) a
      = (∑ i ∈ range T, (if j ≤ i then γ ^ (i - j) else 0) * a (B + i)) + γ ^ (T - 1 - j) * after γ N (B + T) a := by
  obtain ⟨M, rfl⟩ := Nat.exists_eq_add_of_le hB
  unfold future after
  rw [sum_range_add, sum_range_add, show B + T + M - (B + T) = M by omega]
  have h1 : ∑ x ∈ range B, (if B + j ≤ x then γ ^ (x - (B + j)) * a x else 0) = 0 :=
    sum_eq_zero fun x hx => if_neg (by have := mem_range.1 hx; omega)
  rw [h1, zero_add, mul_sum]
  refine congrArg₂ (· + ·) (sum_congr rfl fun i _ => ?_) (sum_congr rfl fun r hr => ?_)
  · by_cases h : j ≤ i
    · rw [if_pos (by omega), if_pos h, show B + i - (B + j) = i - j by omega]
    · rw [if_neg (by omega), if_neg h, zero_mul]
  · rw [if_pos (by omega), ← mul_assoc, ← pow_add, show T - 1 - j + (r + 1) = B + T + r - (B + j) by omega]

theorem after_end (γ : ℝ) (N : ℕ) (a : ℕ → ℝ) : after γ N N a = 0 := by
  unfold after; rw [Nat.sub_self]; rfl

theorem after_step (γ : ℝ) (N B T : ℕ) (hB : B + T ≤ N) (a : ℕ → ℝ) :
    after γ N B a = γ ^ T * after γ N (B + T) a + ∑ i ∈ range T, γ ^ (i + 1) * a (B + i) := by
  obtain ⟨M, rfl⟩ := Nat.exists_eq_add_of_le hB
  unfold after
  rw [show B + T + M - B = T + M by omega, show B + T + M - (B + T) = M by omega, sum_range_add, add_comm, mul_sum]
  refine congrArg (· + _) (sum_congr rfl fun x _ => ?_)
  rw [← mul_assoc, ← pow_add, show T + (x + 1) = T + x + 1 by omega, show B + (T + x) = B + T + x by omega]

/-- A decay written as an exponential. -/
theorem exp_log_pow {γ : ℝ} (h : 0 < γ) (n : ℕ) : Real.exp ((n : ℝ) * Real.log γ) = γ ^ n := by
  rw [Real.exp_nat_mul, Real.exp_log h]

end Cert.KernelIdeal.Ret
-- ==== Proof.Chunk.lean ====
module

public import proofs.«01_k».proof.Proof.Ideal
public import proofs.«01_k».proof.Proof.Math

@[expose] public section

set_option maxRecDepth 16384

noncomputable section

namespace Cert.KernelIdeal.Ret

open Idealize.ShloMosaic Idealize.ShloMosaic.TcCoe
open Idealize.SL Idealize.SL.Sem
open Cert.KernelIdeal.Gen

/-! # One head, chunk by chunk, over the real numbers

The point `n` visits chunk `10 - n`, the rows from `384 * (10 - n)` on of 4224. -/

theorem gam_pos (h : Fin 6) : 0 < gam h := by
  have : (1 : ℝ) / 2 ^ (h.val + 5) < 1 := by
    rw [div_lt_one (by positivity)]
    exact one_lt_pow₀ (by norm_num) (by omega)
  unfold gam; linarith

theorem Is2.congr {A B : ℕ} {x : (⟨2, ![A, B]⟩ : Shape).Idx → EReal} {X Y : Fin A → Fin B → ℝ} (h : Is2 x X) (e : ∀ i j, X i j = Y i j) :
    Is2 x Y := fun i j => (h i j).trans (congrArg Real.toEReal (e i j))

theorem Is3.congr {A B : ℕ} {x : (⟨3, ![1, A, B]⟩ : Shape).Idx → EReal} {X Y : Fin A → Fin B → ℝ} (h : Is3 x X) (e : ∀ i j, X i j = Y i j) :
    Is3 x Y := fun i j => (h i j).trans (congrArg Real.toEReal (e i j))

theorem xi_real (h : Fin 6) : Is3 (fXi (F := Ideal) (logGamma h)) (fun i _ => gam h ^ (i.val + 1)) :=
  (fXi_real (logGamma_real h)).congr fun i _ => by rw [← exp_log_pow (gam_pos h)]; push_cast; rfl

theorem ze_real (h : Fin 6) : Is3 (fZe (F := Ideal) (logGamma h)) (fun i _ => gam h ^ (384 - 1 - i.val)) :=
  (fZe_real (logGamma_real h)).congr fun i _ => by
    have hi : i.val ≤ 383 := by omega
    rw [← exp_log_pow (gam_pos h), show 384 - 1 - i.val = 383 - i.val by omega, Nat.cast_sub hi]; push_cast; rfl

theorem dm_real (h : Fin 6) : Is3 (fDm (F := Ideal) (logGamma h)) (fun i j => if j.val ≤ i.val then gam h ^ (i.val - j.val) else 0) :=
  (fDm_real (logGamma_real h)).congr fun i j => by
    by_cases hij : j.val ≤ i.val
    · rw [if_pos hij, if_pos hij, ← exp_log_pow (gam_pos h), Nat.cast_sub hij]
    · rw [if_neg hij, if_neg hij]

/-- The blocks the region reads, at head `h`, are the chunks of these arrays of 4224 rows; the state of a chunk is the decayed
    sum over the rows before it. -/
structure Blocks (m : (ℓ : Loc nD τ sig) → Buf (Elt Ideal) ℓ) (c : Dev nD) (h : Fin 6) (Q K V D C S : ℕ → Fin 128 → ℝ) : Prop where
  q : ∀ n hn, Is2 (lane (iblk m c 0 ⟨n, hn⟩) h) (fun i e => Q (384 * (10 - n) + i.val) e)
  k : ∀ n hn, Is2 (lane (iblk m c 1 ⟨n, hn⟩) h) (fun i e => K (384 * (10 - n) + i.val) e)
  v : ∀ n hn, Is2 (lane (iblk m c 2 ⟨n, hn⟩) h) (fun i e => V (384 * (10 - n) + i.val) e)
  d : ∀ n hn, Is2 (lane (iblk m c 3 ⟨n, hn⟩) h) (fun i e => D (384 * (10 - n) + i.val) e)
  st : ∀ n hn, Is3 (stRow (iblk m c 4 ⟨n, hn⟩) h) (fun e b => before (gam h) 4224 (384 * (10 - n)) (fun r => K r e * V r b))
  cos : ∀ n hn, Is2 (iblk m c 5 ⟨n, hn⟩) (fun i e => C (384 * (10 - n) + i.val) e)
  sin : ∀ n hn, Is2 (iblk m c 6 ⟨n, hn⟩) (fun i e => S (384 * (10 - n) + i.val) e)

/-- dq of one head before the rotary embedding's transpose. -/
def rdq (γ : ℝ) (K V D : ℕ → Fin 128 → ℝ) (R : ℕ) (e : Fin 128) : ℝ := past γ 4224 R (fun r => (∑ b, D R b * V r b) * K r e)

/-- dk of one head before the rotary embedding's transpose. -/
def rdk (γ : ℝ) (Q V D : ℕ → Fin 128 → ℝ) (R : ℕ) (e : Fin 128) : ℝ := future γ 4224 R (fun r => (∑ b, D r b * V R b) * Q r e)

/-- dv of one head. -/
def rdv (γ : ℝ) (Q K D : ℕ → Fin 128 → ℝ) (R : ℕ) (b : Fin 128) : ℝ := future γ 4224 R (fun r => (∑ e, Q r e * K R e) * D r b)

variable {m : (ℓ : Loc nD τ sig) → Buf (Elt Ideal) ℓ} {c : Dev nD} {h : Fin 6} {Q K V D C S : ℕ → Fin 128 → ℝ}

theorem dsBefore_real (B : Blocks m c h Q K V D C S) (n : ℕ) (hn : n < cfg0.N + 1) :
    Is3 (dsBefore m c h n hn) (fun e b => after (gam h) 4224 (384 * (11 - n)) (fun r => Q r e * D r b)) := by
  induction n with
  | zero => exact (pay4_real h).congr fun e b => (after_end _ _ _).symm
  | succ n ih =>
    have h1 : n < 11 := lt_of_lt_of_eq (Nat.lt_of_succ_lt_succ hn) N_eq
    refine (cDs_real (gammaChunk_real h) (B.q n _) (B.d n _) (xi_real h) (ih (Nat.lt_of_succ_lt hn))).congr fun e b => ?_
    rw [show 11 - (n + 1) = 10 - n by omega, after_step (gam h) 4224 (384 * (10 - n)) 384 (by omega),
      show 384 * (10 - n) + 384 = 384 * (11 - n) by omega, Finset.sum_range]
    refine congrArg₂ (· + ·) rfl (Finset.sum_congr rfl fun i _ => ?_)
    ring

theorem dq_real (B : Blocks m c h Q K V D C S) (n : ℕ) (hn : n < cfg0.N) :
    Is2 (lane (outsAt0 m c n hn).1 h) (fun i e =>
      rdq (gam h) K V D (384 * (10 - n) + i.val) e * C (384 * (10 - n) + i.val) e
        - rdq (gam h) K V D (384 * (10 - n) + i.val) (roll e) * S (384 * (10 - n) + i.val) e) := by
  have h1 : n < 11 := lt_of_lt_of_eq hn N_eq
  rw [dq_all]
  refine cDq_real ((cDqr_real (B.k n hn) (B.v n hn) (B.d n hn) (dm_real h) (xi_real h) (B.st n hn)).congr fun i e => ?_) (B.cos n hn) (B.sin n hn)
  show _ = rdq (gam h) K V D (384 * (10 - n) + i.val) e
  unfold rdq
  rw [past_chunk (gam h) 4224 (384 * (10 - n)) 384 i.val (by omega) i.isLt, Finset.sum_range]
  refine congrArg₂ (· + ·) (Finset.sum_congr rfl fun j _ => ?_) ?_
  · ring
  · unfold before
    simp only [Finset.mul_sum]
    rw [Finset.sum_comm]
    refine Finset.sum_congr rfl fun r _ => ?_
    by_cases hr : r < 384 * (10 - n)
    · simp only [if_pos hr, Finset.mul_sum, Finset.sum_mul]
      exact Finset.sum_congr rfl fun b _ => by ring
    · simp only [if_neg hr, mul_zero, Finset.sum_const_zero]

theorem dk_real (B : Blocks m c h Q K V D C S) {s : ℝ} (hs : Ideal.ofBits .f32 0x3DB504F3#32 = (s : EReal)) (n : ℕ) (hn : n < cfg0.N) :
    Is2 (lane (outsAt0 m c n hn).2.1 h) (fun i e =>
      (rdk (gam h) Q V D (384 * (10 - n) + i.val) e * C (384 * (10 - n) + i.val) e
        - rdk (gam h) Q V D (384 * (10 - n) + i.val) (roll e) * S (384 * (10 - n) + i.val) e) * s) := by
  have h1 : n < 11 := lt_of_lt_of_eq hn N_eq
  rw [dk_all]
  refine cDk_real ((cDkr_real (B.q n hn) (B.v n hn) (B.d n hn) (dm_real h) (ze_real h) (dsBefore_real B n _)).congr fun j e => ?_)
    (B.cos n hn) (B.sin n hn) hs
  show _ = rdk (gam h) Q V D (384 * (10 - n) + j.val) e
  unfold rdk
  rw [future_chunk (gam h) 4224 (384 * (10 - n)) 384 j.val (by omega) j.isLt, Finset.sum_range,
    show 384 * (10 - n) + 384 = 384 * (11 - n) by omega]
  refine congrArg₂ (· + ·) (Finset.sum_congr rfl fun i _ => ?_) (congrArg₂ (· * ·) rfl ?_)
  · ring
  · unfold after
    simp only [Finset.mul_sum]
    rw [Finset.sum_comm]
    refine Finset.sum_congr rfl fun r _ => ?_
    simp only [Finset.mul_sum, Finset.sum_mul]
    exact Finset.sum_congr rfl fun b _ => by ring

theorem dv_real (B : Blocks m c h Q K V D C S) (n : ℕ) (hn : n < cfg0.N) :
    Is2 (lane (outsAt0 m c n hn).2.2.1 h) (fun i b => rdv (gam h) Q K D (384 * (10 - n) + i.val) b) := by
  have h1 : n < 11 := lt_of_lt_of_eq hn N_eq
  rw [dv_all]
  refine (cDv_real (B.q n hn) (B.k n hn) (B.d n hn) (dm_real h) (ze_real h) (dsBefore_real B n _)).congr fun j b => ?_
  unfold rdv
  rw [future_chunk (gam h) 4224 (384 * (10 - n)) 384 j.val (by omega) j.isLt, Finset.sum_range,
    show 384 * (10 - n) + 384 = 384 * (11 - n) by omega]
  refine congrArg₂ (· + ·) (Finset.sum_congr rfl fun i _ => ?_) ?_
  · ring
  · unfold after
    simp only [Finset.mul_sum]
    rw [Finset.sum_comm]
    refine Finset.sum_congr rfl fun r _ => ?_
    simp only [Finset.mul_sum, Finset.sum_mul]
    exact Finset.sum_congr rfl fun b _ => by ring

end Cert.KernelIdeal.Ret
-- ==== Proof.HostReal.lean ====
module

public import proofs.«01_k».proof.Proof.Host
public import proofs.«01_k».proof.Proof.Chunk
public import Mathlib.Analysis.SpecialFunctions.Trigonometric.Basic

@[expose] public section

set_option maxRecDepth 16384

noncomputable section

namespace Cert.KernelIdeal.Ret

open Idealize.ShloMosaic Idealize.ShloMosaic.TcCoe
open Idealize.SL Idealize.SL.Sem
open Cert.KernelIdeal.Gen

/-! # The host's arrays over the real numbers -/

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem lit_1 : Ideal.ofBits FTy.f32 0x3F800000#32 = ((1 : ℝ) : EReal) := by simp [Ideal.ofBits, Ideal.ieee, -EReal.coe_mul]; norm_num
theorem lit_2 : Ideal.ofBits FTy.f32 0x40000000#32 = ((2 : ℝ) : EReal) := by simp [Ideal.ofBits, Ideal.ieee, -EReal.coe_mul]; norm_num
theorem lit_m5 : Ideal.ofBits FTy.f32 0xC0A00000#32 = ((-5 : ℝ) : EReal) := by simp [Ideal.ofBits, Ideal.ieee, -EReal.coe_mul]; norm_num
theorem lit_112 : Ideal.ofBits FTy.f32 0x42E00000#32 = ((112 : ℝ) : EReal) := by simp [Ideal.ofBits, Ideal.ieee, -EReal.coe_mul]; norm_num
theorem lit_128 : Ideal.ofBits FTy.f32 0x43000000#32 = ((128 : ℝ) : EReal) := by simp [Ideal.ofBits, Ideal.ieee, -EReal.coe_mul]; norm_num
theorem lit_384 : Ideal.ofBits FTy.f32 0x43C00000#32 = ((384 : ℝ) : EReal) := by simp [Ideal.ofBits, Ideal.ieee, -EReal.coe_mul]; norm_num
theorem lit_10000 : Ideal.ofBits FTy.f32 0x461C4000#32 = ((10000 : ℝ) : EReal) := by simp [Ideal.ofBits, Ideal.ieee, -EReal.coe_mul]; norm_num

/-- The factor on the keys. -/
def scl : ℝ := 11863283 / 134217728

theorem lit_scl : Ideal.ofBits FTy.f32 0x3DB504F3#32 = ((scl : ℝ) : EReal) := by
  simp [Ideal.ofBits, Ideal.ieee, -EReal.coe_mul, scl]; norm_num

/-- The rotary embedding's frequency of column `f`. -/
def freq (f : ℕ) : ℝ := 1 / Real.rpow 10000 ((2 * (f : ℝ)) / 128)

theorem rpow_ne (y : ℝ) : Real.rpow 10000 y ≠ 0 := (Real.rpow_pos_of_pos (by norm_num) y).ne'

theorem ecos (x : ℝ) : Ideal.cos (x : EReal) = ((Real.cos x : ℝ) : EReal) := rfl
theorem esin (x : ℝ) : Ideal.sin (x : EReal) = ((Real.sin x : ℝ) : EReal) := rfl
theorem eexp (x : ℝ) : Ideal.exp (x : EReal) = ((Real.exp x : ℝ) : EReal) := rfl
theorem epow (x y : ℝ) : Ideal.pow (x : EReal) (y : EReal) = ((Real.rpow x y : ℝ) : EReal) := rfl

theorem hInv_real (i : S64.Idx) : hInv (F := Ideal) i = ((freq (i 0).val : ℝ) : EReal) := by
  have h : (i 0).val < 64 := (i 0).isLt
  simp only [hInv, pointwise, List.foldl]
  have h1 : ∀ n : ℕ, n = (i 0).val → FloatOps.sitofp (F := Ideal) FTy.f32 (BitVec.ofNat 32 n) = (((i 0).val : ℝ) : EReal) := by
    rintro n rfl; exact sitofp_nat _ (by omega)
  rw [h1 _ (by simp), lit_2, lit_10000, lit_128, ← EReal.coe_one, ← EReal.coe_zero, ← EReal.coe_mul, ← EReal.coe_add,
    div_coe _ _ (by norm_num), epow, div_coe _ _ (rpow_ne _), zero_add]
  rfl

theorem hBase_real (i : S11x1x64.Idx) : hBase (F := Ideal) i = ((((i 0).val : ℝ) * 384 * freq (i 2).val : ℝ) : EReal) := by
  have h : (i 0).val < 11 := (i 0).isLt
  simp only [hBase, pointwise, hInv_real]
  change FloatOps.sitofp FTy.f32 (BitVec.ofNat 32 (i 0).val) * Ideal.ofBits FTy.f32 1136656384#32 * ((freq (i 2).val : ℝ) : EReal) = _
  rw [sitofp_nat _ (by omega), lit_384, ← EReal.coe_mul, ← EReal.coe_mul]

theorem hStep_real (i : S1x384x64.Idx) : hStep (F := Ideal) i = (((((i 1).val : ℝ) - 112) * freq (i 2).val : ℝ) : EReal) := by
  have h : (i 1).val < 384 := (i 1).isLt
  simp only [hStep, pointwise, hInv_real]
  change (FloatOps.sitofp FTy.f32 (BitVec.ofNat 32 (i 1).val) - Ideal.ofBits FTy.f32 1121976320#32) * ((freq (i 2).val : ℝ) : EReal) = _
  rw [sitofp_nat _ (by omega), lit_112, ← EReal.coe_sub, ← EReal.coe_mul]

/-- The angle of row `R` of the padded sequence in column `f`. -/
def ang (R f : ℕ) : ℝ := ((R : ℝ) - 112) * freq f

theorem ang_split (R f : ℕ) : ang R f = ((R / 384 : ℕ) : ℝ) * 384 * freq f + (((R % 384 : ℕ) : ℝ) - 112) * freq f := by
  have h : (R : ℝ) = ((R / 384 : ℕ) : ℝ) * 384 + ((R % 384 : ℕ) : ℝ) := by
    have := Nat.div_add_mod R 384
    have h2 : R = R / 384 * 384 + R % 384 := by omega
    exact_mod_cast h2
  unfold ang
  rw [h]
  have h3 : ((R / 384 * 384 + R % 384 : ℕ)) = R := by omega
  ring

theorem hCos_real (i : S4224x64.Idx) : hCos (F := Ideal) i = ((Real.cos (ang (i 0).val (i 1).val) : ℝ) : EReal) := by
  simp only [hCos, pointwise, hBase_real, hStep_real]
  rw [ang_split, Real.cos_add, EReal.coe_sub, EReal.coe_mul, EReal.coe_mul]
  rfl

theorem hSin_real (i : S4224x64.Idx) : hSin (F := Ideal) i = ((Real.sin (ang (i 0).val (i 1).val) : ℝ) : EReal) := by
  simp only [hSin, pointwise, hBase_real, hStep_real]
  rw [ang_split, Real.sin_add, EReal.coe_add, EReal.coe_mul, EReal.coe_mul]
  rfl

/-- The cosine of row `R` and lane `e`. -/
def cosT (R : ℕ) (e : Fin 128) : ℝ := Real.cos (ang R (e.val % 64))

/-- The sine of row `R` and lane `e`, negated in the first half. -/
def sinT (R : ℕ) (e : Fin 128) : ℝ := if e.val < 64 then - Real.sin (ang R (e.val % 64)) else Real.sin (ang R (e.val % 64))

theorem hCos2_real (i : S4224x128.Idx) : hCos2 (F := Ideal) i = ((cosT (i 0).val (i 1) : ℝ) : EReal) := by
  have h : (i 1).val < 128 := (i 1).isLt
  simp only [hCos2, catT, pointwise, hCos_real]
  split
  · rename_i h1
    exact congrArg (fun n => ((Real.cos (ang (i 0).val n) : ℝ) : EReal)) (Nat.mod_eq_of_lt h1).symm
  · rename_i h1
    have h2 : ¬ (i 1).val < 64 := h1
    exact congrArg (fun n => ((Real.cos (ang (i 0).val n) : ℝ) : EReal)) (show (i 1).val - 64 = (i 1).val % 64 by omega)

theorem hSin2_real (i : S4224x128.Idx) : hSin2 (F := Ideal) i = ((sinT (i 0).val (i 1) : ℝ) : EReal) := by
  have h : (i 1).val < 128 := (i 1).isLt
  simp only [hSin2, catT, pointwise, hSin_real]
  unfold sinT
  split
  · rename_i h1
    have h2 : (i 1).val < 64 := h1
    rw [EReal.coe_neg]
    exact congrArg (fun n => -((Real.sin (ang (i 0).val n) : ℝ) : EReal)) (Nat.mod_eq_of_lt h1).symm
  · rename_i h1
    have h2 : ¬ (i 1).val < 64 := h1
    exact congrArg (fun n => ((Real.sin (ang (i 0).val n) : ℝ) : EReal)) (show (i 1).val - 64 = (i 1).val % 64 by omega)

/-- An argument holds the real numbers `X`. -/
def IsArg (x : S1x4112x768.Idx → EReal) (X : ℕ → ℕ → ℝ) : Prop := ∀ i, x i = ((X (i 1).val (i 2).val : ℝ) : EReal)

/-- An array of 4224 rows holds the real numbers `X`. -/
def IsPad (x : S4224x768.Idx → EReal) (X : ℕ → ℕ → ℝ) : Prop := ∀ i, x i = ((X (i 0).val (i 1).val : ℝ) : EReal)

/-- The padded rows. -/
def padR (X : ℕ → ℕ → ℝ) (R l : ℕ) : ℝ := if 112 ≤ R then X (R - 112) l else 0

theorem hPad_real {x : S1x4112x768.Idx → EReal} {X} (hx : IsArg x X) : IsPad (hPad (F := Ideal) x) (padR X) := by
  intro i
  have h0 : (i 0).val < 4224 := (i 0).isLt
  have h1 : (i 1).val < 768 := (i 1).isLt
  simp only [hPad, pointwise, hx _]
  unfold padR
  split
  · rename_i h
    have h2 : 112 ≤ (i 0).val := h.1.1
    rw [if_pos h2]
    refine congrArg₂ (fun a b => ((X a b : ℝ) : EReal)) ?_ ?_
    · show ((i 0).val - 112) / 1 = (i 0).val - 112; omega
    · show ((i 1).val - 0) / 1 = (i 1).val; omega
  · rename_i h
    have h2 : ¬ 112 ≤ (i 0).val := fun h2 => h
      ⟨⟨h2, (show ((i 0).val - 112) % 1 = 0 by omega), (show ((i 0).val - 112) / 1 < 4112 by omega)⟩,
        Nat.zero_le _, (show ((i 1).val - 0) % 1 = 0 by omega), (show ((i 1).val - 0) / 1 < 768 by omega)⟩
    rw [if_neg h2]
    show FloatOps.sitofp (F := Ideal) FTy.f32 (BitVec.ofNat 32 0) = _
    rw [sitofp_nat 0 (by norm_num)]; simp

/-- Column `128 h + e` rotated against its other half. -/
def rotR (X : ℕ → ℕ → ℝ) (R l : ℕ) : ℝ :=
  X R l * cosT R ⟨l % 128, Nat.mod_lt _ (by decide)⟩
    + X R (l / 128 * 128 + (l % 128 + 64) % 128) * sinT R ⟨l % 128, Nat.mod_lt _ (by decide)⟩

theorem hRot_real {x : S4224x768.Idx → EReal} {X} (hx : IsPad x X) : IsPad (hRot (F := Ideal) x) (rotR X) := by
  intro i
  have h0 : (i 0).val < 4224 := (i 0).isLt
  have h1 : (i 1).val < 768 := (i 1).isLt
  simp only [hRot, catH, pointwise, hx _, hCos2_real, hSin2_real]
  unfold rotR
  rw [EReal.coe_add, EReal.coe_mul, EReal.coe_mul]
  refine congrArg₂ (· + ·) rfl (congrArg₂ (· * ·) ?_ rfl)
  split
  · rename_i h
    have h2 : (i 1).val % 128 < 64 := h
    refine congrArg₂ (fun a b => ((X a b : ℝ) : EReal)) ?_ ?_
    · show 0 + (i 0).val = (i 0).val; omega
    · show (0 + (i 1).val / 128) * 128 + (64 + (i 1).val % 128) = _; omega
  · rename_i h
    have h2 : ¬ (i 1).val % 128 < 64 := h
    refine congrArg₂ (fun a b => ((X a b : ℝ) : EReal)) ?_ ?_
    · show 0 + (i 0).val = (i 0).val; omega
    · show (0 + (i 1).val / 128) * 128 + (0 + ((i 1).val % 128 - 64)) = _; omega

theorem hQ_real {x : S1x4112x768.Idx → EReal} {X} (hx : IsArg x X) : IsPad (hQ (F := Ideal) x) (rotR (padR X)) := by
  intro i
  simp only [hQ, pointwise, hRot_real (hPad_real hx) _]

theorem hK_real {x : S1x4112x768.Idx → EReal} {X} (hx : IsArg x X) : IsPad (hK (F := Ideal) x) (fun R l => rotR (padR X) R l * scl) := by
  intro i
  simp only [hK, pointwise, hRot_real (hPad_real hx) _, lit_scl, ← EReal.coe_mul]

theorem hV_real {x : S1x4112x768.Idx → EReal} {X} (hx : IsArg x X) : IsPad (hV (F := Ideal) x) (padR X) := by
  intro i
  simp only [hV, pointwise, hPad_real hx _]

/-- A head's decay, as the programs compute its logarithm. -/
theorem log_gam (h : ℕ) (hh : h < 6) :
    Ideal.log1p (-Ideal.pow ((2 : ℝ) : EReal) (((-5 : ℝ) : EReal) - ((h : ℝ) : EReal))) = ((Real.log (gam ⟨h, hh⟩) : ℝ) : EReal) := by
  have h1 : Real.rpow 2 (-5 - (h : ℝ)) = 1 / 2 ^ (h + 5) := by
    have h2 : (-5 - (h : ℝ)) = -((h + 5 : ℕ) : ℝ) := by push_cast; ring
    rw [h2]
    show (2 : ℝ) ^ (-((h + 5 : ℕ) : ℝ)) = _
    rw [Real.rpow_neg (by norm_num), Real.rpow_natCast, one_div]
  rw [← EReal.coe_sub, epow, h1, ← EReal.coe_neg]
  unfold Ideal.log1p
  rw [← EReal.coe_one, ← EReal.coe_add]
  have h3 : (1 : ℝ) + -(1 / 2 ^ (h + 5)) = gam ⟨h, hh⟩ := by unfold gam; ring
  rw [h3]
  exact if_neg (not_le.2 (gam_pos ⟨h, hh⟩))

theorem hLog_real (i : S6.Idx) : hLog (F := Ideal) i = ((Real.log (gam (i 0)) : ℝ) : EReal) := by
  have h : (i 0).val < 6 := (i 0).isLt
  simp only [hLog, pointwise]
  rw [sitofp_nat _ (by omega), lit_2, lit_m5]
  exact log_gam (i 0).val h

theorem hDist_real (i : S11x4224.Idx) : hDist (F := Ideal) i = ((384 * ((i 0).val : ℝ) - 1 - ((i 1).val : ℝ) : ℝ) : EReal) := by
  have h0 : (i 0).val < 11 := (i 0).isLt
  have h1 : (i 1).val < 4224 := (i 1).isLt
  simp only [hDist, pointwise]
  change Ideal.ofBits FTy.f32 1136656384#32 * FloatOps.sitofp FTy.f32 (BitVec.ofNat 32 (i 0).val) - 1
    - FloatOps.sitofp FTy.f32 (BitVec.ofNat 32 (i 1).val) = _
  rw [sitofp_nat _ (by omega), sitofp_nat _ (by omega), lit_384, ← EReal.coe_one, ← EReal.coe_mul, ← EReal.coe_sub, ← EReal.coe_sub]

theorem hDecay_real (i : S6x11x4224.Idx) : hDecay (F := Ideal) i
    = (((if (i 2).val < 384 * (i 1).val then gam (i 0) ^ (384 * (i 1).val - 1 - (i 2).val) else 0) : ℝ) : EReal) := by
  simp only [hDecay, pointwise, hDist_real, hLog_real]
  change (if (0 : EReal) ≤ ((384 * ((i 1).val : ℝ) - 1 - ((i 2).val : ℝ) : ℝ) : EReal) then
      Ideal.exp (max ((384 * ((i 1).val : ℝ) - 1 - ((i 2).val : ℝ) : ℝ) : EReal) 0 * ((Real.log (gam (i 0)) : ℝ) : EReal)) else 0) = _
  by_cases hlt : (i 2).val < 384 * (i 1).val
  · have e1 : (384 * ((i 1).val : ℝ) - 1 - ((i 2).val : ℝ) : ℝ) = ((384 * (i 1).val - 1 - (i 2).val : ℕ) : ℝ) := by
      have h2 : (384 * (i 1).val - 1 - (i 2).val) + 1 + (i 2).val = 384 * (i 1).val := by omega
      have h3 : (((384 * (i 1).val - 1 - (i 2).val : ℕ) : ℝ)) + 1 + ((i 2).val : ℝ) = 384 * ((i 1).val : ℝ) := by exact_mod_cast h2
      linarith
    have h2 : (0 : EReal) ≤ (((384 * (i 1).val - 1 - (i 2).val : ℕ) : ℝ) : EReal) := by exact_mod_cast Nat.zero_le _
    rw [e1, if_pos h2, max_eq_left h2, ← EReal.coe_mul, eexp]
    refine (congrArg Real.toEReal (exp_log_pow (gam_pos _) _)).trans ?_
    exact congrArg Real.toEReal (if_pos hlt).symm
  · have h1 : (384 * ((i 1).val : ℝ) - 1 - ((i 2).val : ℝ) : ℝ) < 0 := by
      have : (384 * ((i 1).val : ℝ)) ≤ ((i 2).val : ℝ) := by exact_mod_cast not_lt.1 hlt
      linarith
    have h2 : ¬ (0 : EReal) ≤ ((384 * ((i 1).val : ℝ) - 1 - ((i 2).val : ℝ) : ℝ) : EReal) := by
      rw [not_le]; exact_mod_cast h1
    rw [if_neg h2]
    exact (congrArg Real.toEReal (if_neg hlt).symm)

theorem hHeads_real {x : S4224x768.Idx → EReal} {X} (hx : IsPad x X) (i : S6x4224x128.Idx) :
    hHeads (F := Ideal) x i = ((X (i 1).val (128 * (i 0).val + (i 2).val) : ℝ) : EReal) := by
  simp only [hHeads, pointwise, hx _]
  rw [mul_comm]

theorem hStates_real {k v : S4224x768.Idx → EReal} {K V} (hk : IsPad k K) (hv : IsPad v V) (n : Fin 11) (h : Fin 6) (e b : Fin 128) :
    hStates (F := Ideal) k v (ix3 n ⟨128 * h.val + e.val, by omega⟩ b)
      = ((before (gam h) 4224 (384 * n.val) (fun r => K r (128 * h.val + e.val) * V r (128 * h.val + b.val)) : ℝ) : EReal) := by
  simp only [hStates, pointwise, hDecay_real, hHeads_real hk, hHeads_real hv]
  unfold before
  rw [zero_add, Finset.sum_range, coe_sum]
  refine Finset.sum_congr rfl fun x _ => ?_
  rw [← EReal.coe_mul, ← EReal.coe_mul]
  refine congrArg Real.toEReal ?_
  change V x.val (128 * h.val + b.val) * ((if x.val < 384 * n.val then gam h ^ (384 * n.val - 1 - x.val) else 0)
    * K x.val (128 * h.val + e.val)) = _
  by_cases hx : x.val < 384 * n.val
  · rw [if_pos hx, if_pos hx]; ring
  · rw [if_neg hx, if_neg hx]; ring

end Cert.KernelIdeal.Ret
-- ==== Proof.Blocks.lean ====
module

public import proofs.«01_k».proof.Proof.HostReal
public import Idealize.ShloMosaic.Lib.Pipeline.ValueKit

@[expose] public section

set_option maxRecDepth 16384

noncomputable section

namespace Cert.KernelIdeal.Ret

open Idealize.ShloMosaic Idealize.ShloMosaic.TcCoe
open Idealize.SL Idealize.SL.Sem
open Cert.KernelIdeal.Gen

/-! # The blocks a point reads and writes, in the arrays -/

theorem idxIn : ∀ t : Fin cfg0.N, win0_0.index t = ![10 - t.val, 0] ∧ win0_1.index t = ![10 - t.val, 0] ∧ win0_2.index t = ![10 - t.val, 0]
    ∧ win0_3.index t = ![10 - t.val, 0] ∧ win0_4.index t = ![10 - t.val, 0, 0] ∧ win0_5.index t = ![10 - t.val, 0] ∧ win0_6.index t = ![10 - t.val, 0] :=
  (by decide +kernel : ∀ t : Fin grid0.N, win0_0.index t = ![10 - t.val, 0] ∧ win0_1.index t = ![10 - t.val, 0] ∧ win0_2.index t = ![10 - t.val, 0]
    ∧ win0_3.index t = ![10 - t.val, 0] ∧ win0_4.index t = ![10 - t.val, 0, 0] ∧ win0_5.index t = ![10 - t.val, 0] ∧ win0_6.index t = ![10 - t.val, 0])

theorem idxOut : ∀ t : Fin cfg0.N, win0_7.index t = ![10 - t.val, 0] ∧ win0_8.index t = ![10 - t.val, 0] ∧ win0_9.index t = ![10 - t.val, 0] :=
  (by decide +kernel : ∀ t : Fin grid0.N, win0_7.index t = ![10 - t.val, 0] ∧ win0_8.index t = ![10 - t.val, 0] ∧ win0_9.index t = ![10 - t.val, 0])

/-- The row of the arrays that is row `i` of the block of point `t`. -/
def rowOf (t : Fin cfg0.N) (i : Fin 384) : Fin 4224 :=
  ⟨384 * (10 - t.val) + i.val, by have : t.val < 11 := lt_of_lt_of_eq t.isLt N_eq; omega⟩

variable (m : (ℓ : Loc nD τ sig) → Buf (Elt Ideal) ℓ) (c : Dev nD)

theorem iblk0 (t : Fin cfg0.N) (i : Fin 384) (l : Fin 768) : iblk m c 0 t (ix2 i l) = V m c main_v68 (ix2 (rowOf t i) l) := by
  blk_ext [iblk, rowOf, (idxIn t).1]

theorem iblk1 (t : Fin cfg0.N) (i : Fin 384) (l : Fin 768) : iblk m c 1 t (ix2 i l) = V m c main_v85 (ix2 (rowOf t i) l) := by
  blk_ext [iblk, rowOf, (idxIn t).2.1]

theorem iblk2 (t : Fin cfg0.N) (i : Fin 384) (l : Fin 768) : iblk m c 2 t (ix2 i l) = V m c main_v88 (ix2 (rowOf t i) l) := by
  blk_ext [iblk, rowOf, (idxIn t).2.2.1]

theorem iblk3 (t : Fin cfg0.N) (i : Fin 384) (l : Fin 768) : iblk m c 3 t (ix2 i l) = V m c main_v90 (ix2 (rowOf t i) l) := by
  blk_ext [iblk, rowOf, (idxIn t).2.2.2.1]

theorem iblk4 (t : Fin cfg0.N) (l : Fin 768) (b : Fin 128) :
    iblk m c 4 t (ix3 (0 : Fin 1) l b)
      = V m c main_v134 (ix3 (⟨10 - t.val, by omega⟩ : Fin 11) l b) := by
  blk_ext [iblk, (idxIn t).2.2.2.2.1]

theorem iblk5 (t : Fin cfg0.N) (i : Fin 384) (e : Fin 128) : iblk m c 5 t (ix2 i e) = V m c main_v51 (ix2 (rowOf t i) e) := by
  blk_ext [iblk, rowOf, (idxIn t).2.2.2.2.2.1]

theorem iblk6 (t : Fin cfg0.N) (i : Fin 384) (e : Fin 128) : iblk m c 6 t (ix2 i e) = V m c main_v53 (ix2 (rowOf t i) e) := by
  blk_ext [iblk, rowOf, (idxIn t).2.2.2.2.2.2]

/-- Head `h` of an array of rows. -/
def hd (X : ℕ → ℕ → ℝ) (h : Fin 6) (R : ℕ) (e : Fin 128) : ℝ := X R (128 * h.val + e.val)

/-- The arguments of device `c` hold these real numbers. -/
structure Args (XQ XK XV XD : ℕ → ℕ → ℝ) : Prop where
  q : IsArg (m (c, Proc.devRef .tc main_arg0)) XQ
  k : IsArg (m (c, Proc.devRef .tc main_arg1)) XK
  v : IsArg (m (c, Proc.devRef .tc main_arg2)) XV
  d : IsArg (m (c, Proc.devRef .tc main_arg3)) XD

variable {m c} {XQ XK XV XD : ℕ → ℕ → ℝ}

theorem blocks (A : Args m c XQ XK XV XD) (h : Fin 6) :
    Blocks m c h (hd (rotR (padR XQ)) h) (hd (fun R l => rotR (padR XK) R l * scl) h) (hd (padR XV) h) (hd (padR XD) h) cosT sinT where
  q n hn i e := (iblk0 m c ⟨n, hn⟩ i _).trans ((congrFun (V_q m c) _).trans (hQ_real A.q _))
  k n hn i e := (iblk1 m c ⟨n, hn⟩ i _).trans ((congrFun (V_k m c) _).trans (hK_real A.k _))
  v n hn i e := (iblk2 m c ⟨n, hn⟩ i _).trans ((congrFun (V_v m c) _).trans (hV_real A.v _))
  d n hn i e := (iblk3 m c ⟨n, hn⟩ i _).trans ((congrFun (V_d m c) _).trans (hPad_real A.d _))
  st n hn e b := (iblk4 m c ⟨n, hn⟩ _ b).trans ((congrFun (V_states m c) _).trans (hStates_real (hK_real A.k) (hV_real A.v) _ h e b))
  cos n hn i e := (iblk5 m c ⟨n, hn⟩ i e).trans ((congrFun (V_cos m c) _).trans (hCos2_real _))
  sin n hn i e := (iblk6 m c ⟨n, hn⟩ i e).trans ((congrFun (V_sin m c) _).trans (hSin2_real _))

/-- The head of a column. -/
def headOf (l : Fin 768) : Fin 6 := ⟨l.val / 128, by omega⟩

/-- The lane of a column. -/
def laneOf (l : Fin 768) : Fin 128 := ⟨l.val % 128, Nat.mod_lt _ (by decide)⟩

theorem lane_split {α : Type} (x : S384x768.Idx → α) (i : Fin 384) (l : Fin 768) : x (ix2 i l) = lane x (headOf l) (ix2 i (laneOf l)) := by
  refine congrArg x (funext fun a => Fin.ext ?_)
  match a with
  | ⟨0, _⟩ => rfl
  | ⟨1, _⟩ => show l.val = 128 * (l.val / 128) + l.val % 128; omega

/-- The rotary embedding's transpose. -/
def unrot (X : ℕ → Fin 128 → ℝ) (R : ℕ) (e : Fin 128) : ℝ := X R e * cosT R e - X R (roll e) * sinT R e

/-- dq, in the rows of the padded sequence. -/
def gdq (XK XV XD : ℕ → ℕ → ℝ) (h : Fin 6) (R : ℕ) (e : Fin 128) : ℝ :=
  unrot (rdq (gam h) (hd (fun R l => rotR (padR XK) R l * scl) h) (hd (padR XV) h) (hd (padR XD) h)) R e

/-- dk, in the rows of the padded sequence. -/
def gdk (XQ XV XD : ℕ → ℕ → ℝ) (h : Fin 6) (R : ℕ) (e : Fin 128) : ℝ :=
  unrot (rdk (gam h) (hd (rotR (padR XQ)) h) (hd (padR XV) h) (hd (padR XD) h)) R e * scl

/-- dv, in the rows of the padded sequence. -/
def gdv (XQ XK XD : ℕ → ℕ → ℝ) (h : Fin 6) (R : ℕ) (e : Fin 128) : ℝ :=
  rdv (gam h) (hd (rotR (padR XQ)) h) (hd (fun R l => rotR (padR XK) R l * scl) h) (hd (padR XD) h) R e

/-- An array of 4224 rows from its heads. -/
def outArr (G : Fin 6 → ℕ → Fin 128 → ℝ) : S4224x768.Idx → EReal := fun i => ((G (headOf (i 1)) (i 0).val (laneOf (i 1)) : ℝ) : EReal)

end Cert.KernelIdeal.Ret
-- ==== Proof.Out.lean ====
module

public import proofs.«01_k».proof.Proof.Blocks

@[expose] public section

set_option maxRecDepth 16384

noncomputable section

namespace Cert.KernelIdeal.Ret

open Idealize.ShloMosaic Idealize.ShloMosaic.TcCoe
open Idealize.SL Idealize.SL.Sem
open Cert.KernelIdeal.Gen

/-! # The three result arrays -/

variable {m : (ℓ : Loc nD τ sig) → Buf (Elt Ideal) ℓ} {c : Dev nD} {XQ XK XV XD : ℕ → ℕ → ℝ}

theorem emb7 (G : S4224x768.Idx → EReal) (t : Fin cfg0.N) (y : S384x768.Idx) :
    G ((win0_7.blk t).view.emb y) = G (ix2 (rowOf t (y 0)) (y 1)) := by
  blk_ext [rowOf, (idxOut t).1]

theorem emb8 (G : S4224x768.Idx → EReal) (t : Fin cfg0.N) (y : S384x768.Idx) :
    G ((win0_8.blk t).view.emb y) = G (ix2 (rowOf t (y 0)) (y 1)) := by
  blk_ext [rowOf, (idxOut t).2.1]

theorem emb9 (G : S4224x768.Idx → EReal) (t : Fin cfg0.N) (y : S384x768.Idx) :
    G ((win0_9.blk t).view.emb y) = G (ix2 (rowOf t (y 0)) (y 1)) := by
  blk_ext [rowOf, (idxOut t).2.2]

/-- A block whose heads hold the rows of `G` is the block of `outArr G`. -/
theorem block_eq (G : Fin 6 → ℕ → Fin 128 → ℝ) (x : S384x768.Idx → EReal) (t : Fin cfg0.N)
    (hx : ∀ h, Is2 (lane x h) (fun i e => G h (384 * (10 - t.val) + i.val) e)) (y : S384x768.Idx) :
    x y = outArr G (ix2 (rowOf t (y 0)) (y 1)) := by
  have e : y = ix2 (y 0) (y 1) := by
    funext a
    match a with
    | ⟨0, _⟩ => rfl
    | ⟨1, _⟩ => rfl
  exact (congrArg x e).trans ((lane_split x (y 0) (y 1)).trans (hx _ _ _))

theorem arr7 (A : Args m c XQ XK XV XD) : (dats m 0 c).arrAt 7 cfg0.N = outArr (gdq XK XV XD) := by
  refine (dats m 0 c).arrAt_eq_of_covers 7 _ (by decide +kernel) fun t hf y => ?_
  blk_simp
  rw [after0_7]
  exact (block_eq _ _ t (fun h => dq_real (blocks A h) t.val t.isLt) y).trans (emb7 _ t y).symm

theorem arr8 (A : Args m c XQ XK XV XD) : (dats m 0 c).arrAt 8 cfg0.N = outArr (gdk XQ XV XD) := by
  refine (dats m 0 c).arrAt_eq_of_covers 8 _ (by decide +kernel) fun t hf y => ?_
  blk_simp
  rw [after0_8]
  exact (block_eq _ _ t (fun h => dk_real (blocks A h) lit_scl t.val t.isLt) y).trans (emb8 _ t y).symm

theorem arr9 (A : Args m c XQ XK XV XD) : (dats m 0 c).arrAt 9 cfg0.N = outArr (gdv XQ XK XD) := by
  refine (dats m 0 c).arrAt_eq_of_covers 9 _ (by decide +kernel) fun t hf y => ?_
  blk_simp
  rw [after0_9]
  exact (block_eq _ _ t (fun h => dv_real (blocks A h) t.val t.isLt) y).trans (emb9 _ t y).symm

end Cert.KernelIdeal.Ret
-- ==== Proof.Ref.lean ====
module

public import proofs.«01_k».proof.Proof.Blocks
public import proofs.«01_k».proof.Proof.Gen.ReferenceIdeal.Read

@[expose] public section

set_option maxRecDepth 16384

noncomputable section

namespace Cert.ReferenceIdeal.Ret

open Idealize.ShloMosaic Idealize.ShloMosaic.TcCoe
open Idealize.SL Idealize.SL.Sem
open Cert.ReferenceIdeal.Gen Cert.ReferenceIdeal.Read Cert.KernelIdeal.Ret

/-! # What the reference reads and computes, in real numbers

Row `r` of the reference is row `r + 112` of the padded sequence. -/

theorem rInv_real (i : S64.Idx) : val_main_v14 (F := Ideal) i = ((freq (i 0).val : ℝ) : EReal) := by
  have h : (i 0).val < 64 := (i 0).isLt
  simp only [val_main_v14, val_main_v13, val_main_v12, val_main_v11, val_main_v10, val_main_v9, val_main_v8, val_main_v7, val_main_v6, val_main_v5,
    val_main_v4, val_main_cst, val_main_cst_0, val_main_cst_1, val_main_cst_2, val_main_cst_3, pointwise]
  rw [sitofp_nat _ (by omega), lit_2, lit_10000, lit_128, ← EReal.coe_one, ← EReal.coe_zero, ← EReal.coe_mul, ← EReal.coe_add,
    div_coe _ _ (by norm_num), epow, div_coe _ _ (rpow_ne _), zero_add]
  rfl

theorem rAng_real (i : S4112x64.Idx) : val_main_v19 (F := Ideal) i = ((ang ((i 0).val + 112) (i 1).val : ℝ) : EReal) := by
  have h : (i 0).val < 4112 := (i 0).isLt
  simp only [val_main_v19, val_main_v18, val_main_v17, val_main_v16, val_main_v15, val_main_v3, pointwise, rInv_real]
  change FloatOps.sitofp (F := Ideal) FTy.f32 (BitVec.ofNat 32 (i 0).val) * ((freq (i 1).val : ℝ) : EReal) = _
  rw [sitofp_nat _ (by omega), ← EReal.coe_mul]
  unfold ang
  exact congrArg (fun t : ℝ => ((t * freq (i 1).val : ℝ) : EReal)) (by push_cast; ring)

theorem rCos_real (i : S1x4112x1x64.Idx) : val_main_v21 (F := Ideal) i = ((Real.cos (ang ((i 1).val + 112) (i 3).val) : ℝ) : EReal) := by
  simp only [val_main_v21, val_main_v20, pointwise, rAng_real, ecos]
  rfl

theorem rSin_real (i : S1x4112x1x64.Idx) : val_main_v23 (F := Ideal) i = ((Real.sin (ang ((i 1).val + 112) (i 3).val) : ℝ) : EReal) := by
  simp only [val_main_v23, val_main_v22, pointwise, rAng_real, esin]
  rfl

/-- An array of rows and heads that holds `X` of the padded sequence. -/
def IsRow (x : S1x4112x6x128.Idx → EReal) (X : ℕ → ℕ → ℝ) : Prop :=
  ∀ i : S1x4112x6x128.Idx, x i = ((X ((i 1).val + 112) (128 * (i 2).val + (i 3).val) : ℝ) : EReal)

theorem padR_row (X : ℕ → ℕ → ℝ) (r l : ℕ) : padR X (r + 112) l = X r l := by
  unfold padR
  rw [if_pos (Nat.le_add_left _ _), Nat.add_sub_cancel]

theorem padR_zero (X : ℕ → ℕ → ℝ) {R : ℕ} (h : R < 112) (l : ℕ) : padR X R l = 0 := if_neg (not_le.2 h)

theorem rV0_real {x : S1x4112x768.Idx → EReal} {X} (hx : IsArg x X) : IsRow (val_main_v0 (F := Ideal) x) (padR X) := by
  intro i
  simp only [val_main_v0, pointwise, hx _]
  rw [padR_row, mul_comm 128]

theorem rV1_real {x : S1x4112x768.Idx → EReal} {X} (hx : IsArg x X) : IsRow (val_main_v1 (F := Ideal) x) (padR X) := rV0_real hx

theorem rV2_real {x : S1x4112x768.Idx → EReal} {X} (hx : IsArg x X) : IsRow (val_main_v2 (F := Ideal) x) (padR X) := rV0_real hx

theorem rD_real {x : S1x4112x768.Idx → EReal} {X} (hx : IsArg x X) : IsRow (val_main_v85 (F := Ideal) x) (padR X) := rV0_real hx

theorem rotR_at (X : ℕ → ℕ → ℝ) (R h e : ℕ) (he : e < 128) :
    rotR X R (128 * h + e) = X R (128 * h + e) * cosT R ⟨e, he⟩ + X R (128 * h + (e + 64) % 128) * sinT R ⟨e, he⟩ := by
  unfold rotR
  have h1 : (128 * h + e) % 128 = e := by omega
  have h2 : (128 * h + e) / 128 * 128 + (e + 64) % 128 = 128 * h + (e + 64) % 128 := by omega
  simp only [h1, h2]

theorem cosT_lo {R e : ℕ} (he : e < 64) : cosT R ⟨e, by omega⟩ = Real.cos (ang R e) := by
  unfold cosT; rw [Nat.mod_eq_of_lt he]

theorem sinT_lo {R e : ℕ} (he : e < 64) : sinT R ⟨e, by omega⟩ = - Real.sin (ang R e) := by
  unfold sinT; rw [Nat.mod_eq_of_lt he]; exact if_pos he

theorem cosT_hi {R e : ℕ} (he : e < 64) : cosT R ⟨e + 64, by omega⟩ = Real.cos (ang R e) := by
  unfold cosT; exact congrArg (fun n => Real.cos (ang R n)) (show (e + 64) % 64 = e by omega)

theorem sinT_hi {R e : ℕ} (he : e < 64) : sinT R ⟨e + 64, by omega⟩ = Real.sin (ang R e) := by
  unfold sinT
  exact (if_neg (show ¬ e + 64 < 64 by omega)).trans (congrArg (fun n => Real.sin (ang R n)) (show (e + 64) % 64 = e by omega))

/-- The first half of a rotated row. -/
theorem rotR_lo (X : ℕ → ℕ → ℝ) (R h : ℕ) {e : ℕ} (he : e < 64) :
    rotR X R (128 * h + e) = X R (128 * h + e) * Real.cos (ang R e) - X R (128 * h + (64 + e)) * Real.sin (ang R e) := by
  rw [rotR_at X R h e (by omega), cosT_lo he, sinT_lo he, show (e + 64) % 128 = 64 + e by omega]
  ring

/-- The second half of a rotated row. -/
theorem rotR_hi (X : ℕ → ℕ → ℝ) (R h : ℕ) {e : ℕ} (he : e < 64) :
    rotR X R (128 * h + (e + 64)) = X R (128 * h + e) * Real.sin (ang R e) + X R (128 * h + (64 + e)) * Real.cos (ang R e) := by
  rw [rotR_at X R h (e + 64) (by omega), cosT_hi he, sinT_hi he, show (e + 64 + 64) % 128 = e by omega, Nat.add_comm e 64]
  ring

theorem rRot_real {x : S1x4112x768.Idx → EReal} {X} (hx : IsArg x X) : IsRow (val_main_v36 (F := Ideal) x) (rotR (padR X)) := by
  intro i
  have h3 : (i 3).val < 128 := (i 3).isLt
  simp only [val_main_v36, val_main_v35, val_main_v34, val_main_v33, val_main_v32, val_main_v31, val_main_v30, val_main_v29, val_main_v28,
    val_main_v27, val_main_v26, val_main_v25, val_main_v24, pointwise, rV0_real hx _, rCos_real, rSin_real, ← EReal.coe_mul, ← EReal.coe_sub,
    ← EReal.coe_add]
  split
  · rename_i h
    refine congrArg Real.toEReal (Eq.trans ?_ (rotR_lo (padR X) ((i 1).val + 112) (i 2).val (e := (i 3).val) h).symm)
    change padR X (0 + (i 1).val + 112) (128 * (0 + (i 2).val) + (0 + (i 3).val)) * _ - padR X (0 + (i 1).val + 112) (128 * (0 + (i 2).val) + (64 + (i 3).val)) * _ = _
    simp only [Nat.zero_add]
    rfl
  · rename_i h
    have h4 : ¬ (i 3).val < 64 := h
    obtain ⟨e, he⟩ : ∃ e, (i 3).val = e + 64 := ⟨(i 3).val - 64, by omega⟩
    have h5 := rotR_hi (padR X) ((i 1).val + 112) (i 2).val (e := e) (by omega)
    rw [← he] at h5
    refine congrArg Real.toEReal (Eq.trans ?_ h5.symm)
    have he2 : e = (i 3).val - 64 := by omega
    subst he2
    change padR X (0 + (i 1).val + 112) (128 * (0 + (i 2).val) + (0 + ((i 3).val - 64))) * _ + padR X (0 + (i 1).val + 112) (128 * (0 + (i 2).val) + (64 + ((i 3).val - 64))) * _ = _
    simp only [Nat.zero_add]
    rfl

theorem rRotK_real {x : S1x4112x768.Idx → EReal} {X} (hx : IsArg x X) : IsRow (val_main_v51 (F := Ideal) x) (fun R l => rotR (padR X) R l * scl) := by
  intro i
  have h : val_main_v49 (F := Ideal) x i = _ := rRot_real hx i
  simp only [val_main_v51, val_main_v50, val_main_cst_4, pointwise, h, lit_scl, ← EReal.coe_mul]

theorem rDecay_real (i : S1x6x4112x4112.Idx) : val_main_v81 (F := Ideal) i
    = (((if (i 3).val ≤ (i 2).val then gam (i 1) ^ ((i 2).val - (i 3).val) else 0) : ℝ) : EReal) := by
  have h1 : (i 1).val < 6 := (i 1).isLt
  have h2 : (i 2).val < 4112 := (i 2).isLt
  have h3 : (i 3).val < 4112 := (i 3).isLt
  simp only [val_main_v81, val_main_v76, val_main_v75, val_main_v74, val_main_v73, val_main_v72, val_main_v71, val_main_v70, val_main_v69,
    val_main_v68, val_main_v67, val_main_v66, val_main_v65, val_main_v64, val_main_v63, val_main_v62, val_main_v61, val_main_v60, val_main_v59,
    val_main_v58, val_main_v57, val_main_v56, val_main_v55, val_main_v54, val_main_v53, val_main_v52, val_main_cst_5, val_main_cst_6,
    val_main_cst_7, val_main_cst_8, val_main_cst_9, val_main_call0_v0, val_main_call0_v1, val_main_call0_v2, pointwise]
  have z : id (constant (F := Ideal) S_ FTy.f32 0#32) ix0 = (0 : EReal) := by simp only [id, pointwise]
  rw [z]
  change (if (0 : EReal) ≤ FloatOps.sitofp (F := Ideal) FTy.f32 (BitVec.ofNat 32 (i 2).val) - FloatOps.sitofp (F := Ideal) FTy.f32 (BitVec.ofNat 32 (i 3).val) then
      Ideal.exp (max (FloatOps.sitofp (F := Ideal) FTy.f32 (BitVec.ofNat 32 (i 2).val) - FloatOps.sitofp (F := Ideal) FTy.f32 (BitVec.ofNat 32 (i 3).val)) 0
        * Ideal.log1p (-Ideal.pow (Ideal.ofBits FTy.f32 1073741824#32)
            (Ideal.ofBits FTy.f32 3231711232#32 - FloatOps.sitofp (F := Ideal) FTy.f32 (BitVec.ofNat 32 (i 1).val)))) else 0) = _
  rw [sitofp_nat _ (by omega), sitofp_nat _ (by omega), sitofp_nat _ (by omega), lit_2, lit_m5, log_gam _ h1, ← EReal.coe_sub]
  by_cases hlt : (i 3).val ≤ (i 2).val
  · have e1 : (((i 2).val : ℝ) - ((i 3).val : ℝ) : ℝ) = (((i 2).val - (i 3).val : ℕ) : ℝ) := (Nat.cast_sub hlt).symm
    have h2 : (0 : EReal) ≤ ((((i 2).val - (i 3).val : ℕ) : ℝ) : EReal) := by exact_mod_cast Nat.zero_le _
    rw [e1, if_pos h2, max_eq_left h2, ← EReal.coe_mul, eexp]
    refine (congrArg Real.toEReal (exp_log_pow (gam_pos _) _)).trans ?_
    exact congrArg Real.toEReal (if_pos hlt).symm
  · have h1 : (((i 2).val : ℝ) - ((i 3).val : ℝ) : ℝ) < 0 := by
      have : ((i 2).val : ℝ) < ((i 3).val : ℝ) := by exact_mod_cast not_le.1 hlt
      linarith
    have h2 : ¬ (0 : EReal) ≤ ((((i 2).val : ℝ) - ((i 3).val : ℝ) : ℝ) : EReal) := by
      rw [not_le]; exact_mod_cast h1
    rw [if_neg h2]
    exact (congrArg Real.toEReal (if_neg hlt).symm)

/-- An array of heads and rows that holds `X` of the padded sequence. -/
def IsHead (x : S1x6x4112x128.Idx → EReal) (X : Fin 6 → ℕ → Fin 128 → ℝ) : Prop :=
  ∀ i : S1x6x4112x128.Idx, x i = ((X (i 1) ((i 2).val + 112) (i 3) : ℝ) : EReal)

variable {x0 x1 x2 x3 : S1x4112x768.Idx → EReal} {XQ XK XV XD : ℕ → ℕ → ℝ}

theorem rQ_real (hx : IsArg x0 XQ) : IsHead (val_main_v77 (F := Ideal) x0) (hd (rotR (padR XQ))) := by
  intro i
  simp only [val_main_v77, pointwise, rRot_real hx _]
  rfl

theorem rK_real (hx : IsArg x1 XK) : IsHead (val_main_v78 (F := Ideal) x1) (hd (fun R l => rotR (padR XK) R l * scl)) := by
  intro i
  simp only [val_main_v78, pointwise, rRotK_real hx _]
  rfl

theorem rV_real (hx : IsArg x2 XV) : IsHead (val_main_v79 (F := Ideal) x2) (hd (padR XV)) := by
  intro i
  simp only [val_main_v79, pointwise, rV2_real hx _]
  rfl

theorem rDo_real (hx : IsArg x3 XD) : IsHead (val_main_v86 (F := Ideal) x3) (hd (padR XD)) := by
  intro i
  simp only [val_main_v86, pointwise, rD_real hx _]
  rfl

theorem rScores_real (h0 : IsArg x0 XQ) (h1 : IsArg x1 XK) (i : S1x6x4112x4112.Idx) : val_main_v82 (F := Ideal) x0 x1 i
    = (((∑ e, hd (rotR (padR XQ)) (i 1) ((i 2).val + 112) e * hd (fun R l => rotR (padR XK) R l * scl) (i 1) ((i 3).val + 112) e)
        * (if (i 3).val ≤ (i 2).val then gam (i 1) ^ ((i 2).val - (i 3).val) else 0) : ℝ) : EReal) := by
  simp only [val_main_v82, val_main_v80, pointwise, rQ_real h0 _, rK_real h1 _, rDecay_real, ← EReal.coe_mul, ← coe_sum, zero_add]

theorem rDScores_real (h2 : IsArg x2 XV) (h3 : IsArg x3 XD) (i : S1x6x4112x4112.Idx) : val_main_v90 (F := Ideal) x2 x3 i
    = (((∑ b, hd (padR XD) (i 1) ((i 2).val + 112) b * hd (padR XV) (i 1) ((i 3).val + 112) b)
        * (if (i 3).val ≤ (i 2).val then gam (i 1) ^ ((i 2).val - (i 3).val) else 0) : ℝ) : EReal) := by
  simp only [val_main_v90, val_main_v89, pointwise, rDo_real h3 _, rV_real h2 _, rDecay_real, ← EReal.coe_mul, ← coe_sum, zero_add]

/-- The past of a row, when the padding's rows add nothing. -/
theorem past_rows (γ : ℝ) (i : ℕ) (a : ℕ → ℝ) (ha : ∀ r, r < 112 → a r = 0) :
    past γ 4224 (i + 112) a = ∑ x : Fin 4112, (if x.val ≤ i then γ ^ (i - x.val) else 0) * a (x.val + 112) := by
  unfold past
  rw [show 4224 = 112 + 4112 from rfl, Finset.sum_range_add, Finset.sum_eq_zero, zero_add, Finset.sum_range]
  · refine Finset.sum_congr rfl fun x _ => ?_
    rw [Nat.add_comm 112 x.val, Nat.add_sub_add_right, ite_mul, zero_mul]
    exact if_congr (Nat.add_le_add_iff_right) rfl rfl
  · intro r hr
    rw [ha r (Finset.mem_range.1 hr), mul_zero, ite_self]

/-- The future of a row has none of the padding's rows. -/
theorem future_rows (γ : ℝ) (j : ℕ) (a : ℕ → ℝ) :
    future γ 4224 (j + 112) a = ∑ x : Fin 4112, (if j ≤ x.val then γ ^ (x.val - j) else 0) * a (x.val + 112) := by
  unfold future
  rw [show 4224 = 112 + 4112 from rfl, Finset.sum_range_add, Finset.sum_eq_zero, zero_add, Finset.sum_range]
  · refine Finset.sum_congr rfl fun x _ => ?_
    rw [Nat.add_comm 112 x.val, Nat.add_sub_add_right, ite_mul, zero_mul]
    exact if_congr (Nat.add_le_add_iff_right) rfl rfl
  · intro r hr
    exact if_neg (by have := Finset.mem_range.1 hr; omega)

theorem hd_zero (X : ℕ → ℕ → ℝ) (h : Fin 6) {R : ℕ} (hR : R < 112) (e : Fin 128) : hd (padR X) h R e = 0 := padR_zero X hR _

theorem hd_rot_zero (X : ℕ → ℕ → ℝ) (h : Fin 6) {R : ℕ} (hR : R < 112) (e : Fin 128) : hd (fun R l => rotR (padR X) R l * scl) h R e = 0 := by
  unfold hd rotR
  simp only [padR_zero X hR, zero_mul, add_zero]

theorem rdq_rows (γ : ℝ) (K V D : ℕ → Fin 128 → ℝ) (hK : ∀ r, r < 112 → ∀ e, K r e = 0) (i : ℕ) (e : Fin 128) :
    ∑ x : Fin 4112, (∑ b, D (i + 112) b * V (x.val + 112) b) * (if x.val ≤ i then γ ^ (i - x.val) else 0) * K (x.val + 112) e
      = rdq γ K V D (i + 112) e := by
  unfold rdq
  rw [past_rows _ _ _ fun r hr => by rw [hK r hr, mul_zero]]
  refine Finset.sum_congr rfl fun x _ => ?_
  rw [mul_right_comm, mul_comm]

theorem rdk_rows (γ : ℝ) (Q V D : ℕ → Fin 128 → ℝ) (j : ℕ) (e : Fin 128) :
    ∑ x : Fin 4112, (∑ b, D (x.val + 112) b * V (j + 112) b) * (if j ≤ x.val then γ ^ (x.val - j) else 0) * Q (x.val + 112) e
      = rdk γ Q V D (j + 112) e := by
  unfold rdk
  rw [future_rows]
  refine Finset.sum_congr rfl fun x _ => ?_
  rw [mul_right_comm, mul_comm]

theorem rdv_rows (γ : ℝ) (Q K D : ℕ → Fin 128 → ℝ) (j : ℕ) (b : Fin 128) :
    ∑ x : Fin 4112, D (x.val + 112) b * ((∑ e, Q (x.val + 112) e * K (j + 112) e) * (if j ≤ x.val then γ ^ (x.val - j) else 0))
      = rdv γ Q K D (j + 112) b := by
  unfold rdv
  rw [future_rows]
  refine Finset.sum_congr rfl fun x _ => ?_
  rw [← mul_assoc, mul_comm, mul_comm (D _ _)]

theorem rDq_real (h1 : IsArg x1 XK) (h2 : IsArg x2 XV) (h3 : IsArg x3 XD) :
    IsHead (val_main_v92 (F := Ideal) x1 x2 x3) (fun h => rdq (gam h) (hd (fun R l => rotR (padR XK) R l * scl) h) (hd (padR XV) h) (hd (padR XD) h)) := by
  intro i
  simp only [val_main_v92, pointwise, rDScores_real h2 h3, rK_real h1 _, ← EReal.coe_mul, ← coe_sum, zero_add]
  exact congrArg Real.toEReal (rdq_rows _ _ _ _ (fun r hr e => hd_rot_zero XK _ hr e) (i 2).val (i 3))

theorem rDk_real (h0 : IsArg x0 XQ) (h2 : IsArg x2 XV) (h3 : IsArg x3 XD) :
    IsHead (val_main_v91 (F := Ideal) x0 x2 x3) (fun h => rdk (gam h) (hd (rotR (padR XQ)) h) (hd (padR XV) h) (hd (padR XD) h)) := by
  intro i
  simp only [val_main_v91, pointwise, rDScores_real h2 h3, rQ_real h0 _, ← EReal.coe_mul, ← coe_sum, zero_add]
  exact congrArg Real.toEReal (rdk_rows _ _ _ _ (i 2).val (i 3))

theorem rDv_real (h0 : IsArg x0 XQ) (h1 : IsArg x1 XK) (h3 : IsArg x3 XD) :
    IsHead (val_main_v88 (F := Ideal) x0 x1 x3)
      (fun h => rdv (gam h) (hd (rotR (padR XQ)) h) (hd (fun R l => rotR (padR XK) R l * scl) h) (hd (padR XD) h)) := by
  intro i
  simp only [val_main_v88, val_main_v87, pointwise, rScores_real h0 h1, rDo_real h3 _, ← EReal.coe_mul, ← coe_sum, zero_add]
  exact congrArg Real.toEReal (rdv_rows _ _ _ _ (i 2).val (i 3))

end Cert.ReferenceIdeal.Ret
-- ==== Proof.RefOut.lean ====
module

public import proofs.«01_k».proof.Proof.Ref

@[expose] public section

set_option maxRecDepth 16384

noncomputable section

namespace Cert.ReferenceIdeal.Ret

open Idealize.ShloMosaic Idealize.ShloMosaic.TcCoe
open Idealize.SL Idealize.SL.Sem
open Cert.ReferenceIdeal.Gen Cert.ReferenceIdeal.Read Cert.KernelIdeal.Ret

/-! # The reference's results -/

/-- An array of rows and heads that holds `G` of the padded sequence. -/
def IsGrad (x : S1x4112x6x128.Idx → EReal) (G : Fin 6 → ℕ → Fin 128 → ℝ) : Prop :=
  ∀ i : S1x4112x6x128.Idx, x i = ((G (i 2) ((i 1).val + 112) (i 3) : ℝ) : EReal)

/-- The rotary embedding's transpose as the reference has it: two halves, each put into zeros. -/
def unrotA (y : S1x4112x6x128.Idx → EReal) : S1x4112x6x128.Idx → EReal :=
  addf (F := Ideal) (φ := .f32)
    (pad S1x4112x6x128 ![0, 0, 0, 64] ![0, 0, 0, 0] ![0, 0, 0, 0]
      (addf (F := Ideal) (φ := .f32) (mulf (extractStridedSlice S1x4112x6x64 ![0, 0, 0, 64] y slices_S1x4112x6x128_S1x4112x6x64_0_0_0_64) (val_main_v116 (F := Ideal)))
        (mulf (Host.negf (F := Ideal) (φ := .f32) (extractStridedSlice S1x4112x6x64 ![0, 0, 0, 0] y slices_S1x4112x6x128_S1x4112x6x64_0_0_0_0)) (val_main_v121 (F := Ideal))))
      (val_main_cst_13 (F := Ideal)) pads_S1x4112x6x64_S1x4112x6x128_000_000_000_6400 h_S_)
    (pad S1x4112x6x128 ![0, 0, 0, 0] ![0, 0, 0, 64] ![0, 0, 0, 0]
      (addf (F := Ideal) (φ := .f32) (mulf (extractStridedSlice S1x4112x6x64 ![0, 0, 0, 64] y slices_S1x4112x6x128_S1x4112x6x64_0_0_0_64) (val_main_v121 (F := Ideal)))
        (mulf (extractStridedSlice S1x4112x6x64 ![0, 0, 0, 0] y slices_S1x4112x6x128_S1x4112x6x64_0_0_0_0) (val_main_v116 (F := Ideal))))
      (val_main_cst_13 (F := Ideal)) pads_S1x4112x6x64_S1x4112x6x128_000_000_000_0640 h_S_)

theorem unrotA_at {y : S1x4112x6x128.Idx → EReal} {Y : ℕ → ℕ → ℕ → ℝ} (hy : ∀ i : S1x4112x6x128.Idx, y i = ((Y (i 2).val (i 1).val (i 3).val : ℝ) : EReal))
    (i : S1x4112x6x128.Idx) :
    unrotA y i = (((if (i 3).val < 64
      then Y (i 2).val (i 1).val (64 + (i 3).val) * Real.sin (ang ((i 1).val + 112) (i 3).val) + Y (i 2).val (i 1).val (i 3).val * Real.cos (ang ((i 1).val + 112) (i 3).val)
      else Y (i 2).val (i 1).val (64 + ((i 3).val - 64)) * Real.cos (ang ((i 1).val + 112) ((i 3).val - 64))
        + -Y (i 2).val (i 1).val ((i 3).val - 64) * Real.sin (ang ((i 1).val + 112) ((i 3).val - 64)) : ℝ)) : EReal) := by
  have h1 : (i 1).val < 4112 := (i 1).isLt
  have h2 : (i 2).val < 6 := (i 2).isLt
  have h3 : (i 3).val < 128 := (i 3).isLt
  simp only [unrotA, val_main_v116, val_main_v121, val_main_cst_13, pointwise, hy _, rCos_real, rSin_real, ← EReal.coe_mul, ← EReal.coe_add, ← EReal.coe_neg]
  by_cases h : (i 3).val < 64
  · rw [dif_neg, dif_pos, if_pos h, zero_add]
    · refine congrArg Real.toEReal ?_
      change Y (0 + ((i 2).val - 0) / (0 + 1)) (0 + ((i 1).val - 0) / (0 + 1)) (64 + ((i 3).val - 0) / (0 + 1))
          * Real.sin (ang (((i 1).val - 0) / (0 + 1) + 112) (((i 3).val - 0) / (0 + 1)))
        + Y (0 + ((i 2).val - 0) / (0 + 1)) (0 + ((i 1).val - 0) / (0 + 1)) (0 + ((i 3).val - 0) / (0 + 1))
          * Real.cos (ang (((i 1).val - 0) / (0 + 1) + 112) (((i 3).val - 0) / (0 + 1))) = _
      simp only [Nat.zero_add, Nat.sub_zero, Nat.div_one]
    · refine ⟨⟨Nat.zero_le _, rfl, Nat.one_pos⟩, ⟨Nat.zero_le _, ?_, ?_⟩, ⟨Nat.zero_le _, ?_, ?_⟩, ⟨Nat.zero_le _, ?_, ?_⟩⟩
      · show ((i 1).val - 0) % 1 = 0; omega
      · show ((i 1).val - 0) / 1 < 4112; omega
      · show ((i 2).val - 0) % 1 = 0; omega
      · show ((i 2).val - 0) / 1 < 6; omega
      · show ((i 3).val - 0) % 1 = 0; omega
      · show ((i 3).val - 0) / 1 < 64; omega
    · intro h'
      exact absurd (show 64 ≤ (i 3).val from h'.2.2.2.1) (by omega)
  · rw [dif_pos, dif_neg, if_neg h, add_zero]
    · refine congrArg Real.toEReal ?_
      change Y (0 + ((i 2).val - 0) / (0 + 1)) (0 + ((i 1).val - 0) / (0 + 1)) (64 + ((i 3).val - 64) / (0 + 1))
          * Real.cos (ang (((i 1).val - 0) / (0 + 1) + 112) (((i 3).val - 64) / (0 + 1)))
        + -Y (0 + ((i 2).val - 0) / (0 + 1)) (0 + ((i 1).val - 0) / (0 + 1)) (0 + ((i 3).val - 64) / (0 + 1))
          * Real.sin (ang (((i 1).val - 0) / (0 + 1) + 112) (((i 3).val - 64) / (0 + 1))) = _
      simp only [Nat.zero_add, Nat.sub_zero, Nat.div_one]
    · intro h'
      have h4 : ((i 3).val - 0) / 1 < 64 := h'.2.2.2.2.2
      omega
    · refine ⟨⟨Nat.zero_le _, rfl, Nat.one_pos⟩, ⟨Nat.zero_le _, ?_, ?_⟩, ⟨Nat.zero_le _, ?_, ?_⟩, ⟨?_, ?_, ?_⟩⟩
      · show ((i 1).val - 0) % 1 = 0; omega
      · show ((i 1).val - 0) / 1 < 4112; omega
      · show ((i 2).val - 0) % 1 = 0; omega
      · show ((i 2).val - 0) / 1 < 6; omega
      · show 64 ≤ (i 3).val; omega
      · show ((i 3).val - 64) % 1 = 0; omega
      · show ((i 3).val - 64) / 1 < 64; omega

/-- `G` with its bounds forgotten. -/
def wide (G : Fin 6 → ℕ → Fin 128 → ℝ) (h r e : ℕ) : ℝ := if hh : h < 6 ∧ e < 128 then G ⟨h, hh.1⟩ (r + 112) ⟨e, hh.2⟩ else 0

theorem wide_eq (G : Fin 6 → ℕ → Fin 128 → ℝ) (h : Fin 6) (r : ℕ) (e : ℕ) (he : e < 128) : wide G h.val r e = G h (r + 112) ⟨e, he⟩ := dif_pos ⟨h.isLt, he⟩

theorem unrot_halves (G : Fin 6 → ℕ → Fin 128 → ℝ) (h : Fin 6) (r : ℕ) (e : Fin 128) :
    (if e.val < 64
      then wide G h.val r (64 + e.val) * Real.sin (ang (r + 112) e.val) + wide G h.val r e.val * Real.cos (ang (r + 112) e.val)
      else wide G h.val r (64 + (e.val - 64)) * Real.cos (ang (r + 112) (e.val - 64)) + -wide G h.val r (e.val - 64) * Real.sin (ang (r + 112) (e.val - 64)))
      = unrot (G h) (r + 112) e := by
  obtain ⟨e, he⟩ := e
  unfold unrot
  by_cases hlt : e < 64
  · rw [if_pos hlt, cosT_lo hlt, sinT_lo hlt, wide_eq G h r _ (show 64 + e < 128 by omega), wide_eq G h r _ he]
    have hr : roll ⟨e, he⟩ = ⟨64 + e, by omega⟩ := Fin.ext (show (e + 64) % 128 = 64 + e by omega)
    rw [hr]; ring
  · obtain ⟨f, rfl⟩ : ∃ f, e = f + 64 := ⟨e - 64, by omega⟩
    have hf : f < 64 := by omega
    have hr : roll ⟨f + 64, he⟩ = ⟨f, by omega⟩ := Fin.ext (show (f + 64 + 64) % 128 = f by omega)
    rw [if_neg hlt, cosT_hi hf, sinT_hi hf, hr]
    show wide G h.val r (64 + (f + 64 - 64)) * Real.cos (ang (r + 112) (f + 64 - 64)) + -wide G h.val r (f + 64 - 64) * Real.sin (ang (r + 112) (f + 64 - 64)) = _
    rw [Nat.add_sub_cancel, Nat.add_comm 64 f, wide_eq G h r _ he, wide_eq G h r f (by omega)]
    ring

theorem unrotA_real {y : S1x4112x6x128.Idx → EReal} {G : Fin 6 → ℕ → Fin 128 → ℝ} (hy : IsGrad y G) : IsGrad (unrotA y) (fun h => unrot (G h)) := by
  intro i
  refine (unrotA_at (Y := wide G) (fun j => (hy j).trans ?_) i).trans (congrArg Real.toEReal (unrot_halves G (i 2) (i 1).val (i 3)))
  exact congrArg Real.toEReal (wide_eq G (j 2) (j 1).val (j 3).val (j 3).isLt).symm

/-- A result: rows and heads laid side by side under the padding's zero rows. -/
def padA (x : S1x4112x6x128.Idx → EReal) : S4224x768.Idx → EReal :=
  pad S4224x768 ![112, 0] ![0, 0] ![0, 0]
    (shapeCast _ (shapeCast _ x shapeCasts_S1x4112x6x128_S1x4112x768) shapeCasts_S1x4112x768_S4112x768 : S4112x768.Idx → EReal) (val_main_call1_v0 (F := Ideal))
    pads_S4112x768_S4224x768_11200_000 h_S_

theorem padA_real {x : S1x4112x6x128.Idx → EReal} {G : Fin 6 → ℕ → Fin 128 → ℝ} (hx : IsGrad x G) (hG : ∀ h R e, R < 112 → G h R e = 0) :
    padA x = outArr G := by
  funext i
  have h0 : (i 0).val < 4224 := (i 0).isLt
  have h1 : (i 1).val < 768 := (i 1).isLt
  simp only [padA, val_main_call1_v0, val_main_c, pointwise, hx _]
  unfold outArr
  split
  · rename_i h
    have h2 : 112 ≤ (i 0).val := h.1.1
    refine congrArg Real.toEReal ?_
    have e1 : ((i 0).val - 112) / 1 + 112 = (i 0).val := by omega
    have e2 : ((i 1).val - 0) / 1 = (i 1).val := by omega
    have e3 : ∀ (a b : Fin 6) (R S : ℕ) (e f : Fin 128), a.val = b.val → R = S → e.val = f.val → G a R e = G b S f := by
      intro a b R S e f h1 h2 h3
      rw [Fin.ext h1, h2, Fin.ext h3]
    refine e3 _ _ _ _ _ _ ?_ e1 ?_
    · show ((i 1).val - 0) / 1 / 128 = (i 1).val / 128; rw [e2]
    · show ((i 1).val - 0) / 1 % 128 = (i 1).val % 128; rw [e2]
  · rename_i h
    have h2 : (i 0).val < 112 := by
      by_contra h2
      exact h ⟨⟨not_lt.1 h2, (show ((i 0).val - 112) % 1 = 0 by omega), (show ((i 0).val - 112) / 1 < 4112 by omega)⟩,
        Nat.zero_le _, (show ((i 1).val - 0) % 1 = 0 by omega), (show ((i 1).val - 0) / 1 < 768 by omega)⟩
    rw [hG _ _ _ h2]
    show FloatOps.sitofp (F := Ideal) FTy.f32 (BitVec.ofNat 32 0) = _
    rw [sitofp_nat 0 (by norm_num)]; simp

end Cert.ReferenceIdeal.Ret
-- ==== Proof.Finite.lean ====
module

public import proofs.«01_k».proof.Defs
public import proofs.«01_k».proof.Proof.Gen.Pre_finite
public import proofs.«01_k».proof.Proof.Out
public import proofs.«01_k».proof.Proof.RefOut
public import Idealize.ShloMosaic.Lib.Pointwise

@[expose] public section

set_option maxRecDepth 16384

noncomputable section

namespace Cert.Finite

open Idealize.ShloMosaic Idealize.ShloMosaic.TcCoe
open Cert.Pre_finite Cert.Pre_finite.Gen Cert.KernelIdeal.Ret

/-! # Finite arguments are real numbers -/

theorem and_one {a b : BitVec 1} (h : IntOp.andi a b = 1#1) : a = 1#1 ∧ b = 1#1 := by
  revert a b; decide

/-- A conjunction of bits is true only where each bit is. -/
theorem fold_and {ι : Type} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha] at h
    intro i hi
    rcases Finset.mem_insert.1 hi with rfl | hi
    · exact (and_one h).1
    · exact ih (and_one h).2 i hi

theorem real_of_bit {x : EReal} (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have hinf : FloatOps.ofBits (F := Ideal) .f32 0x7F800000#32 = (⊤ : EReal) := by simp [FloatOps.ofBits, Ideal.ofBits, Ideal.ieee]
  rw [hinf] at h
  have hlt : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  have h1 : x ≠ ⊤ := fun e => by simp [e] at hlt
  have h2 : x ≠ ⊥ := fun e => by simp [e] at hlt
  exact (EReal.coe_toReal h1 h2).symm

/-- One argument's part of the precondition. -/
theorem real_of_reduce {x : S1x4112x768.Idx → EReal} {j : S_.Idx}
    (h : Host.reduce IntOp.andi (cmpf (F := Ideal) (φ := .f32) .olt (Host.absf x) (broadcastInDim S1x4112x768 ![] Facts.bcast_S_S1x4112x768 (constant S_ .f32 0x7F800000#32)))
      (constantI S_ 1 1#1) Facts.reducesTo_S1x4112x768_S_d0_1_2 Facts.h_S_ j = 1#1) (i : S1x4112x768.Idx) : x i = (((x i).toReal : ℝ) : EReal) := by
  rw [Host.reduce_eq_fold] at h
  refine real_of_bit (fold_and _ _ h i (Finset.mem_filter.2 ⟨Finset.mem_univ _, ?_⟩))
  funext a
  exact a.elim0

/-- The real numbers of an argument. -/
def toR (x : S1x4112x768.Idx → EReal) (r l : ℕ) : ℝ :=
  (x (ix3 (0 : Fin 1) (⟨r % 4112, Nat.mod_lt _ (by decide)⟩ : Fin 4112) (⟨l % 768, Nat.mod_lt _ (by decide)⟩ : Fin 768))).toReal

theorem isArg_toR {x : S1x4112x768.Idx → EReal} (h : ∀ i, x i = (((x i).toReal : ℝ) : EReal)) : IsArg x (toR x) := by
  intro i
  refine (h i).trans (congrArg (fun y => (((x y).toReal : ℝ) : EReal)) (funext fun a => Fin.ext ?_))
  match a with
  | ⟨0, h0⟩ => exact Nat.lt_one_iff.1 (i ⟨0, h0⟩).isLt
  | ⟨1, h1⟩ => exact (Nat.mod_eq_of_lt (i ⟨1, h1⟩).isLt).symm
  | ⟨2, h2⟩ => exact (Nat.mod_eq_of_lt (i ⟨2, h2⟩).isLt).symm

theorem isArg_all {q k v d : S1x4112x768.Idx → EReal} (h : Cert.Pre_finite.fn (F := Ideal) q k v d = fun _ => 1#1) :
    IsArg q (toR q) ∧ IsArg k (toR k) ∧ IsArg v (toR v) ∧ IsArg d (toR d) := by
  have h0 := congrFun h ix0
  obtain ⟨h1, h2⟩ := and_one h0
  obtain ⟨hq, hk⟩ := and_one h1
  obtain ⟨hv, hd⟩ := and_one h2
  exact ⟨isArg_toR (real_of_reduce hq), isArg_toR (real_of_reduce hk), isArg_toR (real_of_reduce hv), isArg_toR (real_of_reduce hd)⟩

end Cert.Finite

namespace Cert.ReferenceIdeal.Ret

open Idealize.ShloMosaic Idealize.ShloMosaic.TcCoe
open Cert.ReferenceIdeal.Gen Cert.ReferenceIdeal.Read Cert.KernelIdeal.Ret

/-! # The reference's results are the kernel's -/

variable {x0 x1 x2 x3 : S1x4112x768.Idx → EReal} {XQ XK XV XD : ℕ → ℕ → ℝ}

theorem past_zero (γ : ℝ) (N R : ℕ) (a : ℕ → ℝ) (ha : ∀ r, r ≤ R → a r = 0) : past γ N R a = 0 := by
  unfold past
  refine Finset.sum_eq_zero fun r _ => ?_
  split
  · rename_i h; rw [ha r h, mul_zero]
  · rfl

theorem future_zero (γ : ℝ) (N R : ℕ) (a : ℕ → ℝ) (ha : ∀ r, a r = 0) : future γ N R a = 0 := by
  unfold future
  refine Finset.sum_eq_zero fun r _ => ?_
  rw [ha r, mul_zero, ite_self]

theorem gdq_zero (h : Fin 6) (R : ℕ) (e : Fin 128) (hR : R < 112) : gdq XK XV XD h R e = 0 := by
  have z : ∀ e, rdq (gam h) (hd (fun R l => rotR (padR XK) R l * scl) h) (hd (padR XV) h) (hd (padR XD) h) R e = 0 := fun e =>
    past_zero _ _ _ _ fun r hr => by rw [hd_rot_zero XK h (by omega), mul_zero]
  unfold gdq unrot
  rw [z, z]; ring

theorem gdk_zero (h : Fin 6) (R : ℕ) (e : Fin 128) (hR : R < 112) : gdk XQ XV XD h R e = 0 := by
  have z : ∀ e, rdk (gam h) (hd (rotR (padR XQ)) h) (hd (padR XV) h) (hd (padR XD) h) R e = 0 := fun e =>
    future_zero _ _ _ _ fun r => by simp only [hd_zero XV h hR, mul_zero, Finset.sum_const_zero, zero_mul]
  unfold gdk unrot
  rw [z, z]; ring

theorem gdv_zero (h : Fin 6) (R : ℕ) (e : Fin 128) (hR : R < 112) : gdv XQ XK XD h R e = 0 := by
  unfold gdv
  exact future_zero _ _ _ _ fun r => by simp only [hd_rot_zero XK h hR, mul_zero, Finset.sum_const_zero, zero_mul]

theorem ref_dq (h1 : IsArg x1 XK) (h2 : IsArg x2 XV) (h3 : IsArg x3 XD) : val_main_v135 (F := Ideal) x1 x2 x3 = outArr (gdq XK XV XD) := by
  have hx : IsGrad (val_main_v95 (F := Ideal) x1 x2 x3)
      (fun h => rdq (gam h) (hd (fun R l => rotR (padR XK) R l * scl) h) (hd (padR XV) h) (hd (padR XD) h)) := by
    intro i
    simp only [val_main_v95, pointwise, rDq_real h1 h2 h3 _]
  exact padA_real (unrotA_real hx) gdq_zero

theorem ref_dk (h0 : IsArg x0 XQ) (h2 : IsArg x2 XV) (h3 : IsArg x3 XD) : val_main_v138 (F := Ideal) x0 x2 x3 = outArr (gdk XQ XV XD) := by
  have hx : IsGrad (val_main_v97 (F := Ideal) x0 x2 x3)
      (fun h R e => rdk (gam h) (hd (rotR (padR XQ)) h) (hd (padR XV) h) (hd (padR XD) h) R e * scl) := by
    intro i
    simp only [val_main_v97, val_main_v96, val_main_v94, val_main_cst_10, pointwise, rDk_real h0 h2 h3 _, lit_scl, ← EReal.coe_mul]
  have hg : (fun h => unrot (fun R e => rdk (gam h) (hd (rotR (padR XQ)) h) (hd (padR XV) h) (hd (padR XD) h) R e * scl)) = gdk XQ XV XD := by
    funext h R e
    unfold gdk unrot
    ring
  rw [← hg]
  refine padA_real (unrotA_real hx) fun h R e hR => ?_
  exact (congrFun (congrFun (congrFun hg h) R) e).trans (gdk_zero h R e hR)

theorem ref_dv (h0 : IsArg x0 XQ) (h1 : IsArg x1 XK) (h3 : IsArg x3 XD) : val_main_v141 (F := Ideal) x0 x1 x3 = outArr (gdv XQ XK XD) := by
  have hx : IsGrad (val_main_v93 (F := Ideal) x0 x1 x3) (gdv XQ XK XD) := by
    intro i
    simp only [val_main_v93, pointwise, rDv_real h0 h1 h3 _]
    rfl
  exact padA_real hx gdv_zero

end Cert.ReferenceIdeal.Ret
-- ==== Proof.PostFun.lean ====
module

public import proofs.«01_k».proof.Proof.Gen.Kernel2Ideal.Skeleton

@[expose] public section

set_option maxRecDepth 16384

noncomputable section

namespace Cert.Kernel2Ideal.Post

open Idealize.ShloMosaic Idealize.ShloMosaic.TcCoe
open Cert.Kernel2Ideal.Gen

variable {F : FTy → Type} [FloatOps F]

/-! # The backward pass through the mixing: what one point computes of its loads -/

/-- The first norm's gradient with respect to its input. -/
def bDr (dm dr xh : Vec F S384x1024 .f32) (rs : Vec F S384x1 .f32) (lg : Vec F S1x1024 .f32) : FVec F S384x1024 .f32 :=
  k0_pay14 (k0_pay8 xh) (k0_pay10 dm dr lg) (k0_pay11 rs) (k0_pay12 dm dr lg) (k0_pay13 dm dr xh lg)

/-- The gradient of the layer's input, through the residual. -/
def bDh0 (dm dr xh : Vec F S384x1024 .f32) (rs : Vec F S384x1 .f32) (lg : Vec F S1x1024 .f32) : FVec F S384x1024 .f32 :=
  k0_pay15 (k0_pay8 xh) (k0_pay10 dm dr lg) (k0_pay11 rs) (k0_pay12 dm dr lg) (k0_pay13 dm dr xh lg)

/-- The gradient of the concatenated branches. -/
def bDyc (dm dr xh : Vec F S384x1024 .f32) (rs : Vec F S384x1 .f32) (lg : Vec F S1x1024 .f32) (wo : Vec F S1024x1024 .bf16) : FVec F S384x1024 .f32 :=
  k0_pay18 (k0_pay8 xh) (k0_pay10 dm dr lg) (k0_pay11 rs) (k0_pay12 dm dr lg) (k0_pay13 dm dr xh lg) wo

/-- The part of it that belongs to the recurrence. -/
def bDys (dm dr xh : Vec F S384x1024 .f32) (rs : Vec F S384x1 .f32) (lg : Vec F S1x1024 .f32) (wo : Vec F S1024x1024 .bf16) : FVec F S384x256 .f32 :=
  k0_pay19 (k0_pay8 xh) (k0_pay10 dm dr lg) (k0_pay11 rs) (k0_pay12 dm dr lg) (k0_pay13 dm dr xh lg) wo

/-- The output projection's gradient, one block further. -/
def bWo (dm dr xh : Vec F S384x1024 .f32) (rs : Vec F S384x1 .f32) (lg : Vec F S1x1024 .f32) (yc : Vec F S384x1024 .bf16) (acc : Vec F S1024x1024 .f32) :
    FVec F S1024x1024 .f32 :=
  k0_pay17 (k0_pay8 xh) (k0_pay10 dm dr lg) (k0_pay11 rs) (k0_pay12 dm dr lg) (k0_pay13 dm dr xh lg) acc yc

theorem slicesHead (h : Fin 6) : S384x1024.Slices ![0, 256 + 128 * h.val] S384x128 := by
  revert h; decide

theorem slicesCol (h : Fin 6) : S384x768.Slices ![0, 128 * h.val] S384x128 := by
  revert h; decide

theorem slicesRow (h : Fin 6) : S1x768.Slices ![0, 128 * h.val] S1x128 := by
  revert h; decide

/-- The part of the branches' gradient that belongs to one head. -/
def hDyr (dyc : FVec F S384x1024 .f32) (h : Fin 6) : FVec F S384x128 .f32 :=
  extractStridedSlice S384x128 ![0, 256 + 128 * h.val] dyc (slicesHead h)

/-- One head's columns of a loaded block. -/
def hCol (x : Vec F S384x768 .f32) (h : Fin 6) : FVec F S384x128 .f32 :=
  extractStridedSlice S384x128 ![0, 128 * h.val] (shapeCast S384x768 x shapeCasts_S384x768_S384x768) (slicesCol h)

/-- The first of two loaded rows. -/
def row0 (x : Vec F S2x768 .f32) : FVec F S1x768 .f32 :=
  extractStridedSlice S1x768 ![0, 0] (shapeCast S2x768 x shapeCasts_S2x768_S2x768) slices_S2x768_o0_0_S1x768

/-- The second. -/
def row1 (x : Vec F S2x768 .f32) : FVec F S1x768 .f32 :=
  extractStridedSlice S1x768 ![1, 0] (shapeCast S2x768 x shapeCasts_S2x768_S2x768) slices_S2x768_o1_0_S1x768

/-- One head's columns of a row, for every row of the block. -/
def hRow (x : FVec F S1x768 .f32) (h : Fin 6) : FVec F S384x128 .f32 :=
  broadcastTo S384x128 (extractStridedSlice S1x128 ![0, 128 * h.val] x (slicesRow h)) broadcasts_S1x128_S384x128

/-- A row's mean over a head's columns. -/
def hMean (x : FVec F S384x128 .f32) : FVec F S384x1 .f32 :=
  divf (shapeCast S384x1 (multiReduction .add [1] S384 x 0x00000000#32 reduces_S384x128_S384 (.inl rfl) rfl) shapeCasts_S384_S384x1)
    (broadcast S384x1 (Scalar.ofBits .f32 0x43000000#32))

/-- A row's value, for every column of the head. -/
def hWide (x : FVec F S384x1 .f32) : FVec F S384x128 .f32 := broadcastTo S384x128 x broadcasts_S384x1_S384x128

/-- The head less its mean. -/
def hXc (o : FVec F S384x128 .f32) : FVec F S384x128 .f32 := subf o (hWide (hMean o))

/-- One over the head's deviation. -/
def hRs (o : FVec F S384x128 .f32) : FVec F S384x1 .f32 :=
  rsqrt (addf (hMean (mulf (hXc o) (hXc o))) (broadcast S384x1 (Scalar.ofBits .f32 0x3727C5AC#32)))

/-- The normalised head. -/
def hXh (o : FVec F S384x128 .f32) : FVec F S384x128 .f32 := mulf (hXc o) (hWide (hRs o))

/-- The gradient of the normalised head. -/
def hDon (dyr g : FVec F S384x128 .f32) : FVec F S384x128 .f32 := mulf (mulf dyr g) (logistic g)

/-- The gradient of the gate. -/
def hDg (dyr g o gg gb : FVec F S384x128 .f32) : FVec F S384x128 .bf16 :=
  truncf .bf16 (mulf (mulf dyr (addf (mulf (hXh o) gg) gb))
    (mulf (logistic g) (addf (broadcast S384x128 (Scalar.ofBits .f32 0x3F800000#32))
      (mulf g (subf (broadcast S384x128 (Scalar.ofBits .f32 0x3F800000#32)) (logistic g)))))) bitsLt_bf16_f32

/-- A head's columns, summed over the rows of the block. -/
def hSum (x : FVec F S384x128 .f32) : FVec F S1x128 .f32 :=
  shapeCast S1x128 (multiReduction .add [0] S128 x 0x00000000#32 reduces_S384x128_S128 (.inl rfl) rfl) shapeCasts_S128_S1x128

/-- Six heads' rows side by side. -/
def hSix (f : Fin 6 → FVec F S1x128 .f32) : FVec F S1x768 .f32 :=
  concatenate S1x768 1 [⟨S1x128, f 0⟩, ⟨S1x128, f 1⟩, ⟨S1x128, f 2⟩, ⟨S1x128, f 3⟩, ⟨S1x128, f 4⟩, ⟨S1x128, f 5⟩]
    concatenates_S1x128_S1x128_S1x128_S1x128_S1x128_S1x128_S1x768_d1

/-- Two rows of all the heads, one block further. -/
def hAcc (f g : Fin 6 → FVec F S1x128 .f32) (acc : Vec F S2x768 .f32) : FVec F S2x768 .f32 :=
  addf (shapeCast S2x768 acc shapeCasts_S2x768_S2x768)
    (concatenate S2x768 0 [⟨S1x768, hSix f⟩, ⟨S1x768, hSix g⟩] concatenates_S1x768_S1x768_S2x768_d0)

/-- The gradient of the head before its norm. -/
def hDo (dyr g o gg : FVec F S384x128 .f32) : FVec F S384x128 .f32 :=
  mulf (hWide (hRs o)) (subf (subf (mulf (hDon dyr g) gg) (hWide (hMean (mulf (hDon dyr g) gg))))
    (mulf (hXh o) (hWide (hMean (mulf (mulf (hDon dyr g) gg) (hXh o))))))

end Cert.Kernel2Ideal.Post
-- ==== Proof.Lanes.lean ====
module

public import Idealize.ShloMosaic.Lib.WritesUnit
public import Idealize.ShloMosaic.Lib.WholeRead
public import Idealize.ShloMosaic.Lib.ValueIdx
public import Idealize.ShloMosaic.Lib.Pipeline.ValueKit

@[expose] public section

set_option maxRecDepth 16384

noncomputable section

namespace Cert.Lanes

open Idealize.ShloMosaic Idealize.ShloMosaic.TcCoe
open Idealize.SL Idealize.SL.Sem

variable {F : FTy → Type} [FloatOps F] {sg : RefSig} {e : EltTy} {A B : ℕ}

/-! # Loads and stores of whole blocks, and of the six heads' columns of a block -/

theorem inbAll (A B : ℕ) : ∀ a, (![0, 0] : Fin 2 → ℕ) a + (⟨2, ![A, B]⟩ : Shape).size a ≤ (⟨2, ![A, B]⟩ : Shape).size a := by
  intro a
  match a with
  | ⟨0, _⟩ => show 0 + A ≤ A; omega
  | ⟨1, _⟩ => show 0 + B ≤ B; omega

theorem inbLane (A : ℕ) (h : Fin 6) : ∀ a, (![0, 128 * h.val] : Fin 2 → ℕ) a + (⟨2, ![A, 128]⟩ : Shape).size a ≤ (⟨2, ![A, 768]⟩ : Shape).size a := by
  intro a
  have := h.isLt
  match a with
  | ⟨0, _⟩ => show 0 + A ≤ A; omega
  | ⟨1, _⟩ => show 128 * h.val + 128 ≤ 768; omega

/-- The 128 columns of head `h`. -/
def lane {α : Type} (x : (⟨2, ![A, 768]⟩ : Shape).Idx → α) (h : Fin 6) : (⟨2, ![A, 128]⟩ : Shape).Idx → α :=
  fun j => x (ix2 (j 0) (⟨128 * h.val + (j 1).val, by have h1 : (j 1).val < 128 := (j 1).isLt; have := h.isLt; omega⟩ : Fin 768))

/-- A whole block, loaded. -/
def rdAll (arg : Memref sg .tc .vmem ⟨2, ![A, B]⟩ e) (ha : arg.IsWhole) (x : (⟨2, ![A, B]⟩ : Shape).Idx → Elt F e) : (⟨2, ![A, B]⟩ : Shape).Idx → Elt F e :=
  View.readAt (Elt F) arg.view (Rect.unit (s := ⟨2, ![A, B]⟩) ![0, 0] (⟨2, ![A, B]⟩ : Shape).size (inbAll A B)).toLoadRect (ha.unread x)

/-- One head's columns, loaded. -/
def rdLane (arg : Memref sg .tc .vmem ⟨2, ![A, 768]⟩ e) (ha : arg.IsWhole) (x : (⟨2, ![A, 768]⟩ : Shape).Idx → Elt F e) (h : Fin 6) :
    (⟨2, ![A, 128]⟩ : Shape).Idx → Elt F e :=
  View.readAt (Elt F) arg.view (Rect.unit (s := ⟨2, ![A, 768]⟩) ![0, 128 * h.val] (⟨2, ![A, 128]⟩ : Shape).size (inbLane A h)).toLoadRect (ha.unread x)

theorem rdAll_eq (arg : Memref sg .tc .vmem ⟨2, ![A, B]⟩ e) (ha : arg.IsWhole) (x : (⟨2, ![A, B]⟩ : Shape).Idx → Elt F e) : rdAll arg ha x = x := by
  funext j
  refine (ha.readAt_unread x (Rect.unit (s := ⟨2, ![A, B]⟩) ![0, 0] (⟨2, ![A, B]⟩ : Shape).size (inbAll A B)).toLoadRect j).trans (congrArg x (funext fun a => Fin.ext ?_))
  match a with
  | ⟨0, _⟩ => show 0 + 1 * (j 0).val = (j 0).val; omega
  | ⟨1, _⟩ => show 0 + 1 * (j 1).val = (j 1).val; omega

theorem rdLane_eq (arg : Memref sg .tc .vmem ⟨2, ![A, 768]⟩ e) (ha : arg.IsWhole) (x : (⟨2, ![A, 768]⟩ : Shape).Idx → Elt F e) :
    rdLane arg ha x = lane x := by
  funext h j
  refine (ha.readAt_unread x (Rect.unit (s := ⟨2, ![A, 768]⟩) ![0, 128 * h.val] (⟨2, ![A, 128]⟩ : Shape).size (inbLane A h)).toLoadRect j).trans (congrArg x (funext fun a => Fin.ext ?_))
  match a with
  | ⟨0, _⟩ => show 0 + 1 * (j 0).val = (j 0).val; omega
  | ⟨1, _⟩ => show 128 * h.val + 1 * (j 1).val = 128 * h.val + (j 1).val; omega

/-! ## What the body's own stores have left -/

/-- A whole block, loaded after the stores `L`. -/
def covAll {κ : Kind} {sp : Space} (v : View sg κ sp (⟨2, ![A, B]⟩ : Shape) e) (L : List (View.Piece (Elt F) (⟨2, ![A, B]⟩ : Shape) e)) :
    (⟨2, ![A, B]⟩ : Shape).Idx → Elt F e :=
  v.readCov L (Rect.unit (s := ⟨2, ![A, B]⟩) ![0, 0] (⟨2, ![A, B]⟩ : Shape).size (inbAll A B)).toLoadRect

/-- One head's columns, loaded after the stores `L`. -/
def covLane {κ : Kind} {sp : Space} (v : View sg κ sp (⟨2, ![A, 768]⟩ : Shape) e) (L : List (View.Piece (Elt F) (⟨2, ![A, 768]⟩ : Shape) e)) (h : Fin 6) :
    (⟨2, ![A, 128]⟩ : Shape).Idx → Elt F e :=
  v.readCov L (Rect.unit (s := ⟨2, ![A, 768]⟩) ![0, 128 * h.val] (⟨2, ![A, 128]⟩ : Shape).size (inbLane A h)).toLoadRect

/-- A store of a whole block. -/
def pAll (w : (⟨2, ![A, B]⟩ : Shape).Idx → Elt F e) : View.Piece (Elt F) (⟨2, ![A, B]⟩ : Shape) e :=
  ⟨Rect.unit (s := ⟨2, ![A, B]⟩) ![0, 0] (⟨2, ![A, B]⟩ : Shape).size (inbAll A B), w⟩

/-- A store of one head's columns. -/
def pLane (h : Fin 6) (w : (⟨2, ![A, 128]⟩ : Shape).Idx → Elt F e) : View.Piece (Elt F) (⟨2, ![A, 768]⟩ : Shape) e :=
  ⟨Rect.unit (s := ⟨2, ![A, 768]⟩) ![0, 128 * h.val] (⟨2, ![A, 128]⟩ : Shape).size (inbLane A h), w⟩

theorem pAll_read {κ : Kind} {sp : Space} (v : View sg κ sp (⟨2, ![A, B]⟩ : Shape) e) (f) (w : (⟨2, ![A, B]⟩ : Shape).Idx → Elt F e)
    (L : List (View.Piece (Elt F) (⟨2, ![A, B]⟩ : Shape) e)) : v.read (Elt F) (v.writes (Elt F) f (pAll w :: L)) = w := by
  funext y
  exact View.read_writes_cons_unit_of_mem v f (inbAll A B) w L y y rfl fun a =>
    match a with
    | ⟨0, _⟩ => (Nat.zero_add _).symm
    | ⟨1, _⟩ => (Nat.zero_add _).symm

theorem covAll_eq {κ : Kind} {sp : Space} (v : View sg κ sp (⟨2, ![A, B]⟩ : Shape) e) (w : (⟨2, ![A, B]⟩ : Shape).Idx → Elt F e)
    (L : List (View.Piece (Elt F) (⟨2, ![A, B]⟩ : Shape) e)) : covAll v (pAll w :: L) = w := by
  funext j
  refine Eq.trans ?_ (congrFun (pAll_read v v.junk w L) j)
  refine congrArg (v.read (Elt F) (v.writes (Elt F) v.junk (pAll w :: L))) (funext fun a => Fin.ext ?_)
  match a with
  | ⟨0, _⟩ => show 0 + 1 * (j 0).val = (j 0).val; omega
  | ⟨1, _⟩ => show 0 + 1 * (j 1).val = (j 1).val; omega

theorem covLane_lane {κ : Kind} {sp : Space} (v : View sg κ sp (⟨2, ![A, 768]⟩ : Shape) e) (L : List (View.Piece (Elt F) (⟨2, ![A, 768]⟩ : Shape) e)) (h : Fin 6) :
    covLane v L h = lane (v.read (Elt F) (v.writes (Elt F) v.junk L)) h := by
  funext j
  refine congrArg (v.read (Elt F) (v.writes (Elt F) v.junk L)) (funext fun a => Fin.ext ?_)
  match a with
  | ⟨0, _⟩ => show 0 + 1 * (j 0).val = (j 0).val; omega
  | ⟨1, _⟩ => show 128 * h.val + 1 * (j 1).val = 128 * h.val + (j 1).val; omega

theorem pLane_hit {κ : Kind} {sp : Space} (v : View sg κ sp (⟨2, ![A, 768]⟩ : Shape) e) (f) (h : Fin 6) (w : (⟨2, ![A, 128]⟩ : Shape).Idx → Elt F e)
    (L : List (View.Piece (Elt F) (⟨2, ![A, 768]⟩ : Shape) e)) : lane (v.read (Elt F) (v.writes (Elt F) f (pLane h w :: L))) h = w := by
  funext i
  exact View.read_writes_cons_unit_of_mem v f (inbLane A h) w L _ i rfl fun a =>
    match a with
    | ⟨0, _⟩ => (Nat.zero_add _).symm
    | ⟨1, _⟩ => rfl

theorem pLane_miss {κ : Kind} {sp : Space} (v : View sg κ sp (⟨2, ![A, 768]⟩ : Shape) e) (f) (h h' : Fin 6) (hne : h' ≠ h)
    (w : (⟨2, ![A, 128]⟩ : Shape).Idx → Elt F e) (L : List (View.Piece (Elt F) (⟨2, ![A, 768]⟩ : Shape) e)) :
    lane (v.read (Elt F) (v.writes (Elt F) f (pLane h' w :: L))) h = lane (v.read (Elt F) (v.writes (Elt F) f L)) h := by
  funext i
  exact View.read_writes_cons_unit_of_not_mem v f (inbLane A h') w L _ rfl 1 (by
    have h1 : (i 1).val < 128 := (i 1).isLt
    have h2 : h'.val ≠ h.val := fun hh => hne (Fin.ext hh)
    show 128 * h.val + (i 1).val < 128 * h'.val ∨ 128 * h'.val + 128 ≤ 128 * h.val + (i 1).val
    omega)

/-- The stores of the heads `0 … n-1` in turn over the stores `L`, each from what it finds there. -/
def stores (g : Fin 6 → List (View.Piece (Elt F) (⟨2, ![A, 768]⟩ : Shape) e) → (⟨2, ![A, 128]⟩ : Shape).Idx → Elt F e)
    (L : List (View.Piece (Elt F) (⟨2, ![A, 768]⟩ : Shape) e)) : (n : ℕ) → n ≤ 6 → List (View.Piece (Elt F) (⟨2, ![A, 768]⟩ : Shape) e)
  | 0, _ => L
  | n + 1, hn => pLane ⟨n, hn⟩ (g ⟨n, hn⟩ (stores g L n (Nat.le_of_succ_le hn))) :: stores g L n (Nat.le_of_succ_le hn)

theorem stores_ge {κ : Kind} {sp : Space} (v : View sg κ sp (⟨2, ![A, 768]⟩ : Shape) e) (f) (g) (L) (n : ℕ) (hn : n ≤ 6) (h : Fin 6) (hh : n ≤ h.val) :
    lane (v.read (Elt F) (v.writes (Elt F) f (stores g L n hn))) h = lane (v.read (Elt F) (v.writes (Elt F) f L)) h := by
  induction n with
  | zero => rfl
  | succ n ih =>
    refine (pLane_miss v f h ⟨n, hn⟩ (fun e => by rw [← e] at hh; exact absurd hh (Nat.not_succ_le_self n)) _ _).trans ?_
    exact ih (Nat.le_of_succ_le hn) (Nat.le_of_succ_le hh)

theorem stores_lt {κ : Kind} {sp : Space} (v : View sg κ sp (⟨2, ![A, 768]⟩ : Shape) e) (f) (g) (L) (n : ℕ) (hn : n ≤ 6) (h : Fin 6) (hh : h.val < n) :
    lane (v.read (Elt F) (v.writes (Elt F) f (stores g L n hn))) h = g h (stores g L h.val (Nat.le_of_lt h.isLt)) := by
  induction n with
  | zero => exact absurd hh (Nat.not_lt_zero _)
  | succ n ih =>
    by_cases e : h = ⟨n, hn⟩
    · subst e
      exact pLane_hit v f _ _ _
    · exact (pLane_miss v f h ⟨n, hn⟩ (fun h' => e h'.symm) _ _).trans
        (ih (Nat.le_of_succ_le hn) (lt_of_le_of_ne (Nat.le_of_lt_succ hh) fun h' => e (Fin.ext h')))

theorem stores_read {κ : Kind} {sp : Space} (v : View sg κ sp (⟨2, ![A, 768]⟩ : Shape) e) (f) (g) (L) (h : Fin 6) :
    lane (v.read (Elt F) (v.writes (Elt F) f (stores g L 6 (le_refl 6)))) h = g h (stores g L h.val (Nat.le_of_lt h.isLt)) :=
  stores_lt v f g L 6 _ h h.isLt

end Cert.Lanes
-- ==== Proof.PostBody.lean ====
module

public import proofs.«01_k».proof.Proof.Gen.Kernel2Ideal.Value
public import proofs.«01_k».proof.Proof.PostFun
public import proofs.«01_k».proof.Proof.Lanes

@[expose] public section

set_option maxRecDepth 16384

noncomputable section

namespace Cert.Kernel2Ideal.Post

open Idealize.ShloMosaic Idealize.ShloMosaic.TcCoe Idealize.ShloMosaic.ValueIdx
open Idealize.SL Idealize.SL.Sem
open Cert.Kernel2Ideal.Gen Cert.Lanes

variable {F : FTy → Type} [FloatOps F]

/-! # What each point leaves, from its loads -/

variable (m : (ℓ : Loc nD τ sig) → Buf (Elt F) ℓ) (c : Dev nD) (t : Fin cfg0.N)

/-- The branches' gradient of a point, from its loads. -/
abbrev ldDyc : FVec F S384x1024 .f32 :=
  bDyc (rdAll (ms0_0 t) (hs0_0 t) (iblk m c 0 t)) (rdAll (ms0_1 t) (hs0_1 t) (iblk m c 1 t)) (rdAll (ms0_2 t) (hs0_2 t) (iblk m c 2 t))
    (rdAll (ms0_3 t) (hs0_3 t) (iblk m c 3 t)) (rdAll (ms0_8 t) (hs0_8 t) (iblk m c 8 t)) (rdAll (ms0_9 t) (hs0_9 t) (iblk m c 9 t))

abbrev ldG (h : Fin 6) : FVec F S384x128 .f32 := hCol (rdAll (ms0_6 t) (hs0_6 t) (iblk m c 6 t)) h
abbrev ldO (h : Fin 6) : FVec F S384x128 .f32 := hCol (rdAll (ms0_5 t) (hs0_5 t) (iblk m c 5 t)) h
abbrev ldGg (h : Fin 6) : FVec F S384x128 .f32 := hRow (row0 (rdAll (ms0_7 t) (hs0_7 t) (iblk m c 7 t))) h
abbrev ldGb (h : Fin 6) : FVec F S384x128 .f32 := hRow (row1 (rdAll (ms0_7 t) (hs0_7 t) (iblk m c 7 t))) h

/-- The branches' gradient of a point. -/
abbrev atDyc : FVec F S384x1024 .f32 := bDyc (iblk m c 0 t) (iblk m c 1 t) (iblk m c 2 t) (iblk m c 3 t) (iblk m c 8 t) (iblk m c 9 t)

theorem do_eq (h : Fin 6) : lane (outsAt0 m c t.val t.isLt).1 h
    = hDo (hDyr (atDyc m c t) h) (hCol (iblk m c 6 t) h) (hCol (iblk m c 5 t) h) (hRow (row0 (iblk m c 7 t)) h) := by
  have e : (outsAt0 m c t.val t.isLt).1 = VO0_10.read (Elt F) (VO0_10.writes (Elt F) VO0_10.junk
      (stores (fun h _ => hDo (hDyr (ldDyc m c t) h) (ldG m c t h) (ldO m c t h) (ldGg m c t h)) [] 6 (le_refl 6))) := by
    by_cases h0 : t.val % 11 = 0
    · rw [outsAt0_A m c t h0 (by omega)]; sl_kernel_rfl
    · by_cases h1 : t.val % 11 = 10
      · rw [outsAt0_C m c t h0 h1]; sl_kernel_rfl
      · rw [outsAt0_B m c t h0 h1]; sl_kernel_rfl
  rw [e, stores_read]
  simp only [ldDyc, ldG, ldO, ldGg, rdAll_eq]

theorem dg_eq (h : Fin 6) : lane (outsAt0 m c t.val t.isLt).2.1 h
    = hDg (hDyr (atDyc m c t) h) (hCol (iblk m c 6 t) h) (hCol (iblk m c 5 t) h) (hRow (row0 (iblk m c 7 t)) h) (hRow (row1 (iblk m c 7 t)) h) := by
  have e : (outsAt0 m c t.val t.isLt).2.1 = VO0_11.read (Elt F) (VO0_11.writes (Elt F) VO0_11.junk
      (stores (fun h _ => hDg (hDyr (ldDyc m c t) h) (ldG m c t h) (ldO m c t h) (ldGg m c t h) (ldGb m c t h)) [] 6 (le_refl 6))) := by
    by_cases h0 : t.val % 11 = 0
    · rw [outsAt0_A m c t h0 (by omega)]; sl_kernel_rfl
    · by_cases h1 : t.val % 11 = 10
      · rw [outsAt0_C m c t h0 h1]; sl_kernel_rfl
      · rw [outsAt0_B m c t h0 h1]; sl_kernel_rfl
  rw [e, stores_read]
  simp only [ldDyc, ldG, ldO, ldGg, ldGb, rdAll_eq]

theorem dys_eq : (outsAt0 m c t.val t.isLt).2.2.1
    = bDys (iblk m c 0 t) (iblk m c 1 t) (iblk m c 2 t) (iblk m c 3 t) (iblk m c 8 t) (iblk m c 9 t) := by
  have e : (outsAt0 m c t.val t.isLt).2.2.1 = VO0_12.read (Elt F) (VO0_12.writes (Elt F) VO0_12.junk
      [pAll (bDys (rdAll (ms0_0 t) (hs0_0 t) (iblk m c 0 t)) (rdAll (ms0_1 t) (hs0_1 t) (iblk m c 1 t)) (rdAll (ms0_2 t) (hs0_2 t) (iblk m c 2 t))
        (rdAll (ms0_3 t) (hs0_3 t) (iblk m c 3 t)) (rdAll (ms0_8 t) (hs0_8 t) (iblk m c 8 t)) (rdAll (ms0_9 t) (hs0_9 t) (iblk m c 9 t)))]) := by
    by_cases h0 : t.val % 11 = 0
    · rw [outsAt0_A m c t h0 (by omega)]; sl_kernel_rfl
    · by_cases h1 : t.val % 11 = 10
      · rw [outsAt0_C m c t h0 h1]; sl_kernel_rfl
      · rw [outsAt0_B m c t h0 h1]; sl_kernel_rfl
  rw [e, pAll_read]
  simp only [rdAll_eq]

theorem dh0_eq : (outsAt0 m c t.val t.isLt).2.2.2.1
    = bDh0 (iblk m c 0 t) (iblk m c 1 t) (iblk m c 2 t) (iblk m c 3 t) (iblk m c 8 t) := by
  have e : (outsAt0 m c t.val t.isLt).2.2.2.1 = VO0_13.read (Elt F) (VO0_13.writes (Elt F) VO0_13.junk
      [pAll (bDh0 (rdAll (ms0_0 t) (hs0_0 t) (iblk m c 0 t)) (rdAll (ms0_1 t) (hs0_1 t) (iblk m c 1 t)) (rdAll (ms0_2 t) (hs0_2 t) (iblk m c 2 t))
        (rdAll (ms0_3 t) (hs0_3 t) (iblk m c 3 t)) (rdAll (ms0_8 t) (hs0_8 t) (iblk m c 8 t)))]) := by
    by_cases h0 : t.val % 11 = 0
    · rw [outsAt0_A m c t h0 (by omega)]; sl_kernel_rfl
    · by_cases h1 : t.val % 11 = 10
      · rw [outsAt0_C m c t h0 h1]; sl_kernel_rfl
      · rw [outsAt0_B m c t h0 h1]; sl_kernel_rfl
  rw [e, pAll_read]
  simp only [rdAll_eq]

/-! ## The accumulators -/

/-- The contents of the accumulators after point `n`. -/
abbrev lAt (n : ℕ) (hn : n < cfg0.N) : Vec F S2x1024 .f32 := (outsAt0 m c n hn).2.2.2.2.2.1
abbrev gAt (n : ℕ) (hn : n < cfg0.N) : Vec F S2x768 .f32 := (outsAt0 m c n hn).2.2.2.2.2.2.1
abbrev woAt (n : ℕ) (hn : n < cfg0.N) : Vec F S1024x1024 .f32 := (outsAt0 m c n hn).2.2.2.2.2.2.2

theorem l_first (h0 : t.val % 11 = 0) : lAt m c t.val t.isLt = k0_pay9 (iblk m c 0 t) (iblk m c 1 t) (iblk m c 2 t) k0_pay5 := by
  have e : lAt m c t.val t.isLt = VO0_15.read (Elt F) (VO0_15.writes (Elt F) VO0_15.junk
      [pAll (k0_pay9 (rdAll (ms0_0 t) (hs0_0 t) (iblk m c 0 t)) (rdAll (ms0_1 t) (hs0_1 t) (iblk m c 1 t)) (rdAll (ms0_2 t) (hs0_2 t) (iblk m c 2 t))
        (covAll (ms0_15 t).view [pAll k0_pay5])), pAll k0_pay5]) := by
    unfold lAt; rw [outsAt0_A m c t h0 (by omega)]; sl_kernel_rfl
  rw [e, pAll_read]
  simp only [rdAll_eq, covAll_eq]

theorem l_next (h0 : ¬t.val % 11 = 0) (hp : t.val - 1 < cfg0.N) :
    lAt m c t.val t.isLt = k0_pay9 (iblk m c 0 t) (iblk m c 1 t) (iblk m c 2 t) (lAt m c (t.val - 1) hp) := by
  have e : lAt m c t.val t.isLt = VO0_15.read (Elt F) (VO0_15.writes (Elt F) VO0_15.junk
      [pAll (k0_pay9 (rdAll (ms0_0 t) (hs0_0 t) (iblk m c 0 t)) (rdAll (ms0_1 t) (hs0_1 t) (iblk m c 1 t)) (rdAll (ms0_2 t) (hs0_2 t) (iblk m c 2 t))
        (rdAll (ms0_15 t) (hs0_15 t) (lAt m c (t.val - 1) hp)))]) := by
    unfold lAt
    by_cases h1 : t.val % 11 = 10
    · rw [outsAt0_C m c t h0 h1]; sl_kernel_rfl
    · rw [outsAt0_B m c t h0 h1]; sl_kernel_rfl
  rw [e, pAll_read]
  simp only [rdAll_eq]

theorem g_first (h0 : t.val % 11 = 0) : gAt m c t.val t.isLt
    = hAcc (fun h => hSum (mulf (hDon (hDyr (atDyc m c t) h) (hCol (iblk m c 6 t) h)) (hXh (hCol (iblk m c 5 t) h))))
        (fun h => hSum (hDon (hDyr (atDyc m c t) h) (hCol (iblk m c 6 t) h))) k0_pay6 := by
  have e : gAt m c t.val t.isLt = VO0_16.read (Elt F) (VO0_16.writes (Elt F) VO0_16.junk
      [pAll (hAcc (fun h => hSum (mulf (hDon (hDyr (ldDyc m c t) h) (ldG m c t h)) (hXh (ldO m c t h))))
        (fun h => hSum (hDon (hDyr (ldDyc m c t) h) (ldG m c t h))) (covAll (ms0_16 t).view [pAll k0_pay6])), pAll k0_pay6]) := by
    unfold gAt; rw [outsAt0_A m c t h0 (by omega)]; sl_kernel_rfl
  rw [e, pAll_read]
  simp only [ldDyc, ldG, ldO, rdAll_eq, covAll_eq]

theorem g_next (h0 : ¬t.val % 11 = 0) (hp : t.val - 1 < cfg0.N) : gAt m c t.val t.isLt
    = hAcc (fun h => hSum (mulf (hDon (hDyr (atDyc m c t) h) (hCol (iblk m c 6 t) h)) (hXh (hCol (iblk m c 5 t) h))))
        (fun h => hSum (hDon (hDyr (atDyc m c t) h) (hCol (iblk m c 6 t) h))) (gAt m c (t.val - 1) hp) := by
  have e : gAt m c t.val t.isLt = VO0_16.read (Elt F) (VO0_16.writes (Elt F) VO0_16.junk
      [pAll (hAcc (fun h => hSum (mulf (hDon (hDyr (ldDyc m c t) h) (ldG m c t h)) (hXh (ldO m c t h))))
        (fun h => hSum (hDon (hDyr (ldDyc m c t) h) (ldG m c t h))) (rdAll (ms0_16 t) (hs0_16 t) (gAt m c (t.val - 1) hp)))]) := by
    unfold gAt
    by_cases h1 : t.val % 11 = 10
    · rw [outsAt0_C m c t h0 h1]; sl_kernel_rfl
    · rw [outsAt0_B m c t h0 h1]; sl_kernel_rfl
  rw [e, pAll_read]
  simp only [ldDyc, ldG, ldO, rdAll_eq]

theorem wo_first (h0 : t.val % 11 = 0) : woAt m c t.val t.isLt
    = bWo (iblk m c 0 t) (iblk m c 1 t) (iblk m c 2 t) (iblk m c 3 t) (iblk m c 8 t) (iblk m c 4 t) k0_pay4 := by
  have e : woAt m c t.val t.isLt = scM0_0.view.read (Elt F) (scM0_0.view.writes (Elt F) scM0_0.view.junk
      [pAll (bWo (rdAll (ms0_0 t) (hs0_0 t) (iblk m c 0 t)) (rdAll (ms0_1 t) (hs0_1 t) (iblk m c 1 t)) (rdAll (ms0_2 t) (hs0_2 t) (iblk m c 2 t))
        (rdAll (ms0_3 t) (hs0_3 t) (iblk m c 3 t)) (rdAll (ms0_8 t) (hs0_8 t) (iblk m c 8 t)) (rdAll (ms0_4 t) (hs0_4 t) (iblk m c 4 t))
        (covAll scM0_0.view [pAll k0_pay4])), pAll k0_pay4]) := by
    unfold woAt; rw [outsAt0_A m c t h0 (by omega)]; sl_kernel_rfl
  rw [e, pAll_read]
  simp only [rdAll_eq, covAll_eq]

/-- The output projection's gradient of a later point, as its loads give it. -/
abbrev ldWo (acc : Vec F S1024x1024 .f32) : FVec F S1024x1024 .f32 :=
  bWo (rdAll (ms0_0 t) (hs0_0 t) (iblk m c 0 t)) (rdAll (ms0_1 t) (hs0_1 t) (iblk m c 1 t)) (rdAll (ms0_2 t) (hs0_2 t) (iblk m c 2 t))
    (rdAll (ms0_3 t) (hs0_3 t) (iblk m c 3 t)) (rdAll (ms0_8 t) (hs0_8 t) (iblk m c 8 t)) (rdAll (ms0_4 t) (hs0_4 t) (iblk m c 4 t))
    (rdAll scM0_0 (Memref.isWhole_whole _) acc)

theorem wo_next (h0 : ¬t.val % 11 = 0) (hp : t.val - 1 < cfg0.N) : woAt m c t.val t.isLt
    = bWo (iblk m c 0 t) (iblk m c 1 t) (iblk m c 2 t) (iblk m c 3 t) (iblk m c 8 t) (iblk m c 4 t) (woAt m c (t.val - 1) hp) := by
  have e : woAt m c t.val t.isLt = scM0_0.view.read (Elt F) (scM0_0.view.writes (Elt F) scM0_0.view.junk
      [pAll (ldWo m c t (woAt m c (t.val - 1) hp))]) := by
    unfold woAt
    by_cases h1 : t.val % 11 = 10
    · rw [outsAt0_C m c t h0 h1]; sl_kernel_rfl
    · rw [outsAt0_B m c t h0 h1]; sl_kernel_rfl
  rw [e, pAll_read]
  simp only [ldWo, rdAll_eq]

/-- The last point stores the output projection's gradient. -/
theorem gwo_last (h0 : ¬t.val % 11 = 0) (h1 : t.val % 11 = 10) (hp : t.val - 1 < cfg0.N) :
    (outsAt0 m c t.val t.isLt).2.2.2.2.1 = k0_pay3 (woAt m c t.val t.isLt) := by
  have e : (outsAt0 m c t.val t.isLt).2.2.2.2.1 = VO0_14.read (Elt F) (VO0_14.writes (Elt F) VO0_14.junk
      [pAll (k0_pay3 (covAll scM0_0.view [pAll (ldWo m c t (woAt m c (t.val - 1) hp))]))]) := by
    rw [outsAt0_C m c t h0 h1]; sl_kernel_rfl
  rw [e, pAll_read, wo_next m c t h0 hp]
  simp only [ldWo, rdAll_eq, covAll_eq]

end Cert.Kernel2Ideal.Post
-- ==== Proof.PostMath.lean ====
module

public import Mathlib.Algebra.BigOperators.Fin
public import Mathlib.Algebra.BigOperators.Ring.Finset
public import Mathlib.Analysis.SpecialFunctions.Pow.Real
public import Mathlib.Tactic.FieldSimp
public import Mathlib.Tactic.Linarith

@[expose] public section

noncomputable section

namespace Cert.Post

/-! # The backward pass through the mixing, one row, over the real numbers -/

/-- The residual's factor. -/
def al : ℝ := 9975792 / 8388608

/-- What the norms add to the variance. -/
def eps : ℝ := 10995116 / 1099511627776

theorem eps_pos : 0 < eps := by unfold eps; norm_num

/-- The mean of the first `n` entries. -/
def mean (n : ℕ) (f : ℕ → ℝ) : ℝ := (∑ j : Fin n, f j.val) / (n : ℝ)

/-- A row less its mean. -/
def xc (n : ℕ) (f : ℕ → ℝ) (k : ℕ) : ℝ := f k - mean n f

/-- The variance, a little above it. -/
def var (n : ℕ) (f : ℕ → ℝ) : ℝ := mean n (fun k => xc n f k * xc n f k) + eps

/-- One over the deviation. -/
def rs (n : ℕ) (f : ℕ → ℝ) : ℝ := (√(var n f))⁻¹

/-- The normalised row. -/
def xh (n : ℕ) (f : ℕ → ℝ) (k : ℕ) : ℝ := xc n f k * rs n f

theorem var_pos (n : ℕ) (f : ℕ → ℝ) : 0 < var n f := by
  unfold var mean
  have h : 0 ≤ (∑ j : Fin n, xc n f j.val * xc n f j.val) / (n : ℝ) :=
    div_nonneg (Finset.sum_nonneg fun j _ => mul_self_nonneg _) (Nat.cast_nonneg n)
  linarith [eps_pos]

theorem rs_sq (n : ℕ) (f : ℕ → ℝ) : rs n f * rs n f = 1 / var n f := by
  unfold rs
  rw [← mul_inv, Real.mul_self_sqrt (var_pos n f).le, one_div]

theorem sum_xc (n : ℕ) (hn : 0 < n) (f : ℕ → ℝ) : ∑ j : Fin n, xc n f j.val = 0 := by
  have h : (n : ℝ) ≠ 0 := by exact_mod_cast hn.ne'
  unfold xc mean
  rw [Finset.sum_sub_distrib, Finset.sum_const, Finset.card_univ, Fintype.card_fin, nsmul_eq_mul]
  field_simp
  ring

/-- The gradient of a norm from its normalised row `x`. -/
def lnb (n : ℕ) (d x : ℕ → ℝ) (r : ℝ) (k : ℕ) : ℝ := r * (d k - mean n d - x k * mean n (fun j => d j * x j))

/-- What a norm's variance sends back. -/
def lnt (n : ℕ) (d f : ℕ → ℝ) : ℝ := (∑ j : Fin n, xc n f j.val * d j.val) * (-(1 / 2) * (rs n f / var n f)) / (n : ℝ)

/-- What a norm's centred row sends back. -/
def lng (n : ℕ) (d f : ℕ → ℝ) (k : ℕ) : ℝ := d k * rs n f + xc n f k * lnt n d f + lnt n d f * xc n f k

theorem lng_eq (n : ℕ) (hn : 0 < n) (d f : ℕ → ℝ) (k : ℕ) :
    lng n d f k + (∑ j : Fin n, -lng n d f j.val) / (n : ℝ) = lnb n d (xh n f) (rs n f) k := by
  have h : (n : ℝ) ≠ 0 := by exact_mod_cast hn.ne'
  have hs : ∑ j : Fin n, -lng n d f j.val = -(rs n f * ∑ j : Fin n, d j.val) := by
    rw [Finset.sum_neg_distrib]
    congr 1
    have h1 : ∀ j : Fin n, lng n d f j.val = rs n f * d j.val + 2 * lnt n d f * xc n f j.val := fun j => by unfold lng; ring
    rw [Finset.sum_congr rfl fun j _ => h1 j, Finset.sum_add_distrib, ← Finset.mul_sum, ← Finset.mul_sum, sum_xc n hn f, mul_zero, add_zero]
  have ht : lnt n d f = -(1 / 2) * (rs n f * (rs n f * rs n f)) * (∑ j : Fin n, xc n f j.val * d j.val) / n := by
    unfold lnt
    rw [rs_sq]; ring
  have hm : (∑ j : Fin n, d j.val * xh n f j.val) = rs n f * ∑ j : Fin n, xc n f j.val * d j.val := by
    rw [Finset.mul_sum]
    exact Finset.sum_congr rfl fun j _ => by unfold xh; ring
  rw [hs]
  unfold lng lnb mean
  rw [ht, hm]
  unfold xh
  field_simp
  ring

theorem lnb_zero (n : ℕ) (x : ℕ → ℝ) (r : ℝ) (k : ℕ) : lnb n (fun _ => 0) x r k = 0 := by
  unfold lnb mean
  simp

/-- The logistic function. -/
def sg (x : ℝ) : ℝ := (1 + Real.exp (-x))⁻¹

/-- Entry `e` of head `h`. -/
def hd (f : ℕ → ℝ) (h e : ℕ) : ℝ := f (128 * h + e)

variable (dm dr x : ℕ → ℝ) (r : ℝ) (lg : ℕ → ℝ) (wo : ℕ → ℕ → ℝ) (dyc g o gg gb : ℕ → ℝ)

/-- The gradient of the first norm's output. -/
def rdh (k : ℕ) : ℝ := dm k + al * dr k

/-- The gradient of the first norm's input. -/
def rdr (k : ℕ) : ℝ := lnb 1024 (fun k => rdh dm dr k * lg k) x r k

/-- The gradient of the concatenated branches. -/
def rdyc (j : ℕ) : ℝ := ∑ k : Fin 1024, rdr dm dr x r lg k.val * wo j k.val

/-- The gradient of the gated branch. -/
def rdyr (l : ℕ) : ℝ := dyc (256 + l)

/-- The gradient of the normalised heads. -/
def rdon (l : ℕ) : ℝ := rdyr dyc l * g l * sg (g l)

/-- The normalised heads. -/
def roxh (l : ℕ) : ℝ := xh 128 (hd o (l / 128)) (l % 128)

/-- The gradient of the gate. -/
def rdg (l : ℕ) : ℝ := rdyr dyc l * (roxh o l * gg l + gb l) * (sg (g l) * (1 + g l * (1 - sg (g l))))

/-- The gradient of the heads before their norm. -/
def rdo (l : ℕ) : ℝ :=
  lnb 128 (fun e => hd (rdon dyc g) (l / 128) e * hd gg (l / 128) e) (xh 128 (hd o (l / 128))) (rs 128 (hd o (l / 128))) (l % 128)

/-- The six heads of the gated branch, from the heads and the gate. -/
def ryr (l : ℕ) : ℝ := g l * sg (g l) * (roxh o l * gg l + gb l)

/-- The branches side by side. -/
def ryc (ys yr : ℕ → ℝ) (j : ℕ) : ℝ := if j < 256 then ys j else yr (j - 256)

/-- The mixed rows with the residual. -/
def rr1 (h yc : ℕ → ℝ) (k : ℕ) : ℝ := al * h k + ∑ j : Fin 1024, yc j.val * wo j.val k

/-! ## Rows of padding -/

/-- The rows of an array, 112 rows of padding before them. -/
def pad (X : ℕ → ℕ → ℝ) (R : ℕ) : ℕ → ℝ := if 112 ≤ R then X (R - 112) else fun _ => 0

/-- The same of one number a row. -/
def pad1 (X : ℕ → ℝ) (R : ℕ) : ℝ := if 112 ≤ R then X (R - 112) else 0

theorem rdr_zero (k : ℕ) : rdr (fun _ => 0) (fun _ => 0) x r lg k = 0 := by
  unfold rdr rdh
  simp only [mul_zero, add_zero, zero_mul]
  exact lnb_zero _ _ _ _

theorem rdyc_zero (j : ℕ) : rdyc (fun _ => 0) (fun _ => 0) x r lg wo j = 0 := by
  unfold rdyc
  simp only [rdr_zero, zero_mul, Finset.sum_const_zero]

theorem rdon_zero (l : ℕ) : rdon (fun _ => 0) g l = 0 := by
  unfold rdon rdyr; ring

theorem rdg_zero (l : ℕ) : rdg (fun _ => 0) g o gg gb l = 0 := by
  unfold rdg rdyr; ring

theorem rdo_zero (l : ℕ) : rdo (fun _ => 0) g o gg l = 0 := by
  unfold rdo hd
  simp only [rdon_zero, zero_mul]
  exact lnb_zero _ _ _ _

/-- A sum over all the rows whose first 112 are padding. -/
theorem sum_pad (F : ℕ → ℝ) (hF : ∀ R, R < 112 → F R = 0) : ∑ R ∈ Finset.range (384 * 11), F R = ∑ i : Fin 4112, F (112 + i.val) := by
  rw [show 384 * 11 = 112 + 4112 from rfl, Finset.sum_range_add, Finset.sum_eq_zero fun R hR => hF R (Finset.mem_range.1 hR), zero_add, Finset.sum_range]

/-- A sum over the rows, one block further. -/
theorem sum_block (F : ℕ → ℝ) (n : ℕ) :
    (∑ R ∈ Finset.range (384 * n), F R) + ∑ i : Fin 384, F (384 * n + i.val) = ∑ R ∈ Finset.range (384 * (n + 1)), F R := by
  rw [show 384 * (n + 1) = 384 * n + 384 by ring, Finset.sum_range_add, Finset.sum_range (n := 384)]

end Cert.Post
-- ==== Proof.PostReal.lean ====
module

public import proofs.«01_k».proof.Proof.PostFun
public import proofs.«01_k».proof.Proof.PostMath
public import proofs.«01_k».proof.Proof.HostReal

@[expose] public section

set_option maxRecDepth 16384

noncomputable section

namespace Cert.Kernel2Ideal.Post

open Idealize.ShloMosaic Idealize.ShloMosaic.TcCoe
open Cert.Kernel2Ideal.Gen Cert.Post
open Cert.KernelIdeal.Ret (coe_sum div_coe lit_1 lit_128)

/-! # The body over the real numbers -/

/-- An array of rows holds the real numbers `X`. -/
def Rows {A B : ℕ} (x : (⟨2, ![A, B]⟩ : Shape).Idx → EReal) (X : ℕ → ℕ → ℝ) : Prop := ∀ i j, x (ix2 i j) = ((X i.val j.val : ℝ) : EReal)

/-- An array of one number a row. -/
def Col {A : ℕ} (x : (⟨2, ![A, 1]⟩ : Shape).Idx → EReal) (X : ℕ → ℝ) : Prop := ∀ i, x (ix2 i (0 : Fin 1)) = ((X i.val : ℝ) : EReal)

theorem lit_1024 : Ideal.ofBits FTy.f32 0x44800000#32 = ((1024 : ℝ) : EReal) := by simp [Ideal.ofBits, Ideal.ieee, -EReal.coe_mul]; norm_num
theorem lit_al : Ideal.ofBits FTy.f32 0x3F9837F0#32 = ((al : ℝ) : EReal) := by simp [Ideal.ofBits, Ideal.ieee, -EReal.coe_mul, al]; norm_num
theorem lit_eps : Ideal.ofBits FTy.f32 0x3727C5AC#32 = ((eps : ℝ) : EReal) := by simp [Ideal.ofBits, Ideal.ieee, -EReal.coe_mul, eps]; norm_num

theorem div_1024 (x : ℝ) : Ideal.div (x : EReal) ((1024 : ℝ) : EReal) = ((x / 1024 : ℝ) : EReal) := div_coe _ _ (by norm_num)
theorem div_128 (x : ℝ) : Ideal.div (x : EReal) ((128 : ℝ) : EReal) = ((x / 128 : ℝ) : EReal) := div_coe _ _ (by norm_num)

variable {dm dr xh1 : S384x1024.Idx → EReal} {r1 : S384x1.Idx → EReal} {lg : S1x1024.Idx → EReal} {wo : S1024x1024.Idx → EReal}
  {DM DR XH : ℕ → ℕ → ℝ} {RS LG : ℕ → ℝ} {WO : ℕ → ℕ → ℝ}

theorem dh_real (hm : Rows dm DM) (hr : Rows dr DR) : Rows (k0_pay7 (F := Ideal) dm dr) (fun i => rdh (DM i) (DR i)) := by
  intro i j
  simp only [k0_pay7, pointwise, hm _ _, hr _ _, lit_al, ← EReal.coe_mul, ← EReal.coe_add]
  rfl

theorem dh1_real (hm : Rows dm DM) (hr : Rows dr DR) (hl : Rows lg fun _ => LG) :
    Rows (k0_pay10 (F := Ideal) dm dr lg) (fun i k => rdh (DM i) (DR i) k * LG k) := by
  intro i j
  have h := dh_real hm hr
  unfold k0_pay10
  generalize k0_pay7 (F := Ideal) dm dr = T at h ⊢
  simp only [pointwise, ↓reduceDIte, show ¬(1024 : ℕ) = 1 by decide, h _ _, hl _ _, ← EReal.coe_mul]

theorem dr_real (hm : Rows dm DM) (hr : Rows dr DR) (hx : Rows xh1 XH) (hs : Col r1 RS) (hl : Rows lg fun _ => LG) :
    Rows (bDr (F := Ideal) dm dr xh1 r1 lg) (fun i => rdr (DM i) (DR i) (XH i) (RS i) LG) := by
  intro i j
  have h := dh1_real hm hr hl
  unfold bDr k0_pay12 k0_pay13
  generalize k0_pay10 (F := Ideal) dm dr lg = T at h ⊢
  simp only [k0_pay14, k0_pay8, k0_pay11, pointwise, ↓reduceDIte, show ¬(384 : ℕ) = 1 by decide, h _ _, hx _ _, hs _, lit_1024, zero_add, ← EReal.coe_mul, ← coe_sum, div_1024, ← EReal.coe_sub]
  rfl

theorem dh0_real (hm : Rows dm DM) (hr : Rows dr DR) (hx : Rows xh1 XH) (hs : Col r1 RS) (hl : Rows lg fun _ => LG) :
    Rows (bDh0 (F := Ideal) dm dr xh1 r1 lg) (fun i k => al * rdr (DM i) (DR i) (XH i) (RS i) LG k) := by
  intro i j
  have h := dr_real hm hr hx hs hl
  unfold bDr at h
  unfold bDh0 k0_pay15
  generalize k0_pay14 (F := Ideal) _ _ _ _ _ = T at h ⊢
  simp only [pointwise, h _ _, lit_al, ← EReal.coe_mul]

theorem dyc_real (hm : Rows dm DM) (hr : Rows dr DR) (hx : Rows xh1 XH) (hs : Col r1 RS) (hl : Rows lg fun _ => LG) (hw : Rows wo WO) :
    Rows (bDyc (F := Ideal) dm dr xh1 r1 lg wo) (fun i => rdyc (DM i) (DR i) (XH i) (RS i) LG WO) := by
  intro i j
  have h := dr_real hm hr hx hs hl
  unfold bDr at h
  unfold bDyc k0_pay18 k0_pay16
  generalize k0_pay14 (F := Ideal) _ _ _ _ _ = T at h ⊢
  simp only [pointwise, h _ _, hw _ _, zero_add, ← EReal.coe_mul, ← coe_sum]
  rfl

theorem dys_real (hm : Rows dm DM) (hr : Rows dr DR) (hx : Rows xh1 XH) (hs : Col r1 RS) (hl : Rows lg fun _ => LG) (hw : Rows wo WO) :
    Rows (bDys (F := Ideal) dm dr xh1 r1 lg wo) (fun i => rdyc (DM i) (DR i) (XH i) (RS i) LG WO) := by
  intro i j
  have h := dyc_real hm hr hx hs hl hw
  unfold bDyc at h
  unfold bDys k0_pay19
  generalize k0_pay18 (F := Ideal) _ _ _ _ _ _ = T at h ⊢
  refine Eq.trans ?_ ((h i ⟨j.val, by omega⟩))
  refine congrArg T (funext fun a => Fin.ext ?_)
  match a with
  | ⟨0, _⟩ => show 0 + i.val = i.val; omega
  | ⟨1, _⟩ => show 0 + j.val = j.val; omega

/-- The output projection's gradient, one block further. -/
theorem wo_real {yc : S384x1024.Idx → EReal} {acc : S1024x1024.Idx → EReal} {YC ACC : ℕ → ℕ → ℝ}
    (hm : Rows dm DM) (hr : Rows dr DR) (hx : Rows xh1 XH) (hs : Col r1 RS) (hl : Rows lg fun _ => LG) (hy : Rows yc YC) (ha : Rows acc ACC) :
    Rows (bWo (F := Ideal) dm dr xh1 r1 lg yc acc)
      (fun j k => ACC j k + ∑ i : Fin 384, YC i j * rdr (DM i) (DR i) (XH i) (RS i) LG k) := by
  intro i j
  have h := dr_real hm hr hx hs hl
  unfold bDr at h
  unfold bWo k0_pay17 k0_pay16
  generalize k0_pay14 (F := Ideal) _ _ _ _ _ = T at h ⊢
  simp only [pointwise, h _ _, hy _ _, ha _ _, zero_add, ← EReal.coe_mul, ← coe_sum, ← EReal.coe_add]

/-- One row above another. -/
theorem two_real {B : ℕ} {x y : (⟨2, ![1, B]⟩ : Shape).Idx → EReal} {X Y : ℕ → ℝ} (hx : Rows x fun _ => X) (hy : Rows y fun _ => Y)
    (hc : Shape.Concatenates [(⟨2, ![1, B]⟩ : Shape), ⟨2, ![1, B]⟩] (⟨2, ![2, B]⟩ : Shape) 0) :
    Rows (concatenate (⟨2, ![2, B]⟩ : Shape) 0 [⟨⟨2, ![1, B]⟩, x⟩, ⟨⟨2, ![1, B]⟩, y⟩] hc) (fun r k => if r = 0 then X k else Y k) := by
  intro i j
  match i with
  | ⟨0, _⟩ =>
    refine Eq.trans (concatenate_pair_apply_left 0 x y hc _ rfl (ix2 (0 : Fin 1) j) fun b => ?_) (hx 0 j)
    match b with
    | ⟨0, _⟩ => rfl
    | ⟨1, _⟩ => rfl
  | ⟨1, _⟩ =>
    refine Eq.trans (concatenate_pair_apply_right 0 x y hc _ rfl rfl (ix2 (0 : Fin 1) j) (fun b hb => ?_) rfl) (hy 0 j)
    match b with
    | ⟨0, _⟩ => exact absurd rfl hb
    | ⟨1, _⟩ => rfl

/-- The first norm's two parameters' gradients, one block further. -/
theorem l_real {acc : S2x1024.Idx → EReal} {ACC : ℕ → ℕ → ℝ} (hm : Rows dm DM) (hr : Rows dr DR) (hx : Rows xh1 XH) (ha : Rows acc ACC) :
    Rows (k0_pay9 (F := Ideal) dm dr xh1 acc)
      (fun r k => ACC r k + if r = 0 then ∑ i : Fin 384, rdh (DM i) (DR i) k * XH i k else ∑ i : Fin 384, rdh (DM i) (DR i) k) := by
  intro i j
  have h := dh_real hm hr
  unfold k0_pay9
  generalize k0_pay7 (F := Ideal) dm dr = T at h ⊢
  have h1 : Rows (shapeCast S1x1024 (multiReduction (F := Ideal) (φ := .f32) .add [0] S1024 (mulf T (k0_pay8 xh1)) 0x00000000#32 reduces_S384x1024_S1024 (.inl rfl) rfl) shapeCasts_S1024_S1x1024)
      (fun _ k => ∑ i : Fin 384, rdh (DM i) (DR i) k * XH i k) := by
    intro i j
    simp only [k0_pay8, pointwise, h _ _, hx _ _, zero_add, ← EReal.coe_mul, ← coe_sum]
  have h2 : Rows (shapeCast S1x1024 (multiReduction (F := Ideal) (φ := .f32) .add [0] S1024 T 0x00000000#32 reduces_S384x1024_S1024 (.inl rfl) rfl) shapeCasts_S1024_S1x1024)
      (fun _ k => ∑ i : Fin 384, rdh (DM i) (DR i) k) := by
    intro i j
    simp only [pointwise, h _ _, zero_add, ← coe_sum]
  have h3 := two_real h1 h2 concatenates_S1x1024_S1x1024_S2x1024_d0
  refine Eq.trans (b := shapeCast S2x1024 acc shapeCasts_S2x1024_S2x1024 (ix2 i j) + _) ?_ (Eq.trans (congrArg₂ (· + ·) ?_ (h3 i j)) (EReal.coe_add _ _).symm)
  · rfl
  · simp only [pointwise, ha _ _]

/-! ## One head -/

theorem rsqrt_var (n : ℕ) (f : ℕ → ℝ) : Ideal.rsqrt ((var n f : ℝ) : EReal) = ((rs n f : ℝ) : EReal) := by
  rw [Ideal.rsqrt_coe, if_neg (not_lt.2 (var_pos n f).le), if_neg (var_pos n f).ne']
  rfl

theorem logistic_real (x : ℝ) : Ideal.logistic (x : EReal) = ((sg x : ℝ) : EReal) := Ideal.logistic_coe x

variable {o g gg gb dyr : S384x128.Idx → EReal} {O G GG GB DY : ℕ → ℕ → ℝ}

theorem hMean_real (ho : Rows o O) : Col (hMean (F := Ideal) o) (fun i => mean 128 (O i)) := by
  intro i
  simp only [hMean, pointwise, ho _ _, lit_128, zero_add, ← coe_sum, div_128]
  rfl

theorem hXc_real (ho : Rows o O) : Rows (hXc (F := Ideal) o) (fun i => xc 128 (O i)) := by
  intro i j
  have h := hMean_real ho
  unfold hXc
  generalize hMean (F := Ideal) o = T at h ⊢
  simp only [hWide, pointwise, ↓reduceDIte, show ¬(384 : ℕ) = 1 by decide, ho _ _, h _, ← EReal.coe_sub]
  rfl

theorem hRs_real (ho : Rows o O) : Col (hRs (F := Ideal) o) (fun i => rs 128 (O i)) := by
  intro i
  have h := hXc_real ho
  have h2 : Rows (mulf (hXc (F := Ideal) o) (hXc (F := Ideal) o)) (fun i k => xc 128 (O i) k * xc 128 (O i) k) := by
    intro i j
    simp only [pointwise, h _ _, ← EReal.coe_mul]
  have h3 := hMean_real h2
  unfold hRs
  generalize hMean (F := Ideal) _ = T at h3 ⊢
  simp only [pointwise, h3 _, lit_eps, ← EReal.coe_add]
  exact rsqrt_var 128 (O i)

theorem hXh_real (ho : Rows o O) : Rows (hXh (F := Ideal) o) (fun i => xh 128 (O i)) := by
  intro i j
  have h := hXc_real ho
  have h2 := hRs_real ho
  unfold hXh
  generalize hXc (F := Ideal) o = T at h ⊢
  generalize hRs (F := Ideal) o = U at h2 ⊢
  simp only [hWide, pointwise, ↓reduceDIte, show ¬(384 : ℕ) = 1 by decide, h _ _, h2 _, ← EReal.coe_mul]
  rfl

theorem hDon_real (hd : Rows dyr DY) (hg : Rows g G) : Rows (hDon (F := Ideal) dyr g) (fun i e => DY i e * G i e * sg (G i e)) := by
  intro i j
  simp only [hDon, pointwise, hd _ _, hg _ _, logistic_real, ← EReal.coe_mul]

theorem hDg_real (hd : Rows dyr DY) (hg : Rows g G) (ho : Rows o O) (hgg : Rows gg GG) (hgb : Rows gb GB) :
    Rows (hDg (F := Ideal) dyr g o gg gb)
      (fun i e => DY i e * (xh 128 (O i) e * GG i e + GB i e) * (sg (G i e) * (1 + G i e * (1 - sg (G i e))))) := by
  intro i j
  have h := hXh_real ho
  unfold hDg
  generalize hXh (F := Ideal) o = T at h ⊢
  simp only [pointwise, hd _ _, hg _ _, h _ _, hgg _ _, hgb _ _, logistic_real, lit_1, ← EReal.coe_mul, ← EReal.coe_add, ← EReal.coe_sub]

theorem hSum_real (ho : Rows o O) : Rows (hSum (F := Ideal) o) (fun _ e => ∑ i : Fin 384, O i e) := by
  intro i j
  simp only [hSum, pointwise, ho _ _, zero_add, ← coe_sum]

theorem hDo_real (hd : Rows dyr DY) (hg : Rows g G) (ho : Rows o O) (hgg : Rows gg GG) :
    Rows (hDo (F := Ideal) dyr g o gg)
      (fun i => lnb 128 (fun e => DY i e * G i e * sg (G i e) * GG i e) (xh 128 (O i)) (rs 128 (O i))) := by
  intro i j
  have h1 := hDon_real hd hg
  have h2 := hXh_real ho
  have h3 := hRs_real ho
  have h4 : Rows (mulf (hDon (F := Ideal) dyr g) gg) (fun i e => DY i e * G i e * sg (G i e) * GG i e) := by
    intro i j
    generalize hDon (F := Ideal) dyr g = T at h1 ⊢
    simp only [pointwise, h1 _ _, hgg _ _, ← EReal.coe_mul]
  unfold hDo
  generalize mulf (hDon (F := Ideal) dyr g) gg = A at h4 ⊢
  generalize hXh (F := Ideal) o = X at h2 ⊢
  generalize hRs (F := Ideal) o = R at h3 ⊢
  have h5 : Rows (mulf (F := Ideal) A X) (fun i e => DY i e * G i e * sg (G i e) * GG i e * xh 128 (O i) e) := by
    intro i j
    simp only [pointwise, h4 _ _, h2 _ _, ← EReal.coe_mul]
  have h6 := hMean_real h4
  have h7 := hMean_real h5
  generalize hMean (F := Ideal) A = B at h6 ⊢
  generalize hMean (F := Ideal) (mulf (F := Ideal) A X) = C at h7 ⊢
  simp only [hWide, pointwise, ↓reduceDIte, show ¬(384 : ℕ) = 1 by decide, h2 _ _, h3 _, h4 _ _, h6 _, h7 _, ← EReal.coe_mul, ← EReal.coe_sub]
  rfl

/-! ## A head's columns -/

theorem hDyr_real {dyc : S384x1024.Idx → EReal} {D : ℕ → ℕ → ℝ} (hd : Rows dyc D) (h : Fin 6) :
    Rows (hDyr (F := Ideal) dyc h) (fun i e => D i (256 + (128 * h.val + e))) := by
  intro i j
  refine Eq.trans ?_ (hd i ⟨256 + (128 * h.val + j.val), by omega⟩)
  refine congrArg dyc (funext fun a => Fin.ext ?_)
  match a with
  | ⟨0, _⟩ => show 0 + i.val = i.val; omega
  | ⟨1, _⟩ => show 256 + 128 * h.val + j.val = 256 + (128 * h.val + j.val); omega

theorem hCol_real {x : S384x768.Idx → EReal} {X : ℕ → ℕ → ℝ} (hx : Rows x X) (h : Fin 6) :
    Rows (hCol (F := Ideal) x h) (fun i => hd (X i) h.val) := by
  intro i j
  have hc : shapeCast S384x768 x shapeCasts_S384x768_S384x768 = x := by
    funext y; simp only [pointwise]
  unfold hCol
  rw [hc]
  refine Eq.trans ?_ (hx i ⟨128 * h.val + j.val, by omega⟩)
  refine congrArg x (funext fun a => Fin.ext ?_)
  match a with
  | ⟨0, _⟩ => show 0 + i.val = i.val; omega
  | ⟨1, _⟩ => rfl

theorem row0_real {x : S2x768.Idx → EReal} {X : ℕ → ℕ → ℝ} (hx : Rows x X) : Rows (row0 (F := Ideal) x) (fun _ => X 0) := by
  intro i j
  have hc : shapeCast S2x768 x shapeCasts_S2x768_S2x768 = x := by
    funext y; simp only [pointwise]
  unfold row0
  rw [hc]
  refine Eq.trans (congrArg x (funext fun a => Fin.ext ?_)) (hx 0 j)
  match a with
  | ⟨0, _⟩ => show 0 + i.val = 0; omega
  | ⟨1, _⟩ => show 0 + j.val = j.val; omega

theorem row1_real {x : S2x768.Idx → EReal} {X : ℕ → ℕ → ℝ} (hx : Rows x X) : Rows (row1 (F := Ideal) x) (fun _ => X 1) := by
  intro i j
  have hc : shapeCast S2x768 x shapeCasts_S2x768_S2x768 = x := by
    funext y; simp only [pointwise]
  unfold row1
  rw [hc]
  refine Eq.trans (congrArg x (funext fun a => Fin.ext ?_)) (hx 1 j)
  match a with
  | ⟨0, _⟩ => show 1 + i.val = 1; omega
  | ⟨1, _⟩ => show 0 + j.val = j.val; omega

theorem hRow_real {x : S1x768.Idx → EReal} {X : ℕ → ℝ} (hx : Rows x fun _ => X) (h : Fin 6) :
    Rows (hRow (F := Ideal) x h) (fun _ => hd X h.val) := by
  intro i j
  unfold hRow
  refine Eq.trans ?_ (hx 0 ⟨128 * h.val + j.val, by omega⟩)
  simp only [pointwise]
  refine congrArg x (funext fun a => Fin.ext ?_)
  match a with
  | ⟨0, _⟩ => rfl
  | ⟨1, _⟩ => rfl

/-- A row of six heads, from each head's. -/
def six (X : ℕ → ℕ → ℝ) (k : ℕ) : ℝ := X (k / 128) (k % 128)

theorem hSix_real {f : Fin 6 → S1x128.Idx → EReal} {X : ℕ → ℕ → ℝ} (hf : ∀ h, Rows (f h) fun _ => X h.val) :
    Rows (hSix (F := Ideal) f) (fun _ => six X) := by
  intro i j
  have hj : j.val / 128 < 6 := by omega
  refine Eq.trans ?_ (hf ⟨j.val / 128, hj⟩ 0 ⟨j.val % 128, Nat.mod_lt _ (by decide)⟩)
  refine concatenate_ofFn_apply (t := S1x768) (s₁ := S1x128) 1 f concatenates_S1x128_S1x128_S1x128_S1x128_S1x128_S1x128_S1x768_d1 rfl 128 rfl (ix2 i j)
    ⟨j.val / 128, hj⟩ rfl (ix2 (0 : Fin 1) (⟨j.val % 128, Nat.mod_lt _ (by decide)⟩ : Fin 128)) rfl (fun b hb => ?_)
  match b with
  | ⟨0, _⟩ => show 0 = i.val; omega
  | ⟨1, _⟩ => exact absurd rfl hb

theorem hAcc_real {f g : Fin 6 → S1x128.Idx → EReal} {acc : S2x768.Idx → EReal} {X Y ACC : ℕ → ℕ → ℝ}
    (hf : ∀ h, Rows (f h) fun _ => X h.val) (hg : ∀ h, Rows (g h) fun _ => Y h.val) (ha : Rows acc ACC) :
    Rows (hAcc (F := Ideal) f g acc) (fun r k => ACC r k + if r = 0 then six X k else six Y k) := by
  intro i j
  have h3 := two_real (hSix_real hf) (hSix_real hg) concatenates_S1x768_S1x768_S2x768_d0
  refine Eq.trans (b := shapeCast S2x768 acc shapeCasts_S2x768_S2x768 (ix2 i j) + _) ?_ (Eq.trans (congrArg₂ (· + ·) ?_ (h3 i j)) (EReal.coe_add _ _).symm)
  · rfl
  · simp only [pointwise, ha _ _]

end Cert.Kernel2Ideal.Post
-- ==== Proof.PostRef.lean ====
module

public import proofs.«01_k».proof.Proof.Gen.Reference2Ideal.Read
public import proofs.«01_k».proof.Proof.PostReal
public import Idealize.ShloMosaic.Lib.KernelVsHost

@[expose] public section

set_option maxRecDepth 16384

noncomputable section

namespace Cert.Reference2Ideal.Post

open Idealize.ShloMosaic Idealize.ShloMosaic.TcCoe
open Cert.Reference2Ideal.Gen Cert.Reference2Ideal.Read Cert.Post
open Cert.KernelIdeal.Ret (coe_sum div_coe lit_1 lit_128 sitofp_nat)
open Cert.Kernel2Ideal.Post (Rows two_real lit_1024 lit_al lit_eps div_1024 div_128 rsqrt_var)

/-! # The reference's gradients over the real numbers -/

/-- An array of rows that holds `X`. -/
def M2 {A B : ℕ} (x : (⟨2, ![A, B]⟩ : Shape).Idx → EReal) (X : ℕ → ℕ → ℝ) : Prop :=
  ∀ i : (⟨2, ![A, B]⟩ : Shape).Idx, x i = ((X (i 0).val (i 1).val : ℝ) : EReal)

/-- One row. -/
def M1 {A : ℕ} (x : (⟨1, ![A]⟩ : Shape).Idx → EReal) (X : ℕ → ℝ) : Prop := ∀ i : (⟨1, ![A]⟩ : Shape).Idx, x i = ((X (i 0).val : ℝ) : EReal)

/-- Rows of heads. -/
def M3 {A B C : ℕ} (x : (⟨3, ![A, B, C]⟩ : Shape).Idx → EReal) (X : ℕ → ℕ → ℕ → ℝ) : Prop :=
  ∀ i : (⟨3, ![A, B, C]⟩ : Shape).Idx, x i = ((X (i 0).val (i 1).val (i 2).val : ℝ) : EReal)

/-- The arguments' values. -/
structure Reals where
  O : ℕ → ℕ → ℝ
  G : ℕ → ℕ → ℝ
  YS : ℕ → ℕ → ℝ
  H : ℕ → ℕ → ℝ
  GG : ℕ → ℝ
  GB : ℕ → ℝ
  W : ℕ → ℕ → ℝ
  LG : ℕ → ℝ
  DM : ℕ → ℕ → ℝ
  DR : ℕ → ℕ → ℝ

namespace Reals

variable (a : Reals) (r : ℕ)

/-- The branches side by side. -/
def YC : ℕ → ℝ := ryc (a.YS r) (ryr (a.G r) (a.O r) a.GG a.GB)

/-- The first norm's input. -/
def R1 : ℕ → ℝ := rr1 a.W (a.H r) (a.YC r)

/-- The gradient of the first norm's input. -/
def D1 : ℕ → ℝ := rdr (a.DM r) (a.DR r) (xh 1024 (a.R1 r)) (rs 1024 (a.R1 r)) a.LG

/-- The gradient of the branches. -/
def DY : ℕ → ℝ := rdyc (a.DM r) (a.DR r) (xh 1024 (a.R1 r)) (rs 1024 (a.R1 r)) a.LG a.W

/-- The gradient of the first norm's output. -/
def DH : ℕ → ℝ := rdh (a.DM r) (a.DR r)

/-- The gradient of the normalised heads. -/
def DN : ℕ → ℝ := rdon (a.DY r) (a.G r)

end Reals

/-- The arguments hold these values. -/
structure Is (a : Reals) (x0 x1 : S4112x768.Idx → EReal) (x2 : S4112x256.Idx → EReal) (x3 : S4112x1024.Idx → EReal) (x4 x5 : S768.Idx → EReal)
    (x6 : S1024x1024.Idx → EReal) (x7 : S1024.Idx → EReal) (x9 x10 : S4112x1024.Idx → EReal) : Prop where
  h0 : M2 x0 a.O
  h1 : M2 x1 a.G
  h2 : M2 x2 a.YS
  h3 : M2 x3 a.H
  h4 : M1 x4 a.GG
  h5 : M1 x5 a.GB
  h6 : M2 x6 a.W
  h7 : M1 x7 a.LG
  h9 : M2 x9 a.DM
  h10 : M2 x10 a.DR

theorem lit_mhalf : Ideal.ofBits FTy.f32 0xBF000000#32 = ((-(1 / 2) : ℝ) : EReal) := by simp [Ideal.ofBits, Ideal.ieee, -EReal.coe_mul]; norm_num

theorem div_var (x : ℝ) (n : ℕ) (f : ℕ → ℝ) : Ideal.div (x : EReal) ((var n f : ℝ) : EReal) = ((x / var n f : ℝ) : EReal) := div_coe _ _ (var_pos n f).ne'

theorem div_sg (x : ℝ) : Ideal.div ((1 : ℝ) : EReal) ((1 + Real.exp (-x) : ℝ) : EReal) = ((sg x : ℝ) : EReal) := by
  rw [div_coe _ _ (by positivity), one_div]; rfl

variable {a : Reals} {x0 x1 : S4112x768.Idx → EReal} {x2 : S4112x256.Idx → EReal} {x3 : S4112x1024.Idx → EReal} {x4 x5 : S768.Idx → EReal}
  {x6 : S1024x1024.Idx → EReal} {x7 : S1024.Idx → EReal} {x9 x10 : S4112x1024.Idx → EReal} (h : Is a x0 x1 x2 x3 x4 x5 x6 x7 x9 x10)

include h

/-! ## The heads and their norm -/

theorem v0_real : M3 (val_main_v0 (F := Ideal) x0) (fun r k e => hd (a.O r) k e) := by
  intro i
  have b0 : (i 0).val < 4112 := (i 0).isLt
  have b1 : (i 1).val < 6 := (i 1).isLt
  have b2 : (i 2).val < 128 := (i 2).isLt
  rw [val_main_v0_apply, h.h0 _]
  refine congrArg Real.toEReal ?_
  show a.O ((((i 0).val * 6 + (i 1).val) * 128 + (i 2).val) / 768) ((((i 0).val * 6 + (i 1).val) * 128 + (i 2).val) % 768) = a.O (i 0).val (128 * (i 1).val + (i 2).val)
  congr 1 <;> omega

theorem v6_real : M3 (val_main_v6 (F := Ideal) x0) (fun r k e => xc 128 (hd (a.O r) k) e) := by
  intro i
  simp only [val_main_v6_apply, val_main_v5_apply, val_main_v4_apply, val_main_v3_apply, val_main_v2_apply, val_main_v1_apply, val_main_cst, val_main_cst_0,
    pointwise, v0_real h _, lit_128, zero_add, ← coe_sum, div_128, ← EReal.coe_sub]
  rfl

theorem v13_real : M3 (val_main_v13 (F := Ideal) x0) (fun r k _ => var 128 (hd (a.O r) k)) := by
  intro i
  simp only [val_main_v13_apply, val_main_v12_apply, val_main_v11_apply, val_main_v10_apply, val_main_v9_apply, val_main_v8_apply, val_main_v7_apply,
    val_main_cst_1, val_main_cst_2, val_main_cst_3, pointwise, v6_real h _, lit_128, lit_eps, zero_add, ← EReal.coe_mul, ← coe_sum, div_128, ← EReal.coe_add]
  rfl

theorem v14_real : M3 (val_main_v14 (F := Ideal) x0) (fun r k _ => rs 128 (hd (a.O r) k)) := by
  intro i
  simp only [val_main_v14_apply, pointwise, v13_real h _, rsqrt_var]

theorem v17_real : M3 (val_main_v17 (F := Ideal) x0) (fun r k _ => -(1 / 2) * (rs 128 (hd (a.O r) k) / var 128 (hd (a.O r) k))) := by
  intro i
  simp only [val_main_v17_apply, val_main_v16_apply, val_main_v15_apply, val_main_cst_4, pointwise, v13_real h _, v14_real h _, lit_mhalf, div_var, ← EReal.coe_mul]

theorem v20_real : M2 (val_main_v20 (F := Ideal) x0) (fun r l => roxh (a.O r) l) := by
  intro i
  have b0 : (i 0).val < 4112 := (i 0).isLt
  have b1 : (i 1).val < 768 := (i 1).isLt
  simp only [val_main_v20_apply, val_main_v19_apply, val_main_v18_apply, pointwise, v6_real h _, v14_real h _, ← EReal.coe_mul]
  refine congrArg Real.toEReal ?_
  have e0 : ((i 0).val * 768 + (i 1).val) / 768 = (i 0).val := by omega
  have e1 : ((i 0).val * 768 + (i 1).val) / 128 % 6 = (i 1).val / 128 := by omega
  have e2 : ((i 0).val * 768 + (i 1).val) % 128 = (i 1).val % 128 := by omega
  show xh 128 (hd (a.O (((i 0).val * 768 + (i 1).val) / 768)) (((i 0).val * 768 + (i 1).val) / 128 % 6)) (((i 0).val * 768 + (i 1).val) % 128) = _
  rw [e0, e1, e2]
  rfl

theorem v26_real : M2 (val_main_v26 (F := Ideal) x0 x4 x5) (fun r l => roxh (a.O r) l * a.GG l + a.GB l) := by
  intro i
  simp only [val_main_v26_apply, val_main_v25_apply, val_main_v24_apply, val_main_v23_apply, val_main_v22_apply, val_main_v21_apply, pointwise,
    v20_real h _, h.h4 _, h.h5 _, ← EReal.coe_mul, ← EReal.coe_add]

/-! ## The gate and the mixing -/

theorem v27_2_real : M2 (val_main_v27_2 (F := Ideal) x1) (fun r l => sg (a.G r l)) := by
  intro i
  simp only [val_main_v27_2_apply, val_main_call0_v4_apply, val_main_call0_v3_apply, val_main_call0_v2_apply, val_main_call0_v1_apply, val_main_call0_v0_apply,
    val_main_call0_cst, val_main_call0_cst_0, pointwise, h.h1 _, lit_1, ← EReal.coe_neg, Ideal.exp_coe, ← EReal.coe_add, div_sg]

theorem v27_1_real : M2 (val_main_v27_1 (F := Ideal) x1) (fun r l => sg (a.G r l) * (1 - sg (a.G r l))) := by
  intro i
  simp only [val_main_v27_1_apply, val_main_call0_v7_apply, val_main_call0_v6_apply, val_main_call0_cst_1, pointwise, v27_2_real h _, lit_1, ← EReal.coe_sub, ← EReal.coe_mul]

theorem v27_0_real : M2 (val_main_v27_0 (F := Ideal) x1) (fun r l => a.G r l * sg (a.G r l)) := by
  intro i
  simp only [val_main_v27_0_apply, pointwise, v27_2_real h _, h.h1 _, ← EReal.coe_mul]

theorem v28_real : M2 (val_main_v28 (F := Ideal) x0 x1 x4 x5) (fun r => ryr (a.G r) (a.O r) a.GG a.GB) := by
  intro i
  simp only [val_main_v28_apply, pointwise, v27_0_real h _, v26_real h _, ← EReal.coe_mul]
  rfl

theorem v29_real : M2 (val_main_v29 (F := Ideal) x0 x1 x2 x4 x5) a.YC := by
  intro i
  have b1 : (i 1).val < 1024 := (i 1).isLt
  have h28 := v28_real h
  unfold val_main_v29
  generalize val_main_v28 (F := Ideal) x0 x1 x4 x5 = T at h28 ⊢
  unfold Reals.YC ryc
  by_cases hj : (i 1).val < 256
  · rw [if_pos hj]
    refine Eq.trans (concatenate_pair_apply_left 1 x2 T concatenates_S4112x256_S4112x768_S4112x1024_d1 i rfl (ix2 (i 0) (⟨(i 1).val, hj⟩ : Fin 256)) fun b => ?_) (h.h2 _)
    match b with
    | ⟨0, _⟩ => rfl
    | ⟨1, _⟩ => rfl
  · rw [if_neg hj]
    refine Eq.trans (concatenate_pair_apply_right 1 x2 T concatenates_S4112x256_S4112x768_S4112x1024_d1 i rfl rfl (ix2 (i 0) (⟨(i 1).val - 256, by omega⟩ : Fin 768)) (fun b hb => ?_) ?_) (h28 _)
    · match b with
      | ⟨0, _⟩ => rfl
      | ⟨1, _⟩ => exact absurd rfl hb
    · show (i 1).val - 256 + 256 = (i 1).val; omega

theorem v33_real : M2 (val_main_v33 (F := Ideal) x0 x1 x2 x3 x4 x5 x6) a.R1 := by
  intro i
  simp only [val_main_v33_apply, val_main_v32_apply, val_main_v31_apply, val_main_v30_apply, val_main_cst_5, pointwise, v29_real h _, h.h3 _, h.h6 _, lit_al,
    ← EReal.coe_mul, ← coe_sum, ← EReal.coe_add]
  rfl

/-! ## The first norm -/

theorem v39_real : M2 (val_main_v39 (F := Ideal) x0 x1 x2 x3 x4 x5 x6) (fun r => xc 1024 (a.R1 r)) := by
  intro i
  simp only [val_main_v39_apply, val_main_v38_apply, val_main_v37_apply, val_main_v36_apply, val_main_v35_apply, val_main_v34_apply, val_main_cst_6, val_main_cst_7,
    pointwise, v33_real h _, lit_1024, zero_add, ← coe_sum, div_1024, ← EReal.coe_sub]
  rfl

theorem v46_real : M2 (val_main_v46 (F := Ideal) x0 x1 x2 x3 x4 x5 x6) (fun r _ => var 1024 (a.R1 r)) := by
  intro i
  simp only [val_main_v46_apply, val_main_v45_apply, val_main_v44_apply, val_main_v43_apply, val_main_v42_apply, val_main_v41_apply, val_main_v40_apply,
    val_main_cst_8, val_main_cst_9, val_main_cst_10, pointwise, v39_real h _, lit_1024, lit_eps, zero_add, ← EReal.coe_mul, ← coe_sum, div_1024, ← EReal.coe_add]
  rfl

theorem v47_real : M2 (val_main_v47 (F := Ideal) x0 x1 x2 x3 x4 x5 x6) (fun r _ => rs 1024 (a.R1 r)) := by
  intro i
  simp only [val_main_v47_apply, pointwise, v46_real h _, rsqrt_var]

theorem v50_real : M2 (val_main_v50 (F := Ideal) x0 x1 x2 x3 x4 x5 x6) (fun r _ => -(1 / 2) * (rs 1024 (a.R1 r) / var 1024 (a.R1 r))) := by
  intro i
  simp only [val_main_v50_apply, val_main_v49_apply, val_main_v48_apply, val_main_cst_11, pointwise, v46_real h _, v47_real h _, lit_mhalf, div_var, ← EReal.coe_mul]

theorem v52_real : M2 (val_main_v52 (F := Ideal) x0 x1 x2 x3 x4 x5 x6) (fun r => xh 1024 (a.R1 r)) := by
  intro i
  simp only [val_main_v52_apply, val_main_v51_apply, pointwise, v39_real h _, v47_real h _, ← EReal.coe_mul]
  rfl

theorem v63_real : M2 (val_main_v63 (F := Ideal) x9 x10) a.DH := by
  intro i
  simp only [val_main_v63_apply, val_main_v62_apply, val_main_v61_apply, val_main_cst_13, pointwise, h.h9 _, h.h10 _, lit_al, ← EReal.coe_mul, ← EReal.coe_add]
  rfl

theorem v64_real : M2 (val_main_v64 (F := Ideal) x9 x10) a.DH := by
  intro i
  have b0 : (i 0).val < 4112 := (i 0).isLt
  have b1 : (i 1).val < 1024 := (i 1).isLt
  rw [val_main_v64_apply, v63_real h _]
  refine congrArg Real.toEReal ?_
  congr 1 <;> first | rfl | (show ((i 0).val * 1024 + (i 1).val) / 1024 = (i 0).val; omega) | (show ((i 0).val * 1024 + (i 1).val) % 1024 = (i 1).val; omega)

theorem v67_real : M1 (val_main_v67 (F := Ideal) x9 x10) (fun k => ∑ r : Fin 4112, a.DH r.val k) := by
  intro i
  simp only [val_main_v67_apply, val_main_v66_apply, val_main_v65_apply, val_main_cst_14, val_main_cst_15, pointwise, v63_real h _, zero_add, ← coe_sum, Fin.sum_univ_one]
  simp only [Nat.zero_mul, Nat.zero_add]

theorem v73_real : M1 (val_main_v73 (F := Ideal) x0 x1 x2 x3 x4 x5 x6 x9 x10) (fun k => ∑ r : Fin 4112, xh 1024 (a.R1 r.val) k * a.DH r.val k) := by
  intro i
  simp only [val_main_v73_apply, val_main_v70_apply, val_main_v69_apply, val_main_v68_apply, val_main_cst_16, val_main_cst_17, pointwise, v52_real h _, v64_real h _,
    zero_add, ← EReal.coe_mul, ← coe_sum, Fin.sum_univ_one]
  simp only [Nat.zero_mul, Nat.zero_add]

theorem v72_real : M2 (val_main_v72 (F := Ideal) x7 x9 x10) (fun r k => a.DH r k * a.LG k) := by
  intro i
  simp only [val_main_v72_apply, val_main_v71_apply, val_main_v53_apply, pointwise, v64_real h _, h.h7 _, ← EReal.coe_mul]

theorem v83_real : M2 (val_main_v83 (F := Ideal) x0 x1 x2 x3 x4 x5 x6 x7 x9 x10) (fun r _ => lnt 1024 (fun k => a.DH r k * a.LG k) (a.R1 r)) := by
  intro i
  simp only [val_main_v83_apply, val_main_v82_apply, val_main_v81_apply, val_main_v80_apply, val_main_v79_apply, val_main_v76_apply, val_main_v75_apply, val_main_v74_apply,
    val_main_cst_18, val_main_cst_19, val_main_cst_20, pointwise, v39_real h _, v72_real h _, v50_real h _, lit_1024, zero_add, ← EReal.coe_mul, ← coe_sum, Fin.sum_univ_one, div_1024]
  simp only [Nat.mul_one, Nat.add_zero]
  rfl

theorem v87_real : M2 (val_main_v87 (F := Ideal) x0 x1 x2 x3 x4 x5 x6 x7 x9 x10) (fun r => lng 1024 (fun k => a.DH r k * a.LG k) (a.R1 r)) := by
  intro i
  simp only [val_main_v87_apply, val_main_v86_apply, val_main_v85_apply, val_main_v84_apply, val_main_v78_apply, val_main_v77_apply,
    pointwise, v39_real h _, v47_real h _, v72_real h _, v83_real h _, ← EReal.coe_mul, ← EReal.coe_add]
  rfl

theorem v95_real : M2 (val_main_v95 (F := Ideal) x0 x1 x2 x3 x4 x5 x6 x7 x9 x10) a.D1 := by
  intro i
  simp only [val_main_v95_apply, val_main_v94_apply, val_main_v93_apply, val_main_v92_apply, val_main_v91_apply, val_main_v90_apply, val_main_v89_apply, val_main_v88_apply,
    val_main_cst_21, val_main_cst_22, val_main_cst_23, pointwise, v87_real h _, lit_1024, zero_add, ← EReal.coe_neg, ← coe_sum, Fin.sum_univ_one, div_1024, ← EReal.coe_add]
  simp only [Nat.mul_one, Nat.add_zero]
  exact congrArg Real.toEReal (lng_eq 1024 (by norm_num) _ _ _)

theorem v97_real : M2 (val_main_v97 (F := Ideal) x0 x1 x2 x3 x4 x5 x6 x7 x9 x10) (fun r k => al * a.D1 r k) := by
  intro i
  simp only [val_main_v97_apply, val_main_v96_apply, val_main_cst_24, pointwise, v95_real h _, lit_al, ← EReal.coe_mul]

theorem v144_real : M2 (val_main_v144 (F := Ideal) x0 x1 x2 x3 x4 x5 x6 x7 x9 x10) (fun j k => ∑ r : Fin 4112, a.YC r.val j * a.D1 r.val k) := by
  intro i
  simp only [val_main_v144_apply, val_main_v99_apply, val_main_v98_apply, pointwise, v95_real h _, v29_real h _, ← EReal.coe_mul, ← coe_sum]
  exact congrArg Real.toEReal (Finset.sum_congr rfl fun r _ => mul_comm _ _)

theorem v100_real : M2 (val_main_v100 (F := Ideal) x0 x1 x2 x3 x4 x5 x6 x7 x9 x10) a.DY := by
  intro i
  simp only [val_main_v100_apply, pointwise, v95_real h _, h.h6 _, ← EReal.coe_mul, ← coe_sum]
  rfl

theorem v101_real : M2 (val_main_v101 (F := Ideal) x0 x1 x2 x3 x4 x5 x6 x7 x9 x10) a.DY := by
  intro i
  rw [val_main_v101_apply, v100_real h _]

theorem v102_real : M2 (val_main_v102 (F := Ideal) x0 x1 x2 x3 x4 x5 x6 x7 x9 x10) (fun r => rdyr (a.DY r)) := by
  intro i
  rw [val_main_v102_apply, v100_real h _]
  refine congrArg Real.toEReal ?_
  unfold rdyr
  congr 1 <;> first | rfl | exact Nat.zero_add _ | exact Nat.add_comm _ _

/-! ## The gate and the heads, backwards -/

theorem v103_real : M2 (val_main_v103 (F := Ideal) x0 x1 x2 x3 x4 x5 x6 x7 x9 x10) a.DN := by
  intro i
  simp only [val_main_v103_apply, pointwise, v27_0_real h _, v102_real h _, ← EReal.coe_mul]
  refine congrArg Real.toEReal ?_
  unfold Reals.DN rdon
  ring

theorem v105_real : M2 (val_main_v105 (F := Ideal) x0 x1 x2 x3 x4 x5 x6 x7 x9 x10) (fun r => rdg (a.DY r) (a.G r) (a.O r) a.GG a.GB) := by
  intro i
  simp only [val_main_v105_apply, val_main_call1_v0_apply, val_main_call1_v1_apply, val_main_call1_v2_apply, val_main_v104_apply, pointwise, v27_2_real h _, v27_1_real h _,
    v26_real h _, v102_real h _, h.h1 _, ← EReal.coe_mul, ← EReal.coe_add]
  refine congrArg Real.toEReal ?_
  unfold rdg
  ring

theorem v108_real : M1 (val_main_v108 (F := Ideal) x0 x1 x2 x3 x4 x5 x6 x7 x9 x10) (fun l => ∑ r : Fin 4112, a.DN r.val l) := by
  intro i
  simp only [val_main_v108_apply, val_main_v107_apply, val_main_v106_apply, val_main_cst_25, val_main_cst_26, pointwise, v103_real h _, zero_add, ← coe_sum, Fin.sum_univ_one]
  simp only [Nat.zero_mul, Nat.zero_add]

theorem v114_real : M1 (val_main_v114 (F := Ideal) x0 x1 x2 x3 x4 x5 x6 x7 x9 x10) (fun l => ∑ r : Fin 4112, roxh (a.O r.val) l * a.DN r.val l) := by
  intro i
  simp only [val_main_v114_apply, val_main_v111_apply, val_main_v110_apply, val_main_v109_apply, val_main_cst_27, val_main_cst_28, pointwise, v20_real h _, v103_real h _,
    zero_add, ← EReal.coe_mul, ← coe_sum, Fin.sum_univ_one]
  simp only [Nat.zero_mul, Nat.zero_add]

/-- The gradient of the normalised heads, times the head norm's factors. -/
def DX (a : Reals) (r k : ℕ) (e : ℕ) : ℝ := hd (a.DN r) k e * hd a.GG k e

theorem v115_real : M3 (val_main_v115 (F := Ideal) x0 x1 x2 x3 x4 x5 x6 x7 x9 x10) (DX a) := by
  intro i
  have b0 : (i 0).val < 4112 := (i 0).isLt
  have b1 : (i 1).val < 6 := (i 1).isLt
  have b2 : (i 2).val < 128 := (i 2).isLt
  simp only [val_main_v115_apply, val_main_v113_apply, val_main_v112_apply, val_main_v21_apply, pointwise, v103_real h _, h.h4 _, ← EReal.coe_mul]
  refine congrArg Real.toEReal ?_
  have e0 : (((i 0).val * 6 + (i 1).val) * 128 + (i 2).val) / 768 = (i 0).val := by omega
  have e1 : (((i 0).val * 6 + (i 1).val) * 128 + (i 2).val) % 768 = 128 * (i 1).val + (i 2).val := by omega
  show a.DN ((((i 0).val * 6 + (i 1).val) * 128 + (i 2).val) / 768) ((((i 0).val * 6 + (i 1).val) * 128 + (i 2).val) % 768)
    * a.GG ((((i 0).val * 6 + (i 1).val) * 128 + (i 2).val) % 768) = _
  rw [e0, e1]
  rfl

theorem v125_real : M3 (val_main_v125 (F := Ideal) x0 x1 x2 x3 x4 x5 x6 x7 x9 x10) (fun r k _ => lnt 128 (DX a r k) (hd (a.O r) k)) := by
  intro i
  have b1 : (i 1).val < 6 := (i 1).isLt
  have e0 : ((i 0).val * 6 + (i 1).val) / 6 = (i 0).val := by omega
  have e1 : ((i 0).val * 6 + (i 1).val) % 6 = (i 1).val := by omega
  simp only [val_main_v125_apply, val_main_v124_apply, val_main_v123_apply, val_main_v122_apply, val_main_v121_apply, val_main_v118_apply, val_main_v117_apply, val_main_v116_apply,
    val_main_cst_29, val_main_cst_30, val_main_cst_31, pointwise, v6_real h _, v115_real h _, v17_real h _, lit_128, zero_add, ← EReal.coe_mul, ← coe_sum, Fin.sum_univ_one, div_128]
  simp only [Nat.mul_one, Nat.add_zero, e0, e1]
  rfl

theorem v129_real : M3 (val_main_v129 (F := Ideal) x0 x1 x2 x3 x4 x5 x6 x7 x9 x10) (fun r k => lng 128 (DX a r k) (hd (a.O r) k)) := by
  intro i
  simp only [val_main_v129_apply, val_main_v128_apply, val_main_v127_apply, val_main_v126_apply, val_main_v120_apply, val_main_v119_apply,
    pointwise, v6_real h _, v14_real h _, v115_real h _, v125_real h _, ← EReal.coe_mul, ← EReal.coe_add]
  rfl

theorem v137_real : M3 (val_main_v137 (F := Ideal) x0 x1 x2 x3 x4 x5 x6 x7 x9 x10)
    (fun r k => lnb 128 (DX a r k) (xh 128 (hd (a.O r) k)) (rs 128 (hd (a.O r) k))) := by
  intro i
  have b1 : (i 1).val < 6 := (i 1).isLt
  have e0 : ((i 0).val * 6 + (i 1).val) / 6 = (i 0).val := by omega
  have e1 : ((i 0).val * 6 + (i 1).val) % 6 = (i 1).val := by omega
  simp only [val_main_v137_apply, val_main_v136_apply, val_main_v135_apply, val_main_v134_apply, val_main_v133_apply, val_main_v132_apply, val_main_v131_apply, val_main_v130_apply,
    val_main_cst_32, val_main_cst_33, val_main_cst_34, pointwise, v129_real h _, lit_128, zero_add, ← EReal.coe_neg, ← coe_sum, Fin.sum_univ_one, div_128, ← EReal.coe_add]
  simp only [Nat.mul_one, Nat.add_zero, e0, e1]
  exact congrArg Real.toEReal (lng_eq 128 (by norm_num) _ _ _)

theorem v138_real : M2 (val_main_v138 (F := Ideal) x0 x1 x2 x3 x4 x5 x6 x7 x9 x10) (fun r => rdo (a.DY r) (a.G r) (a.O r) a.GG) := by
  intro i
  have b0 : (i 0).val < 4112 := (i 0).isLt
  have b1 : (i 1).val < 768 := (i 1).isLt
  rw [val_main_v138_apply, v137_real h _]
  refine congrArg Real.toEReal ?_
  have e0 : ((i 0).val * 768 + (i 1).val) / 768 = (i 0).val := by omega
  have e1 : ((i 0).val * 768 + (i 1).val) / 128 % 6 = (i 1).val / 128 := by omega
  have e2 : ((i 0).val * 768 + (i 1).val) % 128 = (i 1).val % 128 := by omega
  show lnb 128 (DX a (((i 0).val * 768 + (i 1).val) / 768) (((i 0).val * 768 + (i 1).val) / 128 % 6))
    (xh 128 (hd (a.O (((i 0).val * 768 + (i 1).val) / 768)) (((i 0).val * 768 + (i 1).val) / 128 % 6)))
    (rs 128 (hd (a.O (((i 0).val * 768 + (i 1).val) / 768)) (((i 0).val * 768 + (i 1).val) / 128 % 6))) (((i 0).val * 768 + (i 1).val) % 128) = _
  rw [e0, e1, e2]
  rfl

/-! ## The results -/

omit h in
/-- A result of rows, under the padding's zero rows. -/
theorem pad_real {B : ℕ} {x : (⟨2, ![4112, B]⟩ : Shape).Idx → EReal} {X : ℕ → ℕ → ℝ} (hx : M2 x X) (z : S_.Idx → EReal) (hz : ∀ i, z i = ((0 : ℝ) : EReal))
    (hp : (⟨2, ![4112, B]⟩ : Shape).Pads (![112, 0] : Fin 2 → Nat) ![0, 0] ![0, 0] (⟨2, ![4224, B]⟩ : Shape)) (hs : 0 < S_.numel) :
    M2 (pad (⟨2, ![4224, B]⟩ : Shape) ![112, 0] ![0, 0] ![0, 0] x z hp hs) (fun R => Cert.Post.pad X R) := by
  intro j
  have b0 : (j 0).val < 4224 := (j 0).isLt
  by_cases hR : 112 ≤ (j 0).val
  · refine (pad_apply_of_inside _ _ _ x z hp hs j (ix2 (⟨(j 0).val - 112, by omega⟩ : Fin 4112) (j 1)) fun b => ?_).trans ((hx _).trans ?_)
    · match b with
      | ⟨0, _⟩ => show (j 0).val = 112 + ((j 0).val - 112) * (0 + 1); omega
      | ⟨1, _⟩ => show (j 1).val = 0 + (j 1).val * (0 + 1); omega
    · refine congrArg Real.toEReal ?_
      show _ = (if 112 ≤ (j 0).val then X ((j 0).val - 112) else fun _ => 0) (j 1).val
      exact (congrFun (if_pos hR) (j 1).val).symm
  · refine (pad_apply_of_not_inside _ _ _ x z hp hs j 0 fun hh => hR hh.1).trans ((hz _).trans ?_)
    refine congrArg Real.toEReal ?_
    show _ = (if 112 ≤ (j 0).val then X ((j 0).val - 112) else fun _ => 0) (j 1).val
    rw [if_neg hR]

omit h in
theorem m2_of_rows {A B : ℕ} {x : (⟨2, ![A, B]⟩ : Shape).Idx → EReal} {X : ℕ → ℕ → ℝ} (hx : Rows x X) : M2 x X := by
  intro i
  refine Eq.trans (congrArg x (funext fun b => ?_)) (hx (i 0) (i 1))
  match b with
  | ⟨0, _⟩ => rfl
  | ⟨1, _⟩ => rfl

omit h in
theorem rows_of_m2 {A B : ℕ} {x : (⟨2, ![A, B]⟩ : Shape).Idx → EReal} {X : ℕ → ℕ → ℝ} (hx : M2 x X) : Rows x X := fun i j => hx (ix2 i j)

omit h in
theorem zero_real (i : S_.Idx) : (sitofp (F := Ideal) .f32 (constantI S_ 32 0#32) : S_.Idx → EReal) i = ((0 : ℝ) : EReal) := by
  simp only [pointwise]
  show FloatOps.sitofp (F := Ideal) FTy.f32 (BitVec.ofNat 32 0) = _
  rw [sitofp_nat 0 (by norm_num)]; simp

/-- The heads' gradient. -/
theorem v139_real : M2 (val_main_v139 (F := Ideal) x0 x1 x2 x3 x4 x5 x6 x7 x9 x10) (pad fun r => rdo (a.DY r) (a.G r) (a.O r) a.GG) :=
  pad_real (v138_real h) _ zero_real _ _

/-- The gate's gradient. -/
theorem v141_real : M2 (val_main_v141 (F := Ideal) x0 x1 x2 x3 x4 x5 x6 x7 x9 x10) (pad fun r => rdg (a.DY r) (a.G r) (a.O r) a.GG a.GB) := by
  intro i
  simp only [val_main_v141_apply, pointwise]
  exact pad_real (v105_real h) _ zero_real _ _ i

/-- The other branch's gradient. -/
theorem v142_real : M2 (val_main_v142 (F := Ideal) x0 x1 x2 x3 x4 x5 x6 x7 x9 x10) (pad a.DY) :=
  pad_real (v101_real h) _ zero_real _ _

/-- The layer input's gradient. -/
theorem v143_real : M2 (val_main_v143 (F := Ideal) x0 x1 x2 x3 x4 x5 x6 x7 x9 x10) (pad fun r k => al * a.D1 r k) :=
  pad_real (v97_real h) _ zero_real _ _

/-- The first norm's gradients. -/
theorem v147_real : M2 (val_main_v147 (F := Ideal) x0 x1 x2 x3 x4 x5 x6 x9 x10)
    (fun i k => if i = 0 then ∑ r : Fin 4112, xh 1024 (a.R1 r.val) k * a.DH r.val k else ∑ r : Fin 4112, a.DH r.val k) := by
  refine m2_of_rows (two_real ?_ ?_ _)
  · intro i j
    rw [val_main_v145_apply, v73_real h _]
    refine congrArg Real.toEReal ?_
    rfl
  · intro i j
    rw [val_main_v146_apply, v67_real h _]
    refine congrArg Real.toEReal ?_
    rfl

/-- The head norm's gradients. -/
theorem v150_real : M2 (val_main_v150 (F := Ideal) x0 x1 x2 x3 x4 x5 x6 x7 x9 x10)
    (fun i l => if i = 0 then ∑ r : Fin 4112, roxh (a.O r.val) l * a.DN r.val l else ∑ r : Fin 4112, a.DN r.val l) := by
  refine m2_of_rows (two_real ?_ ?_ _)
  · intro i j
    rw [val_main_v148_apply, v114_real h _]
    refine congrArg Real.toEReal ?_
    rfl
  · intro i j
    rw [val_main_v149_apply, v108_real h _]
    refine congrArg Real.toEReal ?_
    rfl

end Cert.Reference2Ideal.Post
-- ==== Proof.PostHost.lean ====
module

public import proofs.«01_k».proof.Proof.Gen.Kernel2Ideal.Frame.Runs
public import proofs.«01_k».proof.Proof.PostRef
public import Idealize.ShloMosaic.Lib.StableHlo.RunRead

@[expose] public section

set_option maxRecDepth 16384

noncomputable section

namespace Cert.Kernel2Ideal.Post

open Idealize.ShloMosaic Idealize.ShloMosaic.TcCoe
open Idealize.SL Idealize.SL.Sem
open Cert.Kernel2Ideal.Gen Cert.Post
open Cert.Reference2Ideal.Post (M1 M2 Reals pad_real zero_real rows_of_m2 v29_real v47_real v52_real)

/-! # The arrays the host prepares for the second region -/

/-- The two branches side by side. -/
def catY {α : Type} (a : S4112x256.Idx → α) (b : S4112x768.Idx → α) : S4112x1024.Idx → α :=
  concatenate S4112x1024 1 [⟨S4112x256, a⟩, ⟨S4112x768, b⟩] concatenates_S4112x256_S4112x768_S4112x1024_d1

theorem catY_eq {α : Type} (a : S4112x256.Idx → α) (b : S4112x768.Idx → α) :
    concatenate S4112x1024 1 [⟨S4112x256, a⟩, ⟨S4112x768, b⟩] concatenates_S4112x256_S4112x768_S4112x1024_d1 = catY a b := rfl

/-- Two rows, one after the other. -/
def catG {α : Type} (a b : S1x768.Idx → α) : S2x768.Idx → α :=
  concatenate S2x768 0 [⟨S1x768, a⟩, ⟨S1x768, b⟩] concatenates_S1x768_S1x768_S2x768_d0

theorem catG_eq {α : Type} (a b : S1x768.Idx → α) :
    concatenate S2x768 0 [⟨S1x768, a⟩, ⟨S1x768, b⟩] concatenates_S1x768_S1x768_S2x768_d0 = catG a b := rfl

/-- The padding's value. -/
def zeroP : FVec Ideal S_ .f32 := sitofp .f32 (constantI S_ 32 0#32)

variable (m : (ℓ : Loc nD τ sig) → Buf (Elt Ideal) ℓ) (c : Dev nD)

theorem V_dm : V m c main_v45 = pad S4224x1024 ![112, 0] ![0, 0] ![0, 0] (m (c, Proc.devRef .tc main_arg9)) zeroP pads_S4112x1024_S4224x1024_11200_000 h_S_ := by
  unfold V
  after_reads_simp [catY_eq, catG_eq]
  rfl

theorem V_dr : V m c main_v46 = pad S4224x1024 ![112, 0] ![0, 0] ![0, 0] (m (c, Proc.devRef .tc main_arg10)) zeroP pads_S4112x1024_S4224x1024_11200_000 h_S_ := by
  unfold V
  after_reads_simp [catY_eq, catG_eq]
  rfl

theorem V_o : V m c main_v53 = pad S4224x768 ![112, 0] ![0, 0] ![0, 0] (m (c, Proc.devRef .tc main_arg0)) zeroP pads_S4112x768_S4224x768_11200_000 h_S_ := by
  unfold V
  after_reads_simp [catY_eq, catG_eq]
  rfl

theorem V_gate : V m c main_v54 = pad S4224x768 ![112, 0] ![0, 0] ![0, 0] (m (c, Proc.devRef .tc main_arg1)) zeroP pads_S4112x768_S4224x768_11200_000 h_S_ := by
  unfold V
  after_reads_simp [catY_eq, catG_eq]
  rfl

theorem V_gn : V m c main_v57 = catG (broadcastInDim S1x768 ![1] bcast_S768_S1x768_1 (m (c, Proc.devRef .tc main_arg4)))
    (broadcastInDim S1x768 ![1] bcast_S768_S1x768_1 (m (c, Proc.devRef .tc main_arg5))) := by
  unfold V
  after_reads_simp [catY_eq, catG_eq]

theorem V_lg : V m c main_v58 = shapeCast S1x1024 (m (c, Proc.devRef .tc main_arg7)) shapeCasts_S1024_S1x1024 := by
  unfold V
  after_reads_simp [catY_eq, catG_eq]
  rfl

theorem V_wo : V m c main_v59 = truncf (F := Ideal) .bf16 (m (c, Proc.devRef .tc main_arg6)) bitsLt_bf16_f32 := by
  unfold V
  after_reads_simp [catY_eq, catG_eq]

theorem V_yc : V m c main_v52 = truncf (F := Ideal) .bf16 (pad S4224x1024 ![112, 0] ![0, 0] ![0, 0]
      (Cert.Reference2Ideal.Read.val_main_v29 (F := Ideal) (m (c, Proc.devRef .tc main_arg0)) (m (c, Proc.devRef .tc main_arg1)) (m (c, Proc.devRef .tc main_arg2))
        (m (c, Proc.devRef .tc main_arg4)) (m (c, Proc.devRef .tc main_arg5))) zeroP pads_S4112x1024_S4224x1024_11200_000 h_S_) bitsLt_bf16_f32 := by
  unfold V
  after_reads_simp [catY_eq, catG_eq]
  rfl

theorem V_rs : V m c main_v50 = pad S4224x1 ![112, 0] ![0, 0] ![0, 0]
      (Cert.Reference2Ideal.Read.val_main_v47 (F := Ideal) (m (c, Proc.devRef .tc main_arg0)) (m (c, Proc.devRef .tc main_arg1)) (m (c, Proc.devRef .tc main_arg2))
        (m (c, Proc.devRef .tc main_arg3)) (m (c, Proc.devRef .tc main_arg4)) (m (c, Proc.devRef .tc main_arg5)) (m (c, Proc.devRef .tc main_arg6)))
      zeroP pads_S4112x1_S4224x1_11200_000 h_S_ := by
  unfold V
  after_reads_simp [catY_eq, catG_eq]
  rfl

theorem V_xh : V m c main_v49 = pad S4224x1024 ![112, 0] ![0, 0] ![0, 0]
      (Cert.Reference2Ideal.Read.val_main_v52 (F := Ideal) (m (c, Proc.devRef .tc main_arg0)) (m (c, Proc.devRef .tc main_arg1)) (m (c, Proc.devRef .tc main_arg2))
        (m (c, Proc.devRef .tc main_arg3)) (m (c, Proc.devRef .tc main_arg4)) (m (c, Proc.devRef .tc main_arg5)) (m (c, Proc.devRef .tc main_arg6)))
      zeroP pads_S4112x1024_S4224x1024_11200_000 h_S_ := by
  unfold V
  after_reads_simp [catY_eq, catG_eq]
  rfl

/-- The arguments of device `c` hold the real numbers `a`. -/
def Args (a : Reals) : Prop :=
  Cert.Reference2Ideal.Post.Is a (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) (m (c, Proc.devRef .tc main_arg6))
    (m (c, Proc.devRef .tc main_arg7)) (m (c, Proc.devRef .tc main_arg9)) (m (c, Proc.devRef .tc main_arg10))

variable {m c} {a : Reals} (A : Args m c a)

include A

theorem dm_rows : Rows (V m c main_v45 : S4224x1024.Idx → EReal) (Cert.Post.pad a.DM) := by
  rw [V_dm]; exact rows_of_m2 (pad_real A.h9 _ zero_real _ _)

theorem dr_rows : Rows (V m c main_v46 : S4224x1024.Idx → EReal) (Cert.Post.pad a.DR) := by
  rw [V_dr]; exact rows_of_m2 (pad_real A.h10 _ zero_real _ _)

theorem o_rows : Rows (V m c main_v53 : S4224x768.Idx → EReal) (Cert.Post.pad a.O) := by
  rw [V_o]; exact rows_of_m2 (pad_real A.h0 _ zero_real _ _)

theorem gate_rows : Rows (V m c main_v54 : S4224x768.Idx → EReal) (Cert.Post.pad a.G) := by
  rw [V_gate]; exact rows_of_m2 (pad_real A.h1 _ zero_real _ _)

theorem gn_rows : Rows (V m c main_v57 : S2x768.Idx → EReal) (fun r k => if r = 0 then a.GG k else a.GB k) := by
  rw [V_gn]
  exact two_real (fun i j => (A.h4 _).trans rfl) (fun i j => (A.h5 _).trans rfl) _

theorem lg_rows : Rows (V m c main_v58 : S1x1024.Idx → EReal) (fun _ => a.LG) := by
  rw [V_lg]
  intro i j
  simp only [pointwise, A.h7 _]

theorem wo_rows : Rows (V m c main_v59 : S1024x1024.Idx → EReal) a.W := by
  rw [V_wo]; exact fun i j => A.h6 _

theorem yc_rows : Rows (V m c main_v52 : S4224x1024.Idx → EReal) (Cert.Post.pad a.YC) := by
  rw [V_yc]; exact rows_of_m2 (pad_real (v29_real A) _ zero_real pads_S4112x1024_S4224x1024_11200_000 h_S_)

theorem rs_rows : Rows (V m c main_v50 : S4224x1.Idx → EReal) (Cert.Post.pad fun r _ => rs 1024 (a.R1 r)) := by
  rw [V_rs]; exact rows_of_m2 (pad_real (v47_real A) _ zero_real _ _)

theorem xh_rows : Rows (V m c main_v49 : S4224x1024.Idx → EReal) (Cert.Post.pad fun r => xh 1024 (a.R1 r)) := by
  rw [V_xh]; exact rows_of_m2 (pad_real (v52_real A) _ zero_real _ _)

end Cert.Kernel2Ideal.Post
-- ==== Proof.PostBlocks.lean ====
module

public import proofs.«01_k».proof.Proof.PostHost
public import proofs.«01_k».proof.Proof.Lanes
public import Idealize.ShloMosaic.Lib.Pipeline.ValueKit

@[expose] public section

set_option maxRecDepth 16384

noncomputable section

namespace Cert.Kernel2Ideal.Post

open Idealize.ShloMosaic Idealize.ShloMosaic.TcCoe
open Idealize.SL Idealize.SL.Sem
open Cert.Kernel2Ideal.Gen Cert.Post
open Cert.Reference2Ideal.Post (Reals)

/-! # The blocks a point of the second region reads, and the padded gradients -/

theorem idxIn : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0])

theorem idxOut : ∀ t : Fin cfg0.N, win0_10.index t = ![t.val, 0] ∧ win0_11.index t = ![t.val, 0] ∧ win0_12.index t = ![t.val, 0]
    ∧ win0_13.index t = ![t.val, 0] ∧ win0_14.index t = ![0, 0] ∧ win0_15.index t = ![0, 0] ∧ win0_16.index t = ![0, 0] :=
  (by decide +kernel : ∀ t : Fin grid0.N, win0_10.index t = ![t.val, 0] ∧ win0_11.index t = ![t.val, 0] ∧ win0_12.index t = ![t.val, 0]
    ∧ win0_13.index t = ![t.val, 0] ∧ win0_14.index t = ![0, 0] ∧ win0_15.index t = ![0, 0] ∧ win0_16.index t = ![0, 0])

theorem points : cfg0.N = 11 := by decide +kernel

/-- The row of the arrays that is row `i` of the block of point `t`. -/
def rowOf (t : Fin cfg0.N) (i : Fin 384) : Fin 4224 :=
  ⟨384 * t.val + i.val, by have : t.val < 11 := lt_of_lt_of_eq t.isLt points; omega⟩

section
variable (m : (ℓ : Loc nD τ sig) → Buf (Elt Ideal) ℓ) (c : Dev nD) (t : Fin cfg0.N)

theorem iblk0 (i : Fin 384) (l : Fin 1024) : iblk m c 0 t (ix2 i l) = V m c main_v45 (ix2 (rowOf t i) l) := by
  blk_ext [iblk, rowOf, (idxIn t).1]

theorem iblk1 (i : Fin 384) (l : Fin 1024) : iblk m c 1 t (ix2 i l) = V m c main_v46 (ix2 (rowOf t i) l) := by
  blk_ext [iblk, rowOf, (idxIn t).2.1]

theorem iblk2 (i : Fin 384) (l : Fin 1024) : iblk m c 2 t (ix2 i l) = V m c main_v49 (ix2 (rowOf t i) l) := by
  blk_ext [iblk, rowOf, (idxIn t).2.2.1]

theorem iblk3 (i : Fin 384) (l : Fin 1) : iblk m c 3 t (ix2 i l) = V m c main_v50 (ix2 (rowOf t i) l) := by
  blk_ext [iblk, rowOf, (idxIn t).2.2.2.1]

theorem iblk4 (i : Fin 384) (l : Fin 1024) : iblk m c 4 t (ix2 i l) = V m c main_v52 (ix2 (rowOf t i) l) := by
  blk_ext [iblk, rowOf, (idxIn t).2.2.2.2.1]

theorem iblk5 (i : Fin 384) (l : Fin 768) : iblk m c 5 t (ix2 i l) = V m c main_v53 (ix2 (rowOf t i) l) := by
  blk_ext [iblk, rowOf, (idxIn t).2.2.2.2.2.1]

theorem iblk6 (i : Fin 384) (l : Fin 768) : iblk m c 6 t (ix2 i l) = V m c main_v54 (ix2 (rowOf t i) l) := by
  blk_ext [iblk, rowOf, (idxIn t).2.2.2.2.2.2.1]

theorem iblk7 (i : Fin 2) (l : Fin 768) : iblk m c 7 t (ix2 i l) = V m c main_v57 (ix2 i l) := by
  blk_ext [iblk, (idxIn t).2.2.2.2.2.2.2.1]

theorem iblk8 (i : Fin 1) (l : Fin 1024) : iblk m c 8 t (ix2 i l) = V m c main_v58 (ix2 i l) := by
  blk_ext [iblk, (idxIn t).2.2.2.2.2.2.2.2.1]

theorem iblk9 (i : Fin 1024) (l : Fin 1024) : iblk m c 9 t (ix2 i l) = V m c main_v59 (ix2 i l) := by
  blk_ext [iblk, (idxIn t).2.2.2.2.2.2.2.2.2]
end

variable {m : (ℓ : Loc nD τ sig) → Buf (Elt Ideal) ℓ} {c : Dev nD} {a : Reals} (A : Args m c a) (t : Fin cfg0.N)

section
include A

theorem dmB : Rows (iblk m c 0 t : S384x1024.Idx → EReal) (fun i => pad a.DM (384 * t.val + i)) := fun i j => (iblk0 m c t i j).trans (dm_rows A _ _)
theorem drB : Rows (iblk m c 1 t : S384x1024.Idx → EReal) (fun i => pad a.DR (384 * t.val + i)) := fun i j => (iblk1 m c t i j).trans (dr_rows A _ _)
theorem xhB : Rows (iblk m c 2 t : S384x1024.Idx → EReal) (fun i => pad (fun r => xh 1024 (a.R1 r)) (384 * t.val + i)) :=
  fun i j => (iblk2 m c t i j).trans (xh_rows A _ _)
theorem rsB : Col (iblk m c 3 t : S384x1.Idx → EReal) (fun i => pad (fun r _ => rs 1024 (a.R1 r)) (384 * t.val + i) 0) :=
  fun i => (iblk3 m c t i 0).trans (rs_rows A _ _)
theorem ycB : Rows (iblk m c 4 t : S384x1024.Idx → EReal) (fun i => pad a.YC (384 * t.val + i)) := fun i j => (iblk4 m c t i j).trans (yc_rows A _ _)
theorem oB : Rows (iblk m c 5 t : S384x768.Idx → EReal) (fun i => pad a.O (384 * t.val + i)) := fun i j => (iblk5 m c t i j).trans (o_rows A _ _)
theorem gB : Rows (iblk m c 6 t : S384x768.Idx → EReal) (fun i => pad a.G (384 * t.val + i)) := fun i j => (iblk6 m c t i j).trans (gate_rows A _ _)
theorem gnB : Rows (iblk m c 7 t : S2x768.Idx → EReal) (fun r k => if r = 0 then a.GG k else a.GB k) := fun i j => (iblk7 m c t i j).trans (gn_rows A _ _)
theorem lgB : Rows (iblk m c 8 t : S1x1024.Idx → EReal) (fun _ => a.LG) := fun i j => (iblk8 m c t i j).trans (lg_rows A _ _)
theorem woB : Rows (iblk m c 9 t : S1024x1024.Idx → EReal) a.W := fun i j => (iblk9 m c t i j).trans (wo_rows A _ _)

theorem ggB (h : Fin 6) : Rows (hRow (F := Ideal) (row0 (iblk m c 7 t)) h) (fun _ => hd a.GG h.val) := hRow_real (X := a.GG) (row0_real (gnB A t)) h
theorem gbB (h : Fin 6) : Rows (hRow (F := Ideal) (row1 (iblk m c 7 t)) h) (fun _ => hd a.GB h.val) := hRow_real (X := a.GB) (row1_real (gnB A t)) h
end

/-! ## The gradients of rows of padding -/

section
variable (a) (R k : ℕ)

theorem dh_pad : rdh (pad a.DM R) (pad a.DR R) k = pad a.DH R k := by
  by_cases h : 112 ≤ R
  · simp only [Post.pad, if_pos h]; rfl
  · simp only [Post.pad, if_neg h]; unfold rdh; ring

theorem d1_pad : rdr (pad a.DM R) (pad a.DR R) (pad (fun r => xh 1024 (a.R1 r)) R) (pad (fun r _ => rs 1024 (a.R1 r)) R 0) a.LG k = pad a.D1 R k := by
  by_cases h : 112 ≤ R
  · simp only [Post.pad, if_pos h]; rfl
  · simp only [Post.pad, if_neg h]; exact rdr_zero _ _ _ _

theorem al_pad : al * pad a.D1 R k = pad (fun r k => al * a.D1 r k) R k := by
  by_cases h : 112 ≤ R
  · simp only [Post.pad, if_pos h]
  · simp only [Post.pad, if_neg h, mul_zero]

theorem dy_pad : rdyc (pad a.DM R) (pad a.DR R) (pad (fun r => xh 1024 (a.R1 r)) R) (pad (fun r _ => rs 1024 (a.R1 r)) R 0) a.LG a.W k = pad a.DY R k := by
  by_cases h : 112 ≤ R
  · simp only [Post.pad, if_pos h]; rfl
  · simp only [Post.pad, if_neg h]; exact rdyc_zero _ _ _ _ _

theorem dn_pad : rdon (pad a.DY R) (pad a.G R) k = pad a.DN R k := by
  by_cases h : 112 ≤ R
  · simp only [Post.pad, if_pos h]; rfl
  · simp only [Post.pad, if_neg h]; exact rdon_zero _ _

theorem dg_pad : rdg (pad a.DY R) (pad a.G R) (pad a.O R) a.GG a.GB k = pad (fun r => rdg (a.DY r) (a.G r) (a.O r) a.GG a.GB) R k := by
  by_cases h : 112 ≤ R
  · simp only [Post.pad, if_pos h]
  · simp only [Post.pad, if_neg h]; exact rdg_zero _ _ _ _ _

theorem do_pad : rdo (pad a.DY R) (pad a.G R) (pad a.O R) a.GG k = pad (fun r => rdo (a.DY r) (a.G r) (a.O r) a.GG) R k := by
  by_cases h : 112 ≤ R
  · simp only [Post.pad, if_pos h]
  · simp only [Post.pad, if_neg h]; exact rdo_zero _ _ _ _
end

theorem pad_row (X : ℕ → ℕ → ℝ) (r : ℕ) : pad X (112 + r) = X r := by
  unfold Post.pad; rw [if_pos (Nat.le_add_right _ _), Nat.add_sub_cancel_left]

theorem pad_zero (X : ℕ → ℕ → ℝ) {R : ℕ} (h : R < 112) (k : ℕ) : pad X R k = 0 := by
  unfold Post.pad; rw [if_neg (by omega)]

/-! ## One head of the gradients -/

section
variable (dyc g o gg gb : ℕ → ℝ) (h e : ℕ) (he : e < 128)
include he

theorem do_lane : lnb 128 (fun e => dyc (256 + (128 * h + e)) * hd g h e * sg (hd g h e) * hd gg h e) (xh 128 (hd o h)) (rs 128 (hd o h)) e
    = rdo dyc g o gg (128 * h + e) := by
  unfold rdo
  rw [show (128 * h + e) / 128 = h by omega, show (128 * h + e) % 128 = e by omega]
  rfl

theorem dg_lane : dyc (256 + (128 * h + e)) * (xh 128 (hd o h) e * hd gg h e + hd gb h e) * (sg (hd g h e) * (1 + hd g h e * (1 - sg (hd g h e))))
    = rdg dyc g o gg gb (128 * h + e) := by
  unfold rdg roxh
  rw [show (128 * h + e) / 128 = h by omega, show (128 * h + e) % 128 = e by omega]
  rfl
end

theorem dn_six (dyc g : ℕ → ℝ) (k : ℕ) :
    dyc (256 + (128 * (k / 128) + k % 128)) * hd g (k / 128) (k % 128) * sg (hd g (k / 128) (k % 128)) = rdon dyc g k := by
  unfold hd
  rw [Nat.div_add_mod]
  rfl

theorem Rows.of_eq {A B : ℕ} {x : (⟨2, ![A, B]⟩ : Shape).Idx → EReal} {X Y : ℕ → ℕ → ℝ} (hx : Rows x X) (h : ∀ i j, j < B → X i j = Y i j) : Rows x Y :=
  fun i j => (hx i j).trans (congrArg Real.toEReal (h _ _ j.isLt))

theorem mul_rows {A B : ℕ} {x y : (⟨2, ![A, B]⟩ : Shape).Idx → EReal} {X Y : ℕ → ℕ → ℝ} (hx : Rows x X) (hy : Rows y Y) :
    Rows (mulf (F := Ideal) (φ := .f32) x y) (fun i j => X i j * Y i j) := by
  intro i j
  simp only [pointwise, hx _ _, hy _ _, ← EReal.coe_mul]

/-- Six heads' columns are the rows. -/
theorem rows_of_lanes {A : ℕ} {x : (⟨2, ![A, 768]⟩ : Shape).Idx → EReal} {X : ℕ → ℕ → ℝ}
    (hx : ∀ h : Fin 6, Rows (Cert.Lanes.lane x h) (fun i e => X i (128 * h.val + e))) : Rows x X := by
  intro i l
  have hl := l.isLt
  have e : x (ix2 i l) = Cert.Lanes.lane x (⟨l.val / 128, by omega⟩ : Fin 6) (ix2 i (⟨l.val % 128, Nat.mod_lt _ (by decide)⟩ : Fin 128)) := by
    refine congrArg x (funext fun b => Fin.ext ?_)
    match b with
    | ⟨0, _⟩ => rfl
    | ⟨1, _⟩ => exact (Nat.div_add_mod l.val 128).symm
  rw [e, hx]
  exact congrArg (fun n => ((X i.val n : ℝ) : EReal)) (Nat.div_add_mod l.val 128)

/-- A sum over the rows seen, one block further. -/
theorem acc_step (F : ℕ → ℝ) (n : ℕ) (f : ℕ → ℝ) (hf : ∀ i, f i = F (384 * n + i)) :
    (∑ R ∈ Finset.range (384 * n), F R) + ∑ i : Fin 384, f i.val = ∑ R ∈ Finset.range (384 * (n + 1)), F R := by
  rw [← sum_block, Finset.sum_congr rfl fun (i : Fin 384) _ => hf i.val]

end Cert.Kernel2Ideal.Post
-- ==== Proof.PostOut.lean ====
module

public import proofs.«01_k».proof.Proof.PostBody
public import proofs.«01_k».proof.Proof.PostBlocks

@[expose] public section

set_option maxRecDepth 16384

noncomputable section

namespace Cert.Kernel2Ideal.Post

open Idealize.ShloMosaic Idealize.ShloMosaic.TcCoe
open Idealize.SL Idealize.SL.Sem
open Cert.Kernel2Ideal.Gen Cert.Post
open Cert.Reference2Ideal.Post (Reals m2_of_rows)

/-! # The result arrays of the second region -/

variable {m : (ℓ : Loc nD τ sig) → Buf (Elt Ideal) ℓ} {c : Dev nD} {a : Reals} (A : Args m c a) (t : Fin cfg0.N)

include A

theorem dyc_rows : Rows (atDyc m c t) (fun i => pad a.DY (384 * t.val + i)) :=
  Rows.of_eq (dyc_real (dmB A t) (drB A t) (xhB A t) (rsB A t) (lgB A t) (woB A t)) fun _ _ _ => dy_pad _ _ _

theorem do_rows : Rows (outsAt0 m c t.val t.isLt).1 (fun i => pad (fun r => rdo (a.DY r) (a.G r) (a.O r) a.GG) (384 * t.val + i)) := by
  refine rows_of_lanes fun h => ?_
  rw [do_eq]
  exact Rows.of_eq (hDo_real (hDyr_real (dyc_rows A t) h) (hCol_real (gB A t) h) (hCol_real (oB A t) h) (ggB A t h))
    fun _ _ he => (do_lane _ _ _ _ _ _ he).trans (do_pad _ _ _)

theorem dg_rows : Rows (outsAt0 m c t.val t.isLt).2.1 (fun i => pad (fun r => rdg (a.DY r) (a.G r) (a.O r) a.GG a.GB) (384 * t.val + i)) := by
  refine rows_of_lanes fun h => ?_
  rw [dg_eq]
  exact Rows.of_eq (hDg_real (hDyr_real (dyc_rows A t) h) (hCol_real (gB A t) h) (hCol_real (oB A t) h) (ggB A t h) (gbB A t h))
    fun _ _ he => (dg_lane _ _ _ _ _ _ _ he).trans (dg_pad _ _ _)

theorem dys_rows : Rows (outsAt0 m c t.val t.isLt).2.2.1 (fun i => pad a.DY (384 * t.val + i)) := by
  rw [dys_eq]
  exact Rows.of_eq (dys_real (dmB A t) (drB A t) (xhB A t) (rsB A t) (lgB A t) (woB A t)) fun _ _ _ => dy_pad _ _ _

theorem dh0_rows : Rows (outsAt0 m c t.val t.isLt).2.2.2.1 (fun i => pad (fun r k => al * a.D1 r k) (384 * t.val + i)) := by
  rw [dh0_eq]
  exact Rows.of_eq (dh0_real (dmB A t) (drB A t) (xhB A t) (rsB A t) (lgB A t)) fun _ _ _ => (congrArg (al * ·) (d1_pad _ _ _)).trans (al_pad _ _ _)

/-! ## The accumulators -/

omit A in
theorem lit_0 : Ideal.ofBits FTy.f32 0x00000000#32 = ((0 : ℝ) : EReal) := by simp [Ideal.ofBits, Ideal.ieee]

variable (a) in
/-- The first norm's sums over the rows seen. -/
def lSum (n r k : ℕ) : ℝ :=
  if r = 0 then ∑ R ∈ Finset.range (384 * n), pad a.DH R k * pad (fun r => xh 1024 (a.R1 r)) R k else ∑ R ∈ Finset.range (384 * n), pad a.DH R k

variable (a) in
/-- The head norm's. -/
def gSum (n r k : ℕ) : ℝ :=
  if r = 0 then ∑ R ∈ Finset.range (384 * n), pad a.DN R k * roxh (pad a.O R) k else ∑ R ∈ Finset.range (384 * n), pad a.DN R k

variable (a) in
/-- The output projection's. -/
def wSum (n j k : ℕ) : ℝ := ∑ R ∈ Finset.range (384 * n), pad a.YC R j * pad a.D1 R k

omit A in
theorem l_zero : Rows (k0_pay5 (F := Ideal)) (lSum a 0) := by
  intro i j
  simp only [lSum, Nat.mul_zero, Finset.sum_range_zero, ite_self]
  exact lit_0

omit A in
theorem g_zero : Rows (k0_pay6 (F := Ideal)) (gSum a 0) := by
  intro i j
  simp only [gSum, Nat.mul_zero, Finset.sum_range_zero, ite_self]
  exact lit_0

omit A in
theorem w_zero : Rows (k0_pay4 (F := Ideal)) (wSum a 0) := by
  intro i j
  simp only [wSum, Nat.mul_zero, Finset.sum_range_zero]
  exact lit_0

theorem l_step {acc : S2x1024.Idx → EReal} (h : Rows acc (lSum a t.val)) :
    Rows (k0_pay9 (F := Ideal) (iblk m c 0 t) (iblk m c 1 t) (iblk m c 2 t) acc) (lSum a (t.val + 1)) := by
  refine Rows.of_eq (l_real (dmB A t) (drB A t) (xhB A t) h) fun r k _ => ?_
  unfold lSum
  by_cases hr : r = 0
  · simp only [if_pos hr]
    exact acc_step (fun R => pad a.DH R k * pad (fun r => xh 1024 (a.R1 r)) R k) t.val
      (fun i => rdh (pad a.DM (384 * t.val + i)) (pad a.DR (384 * t.val + i)) k * pad (fun r => xh 1024 (a.R1 r)) (384 * t.val + i) k)
      fun i => congrArg (· * _) (dh_pad _ _ _)
  · simp only [if_neg hr]
    exact acc_step (fun R => pad a.DH R k) t.val (fun i => rdh (pad a.DM (384 * t.val + i)) (pad a.DR (384 * t.val + i)) k) fun i => dh_pad _ _ _

theorem don_rows (h : Fin 6) : Rows (hDon (F := Ideal) (hDyr (atDyc m c t) h) (hCol (iblk m c 6 t) h))
    (fun i e => pad a.DY (384 * t.val + i) (256 + (128 * h.val + e)) * hd (pad a.G (384 * t.val + i)) h.val e * sg (hd (pad a.G (384 * t.val + i)) h.val e)) :=
  hDon_real (hDyr_real (dyc_rows A t) h) (hCol_real (gB A t) h)

theorem g_step {acc : S2x768.Idx → EReal} (h : Rows acc (gSum a t.val)) :
    Rows (hAcc (F := Ideal) (fun h => hSum (mulf (hDon (hDyr (atDyc m c t) h) (hCol (iblk m c 6 t) h)) (hXh (hCol (iblk m c 5 t) h))))
        (fun h => hSum (hDon (hDyr (atDyc m c t) h) (hCol (iblk m c 6 t) h))) acc) (gSum a (t.val + 1)) := by
  refine Rows.of_eq (hAcc_real
    (X := fun h e => ∑ i : Fin 384, pad a.DY (384 * t.val + i.val) (256 + (128 * h + e)) * hd (pad a.G (384 * t.val + i.val)) h e
      * sg (hd (pad a.G (384 * t.val + i.val)) h e) * xh 128 (hd (pad a.O (384 * t.val + i.val)) h) e)
    (Y := fun h e => ∑ i : Fin 384, pad a.DY (384 * t.val + i.val) (256 + (128 * h + e)) * hd (pad a.G (384 * t.val + i.val)) h e
      * sg (hd (pad a.G (384 * t.val + i.val)) h e))
    (fun h => hSum_real (mul_rows (don_rows A t h) (hXh_real (hCol_real (oB A t) h)))) (fun h => hSum_real (don_rows A t h)) h) fun r k _ => ?_
  unfold gSum six
  by_cases hr : r = 0
  · simp only [if_pos hr]
    exact acc_step (fun R => pad a.DN R k * roxh (pad a.O R) k) t.val
      (fun i => pad a.DY (384 * t.val + i) (256 + (128 * (k / 128) + k % 128)) * hd (pad a.G (384 * t.val + i)) (k / 128) (k % 128)
        * sg (hd (pad a.G (384 * t.val + i)) (k / 128) (k % 128)) * xh 128 (hd (pad a.O (384 * t.val + i)) (k / 128)) (k % 128))
      fun i => congrArg (· * _) ((dn_six _ _ _).trans (dn_pad _ _ _))
  · simp only [if_neg hr]
    exact acc_step (fun R => pad a.DN R k) t.val
      (fun i => pad a.DY (384 * t.val + i) (256 + (128 * (k / 128) + k % 128)) * hd (pad a.G (384 * t.val + i)) (k / 128) (k % 128)
        * sg (hd (pad a.G (384 * t.val + i)) (k / 128) (k % 128)))
      fun i => (dn_six _ _ _).trans (dn_pad _ _ _)

theorem w_step {acc : S1024x1024.Idx → EReal} (h : Rows acc (wSum a t.val)) :
    Rows (bWo (F := Ideal) (iblk m c 0 t) (iblk m c 1 t) (iblk m c 2 t) (iblk m c 3 t) (iblk m c 8 t) (iblk m c 4 t) acc) (wSum a (t.val + 1)) := by
  refine Rows.of_eq (wo_real (dmB A t) (drB A t) (xhB A t) (rsB A t) (lgB A t) (ycB A t) h) fun j k _ => ?_
  exact acc_step (fun R => pad a.YC R j * pad a.D1 R k) t.val
    (fun i => pad a.YC (384 * t.val + i) j * rdr (pad a.DM (384 * t.val + i)) (pad a.DR (384 * t.val + i)) (pad (fun r => xh 1024 (a.R1 r)) (384 * t.val + i))
      (pad (fun r _ => rs 1024 (a.R1 r)) (384 * t.val + i) 0) a.LG k)
    fun i => congrArg (_ * ·) (d1_pad _ _ _)

theorem l_rows (n : ℕ) (hn : n < cfg0.N) : Rows (lAt m c n hn) (lSum a (n + 1)) := by
  induction n with
  | zero =>
    have e : lAt m c 0 hn = _ := l_first m c ⟨0, hn⟩ rfl
    rw [e]
    exact l_step A ⟨0, hn⟩ l_zero
  | succ n ih =>
    have hN : n + 1 < 11 := lt_of_lt_of_eq hn points
    have e : lAt m c (n + 1) hn = _ := l_next m c ⟨n + 1, hn⟩ (show ¬(n + 1) % 11 = 0 by omega) (Nat.lt_of_succ_lt hn)
    rw [e]
    exact l_step A ⟨n + 1, hn⟩ (ih (Nat.lt_of_succ_lt hn))

theorem g_rows (n : ℕ) (hn : n < cfg0.N) : Rows (gAt m c n hn) (gSum a (n + 1)) := by
  induction n with
  | zero =>
    have e : gAt m c 0 hn = _ := g_first m c ⟨0, hn⟩ rfl
    rw [e]
    exact g_step A ⟨0, hn⟩ g_zero
  | succ n ih =>
    have hN : n + 1 < 11 := lt_of_lt_of_eq hn points
    have e : gAt m c (n + 1) hn = _ := g_next m c ⟨n + 1, hn⟩ (show ¬(n + 1) % 11 = 0 by omega) (Nat.lt_of_succ_lt hn)
    rw [e]
    exact g_step A ⟨n + 1, hn⟩ (ih (Nat.lt_of_succ_lt hn))

theorem w_rows (n : ℕ) (hn : n < cfg0.N) : Rows (woAt m c n hn) (wSum a (n + 1)) := by
  induction n with
  | zero =>
    have e : woAt m c 0 hn = _ := wo_first m c ⟨0, hn⟩ rfl
    rw [e]
    exact w_step A ⟨0, hn⟩ w_zero
  | succ n ih =>
    have hN : n + 1 < 11 := lt_of_lt_of_eq hn points
    have e : woAt m c (n + 1) hn = _ := wo_next m c ⟨n + 1, hn⟩ (show ¬(n + 1) % 11 = 0 by omega) (Nat.lt_of_succ_lt hn)
    rw [e]
    exact w_step A ⟨n + 1, hn⟩ (ih (Nat.lt_of_succ_lt hn))

/-! ## What the last point leaves -/

omit A in
theorem lSum_all (r k : ℕ) :
    lSum a 11 r k = if r = 0 then ∑ r : Fin 4112, xh 1024 (a.R1 r.val) k * a.DH r.val k else ∑ r : Fin 4112, a.DH r.val k := by
  unfold lSum
  rw [sum_pad _ fun R hR => by rw [pad_zero _ hR, zero_mul], sum_pad _ fun R hR => pad_zero _ hR k]
  simp only [pad_row]
  rw [Finset.sum_congr rfl fun (i : Fin 4112) _ => mul_comm (a.DH i.val k) (xh 1024 (a.R1 i.val) k)]

omit A in
theorem gSum_all (r k : ℕ) :
    gSum a 11 r k = if r = 0 then ∑ r : Fin 4112, roxh (a.O r.val) k * a.DN r.val k else ∑ r : Fin 4112, a.DN r.val k := by
  unfold gSum
  rw [sum_pad _ fun R hR => by rw [pad_zero _ hR, zero_mul], sum_pad _ fun R hR => pad_zero _ hR k]
  simp only [pad_row]
  rw [Finset.sum_congr rfl fun (i : Fin 4112) _ => mul_comm (a.DN i.val k) (roxh (a.O i.val) k)]

omit A in
theorem wSum_all (j k : ℕ) : wSum a 11 j k = ∑ r : Fin 4112, a.YC r.val j * a.D1 r.val k := by
  unfold wSum
  rw [sum_pad _ fun R hR => by rw [pad_zero _ hR, zero_mul]]
  simp only [pad_row]

omit A in
theorem flush14 : ∀ t : Fin cfg0.N, (cfg0.win 14).flush t = true → t.val = 10 := by decide +kernel
omit A in
theorem flush15 : ∀ t : Fin cfg0.N, (cfg0.win 15).flush t = true → t.val = 10 := by decide +kernel
omit A in
theorem flush16 : ∀ t : Fin cfg0.N, (cfg0.win 16).flush t = true → t.val = 10 := by decide +kernel

theorem gwo_rows (ht : t.val = 10) : Rows (outsAt0 m c t.val t.isLt).2.2.2.2.1 (fun j k => ∑ r : Fin 4112, a.YC r.val j * a.D1 r.val k) := by
  have h1 : t.val - 1 < cfg0.N := by have := t.isLt; omega
  rw [gwo_last m c t (by omega) (by omega) h1]
  have hw := w_rows A t.val t.isLt
  rw [show t.val + 1 = 11 by omega] at hw
  exact Rows.of_eq (show Rows (k0_pay3 (F := Ideal) (woAt m c t.val t.isLt)) (wSum a 11) from fun i j => by
    simp only [k0_pay3, pointwise, hw _ _]) fun _ _ _ => wSum_all _ _

theorem dl1_rows (ht : t.val = 10) : Rows (lAt m c t.val t.isLt)
    (fun r k => if r = 0 then ∑ r : Fin 4112, xh 1024 (a.R1 r.val) k * a.DH r.val k else ∑ r : Fin 4112, a.DH r.val k) := by
  have hw := l_rows A t.val t.isLt
  rw [show t.val + 1 = 11 by omega] at hw
  exact Rows.of_eq hw fun _ _ _ => lSum_all _ _

theorem dgn_rows (ht : t.val = 10) : Rows (gAt m c t.val t.isLt)
    (fun r k => if r = 0 then ∑ r : Fin 4112, roxh (a.O r.val) k * a.DN r.val k else ∑ r : Fin 4112, a.DN r.val k) := by
  have hw := g_rows A t.val t.isLt
  rw [show t.val + 1 = 11 by omega] at hw
  exact Rows.of_eq hw fun _ _ _ => gSum_all _ _

/-! ## The arrays -/

/-- The array of rows that holds `X`. -/
def arr (A B : ℕ) (X : ℕ → ℕ → ℝ) : (⟨2, ![A, B]⟩ : Shape).Idx → EReal := fun i => ((X (i 0).val (i 1).val : ℝ) : EReal)

omit A in
theorem emb10 (G : S4224x768.Idx → EReal) (t : Fin cfg0.N) (y : S384x768.Idx) : G ((win0_10.blk t).view.emb y) = G (ix2 (rowOf t (y 0)) (y 1)) := by
  blk_ext [rowOf, (idxOut t).1]
omit A in
theorem emb11 (G : S4224x768.Idx → EReal) (t : Fin cfg0.N) (y : S384x768.Idx) : G ((win0_11.blk t).view.emb y) = G (ix2 (rowOf t (y 0)) (y 1)) := by
  blk_ext [rowOf, (idxOut t).2.1]
omit A in
theorem emb12 (G : S4224x256.Idx → EReal) (t : Fin cfg0.N) (y : S384x256.Idx) : G ((win0_12.blk t).view.emb y) = G (ix2 (rowOf t (y 0)) (y 1)) := by
  blk_ext [rowOf, (idxOut t).2.2.1]
omit A in
theorem emb13 (G : S4224x1024.Idx → EReal) (t : Fin cfg0.N) (y : S384x1024.Idx) : G ((win0_13.blk t).view.emb y) = G (ix2 (rowOf t (y 0)) (y 1)) := by
  blk_ext [rowOf, (idxOut t).2.2.2.1]
omit A in
theorem emb14 (G : S1024x1024.Idx → EReal) (t : Fin cfg0.N) (y : S1024x1024.Idx) : G ((win0_14.blk t).view.emb y) = G (ix2 (y 0) (y 1)) := by
  blk_ext [(idxOut t).2.2.2.2.1]
omit A in
theorem emb15 (G : S2x1024.Idx → EReal) (t : Fin cfg0.N) (y : S2x1024.Idx) : G ((win0_15.blk t).view.emb y) = G (ix2 (y 0) (y 1)) := by
  blk_ext [(idxOut t).2.2.2.2.2.1]
omit A in
theorem emb16 (G : S2x768.Idx → EReal) (t : Fin cfg0.N) (y : S2x768.Idx) : G ((win0_16.blk t).view.emb y) = G (ix2 (y 0) (y 1)) := by
  blk_ext [(idxOut t).2.2.2.2.2.2]

theorem arr10 : (dats m 0 c).arrAt 10 cfg0.N = arr 4224 768 (pad fun r => rdo (a.DY r) (a.G r) (a.O r) a.GG) := by
  refine (dats m 0 c).arrAt_eq_of_covers 10 _ (by decide +kernel) fun t hf y => ?_
  blk_simp
  rw [after0_10]
  exact (m2_of_rows (do_rows A t) y).trans (emb10 (arr 4224 768 _) t y).symm

theorem arr11 : (dats m 0 c).arrAt 11 cfg0.N = arr 4224 768 (pad fun r => rdg (a.DY r) (a.G r) (a.O r) a.GG a.GB) := by
  refine (dats m 0 c).arrAt_eq_of_covers 11 _ (by decide +kernel) fun t hf y => ?_
  blk_simp
  rw [after0_11]
  exact (m2_of_rows (dg_rows A t) y).trans (emb11 (arr 4224 768 _) t y).symm

theorem arr12 : (dats m 0 c).arrAt 12 cfg0.N = arr 4224 256 (pad a.DY) := by
  refine (dats m 0 c).arrAt_eq_of_covers 12 _ (by decide +kernel) fun t hf y => ?_
  blk_simp
  rw [after0_12]
  exact (m2_of_rows (dys_rows A t) y).trans (emb12 (arr 4224 256 _) t y).symm

theorem arr13 : (dats m 0 c).arrAt 13 cfg0.N = arr 4224 1024 (pad fun r k => al * a.D1 r k) := by
  refine (dats m 0 c).arrAt_eq_of_covers 13 _ (by decide +kernel) fun t hf y => ?_
  blk_simp
  rw [after0_13]
  exact (m2_of_rows (dh0_rows A t) y).trans (emb13 (arr 4224 1024 _) t y).symm

theorem arr14 : (dats m 0 c).arrAt 14 cfg0.N = arr 1024 1024 (fun j k => ∑ r : Fin 4112, a.YC r.val j * a.D1 r.val k) := by
  refine (dats m 0 c).arrAt_eq_of_covers 14 _ (by decide +kernel) fun t hf y => ?_
  have ht := flush14 t hf
  blk_simp
  rw [after0_14]
  exact (m2_of_rows (gwo_rows A t ht) y).trans (emb14 (arr 1024 1024 fun j k => ∑ r : Fin 4112, a.YC r.val j * a.D1 r.val k) t y).symm

theorem arr15 : (dats m 0 c).arrAt 15 cfg0.N
    = arr 2 1024 (fun r k => if r = 0 then ∑ r : Fin 4112, xh 1024 (a.R1 r.val) k * a.DH r.val k else ∑ r : Fin 4112, a.DH r.val k) := by
  refine (dats m 0 c).arrAt_eq_of_covers 15 _ (by decide +kernel) fun t hf y => ?_
  have ht := flush15 t hf
  blk_simp
  rw [after0_15]
  exact (m2_of_rows (dl1_rows A t ht) y).trans (emb15 (arr 2 1024 fun r k => if r = 0 then ∑ r : Fin 4112, xh 1024 (a.R1 r.val) k * a.DH r.val k else ∑ r : Fin 4112, a.DH r.val k) t y).symm

theorem arr16 : (dats m 0 c).arrAt 16 cfg0.N
    = arr 2 768 (fun r k => if r = 0 then ∑ r : Fin 4112, roxh (a.O r.val) k * a.DN r.val k else ∑ r : Fin 4112, a.DN r.val k) := by
  refine (dats m 0 c).arrAt_eq_of_covers 16 _ (by decide +kernel) fun t hf y => ?_
  have ht := flush16 t hf
  blk_simp
  rw [after0_16]
  exact (m2_of_rows (dgn_rows A t ht) y).trans (emb16 (arr 2 768 fun r k => if r = 0 then ∑ r : Fin 4112, roxh (a.O r.val) k * a.DN r.val k else ∑ r : Fin 4112, a.DN r.val k) t y).symm

end Cert.Kernel2Ideal.Post
-- ==== Proof.Finite2.lean ====
module

public import proofs.«01_k».proof.Defs
public import proofs.«01_k».proof.Proof.Gen.Pre_finite2
public import proofs.«01_k».proof.Proof.Finite
public import proofs.«01_k».proof.Proof.PostRef

@[expose] public section

set_option maxRecDepth 16384

noncomputable section

namespace Cert.Finite2

open Idealize.ShloMosaic Idealize.ShloMosaic.TcCoe
open Cert.Pre_finite2 Cert.Pre_finite2.Gen
open Cert.Finite (and_one fold_and real_of_bit)
open Cert.Reference2Ideal.Post (M1 M2 Is Reals)

/-! # Finite arguments of the second program are real numbers -/

/-- One argument's part of the precondition. -/
theorem real_of_reduce {s : Shape} {ds : List (Fin s.rank)} {x : s.Idx → EReal} {j : S_.Idx} {hb : S_.BroadcastsInDim s (![] : Fin 0 → Fin s.rank)}
    {hr : s.ReducesTo ds S_} {hs : 0 < S_.numel}
    (h : Host.reduce IntOp.andi (cmpf (F := Ideal) (φ := .f32) .olt (Host.absf x) (broadcastInDim s ![] hb (constant S_ .f32 0x7F800000#32)))
      (constantI S_ 1 1#1) hr hs j = 1#1) (i : s.Idx) : x i = (((x i).toReal : ℝ) : EReal) := by
  rw [Host.reduce_eq_fold] at h
  refine real_of_bit (fold_and _ _ h i (Finset.mem_filter.2 ⟨Finset.mem_univ _, ?_⟩))
  funext a
  exact a.elim0

/-- The real numbers of an array of rows. -/
def toR2 {A B : ℕ} [NeZero A] [NeZero B] (x : (⟨2, ![A, B]⟩ : Shape).Idx → EReal) (r l : ℕ) : ℝ := (x (ix2 (Fin.ofNat A r) (Fin.ofNat B l))).toReal

/-- The real numbers of a row. -/
def toR1 {A : ℕ} [NeZero A] (x : (⟨1, ![A]⟩ : Shape).Idx → EReal) (r : ℕ) : ℝ := (x (ix1 (Fin.ofNat A r))).toReal

theorem m2_toR {A B : ℕ} [NeZero A] [NeZero B] {x : (⟨2, ![A, B]⟩ : Shape).Idx → EReal} (h : ∀ i, x i = (((x i).toReal : ℝ) : EReal)) : M2 x (toR2 x) := by
  intro i
  refine (h i).trans (congrArg (fun y => (((x y).toReal : ℝ) : EReal)) (funext fun a => Fin.ext ?_))
  match a with
  | ⟨0, h0⟩ => exact (Nat.mod_eq_of_lt (i ⟨0, h0⟩).isLt).symm
  | ⟨1, h1⟩ => exact (Nat.mod_eq_of_lt (i ⟨1, h1⟩).isLt).symm

theorem m1_toR {A : ℕ} [NeZero A] {x : (⟨1, ![A]⟩ : Shape).Idx → EReal} (h : ∀ i, x i = (((x i).toReal : ℝ) : EReal)) : M1 x (toR1 x) := by
  intro i
  refine (h i).trans (congrArg (fun y => (((x y).toReal : ℝ) : EReal)) (funext fun a => Fin.ext ?_))
  match a with
  | ⟨0, h0⟩ => exact (Nat.mod_eq_of_lt (i ⟨0, h0⟩).isLt).symm

/-- The arguments' real numbers. -/
def reals (x0 x1 : S4112x768.Idx → EReal) (x2 : S4112x256.Idx → EReal) (x3 : S4112x1024.Idx → EReal) (x4 x5 : S768.Idx → EReal)
    (x6 : S1024x1024.Idx → EReal) (x7 : S1024.Idx → EReal) (x9 x10 : S4112x1024.Idx → EReal) : Reals where
  O := toR2 x0
  G := toR2 x1
  YS := toR2 x2
  H := toR2 x3
  GG := toR1 x4
  GB := toR1 x5
  W := toR2 x6
  LG := toR1 x7
  DM := toR2 x9
  DR := toR2 x10

theorem is_reals {x0 x1 : S4112x768.Idx → EReal} {x2 : S4112x256.Idx → EReal} {x3 : S4112x1024.Idx → EReal} {x4 x5 : S768.Idx → EReal}
    {x6 : S1024x1024.Idx → EReal} {x7 x8 : S1024.Idx → EReal} {x9 x10 : S4112x1024.Idx → EReal}
    (h : Cert.Pre_finite2.fn (F := Ideal) x0 x1 x2 x3 x4 x5 x6 x7 x8 x9 x10 = fun _ => 1#1) :
    Is (reals x0 x1 x2 x3 x4 x5 x6 x7 x9 x10) x0 x1 x2 x3 x4 x5 x6 x7 x9 x10 := by
  have h0 := congrFun h ix0
  obtain ⟨ha, hb⟩ := and_one h0
  obtain ⟨hc, hd⟩ := and_one ha
  obtain ⟨he, h2⟩ := and_one hc
  obtain ⟨h0, h1⟩ := and_one he
  obtain ⟨hf, h5⟩ := and_one hd
  obtain ⟨h3, h4⟩ := and_one hf
  obtain ⟨hg, hh⟩ := and_one hb
  obtain ⟨h6, h7⟩ := and_one hg
  obtain ⟨h9, h10⟩ := and_one hh
  exact ⟨m2_toR (real_of_reduce h0), m2_toR (real_of_reduce h1), m2_toR (real_of_reduce h2), m2_toR (real_of_reduce h3),
    m1_toR (real_of_reduce h4), m1_toR (real_of_reduce h5), m2_toR (real_of_reduce h6), m1_toR (real_of_reduce h7),
    m2_toR (real_of_reduce h9), m2_toR (real_of_reduce h10)⟩

end Cert.Finite2
-- ==== Proof.Slabs.lean ====
module

public import proofs.«01_k».proof.Proof.Lanes

@[expose] public section

set_option maxRecDepth 16384

noncomputable section

namespace Cert.Lanes

open Idealize.ShloMosaic Idealize.ShloMosaic.TcCoe
open Idealize.SL Idealize.SL.Sem

variable {F : FTy → Type} [FloatOps F] {sg : RefSig} {e : EltTy} {A B C : ℕ}

/-! # Loads and stores of whole blocks of one plane, and of one of three slabs of rows -/

theorem inbAll3 (A B C : ℕ) : ∀ a, (![0, 0, 0] : Fin 3 → ℕ) a + (⟨3, ![A, B, C]⟩ : Shape).size a ≤ (⟨3, ![A, B, C]⟩ : Shape).size a := by
  intro a
  match a with
  | ⟨0, _⟩ => show 0 + A ≤ A; omega
  | ⟨1, _⟩ => show 0 + B ≤ B; omega
  | ⟨2, _⟩ => show 0 + C ≤ C; omega

/-- A whole block of three axes, loaded. -/
def rdAll3 (arg : Memref sg .tc .vmem ⟨3, ![A, B, C]⟩ e) (ha : arg.IsWhole) (x : (⟨3, ![A, B, C]⟩ : Shape).Idx → Elt F e) : (⟨3, ![A, B, C]⟩ : Shape).Idx → Elt F e :=
  View.readAt (Elt F) arg.view (Rect.unit (s := ⟨3, ![A, B, C]⟩) ![0, 0, 0] (⟨3, ![A, B, C]⟩ : Shape).size (inbAll3 A B C)).toLoadRect (ha.unread x)

theorem rdAll3_eq (arg : Memref sg .tc .vmem ⟨3, ![A, B, C]⟩ e) (ha : arg.IsWhole) (x : (⟨3, ![A, B, C]⟩ : Shape).Idx → Elt F e) : rdAll3 arg ha x = x := by
  funext j
  refine (ha.readAt_unread x (Rect.unit (s := ⟨3, ![A, B, C]⟩) ![0, 0, 0] (⟨3, ![A, B, C]⟩ : Shape).size (inbAll3 A B C)).toLoadRect j).trans (congrArg x (funext fun a => Fin.ext ?_))
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- A store of a whole block of three axes. -/
def pAll3 (w : (⟨3, ![A, B, C]⟩ : Shape).Idx → Elt F e) : View.Piece (Elt F) (⟨3, ![A, B, C]⟩ : Shape) e :=
  ⟨Rect.unit (s := ⟨3, ![A, B, C]⟩) ![0, 0, 0] (⟨3, ![A, B, C]⟩ : Shape).size (inbAll3 A B C), w⟩

theorem pAll3_read {κ : Kind} {sp : Space} (v : View sg κ sp (⟨3, ![A, B, C]⟩ : Shape) e) (f) (w : (⟨3, ![A, B, C]⟩ : Shape).Idx → Elt F e)
    (L : List (View.Piece (Elt F) (⟨3, ![A, B, C]⟩ : Shape) e)) : v.read (Elt F) (v.writes (Elt F) f (pAll3 w :: L)) = w := by
  funext y
  exact View.read_writes_cons_unit_of_mem v f (inbAll3 A B C) w L y y rfl fun a =>
    match a with
    | ⟨0, _⟩ => (Nat.zero_add _).symm
    | ⟨1, _⟩ => (Nat.zero_add _).symm
    | ⟨2, _⟩ => (Nat.zero_add _).symm

/-! ## Slabs -/

theorem inbSlab (B : ℕ) (n : Fin 3) : ∀ a, (![1408 * n.val, 0] : Fin 2 → ℕ) a + (⟨2, ![1408, B]⟩ : Shape).size a ≤ (⟨2, ![4224, B]⟩ : Shape).size a := by
  intro a
  have := n.isLt
  match a with
  | ⟨0, _⟩ => show 1408 * n.val + 1408 ≤ 4224; omega
  | ⟨1, _⟩ => show 0 + B ≤ B; omega

/-- The rows of slab `n`. -/
def slab {α : Type} (x : (⟨2, ![4224, B]⟩ : Shape).Idx → α) (n : Fin 3) : (⟨2, ![1408, B]⟩ : Shape).Idx → α :=
  fun j => x (ix2 (⟨1408 * n.val + (j 0).val, by have h0 : (j 0).val < 1408 := (j 0).isLt; have := n.isLt; omega⟩ : Fin 4224) (j 1))

/-- A slab, loaded. -/
def rdSlab (arg : Memref sg .tc .vmem ⟨2, ![4224, B]⟩ e) (ha : arg.IsWhole) (x : (⟨2, ![4224, B]⟩ : Shape).Idx → Elt F e) (n : Fin 3) :
    (⟨2, ![1408, B]⟩ : Shape).Idx → Elt F e :=
  View.readAt (Elt F) arg.view (Rect.unit (s := ⟨2, ![4224, B]⟩) ![1408 * n.val, 0] (⟨2, ![1408, B]⟩ : Shape).size (inbSlab B n)).toLoadRect (ha.unread x)

theorem rdSlab_eq (arg : Memref sg .tc .vmem ⟨2, ![4224, B]⟩ e) (ha : arg.IsWhole) (x : (⟨2, ![4224, B]⟩ : Shape).Idx → Elt F e) (n : Fin 3) :
    rdSlab arg ha x n = slab x n := by
  funext j
  refine (ha.readAt_unread x (Rect.unit (s := ⟨2, ![4224, B]⟩) ![1408 * n.val, 0] (⟨2, ![1408, B]⟩ : Shape).size (inbSlab B n)).toLoadRect j).trans (congrArg x (funext fun a => Fin.ext ?_))
  match a with
  | ⟨0, _⟩ => show 1408 * n.val + 1 * (j 0).val = 1408 * n.val + (j 0).val; omega
  | ⟨1, _⟩ => show 0 + 1 * (j 1).val = (j 1).val; omega

/-- A slab, loaded after the stores `L`. -/
def covSlab {κ : Kind} {sp : Space} (v : View sg κ sp (⟨2, ![4224, B]⟩ : Shape) e) (L : List (View.Piece (Elt F) (⟨2, ![4224, B]⟩ : Shape) e)) (n : Fin 3) :
    (⟨2, ![1408, B]⟩ : Shape).Idx → Elt F e :=
  v.readCov L (Rect.unit (s := ⟨2, ![4224, B]⟩) ![1408 * n.val, 0] (⟨2, ![1408, B]⟩ : Shape).size (inbSlab B n)).toLoadRect

theorem covSlab_eq {κ : Kind} {sp : Space} (v : View sg κ sp (⟨2, ![4224, B]⟩ : Shape) e) (w : (⟨2, ![4224, B]⟩ : Shape).Idx → Elt F e)
    (L : List (View.Piece (Elt F) (⟨2, ![4224, B]⟩ : Shape) e)) (n : Fin 3) : covSlab v (pAll w :: L) n = slab w n := by
  funext j
  refine Eq.trans ?_ (congrFun (pAll_read v v.junk w L) _)
  refine congrArg (v.read (Elt F) (v.writes (Elt F) v.junk (pAll w :: L))) (funext fun a => Fin.ext ?_)
  match a with
  | ⟨0, _⟩ => show 1408 * n.val + 1 * (j 0).val = 1408 * n.val + (j 0).val; omega
  | ⟨1, _⟩ => show 0 + 1 * (j 1).val = (j 1).val; omega

/-- A store of a slab. -/
def pSlab (n : Fin 3) (w : (⟨2, ![1408, B]⟩ : Shape).Idx → Elt F e) : View.Piece (Elt F) (⟨2, ![4224, B]⟩ : Shape) e :=
  ⟨Rect.unit (s := ⟨2, ![4224, B]⟩) ![1408 * n.val, 0] (⟨2, ![1408, B]⟩ : Shape).size (inbSlab B n), w⟩

theorem pSlab_hit {κ : Kind} {sp : Space} (v : View sg κ sp (⟨2, ![4224, B]⟩ : Shape) e) (f) (n : Fin 3) (w : (⟨2, ![1408, B]⟩ : Shape).Idx → Elt F e)
    (L : List (View.Piece (Elt F) (⟨2, ![4224, B]⟩ : Shape) e)) (i : Fin 4224) (l : Fin B) (j : Fin 1408) (h : i.val = 1408 * n.val + j.val) :
    v.read (Elt F) (v.writes (Elt F) f (pSlab n w :: L)) (ix2 i l) = w (ix2 j l) :=
  View.read_writes_cons_unit_of_mem v f (inbSlab B n) w L (ix2 i l) (ix2 j l) rfl fun a =>
    match a with
    | ⟨0, _⟩ => h
    | ⟨1, _⟩ => (Nat.zero_add _).symm

theorem pSlab_miss {κ : Kind} {sp : Space} (v : View sg κ sp (⟨2, ![4224, B]⟩ : Shape) e) (f) (n : Fin 3) (w : (⟨2, ![1408, B]⟩ : Shape).Idx → Elt F e)
    (L : List (View.Piece (Elt F) (⟨2, ![4224, B]⟩ : Shape) e)) (i : Fin 4224) (l : Fin B) (h : i.val < 1408 * n.val ∨ 1408 * n.val + 1408 ≤ i.val) :
    v.read (Elt F) (v.writes (Elt F) f (pSlab n w :: L)) (ix2 i l) = v.read (Elt F) (v.writes (Elt F) f L) (ix2 i l) :=
  View.read_writes_cons_unit_of_not_mem v f (inbSlab B n) w L (ix2 i l) rfl 0 h

end Cert.Lanes
-- ==== Proof.MlpBody.lean ====
module

public import proofs.«01_k».proof.Proof.Gen.Kernel3Ideal.Value
public import proofs.«01_k».proof.Proof.Slabs

@[expose] public section

set_option maxRecDepth 16384

noncomputable section

namespace Cert.Kernel3Ideal.Mlp

open Idealize.ShloMosaic Idealize.ShloMosaic.TcCoe
open Idealize.SL Idealize.SL.Sem
open Cert.Kernel3Ideal.Gen Cert.Lanes

variable {F : FTy → Type} [FloatOps F]

/-! # What each point leaves, from its loads -/

variable (m : (ℓ : Loc nD τ sig) → Buf (Elt F) ℓ) (c : Dev nD)

/-- The three accumulators after point `n`. -/
abbrev hAt (n : ℕ) (hn : n < cfg0.N) : Vec F S4224x1024 .f32 := (outsAt0 m c n hn).2.2.1
abbrev uAt (n : ℕ) (hn : n < cfg0.N) : Vec F S1024x512 .f32 := (outsAt0 m c n hn).2.2.2.1
abbrev dAt (n : ℕ) (hn : n < cfg0.N) : Vec F S512x1024 .f32 := (outsAt0 m c n hn).2.2.2.2

variable (t : Fin cfg0.N)

/-- What a point makes of an accumulator. -/
abbrev stU (acc : Vec F S1024x512 .f32) : FVec F S1024x512 .f32 := k0_pay15 (iblk m c 0 t) (iblk m c 1 t) (iblk m c 4 t) (iblk m c 2 t) acc
abbrev stD (acc : Vec F S512x1024 .f32) : FVec F S512x1024 .f32 := k0_pay1 (k0_pay16 (iblk m c 1 t) (iblk m c 2 t) acc)
abbrev stH (acc : Vec F S1408x1024 .f32) : FVec F S1408x1024 .f32 :=
  k0_pay4 (k0_pay12 (iblk m c 3 t)) (k0_pay14 (iblk m c 1 t) (iblk m c 4 t) (iblk m c 2 t)) acc

/-- The same, as the loads give it. -/
abbrev ldU (acc : Vec F S1024x512 .f32) : FVec F S1024x512 .f32 :=
  k0_pay15 (rdAll (ms0_0 t) (hs0_0 t) (iblk m c 0 t)) (rdAll (ms0_1 t) (hs0_1 t) (iblk m c 1 t)) (rdAll3 (ms0_4 t) (hs0_4 t) (iblk m c 4 t))
    (rdAll (ms0_2 t) (hs0_2 t) (iblk m c 2 t)) acc
abbrev ldD (acc : Vec F S512x1024 .f32) : FVec F S512x1024 .f32 :=
  k0_pay1 (k0_pay16 (rdAll (ms0_1 t) (hs0_1 t) (iblk m c 1 t)) (rdAll (ms0_2 t) (hs0_2 t) (iblk m c 2 t)) acc)
abbrev ldH (acc : Vec F S1408x1024 .f32) : FVec F S1408x1024 .f32 :=
  k0_pay4 (k0_pay12 (rdAll3 (ms0_3 t) (hs0_3 t) (iblk m c 3 t)))
    (k0_pay14 (rdAll (ms0_1 t) (hs0_1 t) (iblk m c 1 t)) (rdAll3 (ms0_4 t) (hs0_4 t) (iblk m c 4 t)) (rdAll (ms0_2 t) (hs0_2 t) (iblk m c 2 t))) acc

theorem u_first (h0 : t.val % 3 = 0) : uAt m c t.val t.isLt = stU m c t k0_pay9 := by
  have e : uAt m c t.val t.isLt = scM0_0.view.read (Elt F) (scM0_0.view.writes (Elt F) scM0_0.view.junk
      [pAll (ldU m c t (covAll scM0_0.view [pAll k0_pay9])), pAll k0_pay9]) := by
    unfold uAt
    by_cases h1 : t.val % 24 = 0
    · rw [outsAt0_A m c t h0 h1 h0 (by omega) (by omega) (by omega)]; sl_kernel_rfl
    · rw [outsAt0_D m c t h0 h1 h0 (by omega) (by omega) (by omega)]; sl_kernel_rfl
  rw [e, pAll_read]
  simp only [ldU, stU, rdAll_eq, rdAll3_eq, covAll_eq]

theorem u_next (h0 : ¬t.val % 3 = 0) (hp : t.val - 1 < cfg0.N) : uAt m c t.val t.isLt = stU m c t (uAt m c (t.val - 1) hp) := by
  have e : uAt m c t.val t.isLt = scM0_0.view.read (Elt F) (scM0_0.view.writes (Elt F) scM0_0.view.junk
      [pAll (ldU m c t (rdAll scM0_0 (Memref.isWhole_whole _) (uAt m c (t.val - 1) hp)))]) := by
    unfold uAt
    by_cases h1 : t.val % 3 = 1
    · rw [outsAt0_B m c t h0 (by omega) h0 h1 (by omega) (by omega)]; sl_kernel_rfl
    · rw [outsAt0_C m c t h0 (by omega) h0 h1 (by omega) (by omega)]; sl_kernel_rfl
  rw [e, pAll_read]
  simp only [ldU, stU, rdAll_eq, rdAll3_eq]

theorem d_first (h0 : t.val % 3 = 0) : dAt m c t.val t.isLt = stD m c t k0_pay10 := by
  have e : dAt m c t.val t.isLt = scM0_1.view.read (Elt F) (scM0_1.view.writes (Elt F) scM0_1.view.junk
      [pAll (ldD m c t (covAll scM0_1.view [pAll k0_pay10])), pAll k0_pay10]) := by
    unfold dAt
    by_cases h1 : t.val % 24 = 0
    · rw [outsAt0_A m c t h0 h1 h0 (by omega) (by omega) (by omega)]; sl_kernel_rfl
    · rw [outsAt0_D m c t h0 h1 h0 (by omega) (by omega) (by omega)]; sl_kernel_rfl
  rw [e, pAll_read]
  simp only [ldD, stD, rdAll_eq, covAll_eq]

theorem d_next (h0 : ¬t.val % 3 = 0) (hp : t.val - 1 < cfg0.N) : dAt m c t.val t.isLt = stD m c t (dAt m c (t.val - 1) hp) := by
  have e : dAt m c t.val t.isLt = scM0_1.view.read (Elt F) (scM0_1.view.writes (Elt F) scM0_1.view.junk
      [pAll (ldD m c t (rdAll scM0_1 (Memref.isWhole_whole _) (dAt m c (t.val - 1) hp)))]) := by
    unfold dAt
    by_cases h1 : t.val % 3 = 1
    · rw [outsAt0_B m c t h0 (by omega) h0 h1 (by omega) (by omega)]; sl_kernel_rfl
    · rw [outsAt0_C m c t h0 (by omega) h0 h1 (by omega) (by omega)]; sl_kernel_rfl
  rw [e, pAll_read]
  simp only [ldD, stD, rdAll_eq]

/-- The last point of a block of columns stores the matrices' gradients. -/
theorem gu_last (h0 : t.val % 3 = 2) : (outsAt0 m c t.val t.isLt).1 = k0_pay7 (uAt m c t.val t.isLt) := by
  have hp : t.val - 1 < cfg0.N := Nat.lt_of_le_of_lt (Nat.sub_le _ _) t.isLt
  have e : (outsAt0 m c t.val t.isLt).1 = VO0_5.read (Elt F) (VO0_5.writes (Elt F) VO0_5.junk
      [pAll3 (k0_pay7 (covAll scM0_0.view [pAll (ldU m c t (rdAll scM0_0 (Memref.isWhole_whole _) (uAt m c (t.val - 1) hp)))]))]) := by
    rw [outsAt0_C m c t (by omega) (by omega) (by omega) (by omega) h0 h0]; sl_kernel_rfl
  rw [e, pAll3_read, u_next m c t (by omega) hp]
  simp only [ldU, stU, rdAll_eq, rdAll3_eq, covAll_eq]

theorem gd_last (h0 : t.val % 3 = 2) : (outsAt0 m c t.val t.isLt).2.1 = k0_pay8 (dAt m c t.val t.isLt) := by
  have hp : t.val - 1 < cfg0.N := Nat.lt_of_le_of_lt (Nat.sub_le _ _) t.isLt
  have e : (outsAt0 m c t.val t.isLt).2.1 = VO0_6.read (Elt F) (VO0_6.writes (Elt F) VO0_6.junk
      [pAll3 (k0_pay8 (covAll scM0_1.view [pAll (ldD m c t (rdAll scM0_1 (Memref.isWhole_whole _) (dAt m c (t.val - 1) hp)))]))]) := by
    rw [outsAt0_C m c t (by omega) (by omega) (by omega) (by omega) h0 h0]; sl_kernel_rfl
  rw [e, pAll3_read, d_next m c t (by omega) hp]
  simp only [ldD, stD, rdAll_eq, covAll_eq]

/-! ## The input's gradient, one slab of rows a point -/

/-- The slab of the point. -/
def slabOf : Fin 3 := ⟨t.val % 3, Nat.mod_lt _ (by decide)⟩

theorem h_first_eq (h1 : t.val % 24 = 0) : hAt m c t.val t.isLt = VO0_7.read (Elt F) (VO0_7.writes (Elt F) VO0_7.junk
      [pSlab 0 (ldH m c t (covSlab (ms0_7 t).view [pAll k0_pay3] 0)), pAll k0_pay3]) := by
  unfold hAt
  rw [outsAt0_A m c t (by omega) h1 (by omega) (by omega) (by omega) (by omega)]; sl_kernel_rfl

/-- The first point adds to zeros. -/
theorem h_first_hit (h1 : t.val % 24 = 0) (i : Fin 4224) (l : Fin 1024) (j : Fin 1408) (h : i.val = j.val) :
    hAt m c t.val t.isLt (ix2 i l) = stH m c t (slab k0_pay3 0) (ix2 j l) := by
  rw [h_first_eq m c t h1, pSlab_hit _ _ 0 _ _ i l j (h.trans (Nat.zero_add _).symm)]
  simp only [ldH, stH, rdAll_eq, rdAll3_eq, covSlab_eq]

theorem h_first_miss (h1 : t.val % 24 = 0) (i : Fin 4224) (l : Fin 1024) (h : 1408 ≤ i.val) :
    hAt m c t.val t.isLt (ix2 i l) = (k0_pay3 (F := F)) (ix2 i l) := by
  rw [h_first_eq m c t h1, pSlab_miss _ _ 0 _ _ i l (.inr h), pAll_read]

theorem h_next_eq (h1 : ¬t.val % 24 = 0) (hp : t.val - 1 < cfg0.N) : hAt m c t.val t.isLt
    = (ms0_7 t).view.read (Elt F) ((ms0_7 t).view.writes (Elt F) ((hs0_7 t).unread (hAt m c (t.val - 1) hp))
      [pSlab (slabOf t) (ldH m c t (rdSlab (ms0_7 t) (hs0_7 t) (hAt m c (t.val - 1) hp) (slabOf t)))]) := by
  have h3 := Nat.mod_lt t.val (show 3 > 0 by decide)
  unfold hAt
  by_cases h0 : t.val % 3 = 0
  · rw [show slabOf t = 0 from Fin.ext h0, outsAt0_D m c t h0 h1 h0 (by omega) (by omega) (by omega)]; sl_kernel_rfl
  · by_cases h2 : t.val % 3 = 1
    · rw [show slabOf t = 1 from Fin.ext h2, outsAt0_B m c t h0 h1 h0 h2 (by omega) (by omega)]; sl_kernel_rfl
    · have h4 : t.val % 3 = 2 := by omega
      rw [show slabOf t = 2 from Fin.ext h4, outsAt0_C m c t h0 h1 h0 h2 h4 h4]; sl_kernel_rfl

/-- A later point adds to what the point before left, -/
theorem h_next_hit (h1 : ¬t.val % 24 = 0) (hp : t.val - 1 < cfg0.N) (i : Fin 4224) (l : Fin 1024) (j : Fin 1408) (h : i.val = 1408 * (t.val % 3) + j.val) :
    hAt m c t.val t.isLt (ix2 i l) = stH m c t (slab (hAt m c (t.val - 1) hp) (slabOf t)) (ix2 j l) := by
  rw [h_next_eq m c t h1 hp, pSlab_hit _ _ (slabOf t) _ _ i l j h]
  simp only [ldH, stH, rdAll_eq, rdAll3_eq, rdSlab_eq]

/-- and leaves the other slabs. -/
theorem h_next_miss (h1 : ¬t.val % 24 = 0) (hp : t.val - 1 < cfg0.N) (i : Fin 4224) (l : Fin 1024)
    (h : i.val < 1408 * (t.val % 3) ∨ 1408 * (t.val % 3) + 1408 ≤ i.val) :
    hAt m c t.val t.isLt (ix2 i l) = hAt m c (t.val - 1) hp (ix2 i l) := by
  rw [h_next_eq m c t h1 hp, pSlab_miss _ _ (slabOf t) _ _ i l h]
  exact congrFun ((hs0_7 t).read_unread _) _

end Cert.Kernel3Ideal.Mlp
-- ==== Proof.MlpMath.lean ====
module

public import Mathlib.Algebra.BigOperators.Fin
public import Mathlib.Data.EReal.Operations
public import Mathlib.Tactic.Ring

@[expose] public section

noncomputable section

namespace Cert.Mlp

/-! # The backward pass of the squared-relu perceptron over the extended reals -/

/-- The arguments' values. -/
structure Nums where
  H : ℕ → ℕ → EReal
  U : ℕ → ℕ → EReal
  D : ℕ → ℕ → EReal
  G : ℕ → ℕ → EReal

namespace Nums

variable (a : Nums)

/-- The hidden layer after the relu. -/
def P (r j : ℕ) : EReal := max (∑ k : Fin 1024, a.H r k.val * a.U k.val j) 0

/-- The gradient before the relu. -/
def E (r j : ℕ) : EReal := (∑ k : Fin 1024, a.G r k.val * a.D j k.val) * (2 * a.P r j)

/-- The gradient of the first matrix. -/
def gU (k j : ℕ) : EReal := ∑ r : Fin 4112, a.H r.val k * a.E r.val j

/-- The gradient of the second matrix. -/
def gD (j k : ℕ) : EReal := ∑ r : Fin 4112, a.P r.val j * a.P r.val j * a.G r.val k

/-- The gradient of the input. -/
def gH (r k : ℕ) : EReal := ∑ j : Fin 4096, a.E r j.val * a.U k j.val

end Nums

/-- The rows below 112 rows of zeros. -/
def padE (X : ℕ → ℕ → EReal) (R : ℕ) : ℕ → EReal := if 112 ≤ R then X (R - 112) else fun _ => 0

theorem padE_zero (X : ℕ → ℕ → EReal) {R : ℕ} (h : R < 112) (k : ℕ) : padE X R k = 0 :=
  congrFun (if_neg (Nat.not_le.2 h)) k

theorem padE_row (X : ℕ → ℕ → EReal) (r k : ℕ) : padE X (112 + r) k = X r k := by
  unfold padE
  rw [if_pos (Nat.le_add_right _ _), Nat.add_sub_cancel_left]

/-- A row of the padded gradient is computed from padded rows. -/
theorem e_pad (a : Nums) (R j : ℕ) :
    (∑ k : Fin 1024, padE a.G R k.val * a.D j k.val) * (2 * padE a.P R j) = padE a.E R j := by
  by_cases h : 112 ≤ R
  · simp only [padE, if_pos h]; rfl
  · simp only [padE, if_neg h, mul_zero]

theorem h_pad (a : Nums) (R k : ℕ) : ∑ j : Fin 4096, padE a.E R j.val * a.U k j.val = padE a.gH R k := by
  by_cases h : 112 ≤ R
  · simp only [padE, if_pos h]; rfl
  · simp only [padE, if_neg h, zero_mul, Finset.sum_const_zero]

/-- A sum over the padded rows. -/
theorem sum_padE (F : ℕ → EReal) (hF : ∀ R, R < 112 → F R = 0) : ∑ R ∈ Finset.range 4224, F R = ∑ i : Fin 4112, F (112 + i.val) := by
  rw [show 4224 = 112 + 4112 from rfl, Finset.sum_range_add, Finset.sum_eq_zero fun R hR => hF R (Finset.mem_range.1 hR), zero_add, Finset.sum_range]

/-- A sum, one block of `B` terms further. -/
theorem sum_step (B : ℕ) (F : ℕ → EReal) (n : ℕ) :
    (∑ R ∈ Finset.range (B * n), F R) + ∑ i : Fin B, F (B * n + i.val) = ∑ R ∈ Finset.range (B * (n + 1)), F R := by
  rw [show B * (n + 1) = B * n + B by ring, Finset.sum_range_add, Finset.sum_range (n := B)]

/-- The first matrix's gradient over the first `n` blocks of rows. -/
def uSum (a : Nums) (n k j : ℕ) : EReal := ∑ R ∈ Finset.range (1408 * n), padE a.H R k * padE a.E R j

/-- The second's. -/
def dSum (a : Nums) (n j k : ℕ) : EReal := ∑ R ∈ Finset.range (1408 * n), padE a.P R j * padE a.P R j * padE a.G R k

/-- The input's gradient over the first `n` blocks of columns. -/
def hSum (a : Nums) (n R k : ℕ) : EReal := ∑ j ∈ Finset.range (512 * n), padE a.E R j * a.U k j

theorem uSum_all (a : Nums) (k j : ℕ) : uSum a 3 k j = a.gU k j := by
  unfold uSum
  rw [show 1408 * 3 = 4224 from rfl, sum_padE _ fun R hR => by rw [padE_zero _ hR, zero_mul]]
  simp only [padE_row]
  rfl

theorem dSum_all (a : Nums) (j k : ℕ) : dSum a 3 j k = a.gD j k := by
  unfold dSum
  rw [show 1408 * 3 = 4224 from rfl, sum_padE _ fun R hR => by rw [padE_zero a.G hR, mul_zero]]
  simp only [padE_row]
  rfl

theorem hSum_all (a : Nums) (R k : ℕ) : hSum a 8 R k = padE a.gH R k := by
  unfold hSum
  rw [show 512 * 8 = 4096 from rfl, Finset.sum_range]
  exact h_pad a R k

/-- The number of blocks of columns that row `R` has seen after point `t` of the 24. -/
def seen (t R : ℕ) : ℕ := t / 3 + if R < 1408 * (t % 3 + 1) then 1 else 0

theorem seen_zero {R : ℕ} (h : 1408 ≤ R) : seen 0 R = 0 := by unfold seen; rw [if_neg (by omega)]

/-- The rows of the point's own block have seen one more block. -/
theorem seen_hit {t R : ℕ} (h0 : 1408 * (t % 3) ≤ R) (h1 : R < 1408 * (t % 3 + 1)) : seen t R = t / 3 + 1 := by unfold seen; rw [if_pos h1]

theorem seen_hit_prev {t R : ℕ} (ht : 0 < t) (hR : R < 4224) (h0 : 1408 * (t % 3) ≤ R) : seen (t - 1) R = t / 3 := by
  unfold seen
  split_ifs with h <;> omega

theorem seen_miss {t R : ℕ} (ht : 0 < t) (hR : R < 4224) (h : R < 1408 * (t % 3) ∨ 1408 * (t % 3 + 1) ≤ R) : seen (t - 1) R = seen t R := by
  unfold seen
  split_ifs <;> omega

theorem seen_last {R : ℕ} (hR : R < 4224) : seen 23 R = 8 := by
  unfold seen
  rw [if_pos (by omega)]

end Cert.Mlp
-- ==== Proof.MlpRef.lean ====
module

public import proofs.«01_k».proof.Proof.Gen.Reference3Ideal.Read
public import proofs.«01_k».proof.Proof.MlpMath
public import proofs.«01_k».proof.Proof.HostReal
public import Idealize.ShloMosaic.Lib.KernelVsHost

@[expose] public section

set_option maxRecDepth 16384

noncomputable section

namespace Cert.Reference3Ideal.Mlp

open Idealize.ShloMosaic Idealize.ShloMosaic.TcCoe
open Cert.Reference3Ideal.Gen Cert.Reference3Ideal.Read Cert.Mlp
open Cert.KernelIdeal.Ret (sitofp_nat)

/-! # The reference's gradients over the extended reals -/

/-- An array of rows that holds `X`. -/
def E2 {A B : ℕ} (x : (⟨2, ![A, B]⟩ : Shape).Idx → EReal) (X : ℕ → ℕ → EReal) : Prop :=
  ∀ i : (⟨2, ![A, B]⟩ : Shape).Idx, x i = X (i 0).val (i 1).val

/-- Blocks of rows. -/
def E3 {A B C : ℕ} (x : (⟨3, ![A, B, C]⟩ : Shape).Idx → EReal) (X : ℕ → ℕ → ℕ → EReal) : Prop :=
  ∀ i : (⟨3, ![A, B, C]⟩ : Shape).Idx, x i = X (i 0).val (i 1).val (i 2).val

/-- The arguments hold these values. -/
structure Is (a : Nums) (x0 : S4112x1024.Idx → EReal) (x1 : S1024x4096.Idx → EReal) (x2 : S4096x1024.Idx → EReal) (x3 : S4112x1024.Idx → EReal) : Prop where
  h0 : E2 x0 a.H
  h1 : E2 x1 a.U
  h2 : E2 x2 a.D
  h3 : E2 x3 a.G

/-- An array's entries, zeros around them. -/
def ext {A B : ℕ} (x : (⟨2, ![A, B]⟩ : Shape).Idx → EReal) (r k : ℕ) : EReal :=
  if h : r < A ∧ k < B then x (ix2 (⟨r, h.1⟩ : Fin A) (⟨k, h.2⟩ : Fin B)) else 0

theorem ext_e2 {A B : ℕ} (x : (⟨2, ![A, B]⟩ : Shape).Idx → EReal) : E2 x (ext x) := by
  intro i
  have b : (i 0).val < A ∧ (i 1).val < B := ⟨(i 0).isLt, (i 1).isLt⟩
  unfold ext
  rw [dif_pos b]
  refine congrArg x (funext fun b => ?_)
  match b with
  | ⟨0, _⟩ => rfl
  | ⟨1, _⟩ => rfl

/-- Any arguments hold some values. -/
theorem exists_is (x0 : S4112x1024.Idx → EReal) (x1 : S1024x4096.Idx → EReal) (x2 : S4096x1024.Idx → EReal) (x3 : S4112x1024.Idx → EReal) :
    ∃ a, Is a x0 x1 x2 x3 :=
  ⟨⟨ext x0, ext x1, ext x2, ext x3⟩, ⟨ext_e2 x0, ext_e2 x1, ext_e2 x2, ext_e2 x3⟩⟩

theorem lit_0 : Ideal.ofBits FTy.f32 0x00000000#32 = (0 : EReal) := by simp [Ideal.ofBits, Ideal.ieee]
theorem lit_2 : Ideal.ofBits FTy.f32 0x40000000#32 = (2 : EReal) := by
  rw [show (2 : EReal) = ((2 : ℝ) : EReal) from rfl]
  simp [Ideal.ofBits, Ideal.ieee, -EReal.coe_mul]
  norm_num

/-- A product with the relu's slope is one with the relu. -/
theorem slope (x y : EReal) : (if 0 < x then y * (2 * max x 0) else 0) = y * (2 * max x 0) := by
  split_ifs with h
  · rfl
  · rw [max_eq_right (not_lt.1 h), mul_zero, mul_zero]

variable {a : Nums} {x0 : S4112x1024.Idx → EReal} {x1 : S1024x4096.Idx → EReal} {x2 : S4096x1024.Idx → EReal} {x3 : S4112x1024.Idx → EReal}
  (h : Is a x0 x1 x2 x3)

include h

theorem v0_eq : E2 (val_main_v0 (F := Ideal) x0 x1) (fun r j => ∑ k : Fin 1024, a.H r k.val * a.U k.val j) := by
  intro i
  simp only [val_main_v0_apply, h.h0 _, h.h1 _]

theorem v1_eq : E2 (val_main_v1 (F := Ideal) x0 x1) a.P := by
  intro i
  simp only [val_main_v1_apply, val_main_call0_v0_apply, val_main_call0_cst_apply, pointwise, v0_eq h _, lit_0]
  rfl

theorem v14_eq : E2 (val_main_v14 (F := Ideal) x0 x1 x2 x3) a.E := by
  intro i
  simp only [val_main_v14_apply, val_main_v3_apply, val_main_v2_apply, val_main_cst_apply, val_main_v12_apply, val_main_v13_apply, val_main_cst_2_apply,
    val_main_v11_apply, val_main_v7_apply, val_main_v6_apply, val_main_cst_1_apply, pointwise, v0_eq h _, v1_eq h _, h.h2 _, h.h3 _, lit_0, lit_2]
  exact slope _ _

theorem v16_eq : E2 (val_main_v16 (F := Ideal) x0 x1 x2 x3) a.gU := by
  intro i
  simp only [val_main_v16_apply, val_main_v15_apply, v14_eq h _, h.h0 _]
  exact Finset.sum_congr rfl fun r _ => mul_comm _ _

theorem v10_eq : E2 (val_main_v10 (F := Ideal) x0 x1 x3) a.gD := by
  intro i
  simp only [val_main_v10_apply, val_main_v9_apply, val_main_v5_apply, pointwise, v1_eq h _, h.h3 _]
  exact Finset.sum_congr rfl fun r _ => mul_comm _ _

theorem v17_eq : E2 (val_main_v17 (F := Ideal) x0 x1 x2 x3) a.gH := by
  intro i
  simp only [val_main_v17_apply, v14_eq h _, h.h1 _]
  rfl

/-- The first matrix's gradient, a block of columns for each device. -/
theorem v20_eq : E3 (val_main_v20 (F := Ideal) x0 x1 x2 x3) (fun d k j => a.gU k (512 * d + j)) := by
  intro i
  have b0 : (i 0).val < 8 := (i 0).isLt
  have b1 : (i 1).val < 1024 := (i 1).isLt
  have b2 : (i 2).val < 512 := (i 2).isLt
  simp only [val_main_v20_apply, val_main_v19_apply, val_main_v18_apply, pointwise, v16_eq h _]
  show a.gU ((((i 1).val * 8 + (i 0).val) * 512 + (i 2).val) / 4096) ((((i 1).val * 8 + (i 0).val) * 512 + (i 2).val) % 4096)
    = a.gU (i 1).val (512 * (i 0).val + (i 2).val)
  congr 1 <;> omega

/-- The second matrix's gradient, a block of rows for each device. -/
theorem v22_eq : E3 (val_main_v22 (F := Ideal) x0 x1 x3) (fun d j k => a.gD (512 * d + j) k) := by
  intro i
  have b0 : (i 0).val < 8 := (i 0).isLt
  have b1 : (i 1).val < 512 := (i 1).isLt
  have b2 : (i 2).val < 1024 := (i 2).isLt
  simp only [val_main_v22_apply, val_main_v21_apply, pointwise, v10_eq h _]
  show a.gD ((((i 0).val * 512 + (i 1).val) * 1024 + (i 2).val) / 1024) ((((i 0).val * 512 + (i 1).val) * 1024 + (i 2).val) % 1024)
    = a.gD (512 * (i 0).val + (i 1).val) (i 2).val
  congr 1 <;> omega

omit h in
theorem pad_eq {B : ℕ} {x : (⟨2, ![4112, B]⟩ : Shape).Idx → EReal} {X : ℕ → ℕ → EReal} (hx : E2 x X) (z : S_.Idx → EReal) (hz : ∀ i, z i = 0)
    (hp : (⟨2, ![4112, B]⟩ : Shape).Pads (![112, 0] : Fin 2 → Nat) ![0, 0] ![0, 0] (⟨2, ![4224, B]⟩ : Shape)) (hs : 0 < S_.numel) :
    E2 (pad (⟨2, ![4224, B]⟩ : Shape) ![112, 0] ![0, 0] ![0, 0] x z hp hs) (padE X) := by
  intro j
  have b0 : (j 0).val < 4224 := (j 0).isLt
  by_cases hR : 112 ≤ (j 0).val
  · refine (pad_apply_of_inside _ _ _ x z hp hs j (ix2 (⟨(j 0).val - 112, by omega⟩ : Fin 4112) (j 1)) fun b => ?_).trans ((hx _).trans ?_)
    · match b with
      | ⟨0, _⟩ => show (j 0).val = 112 + ((j 0).val - 112) * (0 + 1); omega
      | ⟨1, _⟩ => show (j 1).val = 0 + (j 1).val * (0 + 1); omega
    · exact (congrFun (if_pos hR) (j 1).val).symm
  · refine (pad_apply_of_not_inside _ _ _ x z hp hs j 0 fun hh => hR hh.1).trans ((hz _).trans ?_)
    exact (padE_zero X (Nat.not_le.1 hR) _).symm

omit h in
theorem zero_eq (i : S_.Idx) : (sitofp (F := Ideal) .f32 (constantI S_ 32 0#32) : S_.Idx → EReal) i = 0 := by
  simp only [pointwise]
  show FloatOps.sitofp (F := Ideal) FTy.f32 (BitVec.ofNat 32 0) = _
  rw [sitofp_nat 0 (by norm_num)]; simp

/-- The input's gradient below the rows of zeros. -/
theorem v23_eq : E2 (val_main_v23 (F := Ideal) x0 x1 x2 x3) (padE a.gH) :=
  pad_eq (v17_eq h) _ zero_eq _ _

end Cert.Reference3Ideal.Mlp
-- ==== Proof.MlpHost.lean ====
module

public import proofs.«01_k».proof.Proof.Gen.Kernel3Ideal.Frame.Runs
public import proofs.«01_k».proof.Proof.MlpRef
public import Idealize.ShloMosaic.Lib.StableHlo.RunRead
public import Idealize.ShloMosaic.Lib.Pipeline.ValueKit

@[expose] public section

set_option maxRecDepth 16384

noncomputable section

namespace Cert.Kernel3Ideal.Mlp

open Idealize.ShloMosaic Idealize.ShloMosaic.TcCoe
open Idealize.SL Idealize.SL.Sem
open Cert.Kernel3Ideal.Gen Cert.Mlp
open Cert.Reference3Ideal.Mlp (E2 E3 Is pad_eq zero_eq v1_eq)

/-! # The arrays the host prepares for the third region, and the blocks a point reads -/

/-- The padding's value. -/
def zeroP : FVec Ideal S_ .f32 := sitofp .f32 (constantI S_ 32 0#32)

/-- A matrix's columns in eight blocks. -/
def blocks {α : Type} (x : S1024x4096.Idx → α) : S8x1024x512.Idx → α :=
  transpose S8x1024x512 [1, 0, 2] (shapeCast S1024x8x512 x shapeCasts_S1024x4096_S1024x8x512) transposes_S1024x8x512_S8x1024x512_1_0_2

theorem blocks_eq {x : S1024x4096.Idx → EReal} {X : ℕ → ℕ → EReal} (hx : E2 x X) : E3 (blocks x) (fun d k j => X k (512 * d + j)) := by
  intro i
  have b0 : (i 0).val < 8 := (i 0).isLt
  have b1 : (i 1).val < 1024 := (i 1).isLt
  have b2 : (i 2).val < 512 := (i 2).isLt
  unfold blocks
  refine (transpose_apply [1, 0, 2] _ transposes_S1024x8x512_S8x1024x512_1_0_2 i (ix3 (i 1 : Fin 1024) (i 0 : Fin 8) (i 2 : Fin 512)) fun b => ?_).trans
    ((shapeCast_apply x shapeCasts_S1024x4096_S1024x8x512 _ (ix2 (i 1 : Fin 1024) (⟨512 * (i 0).val + (i 2).val, by omega⟩ : Fin 4096)) ?_).trans (hx _))
  · match b with
    | ⟨0, _⟩ => rfl
    | ⟨1, _⟩ => rfl
    | ⟨2, _⟩ => rfl
  · rewrite [Shape.rowMajor_val_two, Shape.rowMajor_val_three]
    show (i 1).val * 4096 + (512 * (i 0).val + (i 2).val) = ((i 1).val * 8 + (i 0).val) * 512 + (i 2).val
    omega

theorem rows_eq {x : S4096x1024.Idx → EReal} {X : ℕ → ℕ → EReal} (hx : E2 x X) :
    E3 (shapeCast S8x512x1024 x shapeCasts_S4096x1024_S8x512x1024) (fun d j k => X (512 * d + j) k) := by
  intro i
  have b0 : (i 0).val < 8 := (i 0).isLt
  have b1 : (i 1).val < 512 := (i 1).isLt
  have b2 : (i 2).val < 1024 := (i 2).isLt
  refine (shapeCast_apply x shapeCasts_S4096x1024_S8x512x1024 i (ix2 (⟨512 * (i 0).val + (i 1).val, by omega⟩ : Fin 4096) (i 2 : Fin 1024)) ?_).trans (hx _)
  rewrite [Shape.rowMajor_val_two, Shape.rowMajor_val_three]
  show (512 * (i 0).val + (i 1).val) * 1024 + (i 2).val = ((i 0).val * 512 + (i 1).val) * 1024 + (i 2).val
  omega

variable (m : (ℓ : Loc nD τ sig) → Buf (Elt Ideal) ℓ) (c : Dev nD)

theorem V_h : V m c main_v6 = truncf (F := Ideal) .bf16 (pad S4224x1024 ![112, 0] ![0, 0] ![0, 0] (m (c, Proc.devRef .tc main_arg0)) zeroP
    pads_S4112x1024_S4224x1024_11200_000 h_S_) bitsLt_bf16_f32 := by
  unfold V
  after_reads_simp
  rfl

theorem V_g : V m c main_v8 = truncf (F := Ideal) .bf16 (pad S4224x1024 ![112, 0] ![0, 0] ![0, 0] (m (c, Proc.devRef .tc main_arg3)) zeroP
    pads_S4112x1024_S4224x1024_11200_000 h_S_) bitsLt_bf16_f32 := by
  unfold V
  after_reads_simp
  rfl

theorem V_p : V m c main_v10 = truncf (F := Ideal) .bf16 (pad S4224x4096 ![112, 0] ![0, 0] ![0, 0]
    (Cert.Reference3Ideal.Read.val_main_v1 (F := Ideal) (m (c, Proc.devRef .tc main_arg0)) (m (c, Proc.devRef .tc main_arg1))) zeroP
    pads_S4112x4096_S4224x4096_11200_000 h_S_) bitsLt_bf16_f32 := by
  unfold V
  after_reads_simp
  rfl

theorem V_u : V m c main_v4 = truncf (F := Ideal) .bf16 (blocks (m (c, Proc.devRef .tc main_arg1))) bitsLt_bf16_f32 := by
  unfold V
  after_reads_simp
  rfl

theorem V_d : V m c main_v12 = shapeCast S8x512x1024 (truncf (F := Ideal) .bf16 (m (c, Proc.devRef .tc main_arg2)) bitsLt_bf16_f32)
    shapeCasts_S4096x1024_S8x512x1024 := by
  unfold V
  after_reads_simp
  rfl

/-- The arguments of device `c` hold the numbers `a`. -/
def Args (a : Nums) : Prop :=
  Is a (m (c, Proc.devRef .tc main_arg0)) (m (c, Proc.devRef .tc main_arg1)) (m (c, Proc.devRef .tc main_arg2)) (m (c, Proc.devRef .tc main_arg3))

section
variable {m c} {a : Nums} (A : Args m c a)
include A

theorem h_rows : E2 (V m c main_v6 : S4224x1024.Idx → EReal) (padE a.H) := by
  rw [V_h]; exact pad_eq A.h0 _ zero_eq pads_S4112x1024_S4224x1024_11200_000 h_S_

theorem g_rows : E2 (V m c main_v8 : S4224x1024.Idx → EReal) (padE a.G) := by
  rw [V_g]; exact pad_eq A.h3 _ zero_eq pads_S4112x1024_S4224x1024_11200_000 h_S_

theorem p_rows : E2 (V m c main_v10 : S4224x4096.Idx → EReal) (padE a.P) := by
  rw [V_p]; exact pad_eq (v1_eq A) _ zero_eq pads_S4112x4096_S4224x4096_11200_000 h_S_

theorem u_rows : E3 (V m c main_v4 : S8x1024x512.Idx → EReal) (fun d k j => a.U k (512 * d + j)) := by
  rw [V_u]; exact blocks_eq A.h1

theorem d_rows : E3 (V m c main_v12 : S8x512x1024.Idx → EReal) (fun d j k => a.D (512 * d + j) k) := by
  rw [V_d]; exact rows_eq A.h2

end

/-! ## The blocks -/

theorem idxIn : ∀ t : Fin cfg0.N, win0_0.index t = ![t.val % 3, 0] ∧ win0_1.index t = ![t.val % 3, 0] ∧ win0_2.index t = ![t.val % 3, t.val / 3]
    ∧ win0_3.index t = ![t.val / 3, 0, 0] ∧ win0_4.index t = ![t.val / 3, 0, 0] :=
  (by decide +kernel : ∀ t : Fin grid0.N, win0_0.index t = ![t.val % 3, 0] ∧ win0_1.index t = ![t.val % 3, 0] ∧ win0_2.index t = ![t.val % 3, t.val / 3]
    ∧ win0_3.index t = ![t.val / 3, 0, 0] ∧ win0_4.index t = ![t.val / 3, 0, 0])

theorem idxOut : ∀ t : Fin cfg0.N, win0_5.index t = ![t.val / 3, 0, 0] ∧ win0_6.index t = ![t.val / 3, 0, 0] ∧ win0_7.index t = ![0, 0] :=
  (by decide +kernel : ∀ t : Fin grid0.N, win0_5.index t = ![t.val / 3, 0, 0] ∧ win0_6.index t = ![t.val / 3, 0, 0] ∧ win0_7.index t = ![0, 0])

theorem points : cfg0.N = 24 := by decide +kernel

variable (t : Fin cfg0.N)

/-- The row of the arrays that is row `i` of the block of point `t`, -/
def rowOf (i : Fin 1408) : Fin 4224 := ⟨1408 * (t.val % 3) + i.val, by have := Nat.mod_lt t.val (show 3 > 0 by decide); omega⟩

/-- the column that is its column `j`, -/
def colOf (j : Fin 512) : Fin 4096 := ⟨512 * (t.val / 3) + j.val, by have : t.val < 24 := lt_of_lt_of_eq t.isLt points; omega⟩

/-- and the device whose columns these are. -/
def devOf : Fin 8 := ⟨t.val / 3, by have : t.val < 24 := lt_of_lt_of_eq t.isLt points; omega⟩

theorem iblk0 (i : Fin 1408) (l : Fin 1024) : iblk m c 0 t (ix2 i l) = V m c main_v6 (ix2 (rowOf t i) l) := by
  blk_ext [iblk, rowOf, (idxIn t).1]

theorem iblk1 (i : Fin 1408) (l : Fin 1024) : iblk m c 1 t (ix2 i l) = V m c main_v8 (ix2 (rowOf t i) l) := by
  blk_ext [iblk, rowOf, (idxIn t).2.1]

theorem iblk2 (i : Fin 1408) (j : Fin 512) : iblk m c 2 t (ix2 i j) = V m c main_v10 (ix2 (rowOf t i) (colOf t j)) := by
  blk_ext [iblk, rowOf, colOf, (idxIn t).2.2.1]

theorem iblk3 (k : Fin 1024) (j : Fin 512) : iblk m c 3 t (ix3 (0 : Fin 1) k j) = V m c main_v4 (ix3 (devOf t) k j) := by
  blk_ext [iblk, devOf, (idxIn t).2.2.2.1]

theorem iblk4 (j : Fin 512) (k : Fin 1024) : iblk m c 4 t (ix3 (0 : Fin 1) j k) = V m c main_v12 (ix3 (devOf t) j k) := by
  blk_ext [iblk, devOf, (idxIn t).2.2.2.2]

variable {m c} {a : Nums} (A : Args m c a)
include A

theorem hB (i : Fin 1408) (l : Fin 1024) : iblk m c 0 t (ix2 i l) = padE a.H (1408 * (t.val % 3) + i.val) l.val := (iblk0 m c t i l).trans (h_rows A _)
theorem gB (i : Fin 1408) (l : Fin 1024) : iblk m c 1 t (ix2 i l) = padE a.G (1408 * (t.val % 3) + i.val) l.val := (iblk1 m c t i l).trans (g_rows A _)
theorem pB (i : Fin 1408) (j : Fin 512) : iblk m c 2 t (ix2 i j) = padE a.P (1408 * (t.val % 3) + i.val) (512 * (t.val / 3) + j.val) :=
  (iblk2 m c t i j).trans (p_rows A _)
theorem uB (k : Fin 1024) (j : Fin 512) : iblk m c 3 t (ix3 (0 : Fin 1) k j) = a.U k.val (512 * (t.val / 3) + j.val) := (iblk3 m c t k j).trans (u_rows A _)
theorem dB (j : Fin 512) (k : Fin 1024) : iblk m c 4 t (ix3 (0 : Fin 1) j k) = a.D (512 * (t.val / 3) + j.val) k.val := (iblk4 m c t j k).trans (d_rows A _)

end Cert.Kernel3Ideal.Mlp
-- ==== Proof.MlpOut.lean ====
module

public import proofs.«01_k».proof.Proof.MlpBody
public import proofs.«01_k».proof.Proof.MlpHost

@[expose] public section

set_option maxRecDepth 16384

noncomputable section

namespace Cert.Kernel3Ideal.Mlp

open Idealize.ShloMosaic Idealize.ShloMosaic.TcCoe
open Idealize.SL Idealize.SL.Sem
open Cert.Kernel3Ideal.Gen Cert.Mlp
open Cert.Reference3Ideal.Mlp (E2 E3)

/-! # The result arrays of the third region -/

theorem lit_0 : Ideal.ofBits FTy.f32 0x00000000#32 = (0 : EReal) := by simp [Ideal.ofBits, Ideal.ieee]
theorem lit_2h : Ideal.ofBits FTy.bf16 0x4000#16 = (2 : EReal) := by
  rw [show (2 : EReal) = ((2 : ℝ) : EReal) from rfl]
  simp [Ideal.ofBits, Ideal.ieee, -EReal.coe_mul]
  norm_num

variable {m : (ℓ : Loc nD τ sig) → Buf (Elt Ideal) ℓ} {c : Dev nD} {a : Nums} (A : Args m c a) (t : Fin cfg0.N)
include A

/-- The gradient before the relu, a block of rows and columns. -/
theorem e_rows (i : Fin 1408) (j : Fin 512) : k0_pay14 (F := Ideal) (iblk m c 1 t) (iblk m c 4 t) (iblk m c 2 t) (ix2 i j)
    = padE a.E (1408 * (t.val % 3) + i.val) (512 * (t.val / 3) + j.val) := by
  have h1 := gB t A
  have h2 := pB t A
  have h4 := dB t A
  refine Eq.trans ?_ (e_pad a _ _)
  generalize iblk m c 1 t = x1 at h1 ⊢
  generalize iblk m c 2 t = x2 at h2 ⊢
  generalize iblk m c 4 t = x4 at h4 ⊢
  simp only [k0_pay14, k0_pay11, k0_pay13, pointwise, h1 _ _, h2 _ _, h4 _ _, lit_0, lit_2h, zero_add]

theorem u_step {acc : S1024x512.Idx → EReal}
    (h : ∀ k j, acc (ix2 k j) = uSum a (t.val % 3) k.val (512 * (t.val / 3) + j.val)) (k : Fin 1024) (j : Fin 512) :
    stU m c t acc (ix2 k j) = uSum a (t.val % 3 + 1) k.val (512 * (t.val / 3) + j.val) := by
  have h0 := hB t A
  have h1 := e_rows A t
  unfold stU k0_pay15
  generalize k0_pay14 (F := Ideal) (iblk m c 1 t) (iblk m c 4 t) (iblk m c 2 t) = e at h1 ⊢
  generalize iblk m c 0 t = x0 at h0 ⊢
  refine Eq.trans ?_ (sum_step 1408 (fun R => padE a.H R k.val * padE a.E R (512 * (t.val / 3) + j.val)) (t.val % 3))
  simp only [pointwise, h _ _, h0 _ _, h1 _ _, lit_0, zero_add]
  rfl

theorem d_step {acc : S512x1024.Idx → EReal}
    (h : ∀ j k, acc (ix2 j k) = dSum a (t.val % 3) (512 * (t.val / 3) + j.val) k.val) (j : Fin 512) (k : Fin 1024) :
    stD m c t acc (ix2 j k) = dSum a (t.val % 3 + 1) (512 * (t.val / 3) + j.val) k.val := by
  have h1 := gB t A
  have h2 := pB t A
  unfold stD k0_pay1 k0_pay16 k0_pay11 k0_pay13
  generalize iblk m c 1 t = x1 at h1 ⊢
  generalize iblk m c 2 t = x2 at h2 ⊢
  refine Eq.trans ?_ (sum_step 1408 (fun R => padE a.P R (512 * (t.val / 3) + j.val) * padE a.P R (512 * (t.val / 3) + j.val) * padE a.G R k.val) (t.val % 3))
  simp only [pointwise, h _ _, h1 _ _, h2 _ _, lit_0, zero_add]
  rfl

theorem h_step {acc : S1408x1024.Idx → EReal} (i : Fin 1408) (l : Fin 1024)
    (h : acc (ix2 i l) = hSum a (t.val / 3) (1408 * (t.val % 3) + i.val) l.val) :
    stH m c t acc (ix2 i l) = hSum a (t.val / 3 + 1) (1408 * (t.val % 3) + i.val) l.val := by
  have h1 := e_rows A t
  have h3 := uB t A
  unfold stH k0_pay4 k0_pay2 k0_pay12
  generalize k0_pay14 (F := Ideal) (iblk m c 1 t) (iblk m c 4 t) (iblk m c 2 t) = e at h1 ⊢
  generalize iblk m c 3 t = x3 at h3 ⊢
  refine Eq.trans ?_ (sum_step 512 (fun j => padE a.E (1408 * (t.val % 3) + i.val) j * a.U l.val j) (t.val / 3))
  simp only [pointwise, h, h1 _ _, h3 _ _, lit_0, zero_add]
  rfl

/-! ## The accumulators after a point -/

theorem u_after (n : ℕ) (hn : n < cfg0.N) (k : Fin 1024) (j : Fin 512) : uAt m c n hn (ix2 k j) = uSum a (n % 3 + 1) k.val (512 * (n / 3) + j.val) := by
  induction n generalizing k j with
  | zero =>
    have e : uAt m c 0 hn = _ := u_first m c ⟨0, hn⟩ rfl
    rw [e]
    exact u_step A ⟨0, hn⟩ (fun k j => by simp only [k0_pay9, pointwise, lit_0]; rfl) k j
  | succ n ih =>
    by_cases h0 : (n + 1) % 3 = 0
    · have e : uAt m c (n + 1) hn = _ := u_first m c ⟨n + 1, hn⟩ h0
      rw [e]
      exact u_step A ⟨n + 1, hn⟩ (fun k j => by
        show _ = uSum a ((n + 1) % 3) _ _
        rw [h0]; simp only [k0_pay9, pointwise, lit_0]; rfl) k j
    · have e : uAt m c (n + 1) hn = _ := u_next m c ⟨n + 1, hn⟩ h0 (Nat.lt_of_succ_lt hn)
      rw [e]
      exact u_step A ⟨n + 1, hn⟩ (fun k j => by
        refine (ih (Nat.lt_of_succ_lt hn) k j).trans ?_
        show _ = uSum a ((n + 1) % 3) _ (512 * ((n + 1) / 3) + _)
        rw [show n % 3 + 1 = (n + 1) % 3 by omega, show n / 3 = (n + 1) / 3 by omega]) k j

theorem d_after (n : ℕ) (hn : n < cfg0.N) (j : Fin 512) (k : Fin 1024) : dAt m c n hn (ix2 j k) = dSum a (n % 3 + 1) (512 * (n / 3) + j.val) k.val := by
  induction n generalizing j k with
  | zero =>
    have e : dAt m c 0 hn = _ := d_first m c ⟨0, hn⟩ rfl
    rw [e]
    exact d_step A ⟨0, hn⟩ (fun j k => by simp only [k0_pay10, pointwise, lit_0]; rfl) j k
  | succ n ih =>
    by_cases h0 : (n + 1) % 3 = 0
    · have e : dAt m c (n + 1) hn = _ := d_first m c ⟨n + 1, hn⟩ h0
      rw [e]
      exact d_step A ⟨n + 1, hn⟩ (fun j k => by
        show _ = dSum a ((n + 1) % 3) _ _
        rw [h0]; simp only [k0_pay10, pointwise, lit_0]; rfl) j k
    · have e : dAt m c (n + 1) hn = _ := d_next m c ⟨n + 1, hn⟩ h0 (Nat.lt_of_succ_lt hn)
      rw [e]
      exact d_step A ⟨n + 1, hn⟩ (fun j k => by
        refine (ih (Nat.lt_of_succ_lt hn) j k).trans ?_
        show _ = dSum a ((n + 1) % 3) (512 * ((n + 1) / 3) + _) _
        rw [show n % 3 + 1 = (n + 1) % 3 by omega, show n / 3 = (n + 1) / 3 by omega]) j k

theorem h_after (n : ℕ) (hn : n < cfg0.N) (i : Fin 4224) (l : Fin 1024) : hAt m c n hn (ix2 i l) = hSum a (seen n i.val) i.val l.val := by
  induction n generalizing i l with
  | zero =>
    by_cases hi : i.val < 1408
    · have e : hAt m c 0 hn (ix2 i l) = _ := h_first_hit m c ⟨0, hn⟩ rfl i l ⟨i.val, hi⟩ rfl
      rw [e, seen_hit (t := 0) (Nat.zero_le _) hi]
      refine (h_step A ⟨0, hn⟩ ⟨i.val, hi⟩ l ?_).trans ?_
      · simp only [Cert.Lanes.slab, k0_pay3, pointwise, lit_0]; rfl
      · show hSum a (0 / 3 + 1) (1408 * (0 % 3) + i.val) l.val = _
        rw [show 1408 * (0 % 3) + i.val = i.val by omega]
    · have e : hAt m c 0 hn (ix2 i l) = _ := h_first_miss m c ⟨0, hn⟩ rfl i l (Nat.not_lt.1 hi)
      rw [e, seen_zero (Nat.not_lt.1 hi)]
      simp only [k0_pay3, pointwise, lit_0]; rfl
  | succ n ih =>
    have hN : n + 1 < 24 := lt_of_lt_of_eq hn points
    have h1 : ¬(n + 1) % 24 = 0 := by omega
    have h3 := Nat.mod_lt (n + 1) (show 3 > 0 by decide)
    have hp : n < cfg0.N := Nat.lt_of_succ_lt hn
    by_cases hi : 1408 * ((n + 1) % 3) ≤ i.val ∧ i.val < 1408 * ((n + 1) % 3 + 1)
    · have e : hAt m c (n + 1) hn (ix2 i l) = _ :=
        h_next_hit m c ⟨n + 1, hn⟩ h1 hp i l ⟨i.val - 1408 * ((n + 1) % 3), by omega⟩ (by show i.val = 1408 * ((n + 1) % 3) + (i.val - 1408 * ((n + 1) % 3)); omega)
      rw [e, seen_hit hi.1 hi.2]
      have er : 1408 * ((n + 1) % 3) + (i.val - 1408 * ((n + 1) % 3)) = i.val := by omega
      refine (h_step A ⟨n + 1, hn⟩ ⟨i.val - 1408 * ((n + 1) % 3), by omega⟩ l ?_).trans ?_
      · refine Eq.trans (congrArg (hAt m c n hp) (?_ : _ = ix2 i l)) ((ih hp i l).trans ?_)
        · exact congrArg (fun x => ix2 x l) (Fin.ext er)
        · show _ = hSum a ((n + 1) / 3) (1408 * ((n + 1) % 3) + (i.val - 1408 * ((n + 1) % 3))) l.val
          rw [er, ← seen_hit_prev (t := n + 1) (Nat.succ_pos n) i.isLt hi.1]; rfl
      · show hSum a ((n + 1) / 3 + 1) (1408 * ((n + 1) % 3) + (i.val - 1408 * ((n + 1) % 3))) l.val = _
        rw [er]
    · have e : hAt m c (n + 1) hn (ix2 i l) = _ := h_next_miss m c ⟨n + 1, hn⟩ h1 hp i l (by show i.val < 1408 * ((n + 1) % 3) ∨ 1408 * ((n + 1) % 3) + 1408 ≤ i.val; omega)
      rw [e]
      refine (ih hp i l).trans ?_
      rw [← seen_miss (t := n + 1) (Nat.succ_pos n) i.isLt (by omega)]; rfl

/-! ## What is written back -/

omit A in
theorem flush5 : ∀ t : Fin cfg0.N, (cfg0.win 5).flush t = true → t.val % 3 = 2 := by decide +kernel
omit A in
theorem flush6 : ∀ t : Fin cfg0.N, (cfg0.win 6).flush t = true → t.val % 3 = 2 := by decide +kernel
omit A in
theorem flush7 : ∀ t : Fin cfg0.N, (cfg0.win 7).flush t = true → t.val = 23 := by decide +kernel

theorem gu_rows (h : t.val % 3 = 2) (k : Fin 1024) (j : Fin 512) :
    (outsAt0 m c t.val t.isLt).1 (ix3 (0 : Fin 1) k j) = a.gU k.val (512 * (t.val / 3) + j.val) := by
  have hu := u_after A t.val t.isLt
  rw [h] at hu
  rw [gu_last m c t h]
  generalize uAt m c t.val t.isLt = u at hu ⊢
  simp only [k0_pay7, pointwise, hu _ _]
  exact uSum_all _ _ _

theorem gd_rows (h : t.val % 3 = 2) (j : Fin 512) (k : Fin 1024) :
    (outsAt0 m c t.val t.isLt).2.1 (ix3 (0 : Fin 1) j k) = a.gD (512 * (t.val / 3) + j.val) k.val := by
  have hu := d_after A t.val t.isLt
  rw [h] at hu
  rw [gd_last m c t h]
  generalize dAt m c t.val t.isLt = u at hu ⊢
  simp only [k0_pay8, pointwise, hu _ _]
  exact dSum_all _ _ _

theorem gh_rows (h : t.val = 23) (i : Fin 4224) (l : Fin 1024) : hAt m c t.val t.isLt (ix2 i l) = padE a.gH i.val l.val := by
  rw [h_after A t.val t.isLt i l, h, seen_last i.isLt]
  exact hSum_all _ _ _

/-! ## The arrays -/

omit A in
theorem emb5 (G : S8x1024x512.Idx → EReal) (t : Fin cfg0.N) (y : S1x1024x512.Idx) : G ((win0_5.blk t).view.emb y) = G (ix3 (devOf t) (y 1) (y 2)) := by
  blk_ext [devOf, (idxOut t).1]
omit A in
theorem emb6 (G : S8x512x1024.Idx → EReal) (t : Fin cfg0.N) (y : S1x512x1024.Idx) : G ((win0_6.blk t).view.emb y) = G (ix3 (devOf t) (y 1) (y 2)) := by
  blk_ext [devOf, (idxOut t).2.1]
omit A in
theorem emb7 (G : S4224x1024.Idx → EReal) (t : Fin cfg0.N) (y : S4224x1024.Idx) : G ((win0_7.blk t).view.emb y) = G (ix2 (y 0) (y 1)) := by
  blk_ext [(idxOut t).2.2]

/-- An array from its entries. -/
def arr2 (A B : ℕ) (X : ℕ → ℕ → EReal) : (⟨2, ![A, B]⟩ : Shape).Idx → EReal := fun i => X (i 0).val (i 1).val
def arr3 (A B C : ℕ) (X : ℕ → ℕ → ℕ → EReal) : (⟨3, ![A, B, C]⟩ : Shape).Idx → EReal := fun i => X (i 0).val (i 1).val (i 2).val

omit A in
theorem ix3_one {B C : ℕ} (y : (⟨3, ![1, B, C]⟩ : Shape).Idx) : y = ix3 (0 : Fin 1) (y 1) (y 2) := by
  funext b
  match b with
  | ⟨0, _⟩ => exact Subsingleton.elim (α := Fin 1) _ _
  | ⟨1, _⟩ => rfl
  | ⟨2, _⟩ => rfl

omit A in
theorem ix2_self {B C : ℕ} (y : (⟨2, ![B, C]⟩ : Shape).Idx) : y = ix2 (y 0) (y 1) := by
  funext b
  match b with
  | ⟨0, _⟩ => rfl
  | ⟨1, _⟩ => rfl

theorem arr5 : (dats m 0 c).arrAt 5 cfg0.N = arr3 8 1024 512 (fun d k j => a.gU k (512 * d + j)) := by
  refine (dats m 0 c).arrAt_eq_of_covers 5 _ (by decide +kernel) fun t hf y => ?_
  have ht := flush5 t hf
  blk_simp
  rw [after0_5]
  exact ((congrArg (outsAt0 m c t.val t.isLt).1 (ix3_one y)).trans (gu_rows A t ht (y 1) (y 2))).trans (emb5 (arr3 8 1024 512 fun d k j => a.gU k (512 * d + j)) t y).symm

theorem arr6 : (dats m 0 c).arrAt 6 cfg0.N = arr3 8 512 1024 (fun d j k => a.gD (512 * d + j) k) := by
  refine (dats m 0 c).arrAt_eq_of_covers 6 _ (by decide +kernel) fun t hf y => ?_
  have ht := flush6 t hf
  blk_simp
  rw [after0_6]
  exact ((congrArg (outsAt0 m c t.val t.isLt).2.1 (ix3_one y)).trans (gd_rows A t ht (y 1) (y 2))).trans (emb6 (arr3 8 512 1024 fun d j k => a.gD (512 * d + j) k) t y).symm

theorem arr7 : (dats m 0 c).arrAt 7 cfg0.N = arr2 4224 1024 (padE a.gH) := by
  refine (dats m 0 c).arrAt_eq_of_covers 7 _ (by decide +kernel) fun t hf y => ?_
  have ht := flush7 t hf
  blk_simp
  rw [after0_7]
  exact ((congrArg (hAt m c t.val t.isLt) (ix2_self y)).trans (gh_rows A t ht (y 0) (y 1))).trans (emb7 (arr2 4224 1024 (padE a.gH)) t y).symm

end Cert.Kernel3Ideal.Mlp
-- ==== Proof.DownBody.lean ====
module

public import proofs.«01_k».proof.Proof.Gen.Kernel4Ideal.Value
public import proofs.«01_k».proof.Proof.Lanes

@[expose] public section

set_option maxRecDepth 16384

noncomputable section

namespace Cert.Lanes

open Idealize.ShloMosaic Idealize.ShloMosaic.TcCoe
open Idealize.SL Idealize.SL.Sem

variable {F : FTy → Type} [FloatOps F] {sg : RefSig} {e : EltTy} {A B : ℕ}

/-! # Loads of eighths of the hidden layer, and stores of thirds of the rows -/

theorem inbCols (A : ℕ) (n : Fin 8) : ∀ a, (![0, 512 * n.val] : Fin 2 → ℕ) a + (⟨2, ![A, 512]⟩ : Shape).size a ≤ (⟨2, ![A, 4096]⟩ : Shape).size a := by
  intro a
  have := n.isLt
  match a with
  | ⟨0, _⟩ => show 0 + A ≤ A; omega
  | ⟨1, _⟩ => show 512 * n.val + 512 ≤ 4096; omega

theorem inbRows (B : ℕ) (n : Fin 8) : ∀ a, (![512 * n.val, 0] : Fin 2 → ℕ) a + (⟨2, ![512, B]⟩ : Shape).size a ≤ (⟨2, ![4096, B]⟩ : Shape).size a := by
  intro a
  have := n.isLt
  match a with
  | ⟨0, _⟩ => show 512 * n.val + 512 ≤ 4096; omega
  | ⟨1, _⟩ => show 0 + B ≤ B; omega

/-- The columns of eighth `n`. -/
def cols8 {α : Type} (x : (⟨2, ![A, 4096]⟩ : Shape).Idx → α) (n : Fin 8) : (⟨2, ![A, 512]⟩ : Shape).Idx → α :=
  fun j => x (ix2 (j 0) (⟨512 * n.val + (j 1).val, by have h1 : (j 1).val < 512 := (j 1).isLt; have := n.isLt; omega⟩ : Fin 4096))

/-- The rows of eighth `n`. -/
def rows8 {α : Type} (x : (⟨2, ![4096, B]⟩ : Shape).Idx → α) (n : Fin 8) : (⟨2, ![512, B]⟩ : Shape).Idx → α :=
  fun j => x (ix2 (⟨512 * n.val + (j 0).val, by have h0 : (j 0).val < 512 := (j 0).isLt; have := n.isLt; omega⟩ : Fin 4096) (j 1))

/-- An eighth's columns, loaded. -/
def rdCols (arg : Memref sg .tc .vmem ⟨2, ![A, 4096]⟩ e) (ha : arg.IsWhole) (x : (⟨2, ![A, 4096]⟩ : Shape).Idx → Elt F e) (n : Fin 8) :
    (⟨2, ![A, 512]⟩ : Shape).Idx → Elt F e :=
  View.readAt (Elt F) arg.view (Rect.unit (s := ⟨2, ![A, 4096]⟩) ![0, 512 * n.val] (⟨2, ![A, 512]⟩ : Shape).size (inbCols A n)).toLoadRect (ha.unread x)

/-- An eighth's rows, loaded. -/
def rdRows (arg : Memref sg .tc .vmem ⟨2, ![4096, B]⟩ e) (ha : arg.IsWhole) (x : (⟨2, ![4096, B]⟩ : Shape).Idx → Elt F e) (n : Fin 8) :
    (⟨2, ![512, B]⟩ : Shape).Idx → Elt F e :=
  View.readAt (Elt F) arg.view (Rect.unit (s := ⟨2, ![4096, B]⟩) ![512 * n.val, 0] (⟨2, ![512, B]⟩ : Shape).size (inbRows B n)).toLoadRect (ha.unread x)

theorem rdCols_eq (arg : Memref sg .tc .vmem ⟨2, ![A, 4096]⟩ e) (ha : arg.IsWhole) (x : (⟨2, ![A, 4096]⟩ : Shape).Idx → Elt F e) :
    rdCols arg ha x = cols8 x := by
  funext n j
  refine (ha.readAt_unread x (Rect.unit (s := ⟨2, ![A, 4096]⟩) ![0, 512 * n.val] (⟨2, ![A, 512]⟩ : Shape).size (inbCols A n)).toLoadRect j).trans (congrArg x (funext fun a => Fin.ext ?_))
  match a with
  | ⟨0, _⟩ => show 0 + 1 * (j 0).val = (j 0).val; omega
  | ⟨1, _⟩ => show 512 * n.val + 1 * (j 1).val = 512 * n.val + (j 1).val; omega

theorem rdRows_eq (arg : Memref sg .tc .vmem ⟨2, ![4096, B]⟩ e) (ha : arg.IsWhole) (x : (⟨2, ![4096, B]⟩ : Shape).Idx → Elt F e) :
    rdRows arg ha x = rows8 x := by
  funext n j
  refine (ha.readAt_unread x (Rect.unit (s := ⟨2, ![4096, B]⟩) ![512 * n.val, 0] (⟨2, ![512, B]⟩ : Shape).size (inbRows B n)).toLoadRect j).trans (congrArg x (funext fun a => Fin.ext ?_))
  match a with
  | ⟨0, _⟩ => show 512 * n.val + 1 * (j 0).val = 512 * n.val + (j 0).val; omega
  | ⟨1, _⟩ => show 0 + 1 * (j 1).val = (j 1).val; omega

/-! ## Thirds -/

theorem inbThird (B : ℕ) (n : Fin 3) : ∀ a, (![128 * n.val, 0] : Fin 2 → ℕ) a + (⟨2, ![128, B]⟩ : Shape).size a ≤ (⟨2, ![384, B]⟩ : Shape).size a := by
  intro a
  have := n.isLt
  match a with
  | ⟨0, _⟩ => show 128 * n.val + 128 ≤ 384; omega
  | ⟨1, _⟩ => show 0 + B ≤ B; omega

/-- A store of a third. -/
def pThird (n : Fin 3) (w : (⟨2, ![128, B]⟩ : Shape).Idx → Elt F e) : View.Piece (Elt F) (⟨2, ![384, B]⟩ : Shape) e :=
  ⟨Rect.unit (s := ⟨2, ![384, B]⟩) ![128 * n.val, 0] (⟨2, ![128, B]⟩ : Shape).size (inbThird B n), w⟩

theorem pThird_hit {κ : Kind} {sp : Space} (v : View sg κ sp (⟨2, ![384, B]⟩ : Shape) e) (f) (n : Fin 3) (w : (⟨2, ![128, B]⟩ : Shape).Idx → Elt F e)
    (L : List (View.Piece (Elt F) (⟨2, ![384, B]⟩ : Shape) e)) (i : Fin 384) (l : Fin B) (j : Fin 128) (h : i.val = 128 * n.val + j.val) :
    v.read (Elt F) (v.writes (Elt F) f (pThird n w :: L)) (ix2 i l) = w (ix2 j l) :=
  View.read_writes_cons_unit_of_mem v f (inbThird B n) w L (ix2 i l) (ix2 j l) rfl fun a =>
    match a with
    | ⟨0, _⟩ => h
    | ⟨1, _⟩ => (Nat.zero_add _).symm

theorem pThird_miss {κ : Kind} {sp : Space} (v : View sg κ sp (⟨2, ![384, B]⟩ : Shape) e) (f) (n : Fin 3) (w : (⟨2, ![128, B]⟩ : Shape).Idx → Elt F e)
    (L : List (View.Piece (Elt F) (⟨2, ![384, B]⟩ : Shape) e)) (i : Fin 384) (l : Fin B) (h : i.val < 128 * n.val ∨ 128 * n.val + 128 ≤ i.val) :
    v.read (Elt F) (v.writes (Elt F) f (pThird n w :: L)) (ix2 i l) = v.read (Elt F) (v.writes (Elt F) f L) (ix2 i l) :=
  View.read_writes_cons_unit_of_not_mem v f (inbThird B n) w L (ix2 i l) rfl 0 h

/-- Three thirds, one below another. -/
def thirds {α : Type} (w : Fin 3 → (⟨2, ![128, B]⟩ : Shape).Idx → α) : (⟨2, ![384, B]⟩ : Shape).Idx → α :=
  fun y => w ⟨(y 0).val / 128, by have h0 : (y 0).val < 384 := (y 0).isLt; omega⟩ (ix2 (⟨(y 0).val % 128, Nat.mod_lt _ (by decide)⟩ : Fin 128) (y 1))

theorem covThirds_eq {κ : Kind} {sp : Space} (v : View sg κ sp (⟨2, ![384, B]⟩ : Shape) e) (w : Fin 3 → (⟨2, ![128, B]⟩ : Shape).Idx → Elt F e)
    (L : List (View.Piece (Elt F) (⟨2, ![384, B]⟩ : Shape) e)) : covAll v (pThird 2 (w 2) :: pThird 1 (w 1) :: pThird 0 (w 0) :: L) = thirds w := by
  funext y
  obtain ⟨i, l, rfl⟩ : ∃ (i : Fin 384) (l : Fin B), y = ix2 i l := ⟨y 0, y 1, eq_ix2 y⟩
  have hi := i.isLt
  have e : covAll v (pThird 2 (w 2) :: pThird 1 (w 1) :: pThird 0 (w 0) :: L) (ix2 i l)
      = v.read (Elt F) (v.writes (Elt F) v.junk (pThird 2 (w 2) :: pThird 1 (w 1) :: pThird 0 (w 0) :: L)) (ix2 i l) := by
    refine congrArg (v.read (Elt F) (v.writes (Elt F) v.junk (pThird 2 (w 2) :: pThird 1 (w 1) :: pThird 0 (w 0) :: L))) (funext fun a => Fin.ext ?_)
    match a with
    | ⟨0, _⟩ => show 0 + 1 * i.val = i.val; omega
    | ⟨1, _⟩ => show 0 + 1 * l.val = l.val; omega
  rw [e]
  have hm : i.val % 128 < 128 := Nat.mod_lt _ (by decide)
  have g : ∀ n : Fin 3, i.val / 128 = n.val → thirds w (ix2 i l) = w n (ix2 (⟨i.val % 128, hm⟩ : Fin 128) l) := fun n hn =>
    congrArg (fun q => w q (ix2 (⟨i.val % 128, hm⟩ : Fin 128) l)) (Fin.ext hn)
  by_cases h2 : 256 ≤ i.val
  · rw [g 2 (by show i.val / 128 = 2; omega)]
    exact pThird_hit v _ 2 _ _ i l _ (by show i.val = 128 * 2 + i.val % 128; omega)
  · rw [pThird_miss v _ 2 _ _ i l (.inl (by show i.val < 128 * 2; omega))]
    by_cases h1 : 128 ≤ i.val
    · rw [g 1 (by show i.val / 128 = 1; omega)]
      exact pThird_hit v _ 1 _ _ i l _ (by show i.val = 128 * 1 + i.val % 128; omega)
    · rw [pThird_miss v _ 1 _ _ i l (.inl (by show i.val < 128 * 1; omega)), g 0 (by show i.val / 128 = 0; omega)]
      exact pThird_hit v _ 0 _ _ i l _ (by show i.val = 128 * 0 + i.val % 128; omega)

end Cert.Lanes

namespace Cert.Kernel4Ideal.Down

open Idealize.ShloMosaic Idealize.ShloMosaic.TcCoe
open Idealize.SL Idealize.SL.Sem
open Cert.Kernel4Ideal.Gen Cert.Lanes

variable {F : FTy → Type} [FloatOps F]

/-! # What each point leaves, from its loads -/

section
variable (p : Fin 8 → Vec F S384x512 .bf16) (w : Fin 8 → Vec F S512x1024 .bf16) (x1 : Vec F S384x1024 .f32) (g1 b1 g2 b2 : Vec F S1x1024 .f32)
  (i : BitVec 32) (tg : Vec F S384x1024 .f32)

/-- The hidden layer's product without its last eighth. -/
abbrev bF : FVec F S384x1024 .f32 :=
  k0_pay11 (k0_pay10 (p 0) (w 0) (p 1) (w 1)) (p 2) (w 2) (p 3) (w 3) (p 4) (w 4) (p 5) (w 5) (p 6) (w 6)
/-- The second norm's factor. -/
abbrev bRs : FVec F S384x1 .f32 := k0_pay13 (bF p w) (p 7) (w 7) x1 g1 b1
/-- Its normalised rows. -/
abbrev bX : FVec F S384x1024 .f32 := k0_pay14 (bF p w) (p 7) (w 7) x1 g1 b1
/-- The same, times its parameter. -/
abbrev bY : FVec F S384x1024 .f32 := k0_pay15 (bF p w) (p 7) (w 7) x1 g1 b1 g2
/-- The gradient of its output. -/
abbrev bD : FVec F S384x1024 .f32 := k0_pay18 i (bY p w x1 g1 b1 g2) b2 tg
abbrev bOut : FVec F S384x1024 .f32 := k0_pay2 (bRs p w x1 g1 b1) (bX p w x1 g1 b1) (bD p w x1 g1 b1 g2 b2 i tg) g2
abbrev bOut16 : FVec F S384x1024 .bf16 := k0_pay3 (bRs p w x1 g1 b1) (bX p w x1 g1 b1) (bD p w x1 g1 b1 g2 b2 i tg) g2
abbrev bLoss (acc : Vec F S8x128 .f32) : FVec F S8x128 .f32 := k0_pay17 i (bY p w x1 g1 b1 g2) b2 tg acc
abbrev bG (acc : Vec F S1x1024 .f32) : FVec F S1x1024 .f32 := k0_pay19 i (bX p w x1 g1 b1) (bY p w x1 g1 b1 g2) b2 tg acc
abbrev bB (acc : Vec F S1x1024 .f32) : FVec F S1x1024 .f32 := k0_pay1 (bD p w x1 g1 b1 g2 b2 i tg) acc
end

variable (m : (ℓ : Loc nD τ sig) → Buf (Elt F) ℓ) (c : Dev nD) (t : Fin cfg0.N)

/-- The point's number, as the body has it. -/
abbrev pt : BitVec 32 := BitVec.ofNat 32 (grid0.coords t 0).val

/-- The blocks of the target the point reads, as they are stored. -/
abbrev tgs : Fin 3 → Vec F S128x1024 .f32 := ![k0_pay7 (iblk m c 2 t), k0_pay8 (iblk m c 3 t), k0_pay9 (iblk m c 4 t)]

abbrev ldT : Vec F S384x1024 .f32 := covAll scM0_0.view
  [pThird 2 (k0_pay9 (rdAll (ms0_4 t) (hs0_4 t) (iblk m c 4 t))), pThird 1 (k0_pay8 (rdAll (ms0_3 t) (hs0_3 t) (iblk m c 3 t))),
    pThird 0 (k0_pay7 (rdAll (ms0_2 t) (hs0_2 t) (iblk m c 2 t)))]

theorem ldT_eq : ldT m c t = thirds (tgs m c t) := by
  unfold ldT
  simp only [rdAll_eq]
  exact covThirds_eq scM0_0.view (tgs m c t) []

/-- A function of the point's loads. -/
abbrev ld {α : Type} (f : (Fin 8 → Vec F S384x512 .bf16) → (Fin 8 → Vec F S512x1024 .bf16) → Vec F S384x1024 .f32 → Vec F S1x1024 .f32 → Vec F S1x1024 .f32 →
    Vec F S1x1024 .f32 → Vec F S1x1024 .f32 → BitVec 32 → Vec F S384x1024 .f32 → α) : α :=
  f (rdCols (ms0_0 t) (hs0_0 t) (iblk m c 0 t)) (rdRows (ms0_9 t) (hs0_9 t) (iblk m c 9 t)) (rdAll (ms0_1 t) (hs0_1 t) (iblk m c 1 t))
    (rdAll (ms0_5 t) (hs0_5 t) (iblk m c 5 t)) (rdAll (ms0_6 t) (hs0_6 t) (iblk m c 6 t)) (rdAll (ms0_7 t) (hs0_7 t) (iblk m c 7 t))
    (rdAll (ms0_8 t) (hs0_8 t) (iblk m c 8 t)) (pt t) (ldT m c t)

/-- The same function of the blocks. -/
abbrev at' {α : Type} (f : (Fin 8 → Vec F S384x512 .bf16) → (Fin 8 → Vec F S512x1024 .bf16) → Vec F S384x1024 .f32 → Vec F S1x1024 .f32 → Vec F S1x1024 .f32 →
    Vec F S1x1024 .f32 → Vec F S1x1024 .f32 → BitVec 32 → Vec F S384x1024 .f32 → α) : α :=
  f (cols8 (iblk m c 0 t)) (rows8 (iblk m c 9 t)) (iblk m c 1 t) (iblk m c 5 t) (iblk m c 6 t) (iblk m c 7 t) (iblk m c 8 t) (pt t) (thirds (tgs m c t))

theorem ld_eq {α : Type} (f) : ld (α := α) m c t f = at' m c t f := by
  unfold ld at'
  rw [ldT_eq]
  simp only [rdAll_eq, rdCols_eq, rdRows_eq]

theorem dr_eq : (outsAt0 m c t.val t.isLt).1 = at' m c t bOut := by
  have e : (outsAt0 m c t.val t.isLt).1 = VO0_10.read (Elt F) (VO0_10.writes (Elt F) VO0_10.junk [pAll (ld m c t bOut)]) := by
    by_cases h0 : t.val % 11 = 0
    · rw [outsAt0_A m c t h0]; sl_kernel_rfl
    · rw [outsAt0_B m c t h0]; sl_kernel_rfl
  rw [e, pAll_read, ld_eq]

theorem dr16_eq : (outsAt0 m c t.val t.isLt).2.1 = at' m c t bOut16 := by
  have e : (outsAt0 m c t.val t.isLt).2.1 = VO0_11.read (Elt F) (VO0_11.writes (Elt F) VO0_11.junk [pAll (ld m c t bOut16)]) := by
    by_cases h0 : t.val % 11 = 0
    · rw [outsAt0_A m c t h0]; sl_kernel_rfl
    · rw [outsAt0_B m c t h0]; sl_kernel_rfl
  rw [e, pAll_read, ld_eq]

/-- The three accumulators after point `n`. -/
abbrev sAt (n : ℕ) (hn : n < cfg0.N) : Vec F S8x128 .f32 := (outsAt0 m c n hn).2.2.1
abbrev gAt (n : ℕ) (hn : n < cfg0.N) : Vec F S1x1024 .f32 := (outsAt0 m c n hn).2.2.2.1
abbrev bAt (n : ℕ) (hn : n < cfg0.N) : Vec F S1x1024 .f32 := (outsAt0 m c n hn).2.2.2.2

theorem s_first (h0 : t.val % 11 = 0) : sAt m c t.val t.isLt = at' m c t bLoss k0_pay4 := by
  have e : sAt m c t.val t.isLt = VO0_12.read (Elt F) (VO0_12.writes (Elt F) VO0_12.junk
      [pAll (ld m c t bLoss (covAll (ms0_12 t).view [pAll k0_pay4])), pAll k0_pay4]) := by
    unfold sAt
    rw [outsAt0_A m c t h0]; sl_kernel_rfl
  rw [e, pAll_read, covAll_eq, ld_eq]

theorem s_next (h0 : ¬t.val % 11 = 0) (hp : t.val - 1 < cfg0.N) : sAt m c t.val t.isLt = at' m c t bLoss (sAt m c (t.val - 1) hp) := by
  have e : sAt m c t.val t.isLt = VO0_12.read (Elt F) (VO0_12.writes (Elt F) VO0_12.junk
      [pAll (ld m c t bLoss (rdAll (ms0_12 t) (hs0_12 t) (sAt m c (t.val - 1) hp)))]) := by
    unfold sAt
    rw [outsAt0_B m c t h0]; sl_kernel_rfl
  rw [e, pAll_read, rdAll_eq, ld_eq]

theorem g_first (h0 : t.val % 11 = 0) : gAt m c t.val t.isLt = at' m c t bG k0_pay5 := by
  have e : gAt m c t.val t.isLt = VO0_13.read (Elt F) (VO0_13.writes (Elt F) VO0_13.junk
      [pAll (ld m c t bG (covAll (ms0_13 t).view [pAll k0_pay5])), pAll k0_pay5]) := by
    unfold gAt
    rw [outsAt0_A m c t h0]; sl_kernel_rfl
  rw [e, pAll_read, covAll_eq, ld_eq]

theorem g_next (h0 : ¬t.val % 11 = 0) (hp : t.val - 1 < cfg0.N) : gAt m c t.val t.isLt = at' m c t bG (gAt m c (t.val - 1) hp) := by
  have e : gAt m c t.val t.isLt = VO0_13.read (Elt F) (VO0_13.writes (Elt F) VO0_13.junk
      [pAll (ld m c t bG (rdAll (ms0_13 t) (hs0_13 t) (gAt m c (t.val - 1) hp)))]) := by
    unfold gAt
    rw [outsAt0_B m c t h0]; sl_kernel_rfl
  rw [e, pAll_read, rdAll_eq, ld_eq]

theorem b_first (h0 : t.val % 11 = 0) : bAt m c t.val t.isLt = at' m c t bB k0_pay6 := by
  have e : bAt m c t.val t.isLt = VO0_14.read (Elt F) (VO0_14.writes (Elt F) VO0_14.junk
      [pAll (ld m c t bB (covAll (ms0_14 t).view [pAll k0_pay6])), pAll k0_pay6]) := by
    unfold bAt
    rw [outsAt0_A m c t h0]; sl_kernel_rfl
  rw [e, pAll_read, covAll_eq, ld_eq]

theorem b_next (h0 : ¬t.val % 11 = 0) (hp : t.val - 1 < cfg0.N) : bAt m c t.val t.isLt = at' m c t bB (bAt m c (t.val - 1) hp) := by
  have e : bAt m c t.val t.isLt = VO0_14.read (Elt F) (VO0_14.writes (Elt F) VO0_14.junk
      [pAll (ld m c t bB (rdAll (ms0_14 t) (hs0_14 t) (bAt m c (t.val - 1) hp)))]) := by
    unfold bAt
    rw [outsAt0_B m c t h0]; sl_kernel_rfl
  rw [e, pAll_read, rdAll_eq, ld_eq]

end Cert.Kernel4Ideal.Down
-- ==== Proof.DownMath.lean ====
module

public import proofs.«01_k».proof.Proof.PostMath

@[expose] public section

noncomputable section

namespace Cert.Down

open Cert.Post

/-! # The second layer norm, the loss, and their gradients over the real numbers -/

/-- The arguments' values. -/
structure Reals where
  R1 : ℕ → ℕ → ℝ
  G1 : ℕ → ℝ
  B1 : ℕ → ℝ
  WU : ℕ → ℕ → ℝ
  WD : ℕ → ℕ → ℝ
  G2 : ℕ → ℝ
  B2 : ℕ → ℝ
  T : ℕ → ℕ → ℝ

namespace Reals

variable (a : Reals) (r : ℕ)

/-- The first norm's normalised rows. -/
def X1 : ℕ → ℝ := xh 1024 (a.R1 r)

/-- The first norm's output. -/
def H (k : ℕ) : ℝ := a.X1 r k * a.G1 k + a.B1 k

/-- The hidden layer, cut off at zero. -/
def P (j : ℕ) : ℝ := max (∑ k : Fin 1024, a.H r k.val * a.WU k.val j) 0

/-- The second norm's input. -/
def R2 (k : ℕ) : ℝ := al * a.H r k + ∑ j : Fin 4096, a.P r j.val * a.P r j.val * a.WD j.val k

/-- The second norm's normalised rows. -/
def X2 : ℕ → ℝ := xh 1024 (a.R2 r)

/-- The error of row `r` of the target. -/
def E (k : ℕ) : ℝ := a.X2 (16 + r) k * a.G2 k + a.B2 k - a.T r k

/-- The gradient of the second norm's output: none of the first 16 rows. -/
def DH : ℕ → ℝ := if 16 ≤ r then fun k => a.E (r - 16) k * (1 / 1024) else fun _ => 0

/-- The gradient of the second norm's input. -/
def DR : ℕ → ℝ := lnb 1024 (fun k => a.DH r k * a.G2 k) (a.X2 r) (rs 1024 (a.R2 r))

/-- One row's part of the loss, twice. -/
def L : ℝ := (∑ k : Fin 1024, a.E r k.val * a.E r k.val) / 1024

/-- The loss. -/
def LOSS : ℝ := 1 / 2 * ∑ r : Fin 4096, a.L r.val

/-- The gradients of the second norm's parameters. -/
def DG (k : ℕ) : ℝ := ∑ r : Fin 4112, a.X2 r.val k * a.DH r.val k
def DB (k : ℕ) : ℝ := ∑ r : Fin 4112, a.DH r.val k

end Reals

/-! ## Rows with 112 rows of padding before them -/

variable (a : Reals) (R : ℕ)

/-- The second norm's input. -/
def pR2 (k : ℕ) : ℝ := al * (pad a.X1 R k * a.G1 k + a.B1 k) + ∑ j : Fin 4096, pad a.P R j.val * pad a.P R j.val * a.WD j.val k

/-- The error, cut off at the first row of the target. -/
def pE (k : ℕ) : ℝ := if 128 ≤ R then xh 1024 (pR2 a R) k * a.G2 k + a.B2 k - a.T (R - 128) k else 0

theorem pR2_eq (h : 112 ≤ R) : pR2 a R = a.R2 (R - 112) := by
  funext k
  unfold pR2 Reals.R2 Reals.H Post.pad
  simp only [if_pos h]

theorem pE_lt (h : R < 128) (k : ℕ) : pE a R k = 0 := by unfold pE; rw [if_neg (by omega)]

theorem pE_eq (r k : ℕ) : pE a (128 + r) k = a.E r k := by
  unfold pE Reals.E Reals.X2
  rw [if_pos (by omega), pR2_eq a _ (by omega), show 128 + r - 112 = 16 + r by omega, show 128 + r - 128 = r by omega]

theorem pDH (k : ℕ) : pE a R k * (1 / 1024) = pad a.DH R k := by
  by_cases h : 128 ≤ R
  · obtain ⟨r, rfl⟩ := Nat.exists_eq_add_of_le h
    rw [pE_eq]
    unfold Post.pad Reals.DH
    rw [if_pos (by omega), if_pos (by omega), show 128 + r - 112 - 16 = r by omega]
  · rw [pE_lt a R (by omega), zero_mul]
    unfold Post.pad Reals.DH
    by_cases h1 : 112 ≤ R
    · rw [if_pos h1, if_neg (by omega)]
    · rw [if_neg h1]

theorem pDR (k : ℕ) : lnb 1024 (fun k => pE a R k * (1 / 1024) * a.G2 k) (xh 1024 (pR2 a R)) (rs 1024 (pR2 a R)) k = pad a.DR R k := by
  simp only [pDH]
  by_cases h1 : 112 ≤ R
  · rw [pR2_eq a R h1]
    unfold Post.pad Reals.DR Reals.X2
    simp only [if_pos h1]
  · unfold Post.pad
    simp only [if_neg h1, zero_mul]
    exact lnb_zero _ _ _ _

theorem all_L : 1 / 2 * (∑ R ∈ Finset.range (384 * 11), ∑ k : Fin 1024, pE a R k.val * pE a R k.val) / 1024 = a.LOSS := by
  rw [show 384 * 11 = 128 + 4096 from rfl, Finset.sum_range_add,
    Finset.sum_eq_zero (s := Finset.range 128) fun R hR => Finset.sum_eq_zero fun k _ => by rw [pE_lt a R (Finset.mem_range.1 hR), zero_mul],
    zero_add, Finset.sum_range]
  simp only [pE_eq]
  unfold Reals.LOSS Reals.L
  simp only [div_eq_mul_inv, ← Finset.sum_mul, mul_assoc]

theorem all_DG (k : ℕ) : ∑ R ∈ Finset.range (384 * 11), pE a R k * (1 / 1024) * xh 1024 (pR2 a R) k = a.DG k := by
  rw [sum_pad _ fun R hR => by rw [pE_lt a R (by omega), zero_mul, zero_mul]]
  unfold Reals.DG
  refine Finset.sum_congr rfl fun r _ => ?_
  rw [pDH, pR2_eq a _ (by omega), Nat.add_sub_cancel_left]
  unfold Post.pad
  rw [if_pos (by omega), Nat.add_sub_cancel_left, mul_comm]
  rfl

theorem all_DB (k : ℕ) : ∑ R ∈ Finset.range (384 * 11), pE a R k * (1 / 1024) = a.DB k := by
  rw [sum_pad _ fun R hR => by rw [pE_lt a R (by omega), zero_mul]]
  unfold Reals.DB
  refine Finset.sum_congr rfl fun r _ => ?_
  rw [pDH]
  unfold Post.pad
  rw [if_pos (by omega), Nat.add_sub_cancel_left]

/-- A sum over the hidden layer, eight blocks of it. -/
theorem sum_eight (F : ℕ → ℝ) : ∑ j : Fin 4096, F j.val = ∑ d : Fin 8, ∑ j : Fin 512, F (512 * d.val + j.val) := by
  have h : ∀ n : ℕ, ∑ j ∈ Finset.range (512 * n), F j = ∑ d ∈ Finset.range n, ∑ j : Fin 512, F (512 * d + j.val) := by
    intro n
    induction n with
    | zero => simp
    | succ n ih =>
      rw [Finset.sum_range_succ, ← ih, show 512 * (n + 1) = 512 * n + 512 by ring, Finset.sum_range_add, Finset.sum_range (n := 512)]
  have h8 := h 8
  rw [show 512 * 8 = 4096 from rfl, Finset.sum_range, Finset.sum_range] at h8
  exact h8

end Cert.Down
-- ==== Proof.DownRef.lean ====
module

public import proofs.«01_k».proof.Proof.Gen.Reference4Ideal.Read
public import proofs.«01_k».proof.Proof.PostRef
public import proofs.«01_k».proof.Proof.DownMath
public import Idealize.ShloMosaic.Lib.KernelVsHost

@[expose] public section

set_option maxRecDepth 16384

noncomputable section

namespace Cert.Reference4Ideal.Down

open Idealize.ShloMosaic Idealize.ShloMosaic.TcCoe
open Cert.Reference4Ideal.Gen Cert.Reference4Ideal.Read Cert.Post Cert.Down
open Cert.KernelIdeal.Ret (coe_sum div_coe lit_1)
open Cert.Kernel2Ideal.Post (lit_1024 lit_al lit_eps div_1024 rsqrt_var)
open Cert.Reference2Ideal.Post (M1 M2 pad_real zero_real lit_mhalf div_var)

/-! # The reference's loss and gradients over the real numbers -/

/-- The arguments hold these values. -/
structure Is (a : Reals) (x0 : S4112x1024.Idx → EReal) (x1 x2 : S1024.Idx → EReal) (x3 : S1024x4096.Idx → EReal) (x4 : S4096x1024.Idx → EReal)
    (x5 x6 : S1024.Idx → EReal) (x7 : S4096x1024.Idx → EReal) : Prop where
  h0 : M2 x0 a.R1
  h1 : M1 x1 a.G1
  h2 : M1 x2 a.B1
  h3 : M2 x3 a.WU
  h4 : M2 x4 a.WD
  h5 : M1 x5 a.G2
  h6 : M1 x6 a.B2
  h7 : M2 x7 a.T

theorem lit_0 : Ideal.ofBits FTy.f32 0x00000000#32 = ((0 : ℝ) : EReal) := by simp [Ideal.ofBits, Ideal.ieee]
theorem lit_2 : Ideal.ofBits FTy.f32 0x40000000#32 = ((2 : ℝ) : EReal) := by simp [Ideal.ofBits, Ideal.ieee, -EReal.coe_mul]; norm_num
theorem lit_half : Ideal.ofBits FTy.f32 0x3F000000#32 = ((1 / 2 : ℝ) : EReal) := by simp [Ideal.ofBits, Ideal.ieee, -EReal.coe_mul]; norm_num
theorem coe_max (x y : ℝ) : max (x : EReal) (y : EReal) = ((max x y : ℝ) : EReal) :=
  (EReal.coe_strictMono.monotone.map_max).symm

variable {a : Reals} {x0 : S4112x1024.Idx → EReal} {x1 x2 : S1024.Idx → EReal} {x3 : S1024x4096.Idx → EReal} {x4 : S4096x1024.Idx → EReal}
  {x5 x6 : S1024.Idx → EReal} {x7 : S4096x1024.Idx → EReal} (h : Is a x0 x1 x2 x3 x4 x5 x6 x7)

include h

/-! ## The first norm and the hidden layer -/

theorem v5_real : M2 (val_main_v5 (F := Ideal) x0) (fun r => xc 1024 (a.R1 r)) := by
  intro i
  simp only [val_main_v5_apply, val_main_v4_apply, val_main_v3_apply, val_main_v2_apply, val_main_v1_apply, val_main_v0_apply, val_main_cst, val_main_cst_0,
    pointwise, h.h0 _, lit_1024, zero_add, ← coe_sum, div_1024, ← EReal.coe_sub]
  rfl

theorem v12_real : M2 (val_main_v12 (F := Ideal) x0) (fun r _ => var 1024 (a.R1 r)) := by
  intro i
  simp only [val_main_v12_apply, val_main_v11_apply, val_main_v10_apply, val_main_v9_apply, val_main_v8_apply, val_main_v7_apply, val_main_v6_apply,
    val_main_cst_1, val_main_cst_2, val_main_cst_3, pointwise, v5_real h _, lit_1024, lit_eps, zero_add, ← EReal.coe_mul, ← coe_sum, div_1024, ← EReal.coe_add]
  rfl

theorem v15_real : M2 (val_main_v15 (F := Ideal) x0) a.X1 := by
  intro i
  simp only [val_main_v15_apply, val_main_v14_apply, val_main_v13_apply, pointwise, v5_real h _, v12_real h _, rsqrt_var, ← EReal.coe_mul]
  rfl

theorem v21_real : M2 (val_main_v21 (F := Ideal) x0 x1 x2) a.H := by
  intro i
  simp only [val_main_v21_apply, val_main_v20_apply, val_main_v19_apply, val_main_v18_apply, val_main_v17_apply, val_main_v16_apply, pointwise, v15_real h _, h.h1 _, h.h2 _,
    ← EReal.coe_mul, ← EReal.coe_add]
  rfl

theorem v25_real : M2 (val_main_v25 (F := Ideal) x0 x1 x2 x3) a.P := by
  intro i
  simp only [val_main_v25_apply, val_main_v24_apply, val_main_call0_v0_apply, val_main_call0_cst, pointwise, v21_real h _, h.h3 _, ← EReal.coe_mul, ← coe_sum]
  exact coe_max _ 0

theorem v28_real : M2 (val_main_v28 (F := Ideal) x0 x1 x2 x3 x4) a.R2 := by
  intro i
  simp only [val_main_v28_apply, val_main_v27_apply, val_main_v26_apply, val_main_v23_apply, val_main_v22_apply, val_main_cst_4, pointwise, v21_real h _, v25_real h _, h.h4 _,
    lit_al, ← EReal.coe_mul, ← coe_sum, ← EReal.coe_add]
  rfl

/-! ## The second norm -/

theorem v34_real : M2 (val_main_v34 (F := Ideal) x0 x1 x2 x3 x4) (fun r => xc 1024 (a.R2 r)) := by
  intro i
  simp only [val_main_v34_apply, val_main_v33_apply, val_main_v32_apply, val_main_v31_apply, val_main_v30_apply, val_main_v29_apply, val_main_cst_5, val_main_cst_6,
    pointwise, v28_real h _, lit_1024, zero_add, ← coe_sum, div_1024, ← EReal.coe_sub]
  rfl

theorem v41_real : M2 (val_main_v41 (F := Ideal) x0 x1 x2 x3 x4) (fun r _ => var 1024 (a.R2 r)) := by
  intro i
  simp only [val_main_v41_apply, val_main_v40_apply, val_main_v39_apply, val_main_v38_apply, val_main_v37_apply, val_main_v36_apply, val_main_v35_apply,
    val_main_cst_7, val_main_cst_8, val_main_cst_9, pointwise, v34_real h _, lit_1024, lit_eps, zero_add, ← EReal.coe_mul, ← coe_sum, div_1024, ← EReal.coe_add]
  rfl

theorem v42_real : M2 (val_main_v42 (F := Ideal) x0 x1 x2 x3 x4) (fun r _ => rs 1024 (a.R2 r)) := by
  intro i
  simp only [val_main_v42_apply, pointwise, v41_real h _, rsqrt_var]

theorem v45_real : M2 (val_main_v45 (F := Ideal) x0 x1 x2 x3 x4) (fun r _ => -(1 / 2) * (rs 1024 (a.R2 r) / var 1024 (a.R2 r))) := by
  intro i
  simp only [val_main_v45_apply, val_main_v44_apply, val_main_v43_apply, val_main_cst_10, pointwise, v41_real h _, v42_real h _, lit_mhalf, div_var, ← EReal.coe_mul]

theorem v47_real : M2 (val_main_v47 (F := Ideal) x0 x1 x2 x3 x4) a.X2 := by
  intro i
  simp only [val_main_v47_apply, val_main_v46_apply, pointwise, v34_real h _, v42_real h _, ← EReal.coe_mul]
  rfl

/-! ## The loss -/

theorem v55_real : M2 (val_main_v55 (F := Ideal) x0 x1 x2 x3 x4 x5 x6 x7) a.E := by
  intro i
  simp only [val_main_v55_apply, val_main_v54_apply, val_main_v53_apply, val_main_v52_apply, val_main_v51_apply, val_main_v50_apply, val_main_v49_apply, val_main_v48_apply,
    pointwise, v47_real h _, h.h5 _, h.h6 _, h.h7 _, ← EReal.coe_mul, ← EReal.coe_add, ← EReal.coe_sub]
  rfl

theorem v61_real : M1 (val_main_v61 (F := Ideal) x0 x1 x2 x3 x4 x5 x6 x7) a.L := by
  intro i
  simp only [val_main_v61_apply, val_main_v60_apply, val_main_v59_apply, val_main_v56_apply, val_main_cst_12, val_main_cst_13, pointwise, v55_real h _, lit_1024, zero_add,
    ← EReal.coe_mul, ← coe_sum, div_1024]
  rfl

theorem v62_real (i : S_.Idx) : val_main_v62 (F := Ideal) x0 x1 x2 x3 x4 x5 x6 x7 i = ((∑ r : Fin 4096, a.L r.val : ℝ) : EReal) := by
  rw [val_main_v62_apply, sum_idx1]
  simp only [val_main_cst_14, pointwise, v61_real h _, zero_add, ← coe_sum]

theorem v104_real : M2 (val_main_v104 (F := Ideal) x0 x1 x2 x3 x4 x5 x6 x7) (fun _ _ => a.LOSS) := by
  intro i
  simp only [val_main_v104_apply, val_main_v63_apply, val_main_cst_15, pointwise, v62_real h _, lit_half, ← EReal.coe_mul]
  rfl

/-! ## The gradients -/

theorem v69_real : M2 (val_main_v69 (F := Ideal) x0 x1 x2 x3 x4 x5 x6 x7) (fun r k => a.E r k * (1 / 1024)) := by
  intro i
  simp only [val_main_v69_apply, val_main_v68_apply, val_main_v67_apply, val_main_v66_apply, val_main_v65_apply, val_main_v64_apply, val_main_v58_apply, val_main_v57_apply,
    val_main_cst_11, val_main_cst_16, val_main_cst_17, val_main_cst_18, pointwise, v55_real h _, lit_1024, lit_half, lit_1, lit_2, ← EReal.coe_mul, div_1024]
  refine congrArg Real.toEReal ?_
  ring

omit h in
/-- Sixteen rows of zeros first. -/
theorem pad16_real {x : S4096x1024.Idx → EReal} {X : ℕ → ℕ → ℝ} (hx : M2 x X) (z : S_.Idx → EReal) (hz : ∀ i, z i = ((0 : ℝ) : EReal)) :
    M2 (pad S4112x1024 ![16, 0] ![0, 0] ![0, 0] x z pads_S4096x1024_S4112x1024_1600_000 h_S_) (fun R => if 16 ≤ R then X (R - 16) else fun _ => 0) := by
  intro j
  have b0 : (j 0).val < 4112 := (j 0).isLt
  by_cases hR : 16 ≤ (j 0).val
  · refine (pad_apply_of_inside _ _ _ x z _ _ j (ix2 (⟨(j 0).val - 16, by omega⟩ : Fin 4096) (j 1)) fun b => ?_).trans ((hx _).trans ?_)
    · match b with
      | ⟨0, _⟩ => show (j 0).val = 16 + ((j 0).val - 16) * (0 + 1); omega
      | ⟨1, _⟩ => show (j 1).val = 0 + (j 1).val * (0 + 1); omega
    · exact congrArg Real.toEReal (congrFun (if_pos hR) (j 1).val).symm
  · refine (pad_apply_of_not_inside _ _ _ x z _ _ j 0 fun hh => hR hh.1).trans ((hz _).trans ?_)
    refine congrArg Real.toEReal ?_
    show _ = (if 16 ≤ (j 0).val then X ((j 0).val - 16) else fun _ => 0) (j 1).val
    rw [if_neg hR]

theorem v70_real : M2 (val_main_v70 (F := Ideal) x0 x1 x2 x3 x4 x5 x6 x7) a.DH :=
  pad16_real (v69_real h) _ fun _ => lit_0

theorem v106_real : M2 (val_main_v106 (F := Ideal) x0 x1 x2 x3 x4 x5 x6 x7) (fun _ => a.DB) := by
  intro i
  simp only [val_main_v106_apply, val_main_v73_apply, val_main_v72_apply, val_main_v71_apply, val_main_cst_20, val_main_cst_21, pointwise, v70_real h _,
    zero_add, ← coe_sum, Fin.sum_univ_one]
  simp only [Nat.zero_mul, Nat.zero_add]
  rfl

theorem v105_real : M2 (val_main_v105 (F := Ideal) x0 x1 x2 x3 x4 x5 x6 x7) (fun _ => a.DG) := by
  intro i
  simp only [val_main_v105_apply, val_main_v79_apply, val_main_v76_apply, val_main_v75_apply, val_main_v74_apply, val_main_cst_22, val_main_cst_23, pointwise,
    v47_real h _, v70_real h _, zero_add, ← EReal.coe_mul, ← coe_sum, Fin.sum_univ_one]
  simp only [Nat.zero_mul, Nat.zero_add]
  rfl

theorem v78_real : M2 (val_main_v78 (F := Ideal) x0 x1 x2 x3 x4 x5 x6 x7) (fun r k => a.DH r k * a.G2 k) := by
  intro i
  simp only [val_main_v78_apply, val_main_v77_apply, val_main_v48_apply, pointwise, v70_real h _, h.h5 _, ← EReal.coe_mul]

theorem v89_real : M2 (val_main_v89 (F := Ideal) x0 x1 x2 x3 x4 x5 x6 x7) (fun r _ => lnt 1024 (fun k => a.DH r k * a.G2 k) (a.R2 r)) := by
  intro i
  simp only [val_main_v89_apply, val_main_v88_apply, val_main_v87_apply, val_main_v86_apply, val_main_v85_apply, val_main_v82_apply, val_main_v81_apply, val_main_v80_apply,
    val_main_cst_24, val_main_cst_25, val_main_cst_26, pointwise, v34_real h _, v78_real h _, v45_real h _, lit_1024, zero_add, ← EReal.coe_mul, ← coe_sum, Fin.sum_univ_one, div_1024]
  simp only [Nat.mul_one, Nat.add_zero]
  rfl

theorem v93_real : M2 (val_main_v93 (F := Ideal) x0 x1 x2 x3 x4 x5 x6 x7) (fun r => lng 1024 (fun k => a.DH r k * a.G2 k) (a.R2 r)) := by
  intro i
  simp only [val_main_v93_apply, val_main_v92_apply, val_main_v91_apply, val_main_v90_apply, val_main_v84_apply, val_main_v83_apply,
    pointwise, v34_real h _, v42_real h _, v78_real h _, v89_real h _, ← EReal.coe_mul, ← EReal.coe_add]
  rfl

theorem v101_real : M2 (val_main_v101 (F := Ideal) x0 x1 x2 x3 x4 x5 x6 x7) a.DR := by
  intro i
  simp only [val_main_v101_apply, val_main_v100_apply, val_main_v99_apply, val_main_v98_apply, val_main_v97_apply, val_main_v96_apply, val_main_v95_apply, val_main_v94_apply,
    val_main_cst_27, val_main_cst_28, val_main_cst_29, pointwise, v93_real h _, lit_1024, zero_add, ← EReal.coe_neg, ← coe_sum, Fin.sum_univ_one, div_1024, ← EReal.coe_add]
  simp only [Nat.mul_one, Nat.add_zero]
  exact congrArg Real.toEReal (lng_eq 1024 (by norm_num) _ _ _)

theorem v102_real : M2 (val_main_v102 (F := Ideal) x0 x1 x2 x3 x4 x5 x6 x7) (pad a.DR) :=
  pad_real (v101_real h) _ zero_real pads_S4112x1024_S4224x1024_11200_000 h_S_

theorem v103_real : M2 (val_main_v103 (F := Ideal) x0 x1 x2 x3 x4 x5 x6 x7) (pad a.DR) := by
  intro i
  simp only [val_main_v103_apply, pointwise, v102_real h _]

end Cert.Reference4Ideal.Down
-- ==== Proof.DownReal.lean ====
module

public import proofs.«01_k».proof.Proof.DownBody
public import proofs.«01_k».proof.Proof.DownRef
public import proofs.«01_k».proof.Proof.PostBlocks

@[expose] public section

set_option maxRecDepth 16384

noncomputable section

namespace Cert.Kernel4Ideal.Down

open Idealize.ShloMosaic Idealize.ShloMosaic.TcCoe
open Cert.Kernel4Ideal.Gen Cert.Post Cert.Lanes Cert.Down
open Cert.KernelIdeal.Ret (coe_sum div_coe)
open Cert.Kernel2Ideal.Post (Rows Col lit_1024 lit_al lit_eps div_1024 rsqrt_var)
open Cert.Reference4Ideal.Down (lit_0 lit_half)

/-! # The body over the real numbers -/

theorem lit_rec : Ideal.ofBits FTy.f32 0x3A800000#32 = ((1 / 1024 : ℝ) : EReal) := by simp [Ideal.ofBits, Ideal.ieee, -EReal.coe_mul]; norm_num

/-- The condition on the row. -/
theorem mask : ∀ t : Fin 11, ∀ i : Fin 384,
    Scalar.cmpi .sge (Scalar.muli (BitVec.ofNat 32 t.val) 384#32 + BitVec.ofNat 32 i.val) 128#32 = if 128 ≤ 384 * t.val + i.val then 1#1 else 0#1 := by
  decide +kernel

variable {p : Fin 8 → S384x512.Idx → EReal} {w : Fin 8 → S512x1024.Idx → EReal} {x1 : S384x1024.Idx → EReal} {g1 b1 g2 b2 : S1x1024.Idx → EReal}
  {tg : S384x1024.Idx → EReal} {P W X1 T : ℕ → ℕ → ℝ} {G1 B1 G2 B2 : ℕ → ℝ}

/-- The second norm's input, one row. -/
def kR (P X1 : ℕ → ℝ) (W : ℕ → ℕ → ℝ) (G1 B1 : ℕ → ℝ) (k : ℕ) : ℝ :=
  al * (X1 k * G1 k + B1 k) + ∑ j : Fin 4096, P j.val * P j.val * W j.val k

theorem bF_real (hp : ∀ n, Rows (p n) fun i j => P i (512 * n.val + j)) (hw : ∀ n, Rows (w n) fun j k => W (512 * n.val + j) k) :
    Rows (bF (F := Ideal) p w) (fun i k => ∑ d : Fin 7, ∑ j : Fin 512, P i (512 * d.val + j.val) * P i (512 * d.val + j.val) * W (512 * d.val + j.val) k) := by
  intro i j
  simp only [bF, k0_pay10, k0_pay11, pointwise, hp _ _ _, hw _ _ _, lit_0, zero_add, ← EReal.coe_mul, ← coe_sum, ← EReal.coe_add, Fin.sum_univ_seven]
  rfl

theorem bXc_real (hp : ∀ n, Rows (p n) fun i j => P i (512 * n.val + j)) (hw : ∀ n, Rows (w n) fun j k => W (512 * n.val + j) k) (hx : Rows x1 X1)
    (hg : Rows g1 fun _ => G1) (hb : Rows b1 fun _ => B1) :
    Rows (k0_pay12 (F := Ideal) (bF p w) (p 7) (w 7) x1 g1 b1) (fun i => xc 1024 (kR (P i) (X1 i) W G1 B1)) := by
  intro i j
  have h := bF_real hp hw
  generalize bF (F := Ideal) p w = Q at h ⊢
  have e : ∀ k : ℕ, al * (X1 i.val k * G1 k + B1 k) + ((∑ d : Fin 7, ∑ j : Fin 512, P i.val (512 * d.val + j.val) * P i.val (512 * d.val + j.val) * W (512 * d.val + j.val) k)
      + ∑ j : Fin 512, P i.val (512 * 7 + j.val) * P i.val (512 * 7 + j.val) * W (512 * 7 + j.val) k) = kR (P i.val) (X1 i.val) W G1 B1 k := by
    intro k
    unfold kR
    rw [sum_eight fun j => P i.val j * P i.val j * W j k, Fin.sum_univ_castSucc (n := 7)]
    rfl
  have h7 : ((7 : Fin 8) : ℕ) = 7 := rfl
  simp only [k0_pay12, pointwise, ↓reduceDIte, show ¬(1024 : ℕ) = 1 by decide, show ¬(384 : ℕ) = 1 by decide, h _ _, hp _ _ _, hw _ _ _, hx _ _, hg _ _, hb _ _, lit_al, lit_1024, zero_add, h7,
    ← EReal.coe_mul, ← coe_sum, ← EReal.coe_add, div_1024, ← EReal.coe_sub, e]
  rfl

section
variable {Q : S384x1024.Idx → EReal} {p7 : S384x512.Idx → EReal} {w7 : S512x1024.Idx → EReal} {R : ℕ → ℕ → ℝ}

theorem bRs_real (h : Rows (k0_pay12 (F := Ideal) Q p7 w7 x1 g1 b1) (fun i => xc 1024 (R i))) :
    Col (k0_pay13 (F := Ideal) Q p7 w7 x1 g1 b1) (fun i => rs 1024 (R i)) := by
  intro i
  unfold k0_pay13
  generalize k0_pay12 (F := Ideal) Q p7 w7 x1 g1 b1 = U at h ⊢
  simp only [pointwise, h _ _, lit_1024, lit_eps, zero_add, ← EReal.coe_mul, ← coe_sum, div_1024, ← EReal.coe_add]
  exact rsqrt_var 1024 (R i)

theorem bX_real (h : Rows (k0_pay12 (F := Ideal) Q p7 w7 x1 g1 b1) (fun i => xc 1024 (R i))) :
    Rows (k0_pay14 (F := Ideal) Q p7 w7 x1 g1 b1) (fun i => xh 1024 (R i)) := by
  intro i j
  have h2 := bRs_real h
  unfold k0_pay14
  generalize k0_pay12 (F := Ideal) Q p7 w7 x1 g1 b1 = U at h ⊢
  generalize k0_pay13 (F := Ideal) Q p7 w7 x1 g1 b1 = V at h2 ⊢
  simp only [pointwise, ↓reduceDIte, show ¬(384 : ℕ) = 1 by decide, h _ _, h2 _, ← EReal.coe_mul]
  rfl

theorem bY_real (h : Rows (k0_pay12 (F := Ideal) Q p7 w7 x1 g1 b1) (fun i => xc 1024 (R i))) (hg : Rows g2 fun _ => G2) :
    Rows (k0_pay15 (F := Ideal) Q p7 w7 x1 g1 b1 g2) (fun i k => xh 1024 (R i) k * G2 k) := by
  intro i j
  have h2 := bX_real h
  unfold k0_pay15
  generalize k0_pay14 (F := Ideal) Q p7 w7 x1 g1 b1 = V at h2 ⊢
  simp only [pointwise, ↓reduceDIte, show ¬(1024 : ℕ) = 1 by decide, h2 _ _, hg _ _, ← EReal.coe_mul]
end

/-! ## The error and what is summed of it -/

section
variable {y xx dd : S384x1024.Idx → EReal} {Y XX DD E : ℕ → ℕ → ℝ} {q : BitVec 32}

theorem bE_real (t : Fin 11) (hy : Rows y Y) (hb : Rows b2 fun _ => B2) (ht : Rows tg T) :
    Rows (k0_pay16 (F := Ideal) (BitVec.ofNat 32 t.val) y b2 tg) (fun i k => if 128 ≤ 384 * t.val + i then Y i k + B2 k - T i k else 0) := by
  intro i j
  simp only [k0_pay16, pointwise, ↓reduceDIte, show ¬(1024 : ℕ) = 1 by decide, show ¬(384 : ℕ) = 1 by decide, hy _ _, hb _ _, ht _ _, lit_0, ← EReal.coe_add, ← EReal.coe_sub]
  have e : List.foldl (fun n a => n * (![384, 1] : Fin 2 → ℕ) a + ((ix2 i (0 : Fin 1) : S384x1.Idx) a).val) 0 [0] = i.val := by
    show 0 * 384 + i.val = i.val; omega
  have hm : Scalar.select (IntOp.cmpi .sge (IntOp.addi (Scalar.muli (BitVec.ofNat 32 t.val) 384#32)
      (BitVec.ofNat 32 (List.foldl (fun n a => n * (![384, 1] : Fin 2 → ℕ) a + ((ix2 i (0 : Fin 1) : S384x1.Idx) a).val) 0 [0]))) 128#32)
      ((Y i.val j.val + B2 j.val - T i.val j.val : ℝ) : EReal) ((0 : ℝ) : EReal)
      = Scalar.select (if 128 ≤ 384 * t.val + i.val then 1#1 else 0#1) ((Y i.val j.val + B2 j.val - T i.val j.val : ℝ) : EReal) ((0 : ℝ) : EReal) := by
    rw [e]; exact congrArg (fun b => Scalar.select b _ _) (mask t i)
  refine Eq.trans hm ?_
  by_cases h : 128 ≤ 384 * t.val + i.val
  · rw [if_pos h, if_pos h]; rfl
  · rw [if_neg h, if_neg h]; rfl

theorem bLoss_real (h : Rows (k0_pay16 (F := Ideal) q y b2 tg) E) {acc : S8x128.Idx → EReal} {S : ℝ} (ha : Rows acc fun _ _ => S) :
    Rows (k0_pay17 (F := Ideal) q y b2 tg acc) (fun _ _ => S + 1 / 2 * (∑ i : Fin 384, ∑ k : Fin 1024, E i.val k.val * E i.val k.val) / 1024) := by
  intro i j
  unfold k0_pay17
  generalize k0_pay16 (F := Ideal) q y b2 tg = V at h ⊢
  simp only [pointwise, h _ _, ha _ _, lit_half, lit_1024, zero_add, ← EReal.coe_mul, ← coe_sum, div_1024, ← EReal.coe_add]

theorem bD_real (h : Rows (k0_pay16 (F := Ideal) q y b2 tg) E) : Rows (k0_pay18 (F := Ideal) q y b2 tg) (fun i k => E i k * (1 / 1024)) := by
  intro i j
  unfold k0_pay18
  generalize k0_pay16 (F := Ideal) q y b2 tg = V at h ⊢
  simp only [pointwise, h _ _, lit_rec, ← EReal.coe_mul]

theorem bG_real (h : Rows (k0_pay18 (F := Ideal) q y b2 tg) DD) (hx : Rows xx XX) {acc : S1x1024.Idx → EReal} {A : ℕ → ℝ} (ha : Rows acc fun _ => A) :
    Rows (k0_pay19 (F := Ideal) q xx y b2 tg acc) (fun _ k => A k + ∑ i : Fin 384, DD i.val k * XX i.val k) := by
  intro i j
  unfold k0_pay19
  generalize k0_pay18 (F := Ideal) q y b2 tg = V at h ⊢
  simp only [pointwise, h _ _, hx _ _, ha _ _, zero_add, ← EReal.coe_mul, ← coe_sum, ← EReal.coe_add]

theorem bB_real (h : Rows dd DD) {acc : S1x1024.Idx → EReal} {A : ℕ → ℝ} (ha : Rows acc fun _ => A) :
    Rows (k0_pay1 (F := Ideal) dd acc) (fun _ k => A k + ∑ i : Fin 384, DD i.val k) := by
  intro i j
  simp only [k0_pay1, pointwise, h _ _, ha _ _, zero_add, ← coe_sum, ← EReal.coe_add]

theorem bOut_real {r : S384x1.Idx → EReal} {RS : ℕ → ℝ} (hr : Col r RS) (hx : Rows xx XX) (h : Rows dd DD) (hg : Rows g2 fun _ => G2) :
    Rows (k0_pay2 (F := Ideal) r xx dd g2) (fun i => lnb 1024 (fun k => DD i k * G2 k) (XX i) (RS i)) := by
  intro i j
  simp only [k0_pay2, pointwise, ↓reduceDIte, show ¬(1024 : ℕ) = 1 by decide, show ¬(384 : ℕ) = 1 by decide, hr _, hx _ _, h _ _, hg _ _, lit_1024, zero_add, ← EReal.coe_mul, ← coe_sum, div_1024,
    ← EReal.coe_sub]
  rfl

theorem bOut16_real {r : S384x1.Idx → EReal} {X : ℕ → ℕ → ℝ} (h : Rows (k0_pay2 (F := Ideal) r xx dd g2) X) : Rows (k0_pay3 (F := Ideal) r xx dd g2) X := by
  intro i j
  unfold k0_pay3
  generalize k0_pay2 (F := Ideal) r xx dd g2 = V at h ⊢
  simp only [pointwise, h _ _]
end

end Cert.Kernel4Ideal.Down
-- ==== Proof.DownHost.lean ====
module

public import proofs.«01_k».proof.Proof.DownReal
public import Idealize.ShloMosaic.Lib.StableHlo.RunRead
public import Idealize.ShloMosaic.Lib.Pipeline.ValueKit

@[expose] public section

set_option maxRecDepth 16384

noncomputable section

namespace Cert.Kernel4Ideal.Down

open Idealize.ShloMosaic Idealize.ShloMosaic.TcCoe
open Idealize.SL Idealize.SL.Sem
open Cert.Kernel4Ideal.Gen Cert.Post Cert.Lanes Cert.Down
open Cert.Kernel2Ideal.Post (Rows)
open Cert.Reference2Ideal.Post (M1 M2 pad_real zero_real rows_of_m2)
open Cert.Reference4Ideal.Down (v15_real v25_real)

/-! # The arrays the host prepares for the region, and the blocks a point reads -/

/-- The padding's value. -/
def zeroP : FVec Ideal S_ .f32 := sitofp .f32 (constantI S_ 32 0#32)

section
variable (m : (ℓ : Loc nD τ sig) → Buf (Elt Ideal) ℓ) (c : Dev nD)

theorem V_p : V m c main_v25 = truncf (F := Ideal) .bf16 (pad S4224x4096 ![112, 0] ![0, 0] ![0, 0]
      (Cert.Reference4Ideal.Read.val_main_v25 (F := Ideal) (m (c, Proc.devRef .tc main_arg0)) (m (c, Proc.devRef .tc main_arg1)) (m (c, Proc.devRef .tc main_arg2))
        (m (c, Proc.devRef .tc main_arg3))) zeroP pads_S4112x4096_S4224x4096_11200_000 h_S_) bitsLt_bf16_f32 := by
  unfold V
  after_reads_simp
  rfl

theorem V_x : V m c main_v26 = pad S4224x1024 ![112, 0] ![0, 0] ![0, 0]
      (Cert.Reference4Ideal.Read.val_main_v15 (F := Ideal) (m (c, Proc.devRef .tc main_arg0))) zeroP pads_S4112x1024_S4224x1024_11200_000 h_S_ := by
  unfold V
  after_reads_simp
  rfl

theorem V_g1 : V m c main_v27 = broadcastInDim S1x1024 ![1] bcast_S1024_S1x1024_1 (m (c, Proc.devRef .tc main_arg1)) := by
  unfold V
  after_reads_simp

theorem V_b1 : V m c main_v28 = broadcastInDim S1x1024 ![1] bcast_S1024_S1x1024_1 (m (c, Proc.devRef .tc main_arg2)) := by
  unfold V
  after_reads_simp

theorem V_g2 : V m c main_v29 = broadcastInDim S1x1024 ![1] bcast_S1024_S1x1024_1 (m (c, Proc.devRef .tc main_arg5)) := by
  unfold V
  after_reads_simp

theorem V_b2 : V m c main_v30 = broadcastInDim S1x1024 ![1] bcast_S1024_S1x1024_1 (m (c, Proc.devRef .tc main_arg6)) := by
  unfold V
  after_reads_simp

theorem V_w : V m c main_v31 = truncf (F := Ideal) .bf16 (m (c, Proc.devRef .tc main_arg4)) bitsLt_bf16_f32 := by
  unfold V
  after_reads_simp

theorem V_t : V m c main_arg7 = m (c, Proc.devRef .tc main_arg7) := by
  unfold V
  after_reads_simp

/-- The arguments of device `c` hold the real numbers `a`. -/
def Args (a : Reals) : Prop :=
  Cert.Reference4Ideal.Down.Is a (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) (m (c, Proc.devRef .tc main_arg6))
    (m (c, Proc.devRef .tc main_arg7))
end

/-! ## The blocks -/

theorem idxIn : ∀ t : Fin cfg0.N, win0_0.index t = ![t.val, 0] ∧ win0_1.index t = ![t.val, 0] ∧ win0_2.index t = ![3 * t.val - 1, 0]
    ∧ win0_3.index t = ![3 * t.val, 0] ∧ win0_4.index t = ![3 * t.val + 1, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, win0_0.index t = ![t.val, 0] ∧ win0_1.index t = ![t.val, 0] ∧ win0_2.index t = ![3 * t.val - 1, 0]
    ∧ win0_3.index t = ![3 * t.val, 0] ∧ win0_4.index t = ![3 * t.val + 1, 0] ∧ win0_5.index t = ![0, 0] ∧ win0_6.index t = ![0, 0]
    ∧ win0_7.index t = ![0, 0] ∧ win0_8.index t = ![0, 0] ∧ win0_9.index t = ![0, 0])

theorem idxOut : ∀ t : Fin cfg0.N, win0_10.index t = ![t.val, 0] ∧ win0_11.index t = ![t.val, 0] ∧ win0_12.index t = ![0, 0]
    ∧ win0_13.index t = ![0, 0] ∧ win0_14.index t = ![0, 0] :=
  (by decide +kernel : ∀ t : Fin grid0.N, win0_10.index t = ![t.val, 0] ∧ win0_11.index t = ![t.val, 0] ∧ win0_12.index t = ![0, 0]
    ∧ win0_13.index t = ![0, 0] ∧ win0_14.index t = ![0, 0])

theorem points : cfg0.N = 11 := by decide +kernel

theorem coord : ∀ t : Fin cfg0.N, (grid0.coords t 0).val = t.val :=
  (by decide +kernel : ∀ t : Fin grid0.N, (grid0.coords t 0).val = t.val)

/-- The row of the arrays that is row `i` of the block of point `t`. -/
def rowOf (t : Fin cfg0.N) (i : Fin 384) : Fin 4224 :=
  ⟨384 * t.val + i.val, by have : t.val < 11 := lt_of_lt_of_eq t.isLt points; omega⟩

/-- The row of the target that is row `i` of its block `n`. -/
def tgtOf (n : ℕ) (hn : n < 32) (i : Fin 128) : Fin 4096 := ⟨128 * n + i.val, by omega⟩

section
variable (m : (ℓ : Loc nD τ sig) → Buf (Elt Ideal) ℓ) (c : Dev nD) (t : Fin cfg0.N)

theorem lt11 : t.val < 11 := lt_of_lt_of_eq t.isLt points

theorem iblk0 (i : Fin 384) (l : Fin 4096) : iblk m c 0 t (ix2 i l) = V m c main_v25 (ix2 (rowOf t i) l) := by
  blk_ext [iblk, rowOf, (idxIn t).1]
theorem iblk1 (i : Fin 384) (l : Fin 1024) : iblk m c 1 t (ix2 i l) = V m c main_v26 (ix2 (rowOf t i) l) := by
  blk_ext [iblk, rowOf, (idxIn t).2.1]
theorem iblk2 (i : Fin 128) (l : Fin 1024) :
    iblk m c 2 t (ix2 i l) = V m c main_arg7 (ix2 (tgtOf (3 * t.val - 1) (by have := lt11 t; omega) i) l) := by
  blk_ext [iblk, tgtOf, (idxIn t).2.2.1]
theorem iblk3 (i : Fin 128) (l : Fin 1024) :
    iblk m c 3 t (ix2 i l) = V m c main_arg7 (ix2 (tgtOf (3 * t.val) (by have := lt11 t; omega) i) l) := by
  blk_ext [iblk, tgtOf, (idxIn t).2.2.2.1]
theorem iblk4 (i : Fin 128) (l : Fin 1024) :
    iblk m c 4 t (ix2 i l) = V m c main_arg7 (ix2 (tgtOf (3 * t.val + 1) (by have := lt11 t; omega) i) l) := by
  blk_ext [iblk, tgtOf, (idxIn t).2.2.2.2.1]
theorem iblk5 (i : Fin 1) (l : Fin 1024) : iblk m c 5 t (ix2 i l) = V m c main_v27 (ix2 i l) := by
  blk_ext [iblk, (idxIn t).2.2.2.2.2.1]
theorem iblk6 (i : Fin 1) (l : Fin 1024) : iblk m c 6 t (ix2 i l) = V m c main_v28 (ix2 i l) := by
  blk_ext [iblk, (idxIn t).2.2.2.2.2.2.1]
theorem iblk7 (i : Fin 1) (l : Fin 1024) : iblk m c 7 t (ix2 i l) = V m c main_v29 (ix2 i l) := by
  blk_ext [iblk, (idxIn t).2.2.2.2.2.2.2.1]
theorem iblk8 (i : Fin 1) (l : Fin 1024) : iblk m c 8 t (ix2 i l) = V m c main_v30 (ix2 i l) := by
  blk_ext [iblk, (idxIn t).2.2.2.2.2.2.2.2.1]
theorem iblk9 (i : Fin 4096) (l : Fin 1024) : iblk m c 9 t (ix2 i l) = V m c main_v31 (ix2 i l) := by
  blk_ext [iblk, (idxIn t).2.2.2.2.2.2.2.2.2]
end

variable {m : (ℓ : Loc nD τ sig) → Buf (Elt Ideal) ℓ} {c : Dev nD} {a : Reals} (A : Args m c a) (t : Fin cfg0.N)

include A

theorem p_rows : Rows (V m c main_v25 : S4224x4096.Idx → EReal) (Cert.Post.pad a.P) := by
  rw [V_p]; exact rows_of_m2 (pad_real (v25_real A) _ zero_real pads_S4112x4096_S4224x4096_11200_000 h_S_)

theorem x_rows : Rows (V m c main_v26 : S4224x1024.Idx → EReal) (Cert.Post.pad a.X1) := by
  rw [V_x]; exact rows_of_m2 (pad_real (v15_real A) _ zero_real pads_S4112x1024_S4224x1024_11200_000 h_S_)

theorem pB (n : Fin 8) : Rows (cols8 (iblk m c 0 t : S384x4096.Idx → EReal) n) (fun i j => pad a.P (384 * t.val + i) (512 * n.val + j)) :=
  fun i _ => (iblk0 m c t i _).trans (p_rows A _ _)
theorem xB : Rows (iblk m c 1 t : S384x1024.Idx → EReal) (fun i => pad a.X1 (384 * t.val + i)) := fun i j => (iblk1 m c t i j).trans (x_rows A _ _)
theorem g1B : Rows (iblk m c 5 t : S1x1024.Idx → EReal) (fun _ => a.G1) := fun i j => by rw [iblk5, V_g1]; exact (A.h1 _).trans rfl
theorem b1B : Rows (iblk m c 6 t : S1x1024.Idx → EReal) (fun _ => a.B1) := fun i j => by rw [iblk6, V_b1]; exact (A.h2 _).trans rfl
theorem g2B : Rows (iblk m c 7 t : S1x1024.Idx → EReal) (fun _ => a.G2) := fun i j => by rw [iblk7, V_g2]; exact (A.h5 _).trans rfl
theorem b2B : Rows (iblk m c 8 t : S1x1024.Idx → EReal) (fun _ => a.B2) := fun i j => by rw [iblk8, V_b2]; exact (A.h6 _).trans rfl
theorem wB (n : Fin 8) : Rows (rows8 (iblk m c 9 t : S4096x1024.Idx → EReal) n) (fun j k => a.WD (512 * n.val + j) k) :=
  fun _ k => (iblk9 m c t _ k).trans ((congrFun (V_w m c) _).trans (A.h4 _))

/-- The rows of the target below row 128 of the padded rows; others are cut off. -/
def tRow (a : Reals) (n i : ℕ) : ℕ → ℝ := a.T (128 * (if i / 128 = 0 then 3 * n - 1 else if i / 128 = 1 then 3 * n else 3 * n + 1) + i % 128)

omit A in
theorem tRow_eq (n i : ℕ) (hi : i < 384) (h : 128 ≤ 384 * n + i) : tRow a n i = a.T (384 * n + i - 128) := by
  unfold tRow
  by_cases h0 : i / 128 = 0
  · rw [if_pos h0]; congr 1; omega
  · rw [if_neg h0]
    by_cases h1 : i / 128 = 1
    · rw [if_pos h1]; congr 1; omega
    · rw [if_neg h1]; congr 1; omega

theorem tB : Rows (thirds (tgs (F := Ideal) m c t) : S384x1024.Idx → EReal) (fun i => tRow a t.val i) := by
  intro i l
  have hi := i.isLt
  have hc : ∀ x : S128x1024.Idx → EReal, shapeCast S128x1024 x shapeCasts_S128x1024_S128x1024 = x := fun x => by
    funext y; simp only [pointwise]
  have h7 : tgs (F := Ideal) m c t = ![iblk m c 2 t, iblk m c 3 t, iblk m c 4 t] := by
    unfold tgs k0_pay7 k0_pay8 k0_pay9
    simp only [hc]
  have hm : i.val % 128 < 128 := Nat.mod_lt _ (by decide)
  have g : ∀ n : Fin 3, i.val / 128 = n.val → thirds (tgs (F := Ideal) m c t) (ix2 i l) = (![iblk m c 2 t, iblk m c 3 t, iblk m c 4 t] : Fin 3 → S128x1024.Idx → EReal) n (ix2 (⟨i.val % 128, hm⟩ : Fin 128) l) := by
    intro n hn
    rw [h7]
    exact congrArg (fun q => (![iblk m c 2 t, iblk m c 3 t, iblk m c 4 t] : Fin 3 → S128x1024.Idx → EReal) q (ix2 (⟨i.val % 128, hm⟩ : Fin 128) l)) (Fin.ext hn)
  show _ = ((tRow a t.val i.val l.val : ℝ) : EReal)
  unfold tRow
  by_cases h0 : i.val / 128 = 0
  · rw [if_pos h0, g 0 h0]
    exact (iblk2 m c t _ l).trans ((congrFun (V_t m c) _).trans (A.h7 _))
  · rw [if_neg h0]
    by_cases h1 : i.val / 128 = 1
    · rw [if_pos h1, g 1 h1]
      exact (iblk3 m c t _ l).trans ((congrFun (V_t m c) _).trans (A.h7 _))
    · rw [if_neg h1, g 2 (by show i.val / 128 = 2; omega)]
      exact (iblk4 m c t _ l).trans ((congrFun (V_t m c) _).trans (A.h7 _))

end Cert.Kernel4Ideal.Down
-- ==== Proof.DownOut.lean ====
module

public import proofs.«01_k».proof.Proof.DownHost
public import proofs.«01_k».proof.Proof.PostOut

@[expose] public section

set_option maxRecDepth 16384

noncomputable section

namespace Cert.Kernel4Ideal.Down

open Idealize.ShloMosaic Idealize.ShloMosaic.TcCoe
open Idealize.SL Idealize.SL.Sem
open Cert.Kernel4Ideal.Gen Cert.Post Cert.Lanes Cert.Down
open Cert.Kernel2Ideal.Post (Rows Rows.of_eq Col acc_step arr lit_0)
open Cert.Reference2Ideal.Post (m2_of_rows)

/-! # The result arrays of the fourth region -/

variable {m : (ℓ : Loc nD τ sig) → Buf (Elt Ideal) ℓ} {c : Dev nD} {a : Reals} (A : Args m c a) (t : Fin cfg0.N)

include A

theorem xc_rows : Rows (at' (F := Ideal) m c t fun p w x1 g1 b1 _ _ _ _ => k0_pay12 (bF p w) (p 7) (w 7) x1 g1 b1) (fun i => xc 1024 (pR2 a (384 * t.val + i))) :=
  bXc_real (pB A t) (wB A t) (xB A t) (g1B A t) (b1B A t)

theorem rs_col : Col (at' (F := Ideal) m c t fun p w x1 g1 b1 _ _ _ _ => bRs p w x1 g1 b1) (fun i => rs 1024 (pR2 a (384 * t.val + i))) :=
  bRs_real (xc_rows A t)

theorem xh_rows : Rows (at' (F := Ideal) m c t fun p w x1 g1 b1 _ _ _ _ => bX p w x1 g1 b1) (fun i => xh 1024 (pR2 a (384 * t.val + i))) :=
  bX_real (xc_rows A t)

theorem e_rows : Rows (at' (F := Ideal) m c t fun p w x1 g1 b1 g2 b2 i tg => k0_pay16 i (bY p w x1 g1 b1 g2) b2 tg) (fun i => pE a (384 * t.val + i)) := by
  have h := bE_real ⟨t.val, lt11 t⟩ (bY_real (xc_rows A t) (g2B A t)) (b2B A t) (tB A t)
  have e : pt t = BitVec.ofNat 32 t.val := congrArg (BitVec.ofNat 32) (coord t)
  unfold at'
  rw [e]
  intro i k
  refine (h i k).trans (congrArg _ ?_)
  show (if 128 ≤ 384 * t.val + i.val then _ else _) = pE a (384 * t.val + i.val) k.val
  unfold pE
  by_cases hi : 128 ≤ 384 * t.val + i.val
  · rw [if_pos hi, if_pos hi, tRow_eq _ _ i.isLt hi]
  · rw [if_neg hi, if_neg hi]

theorem d_rows : Rows (at' (F := Ideal) m c t bD) (fun i k => pE a (384 * t.val + i) k * (1 / 1024)) := bD_real (e_rows A t)

theorem dr_rows : Rows (outsAt0 m c t.val t.isLt).1 (fun i => pad a.DR (384 * t.val + i)) := by
  rw [dr_eq]
  exact Rows.of_eq (bOut_real (rs_col A t) (xh_rows A t) (d_rows A t) (g2B A t)) fun _ _ _ => pDR _ _ _

theorem dr16_rows : Rows (outsAt0 m c t.val t.isLt).2.1 (fun i => pad a.DR (384 * t.val + i)) := by
  have h := dr_rows A t
  rw [dr_eq] at h
  rw [dr16_eq]
  exact bOut16_real h

/-! ## The accumulators -/

variable (a) in
/-- The loss of the rows seen. -/
def sSum (n : ℕ) : ℝ := 1 / 2 * (∑ R ∈ Finset.range (384 * n), ∑ k : Fin 1024, pE a R k.val * pE a R k.val) / 1024

variable (a) in
/-- The norm's sums over the rows seen. -/
def gSum (n k : ℕ) : ℝ := ∑ R ∈ Finset.range (384 * n), pE a R k * (1 / 1024) * xh 1024 (pR2 a R) k

variable (a) in
def bSum (n k : ℕ) : ℝ := ∑ R ∈ Finset.range (384 * n), pE a R k * (1 / 1024)

omit A in
theorem s_zero : Rows (k0_pay4 (F := Ideal)) (fun _ _ => sSum a 0) := by
  intro i j
  simp only [sSum, Nat.mul_zero, Finset.sum_range_zero, mul_zero, zero_div]
  exact lit_0

omit A in
theorem g_zero : Rows (k0_pay5 (F := Ideal)) (fun _ => gSum a 0) := by
  intro i j
  simp only [gSum, Nat.mul_zero, Finset.sum_range_zero]
  exact lit_0

omit A in
theorem b_zero : Rows (k0_pay6 (F := Ideal)) (fun _ => bSum a 0) := by
  intro i j
  simp only [bSum, Nat.mul_zero, Finset.sum_range_zero]
  exact lit_0

theorem s_step {acc : S8x128.Idx → EReal} (h : Rows acc fun _ _ => sSum a t.val) : Rows (at' (F := Ideal) m c t bLoss acc) (fun _ _ => sSum a (t.val + 1)) := by
  refine Rows.of_eq (bLoss_real (e_rows A t) h) fun _ _ _ => ?_
  have e := acc_step (fun R => ∑ k : Fin 1024, pE a R k.val * pE a R k.val) t.val
    (fun i => ∑ k : Fin 1024, pE a (384 * t.val + i) k.val * pE a (384 * t.val + i) k.val) fun _ => rfl
  unfold sSum
  rw [← e, mul_add, add_div]

theorem g_step {acc : S1x1024.Idx → EReal} (h : Rows acc fun _ => gSum a t.val) : Rows (at' (F := Ideal) m c t bG acc) (fun _ => gSum a (t.val + 1)) :=
  Rows.of_eq (bG_real (d_rows A t) (xh_rows A t) h) fun _ k _ =>
    acc_step (fun R => pE a R k * (1 / 1024) * xh 1024 (pR2 a R) k) t.val _ fun _ => rfl

theorem b_step {acc : S1x1024.Idx → EReal} (h : Rows acc fun _ => bSum a t.val) : Rows (at' (F := Ideal) m c t bB acc) (fun _ => bSum a (t.val + 1)) :=
  Rows.of_eq (bB_real (d_rows A t) h) fun _ k _ => acc_step (fun R => pE a R k * (1 / 1024)) t.val _ fun _ => rfl

theorem s_rows (n : ℕ) (hn : n < cfg0.N) : Rows (sAt (F := Ideal) m c n hn) (fun _ _ => sSum a (n + 1)) := by
  induction n with
  | zero =>
    have e : sAt (F := Ideal) m c 0 hn = _ := s_first m c ⟨0, hn⟩ rfl
    rw [e]
    exact s_step A ⟨0, hn⟩ s_zero
  | succ n ih =>
    have hN : n + 1 < 11 := lt_of_lt_of_eq hn points
    have e : sAt (F := Ideal) m c (n + 1) hn = _ := s_next m c ⟨n + 1, hn⟩ (show ¬(n + 1) % 11 = 0 by omega) (Nat.lt_of_succ_lt hn)
    rw [e]
    exact s_step A ⟨n + 1, hn⟩ (ih (Nat.lt_of_succ_lt hn))

theorem g_rows (n : ℕ) (hn : n < cfg0.N) : Rows (gAt (F := Ideal) m c n hn) (fun _ => gSum a (n + 1)) := by
  induction n with
  | zero =>
    have e : gAt (F := Ideal) m c 0 hn = _ := g_first m c ⟨0, hn⟩ rfl
    rw [e]
    exact g_step A ⟨0, hn⟩ g_zero
  | succ n ih =>
    have hN : n + 1 < 11 := lt_of_lt_of_eq hn points
    have e : gAt (F := Ideal) m c (n + 1) hn = _ := g_next m c ⟨n + 1, hn⟩ (show ¬(n + 1) % 11 = 0 by omega) (Nat.lt_of_succ_lt hn)
    rw [e]
    exact g_step A ⟨n + 1, hn⟩ (ih (Nat.lt_of_succ_lt hn))

theorem b_rows (n : ℕ) (hn : n < cfg0.N) : Rows (bAt (F := Ideal) m c n hn) (fun _ => bSum a (n + 1)) := by
  induction n with
  | zero =>
    have e : bAt (F := Ideal) m c 0 hn = _ := b_first m c ⟨0, hn⟩ rfl
    rw [e]
    exact b_step A ⟨0, hn⟩ b_zero
  | succ n ih =>
    have hN : n + 1 < 11 := lt_of_lt_of_eq hn points
    have e : bAt (F := Ideal) m c (n + 1) hn = _ := b_next m c ⟨n + 1, hn⟩ (show ¬(n + 1) % 11 = 0 by omega) (Nat.lt_of_succ_lt hn)
    rw [e]
    exact b_step A ⟨n + 1, hn⟩ (ih (Nat.lt_of_succ_lt hn))

/-! ## What the last point leaves -/

omit A in
theorem flush12 : ∀ t : Fin cfg0.N, (cfg0.win 12).flush t = true → t.val = 10 := by decide +kernel
omit A in
theorem flush13 : ∀ t : Fin cfg0.N, (cfg0.win 13).flush t = true → t.val = 10 := by decide +kernel
omit A in
theorem flush14 : ∀ t : Fin cfg0.N, (cfg0.win 14).flush t = true → t.val = 10 := by decide +kernel

theorem loss_rows (ht : t.val = 10) : Rows (sAt (F := Ideal) m c t.val t.isLt) (fun _ _ => a.LOSS) := by
  have hw := s_rows A t.val t.isLt
  rw [show t.val + 1 = 11 by omega] at hw
  exact Rows.of_eq hw fun _ _ _ => all_L _

theorem dl2g_rows (ht : t.val = 10) : Rows (gAt (F := Ideal) m c t.val t.isLt) (fun _ => a.DG) := by
  have hw := g_rows A t.val t.isLt
  rw [show t.val + 1 = 11 by omega] at hw
  exact Rows.of_eq hw fun _ _ _ => all_DG _ _

theorem dl2b_rows (ht : t.val = 10) : Rows (bAt (F := Ideal) m c t.val t.isLt) (fun _ => a.DB) := by
  have hw := b_rows A t.val t.isLt
  rw [show t.val + 1 = 11 by omega] at hw
  exact Rows.of_eq hw fun _ _ _ => all_DB _ _

/-! ## The arrays -/

omit A in
theorem emb10 (G : S4224x1024.Idx → EReal) (t : Fin cfg0.N) (y : S384x1024.Idx) : G ((win0_10.blk t).view.emb y) = G (ix2 (rowOf t (y 0)) (y 1)) := by
  blk_ext [rowOf, (idxOut t).1]
omit A in
theorem emb11 (G : S4224x1024.Idx → EReal) (t : Fin cfg0.N) (y : S384x1024.Idx) : G ((win0_11.blk t).view.emb y) = G (ix2 (rowOf t (y 0)) (y 1)) := by
  blk_ext [rowOf, (idxOut t).2.1]
omit A in
theorem emb12 (G : S8x128.Idx → EReal) (t : Fin cfg0.N) (y : S8x128.Idx) : G ((win0_12.blk t).view.emb y) = G (ix2 (y 0) (y 1)) := by
  blk_ext [(idxOut t).2.2.1]
omit A in
theorem emb13 (G : S1x1024.Idx → EReal) (t : Fin cfg0.N) (y : S1x1024.Idx) : G ((win0_13.blk t).view.emb y) = G (ix2 (y 0) (y 1)) := by
  blk_ext [(idxOut t).2.2.2.1]
omit A in
theorem emb14 (G : S1x1024.Idx → EReal) (t : Fin cfg0.N) (y : S1x1024.Idx) : G ((win0_14.blk t).view.emb y) = G (ix2 (y 0) (y 1)) := by
  blk_ext [(idxOut t).2.2.2.2]

theorem arr10 : (dats m 0 c).arrAt 10 cfg0.N = arr 4224 1024 (pad a.DR) := by
  refine (dats m 0 c).arrAt_eq_of_covers 10 _ (by decide +kernel) fun t hf y => ?_
  blk_simp
  rw [after0_10]
  exact (m2_of_rows (dr_rows A t) y).trans (emb10 (arr 4224 1024 _) t y).symm

theorem arr11 : (dats m 0 c).arrAt 11 cfg0.N = arr 4224 1024 (pad a.DR) := by
  refine (dats m 0 c).arrAt_eq_of_covers 11 _ (by decide +kernel) fun t hf y => ?_
  blk_simp
  rw [after0_11]
  exact (m2_of_rows (dr16_rows A t) y).trans (emb11 (arr 4224 1024 _) t y).symm

theorem arr12 : (dats m 0 c).arrAt 12 cfg0.N = arr 8 128 (fun _ _ => a.LOSS) := by
  refine (dats m 0 c).arrAt_eq_of_covers 12 _ (by decide +kernel) fun t hf y => ?_
  have ht := flush12 t hf
  blk_simp
  rw [after0_12]
  exact (m2_of_rows (loss_rows A t ht) y).trans (emb12 (arr 8 128 fun _ _ => a.LOSS) t y).symm

theorem arr13 : (dats m 0 c).arrAt 13 cfg0.N = arr 1 1024 (fun _ => a.DG) := by
  refine (dats m 0 c).arrAt_eq_of_covers 13 _ (by decide +kernel) fun t hf y => ?_
  have ht := flush13 t hf
  blk_simp
  rw [after0_13]
  exact (m2_of_rows (dl2g_rows A t ht) y).trans (emb13 (arr 1 1024 fun _ => a.DG) t y).symm

theorem arr14 : (dats m 0 c).arrAt 14 cfg0.N = arr 1 1024 (fun _ => a.DB) := by
  refine (dats m 0 c).arrAt_eq_of_covers 14 _ (by decide +kernel) fun t hf y => ?_
  have ht := flush14 t hf
  blk_simp
  rw [after0_14]
  exact (m2_of_rows (dl2b_rows A t ht) y).trans (emb14 (arr 1 1024 fun _ => a.DB) t y).symm

end Cert.Kernel4Ideal.Down
-- ==== Proof.Finite4.lean ====
module

public import proofs.«01_k».proof.Defs
public import proofs.«01_k».proof.Proof.Gen.Pre_finite4
public import proofs.«01_k».proof.Proof.Finite2
public import proofs.«01_k».proof.Proof.DownRef

@[expose] public section

set_option maxRecDepth 16384

noncomputable section

namespace Cert.Finite4

open Idealize.ShloMosaic Idealize.ShloMosaic.TcCoe
open Cert.Pre_finite4 Cert.Pre_finite4.Gen
open Cert.Finite (and_one)
open Cert.Finite2 (real_of_reduce toR2 toR1 m2_toR m1_toR)
open Cert.Reference4Ideal.Down (Is)

/-! # Finite arguments of the fourth program are real numbers -/

/-- The arguments' real numbers. -/
def reals (x0 : S4112x1024.Idx → EReal) (x1 x2 : S1024.Idx → EReal) (x3 : S1024x4096.Idx → EReal) (x4 : S4096x1024.Idx → EReal)
    (x5 x6 : S1024.Idx → EReal) (x7 : S4096x1024.Idx → EReal) : Cert.Down.Reals where
  R1 := toR2 x0
  G1 := toR1 x1
  B1 := toR1 x2
  WU := toR2 x3
  WD := toR2 x4
  G2 := toR1 x5
  B2 := toR1 x6
  T := toR2 x7

theorem is_reals {x0 : S4112x1024.Idx → EReal} {x1 x2 : S1024.Idx → EReal} {x3 : S1024x4096.Idx → EReal} {x4 : S4096x1024.Idx → EReal}
    {x5 x6 : S1024.Idx → EReal} {x7 : S4096x1024.Idx → EReal} (h : Cert.Pre_finite4.fn (F := Ideal) x0 x1 x2 x3 x4 x5 x6 x7 = fun _ => 1#1) :
    Is (reals x0 x1 x2 x3 x4 x5 x6 x7) x0 x1 x2 x3 x4 x5 x6 x7 := by
  have h0 := congrFun h ix0
  obtain ⟨ha, hb⟩ := and_one h0
  obtain ⟨hc, hd⟩ := and_one ha
  obtain ⟨h0, h1⟩ := and_one hc
  obtain ⟨h2, h3⟩ := and_one hd
  obtain ⟨he, hf⟩ := and_one hb
  obtain ⟨h4, h5⟩ := and_one he
  obtain ⟨h6, h7⟩ := and_one hf
  exact ⟨m2_toR (real_of_reduce h0), m1_toR (real_of_reduce h1), m1_toR (real_of_reduce h2), m2_toR (real_of_reduce h3),
    m2_toR (real_of_reduce h4), m1_toR (real_of_reduce h5), m1_toR (real_of_reduce h6), m2_toR (real_of_reduce h7)⟩

end Cert.Finite4
-- ==== Proof.InBody.lean ====
module

public import proofs.«01_k».proof.Proof.Gen.Kernel5Ideal.Value
public import proofs.«01_k».proof.Proof.Lanes

@[expose] public section

set_option maxRecDepth 16384

noncomputable section

namespace Cert.Lanes

open Idealize.ShloMosaic Idealize.ShloMosaic.TcCoe
open Idealize.SL Idealize.SL.Sem

variable {F : FTy → Type} [FloatOps F] {sg : RefSig} {e : EltTy} {A B H : ℕ}

/-! # Loads of some rows of an array -/

theorem inbSome (B : ℕ) {A H o : ℕ} (h : o + H ≤ A) : ∀ a, (![o, 0] : Fin 2 → ℕ) a + (⟨2, ![H, B]⟩ : Shape).size a ≤ (⟨2, ![A, B]⟩ : Shape).size a := by
  intro a
  match a with
  | ⟨0, _⟩ => exact h
  | ⟨1, _⟩ => show 0 + B ≤ B; omega

/-- The `H` rows from row `o` on. -/
def someRows {α : Type} (x : (⟨2, ![A, B]⟩ : Shape).Idx → α) (o : ℕ) (h : o + H ≤ A) : (⟨2, ![H, B]⟩ : Shape).Idx → α :=
  fun j => x (ix2 (⟨o + (j 0).val, by have h0 : (j 0).val < H := (j 0).isLt; omega⟩ : Fin A) (j 1))

/-- The same, loaded. -/
def rdSome (arg : Memref sg .tc .vmem ⟨2, ![A, B]⟩ e) (ha : arg.IsWhole) (x : (⟨2, ![A, B]⟩ : Shape).Idx → Elt F e) (o : ℕ) (h : o + H ≤ A) :
    (⟨2, ![H, B]⟩ : Shape).Idx → Elt F e :=
  View.readAt (Elt F) arg.view (Rect.unit (s := ⟨2, ![A, B]⟩) ![o, 0] (⟨2, ![H, B]⟩ : Shape).size (inbSome B h)).toLoadRect (ha.unread x)

theorem rdSome_eq (arg : Memref sg .tc .vmem ⟨2, ![A, B]⟩ e) (ha : arg.IsWhole) (x : (⟨2, ![A, B]⟩ : Shape).Idx → Elt F e) (o : ℕ) (h : o + H ≤ A) :
    rdSome arg ha x o h = someRows x o h := by
  funext j
  refine (ha.readAt_unread x (Rect.unit (s := ⟨2, ![A, B]⟩) ![o, 0] (⟨2, ![H, B]⟩ : Shape).size (inbSome B h)).toLoadRect j).trans (congrArg x (funext fun a => Fin.ext ?_))
  match a with
  | ⟨0, _⟩ => show o + 1 * (j 0).val = o + (j 0).val; omega
  | ⟨1, _⟩ => show 0 + 1 * (j 1).val = (j 1).val; omega

end Cert.Lanes

namespace Cert.Kernel5Ideal.In

open Idealize.ShloMosaic Idealize.ShloMosaic.TcCoe
open Idealize.SL Idealize.SL.Sem
open Cert.Kernel5Ideal.Gen Cert.Lanes

variable {F : FTy → Type} [FloatOps F]

/-! # What each point leaves, from its loads -/

section
variable (u : Vec F S704x256 .f32) (p0 p1 p2 p3 : Vec F S704x768 .bf16) (dh xx : Vec F S704x1024 .f32) (r : Vec F S704x1 .f32) (lg : Vec F S1x1024 .f32)
  (w : Vec F S256x1024 .bf16) (w0 w1 w2 w3 : Vec F S768x1024 .bf16) (i : grid0.Coords)

/-- The gradient of the norm's output without its last segment. -/
abbrev bA : FVec F S704x1024 .f32 :=
  k0_pay12 (k0_pay7 i) (k0_pay9 dh) (k0_pay10 i u) (k0_pay11 w) (constant S704x1024 .f32 0x00000000#32) p0 w0 p1 w1 p2 w2
/-- The gradient of the norm's output. -/
abbrev bD : FVec F S704x1024 .f32 := k0_pay16 (bA u p0 p1 p2 dh w w0 w1 w2 i) (k0_pay13 p3) k0_pay14 (k0_pay15 (k0_pay7 i)) w3
abbrev bM (acc : Vec F S16x1024 .f32) : FVec F S16x1024 .f32 :=
  k0_pay3 (BitVec.ofNat 32 (i 0).val) (k0_pay8 xx) (k0_pay20 r)
    (k0_pay21 (k0_pay8 xx) (bA u p0 p1 p2 dh w w0 w1 w2 i) (k0_pay13 p3) k0_pay14 (k0_pay15 (k0_pay7 i)) w3 lg)
    (k0_pay22 (bA u p0 p1 p2 dh w w0 w1 w2 i) (k0_pay13 p3) k0_pay14 (k0_pay15 (k0_pay7 i)) w3 lg) acc
abbrev bG (acc : Vec F S1x1024 .f32) : FVec F S1x1024 .f32 :=
  k0_pay17 (k0_pay8 xx) (bA u p0 p1 p2 dh w w0 w1 w2 i) (k0_pay13 p3) k0_pay14 (k0_pay15 (k0_pay7 i)) w3 acc
abbrev bB (acc : Vec F S1x1024 .f32) : FVec F S1x1024 .f32 :=
  k0_pay18 (bA u p0 p1 p2 dh w w0 w1 w2 i) (k0_pay13 p3) k0_pay14 (k0_pay15 (k0_pay7 i)) w3 acc
end

variable (m : (ℓ : Loc nD τ sig) → Buf (Elt F) ℓ) (c : Dev nD) (t : Fin cfg0.N)

section
variable {α : Type}

/-- Functions of the point's loads. -/
abbrev Fn (F : FTy → Type) [FloatOps F] (α : Type) : Type :=
  Vec F S704x256 .f32 → Vec F S704x768 .bf16 → Vec F S704x768 .bf16 → Vec F S704x768 .bf16 → Vec F S704x768 .bf16 → Vec F S704x1024 .f32 → Vec F S704x1024 .f32 →
    Vec F S704x1 .f32 → Vec F S1x1024 .f32 → Vec F S256x1024 .bf16 → Vec F S768x1024 .bf16 → Vec F S768x1024 .bf16 → Vec F S768x1024 .bf16 → Vec F S768x1024 .bf16 →
    grid0.Coords → α

/-- A function of the point's loads. -/
abbrev ld (f : Fn F α) : α :=
  f (rdAll (ms0_0 t) (hs0_0 t) (iblk m c 0 t)) (rdAll (ms0_1 t) (hs0_1 t) (iblk m c 1 t)) (rdAll (ms0_2 t) (hs0_2 t) (iblk m c 2 t))
    (rdAll (ms0_3 t) (hs0_3 t) (iblk m c 3 t)) (rdAll (ms0_4 t) (hs0_4 t) (iblk m c 4 t)) (rdAll (ms0_5 t) (hs0_5 t) (iblk m c 5 t))
    (rdAll (ms0_6 t) (hs0_6 t) (iblk m c 6 t)) (rdAll (ms0_7 t) (hs0_7 t) (iblk m c 7 t)) (rdAll (ms0_8 t) (hs0_8 t) (iblk m c 8 t))
    (rdSome (ms0_9 t) (hs0_9 t) (iblk m c 9 t) 0 (by decide : 0 + 256 ≤ 3328)) (rdSome (ms0_9 t) (hs0_9 t) (iblk m c 9 t) 256 (by decide : 256 + 768 ≤ 3328))
    (rdSome (ms0_9 t) (hs0_9 t) (iblk m c 9 t) 1024 (by decide : 1024 + 768 ≤ 3328)) (rdSome (ms0_9 t) (hs0_9 t) (iblk m c 9 t) 1792 (by decide : 1792 + 768 ≤ 3328))
    (rdSome (ms0_9 t) (hs0_9 t) (iblk m c 9 t) 2560 (by decide : 2560 + 768 ≤ 3328)) (grid0.coords t)

/-- The same function of the blocks. -/
abbrev at' (f : Fn F α) : α :=
  f (iblk m c 0 t) (iblk m c 1 t) (iblk m c 2 t) (iblk m c 3 t) (iblk m c 4 t) (iblk m c 5 t) (iblk m c 6 t) (iblk m c 7 t) (iblk m c 8 t)
    (someRows (iblk m c 9 t) 0 (by decide : 0 + 256 ≤ 3328)) (someRows (iblk m c 9 t) 256 (by decide : 256 + 768 ≤ 3328))
    (someRows (iblk m c 9 t) 1024 (by decide : 1024 + 768 ≤ 3328)) (someRows (iblk m c 9 t) 1792 (by decide : 1792 + 768 ≤ 3328))
    (someRows (iblk m c 9 t) 2560 (by decide : 2560 + 768 ≤ 3328)) (grid0.coords t)

theorem ld_eq (f : Fn F α) : ld m c t f = at' m c t f := by
  unfold ld at'
  simp only [rdAll_eq, rdSome_eq]

end

/-- What is added to each of the three accumulators, as functions of all loads. -/
abbrev fM : Fn F (Vec F S16x1024 .f32 → FVec F S16x1024 .f32) := bM
abbrev fG : Fn F (Vec F S1x1024 .f32 → FVec F S1x1024 .f32) := fun u p0 p1 p2 p3 dh xx _ _ w w0 w1 w2 w3 i => bG u p0 p1 p2 p3 dh xx w w0 w1 w2 w3 i
abbrev fB : Fn F (Vec F S1x1024 .f32 → FVec F S1x1024 .f32) := fun u p0 p1 p2 p3 dh _ _ _ w w0 w1 w2 w3 i => bB u p0 p1 p2 p3 dh w w0 w1 w2 w3 i

/-- The three accumulators after point `n`. -/
abbrev mAt (n : ℕ) (hn : n < cfg0.N) : Vec F S16x1024 .f32 := (outsAt0 m c n hn).1
abbrev gAt (n : ℕ) (hn : n < cfg0.N) : Vec F S1x1024 .f32 := (outsAt0 m c n hn).2.1
abbrev bAt (n : ℕ) (hn : n < cfg0.N) : Vec F S1x1024 .f32 := (outsAt0 m c n hn).2.2

theorem m_first (h0 : t.val % 6 = 0) (h1 : ¬2 ≤ t.val) (h2 : ¬t.val % 6 = 5) : mAt m c t.val t.isLt = at' m c t fM k0_pay4 := by
  have e : mAt m c t.val t.isLt = VO0_11.read (Elt F) (VO0_11.writes (Elt F) VO0_11.junk
      [pAll (ld m c t fM (covAll (ms0_11 t).view [pAll k0_pay4])), pAll k0_pay4]) := by
    unfold mAt
    rw [outsAt0_A m c t h0 h1 h2]; sl_kernel_rfl
  rw [e, pAll_read, covAll_eq, ld_eq]

theorem m_next (h0 : ¬t.val % 6 = 0) (hp : t.val - 1 < cfg0.N) : mAt m c t.val t.isLt = at' m c t fM (mAt m c (t.val - 1) hp) := by
  have e : mAt m c t.val t.isLt = VO0_11.read (Elt F) (VO0_11.writes (Elt F) VO0_11.junk
      [pAll (ld m c t fM (rdAll (ms0_11 t) (hs0_11 t) (mAt m c (t.val - 1) hp)))]) := by
    unfold mAt
    by_cases h1 : 2 ≤ t.val
    · by_cases h2 : t.val % 6 = 5
      · rw [outsAt0_D m c t h0 h1 h2]; sl_kernel_rfl
      · rw [outsAt0_C m c t h0 h1 h2]; sl_kernel_rfl
    · rw [outsAt0_B m c t h0 h1 (by omega)]; sl_kernel_rfl
  rw [e, pAll_read, rdAll_eq, ld_eq]

theorem g_first (h0 : t.val % 6 = 0) (h1 : ¬2 ≤ t.val) (h2 : ¬t.val % 6 = 5) : gAt m c t.val t.isLt = at' m c t fG k0_pay5 := by
  have e : gAt m c t.val t.isLt = VO0_12.read (Elt F) (VO0_12.writes (Elt F) VO0_12.junk
      [pAll (ld m c t fG (covAll (ms0_12 t).view [pAll k0_pay5])), pAll k0_pay5]) := by
    unfold gAt
    rw [outsAt0_A m c t h0 h1 h2]; sl_kernel_rfl
  rw [e, pAll_read, covAll_eq, ld_eq]

theorem g_next (h0 : ¬t.val % 6 = 0) (hp : t.val - 1 < cfg0.N) : gAt m c t.val t.isLt = at' m c t fG (gAt m c (t.val - 1) hp) := by
  have e : gAt m c t.val t.isLt = VO0_12.read (Elt F) (VO0_12.writes (Elt F) VO0_12.junk
      [pAll (ld m c t fG (rdAll (ms0_12 t) (hs0_12 t) (gAt m c (t.val - 1) hp)))]) := by
    unfold gAt
    by_cases h1 : 2 ≤ t.val
    · by_cases h2 : t.val % 6 = 5
      · rw [outsAt0_D m c t h0 h1 h2]; sl_kernel_rfl
      · rw [outsAt0_C m c t h0 h1 h2]; sl_kernel_rfl
    · rw [outsAt0_B m c t h0 h1 (by omega)]; sl_kernel_rfl
  rw [e, pAll_read, rdAll_eq, ld_eq]

theorem b_first (h0 : t.val % 6 = 0) (h1 : ¬2 ≤ t.val) (h2 : ¬t.val % 6 = 5) : bAt m c t.val t.isLt = at' m c t fB k0_pay6 := by
  have e : bAt m c t.val t.isLt = VO0_13.read (Elt F) (VO0_13.writes (Elt F) VO0_13.junk
      [pAll (ld m c t fB (covAll (ms0_13 t).view [pAll k0_pay6])), pAll k0_pay6]) := by
    unfold bAt
    rw [outsAt0_A m c t h0 h1 h2]; sl_kernel_rfl
  rw [e, pAll_read, covAll_eq, ld_eq]

theorem b_next (h0 : ¬t.val % 6 = 0) (hp : t.val - 1 < cfg0.N) : bAt m c t.val t.isLt = at' m c t fB (bAt m c (t.val - 1) hp) := by
  have e : bAt m c t.val t.isLt = VO0_13.read (Elt F) (VO0_13.writes (Elt F) VO0_13.junk
      [pAll (ld m c t fB (rdAll (ms0_13 t) (hs0_13 t) (bAt m c (t.val - 1) hp)))]) := by
    unfold bAt
    by_cases h1 : 2 ≤ t.val
    · by_cases h2 : t.val % 6 = 5
      · rw [outsAt0_D m c t h0 h1 h2]; sl_kernel_rfl
      · rw [outsAt0_C m c t h0 h1 h2]; sl_kernel_rfl
    · rw [outsAt0_B m c t h0 h1 (by omega)]; sl_kernel_rfl
  rw [e, pAll_read, rdAll_eq, ld_eq]

end Cert.Kernel5Ideal.In
-- ==== Proof.InMath.lean ====
module

public import proofs.«01_k».proof.Proof.PostMath

@[expose] public section

noncomputable section

namespace Cert.In

open Cert.Post

/-! # The input norm and the projections' gradients over the real numbers -/

/-- The arguments' values: `P` holds the gradients of the four projections of 768 columns. -/
structure Reals where
  X : ℕ → ℕ → ℝ
  MT : ℕ → ℕ → ℝ
  G : ℕ → ℝ
  W : ℕ → ℕ → ℝ
  U : ℕ → ℕ → ℝ
  P : ℕ → ℕ → ℕ → ℝ
  DH : ℕ → ℕ → ℝ

namespace Reals

variable (a : Reals) (r : ℕ)

/-- The norm's input: the 16 rows of the meta tokens first. -/
def R0 : ℕ → ℝ := if r < 16 then a.MT r else a.X (r - 16)

/-- The gradient of all projections. -/
def D (j : ℕ) : ℝ := if j < 256 then a.U r j else a.P ((j - 256) / 768) r ((j - 256) % 768)

/-- The gradient of the norm's output. -/
def DO (k : ℕ) : ℝ := a.DH r k + ∑ j : Fin 3328, a.D r j.val * a.W k j.val

/-- The gradient of the norm's input. -/
def DX : ℕ → ℝ := lnb 1024 (fun k => a.DO r k * a.G k) (xh 1024 (a.R0 r)) (rs 1024 (a.R0 r))

/-- The gradients of the norm's parameters. -/
def DG (k : ℕ) : ℝ := ∑ r : Fin 4112, xh 1024 (a.R0 r.val) k * a.DO r.val k
def DB (k : ℕ) : ℝ := ∑ r : Fin 4112, a.DO r.val k

end Reals

/-- The sum over all projections, one segment after another. -/
theorem sum_five (F : ℕ → ℝ) : ∑ j : Fin 3328, F j.val = ∑ j : Fin 256, F j.val + ∑ d : Fin 4, ∑ j : Fin 768, F (256 + 768 * d.val + j.val) := by
  have h : ∀ n : ℕ, ∑ j ∈ Finset.range (256 + 768 * n), F j
      = ∑ j : Fin 256, F j.val + ∑ d ∈ Finset.range n, ∑ j : Fin 768, F (256 + 768 * d + j.val) := by
    intro n
    induction n with
    | zero => simp [Finset.sum_range]
    | succ n ih =>
      rw [Finset.sum_range_succ, ← add_assoc, ← ih, show 256 + 768 * (n + 1) = 256 + 768 * n + 768 by ring, Finset.sum_range_add, Finset.sum_range (n := 768)]
  have h4 := h 4
  rw [show 256 + 768 * 4 = 3328 from rfl, Finset.sum_range, Finset.sum_range] at h4
  exact h4

/-- The gradient of the norm's output, one row, segment by segment. -/
def kD (dh u : ℕ → ℝ) (p : ℕ → ℕ → ℝ) (wt : ℕ → ℕ → ℝ) (k : ℕ) : ℝ :=
  dh k + ∑ j : Fin 256, u j.val * wt j.val k + ∑ d : Fin 4, ∑ j : Fin 768, p d.val j.val * wt (256 + 768 * d.val + j.val) k

variable (a : Reals) (R : ℕ)

theorem kD_eq (k : ℕ) : kD (pad a.DH R) (pad a.U R) (fun d => pad (a.P d) R) (fun j k => a.W k j) k = pad a.DO R k := by
  by_cases h : 112 ≤ R
  · unfold kD pad Reals.DO
    simp only [if_pos h]
    rw [sum_five fun j => a.D (R - 112) j * a.W k j, ← add_assoc]
    refine congrArg₂ (· + ·) (congrArg (_ + ·) (Finset.sum_congr rfl fun j _ => ?_)) (Finset.sum_congr rfl fun d _ => Finset.sum_congr rfl fun j _ => ?_)
    · unfold Reals.D
      rw [if_pos j.isLt]
    · have hj := j.isLt
      unfold Reals.D
      rw [if_neg (by omega), show (256 + 768 * d.val + j.val - 256) / 768 = d.val by omega, show (256 + 768 * d.val + j.val - 256) % 768 = j.val by omega]
  · unfold kD pad
    simp only [if_neg h, zero_mul, Finset.sum_const_zero, add_zero]

theorem sum_pad4 (F : ℕ → ℝ) (hF : ∀ R, R < 112 → F R = 0) : ∑ R ∈ Finset.range (704 * 6), F R = ∑ i : Fin 4112, F (112 + i.val) :=
  sum_pad F hF

/-- A sum over the rows, one block of 704 further. -/
theorem sum_step (F : ℕ → ℝ) (n : ℕ) :
    (∑ R ∈ Finset.range (704 * n), F R) + ∑ i : Fin 704, F (704 * n + i.val) = ∑ R ∈ Finset.range (704 * (n + 1)), F R := by
  rw [show 704 * (n + 1) = 704 * n + 704 by ring, Finset.sum_range_add, Finset.sum_range (n := 704)]

theorem pad_lt (X : ℕ → ℕ → ℝ) (h : R < 112) (k : ℕ) : pad X R k = 0 := by unfold pad; rw [if_neg (by omega)]

theorem pad_add (X : ℕ → ℕ → ℝ) (r : ℕ) : pad X (112 + r) = X r := by
  unfold pad
  rw [if_pos (by omega), Nat.add_sub_cancel_left]

theorem all_DG (k : ℕ) : ∑ R ∈ Finset.range (704 * 6), pad a.DO R k * pad (fun r => xh 1024 (a.R0 r)) R k = a.DG k := by
  rw [sum_pad4 _ fun R hR => by rw [pad_lt R _ hR, zero_mul]]
  exact Finset.sum_congr rfl fun r _ => by rw [pad_add, pad_add, mul_comm]

theorem all_DB (k : ℕ) : ∑ R ∈ Finset.range (704 * 6), pad a.DO R k = a.DB k := by
  rw [sum_pad4 _ fun R hR => by rw [pad_lt R _ hR]]
  exact Finset.sum_congr rfl fun r _ => by rw [pad_add]

end Cert.In
-- ==== Proof.InRef.lean ====
module

public import proofs.«01_k».proof.Proof.Gen.Reference5Ideal.Read
public import proofs.«01_k».proof.Proof.PostRef
public import proofs.«01_k».proof.Proof.InMath
public import Idealize.ShloMosaic.Lib.KernelVsHost

@[expose] public section

set_option maxRecDepth 16384

noncomputable section

namespace Cert.Reference5Ideal.In

open Idealize.ShloMosaic Idealize.ShloMosaic.TcCoe
open Cert.Reference5Ideal.Gen Cert.Reference5Ideal.Read Cert.Post Cert.In
open Cert.KernelIdeal.Ret (coe_sum div_coe)
open Cert.Kernel2Ideal.Post (lit_1024 lit_eps div_1024 rsqrt_var)
open Cert.Reference2Ideal.Post (M1 M2 lit_mhalf div_var)

/-! # The reference's gradients over the real numbers -/

/-- The arguments hold these values. -/
structure Is (a : Reals) (x0 : S4096x1024.Idx → EReal) (x1 : S16x1024.Idx → EReal) (x2 : S1024.Idx → EReal) (x4 : S1024x3328.Idx → EReal)
    (x5 : S4112x256.Idx → EReal) (x6 x7 x8 x9 : S4112x768.Idx → EReal) (x10 : S4112x1024.Idx → EReal) : Prop where
  h0 : M2 x0 a.X
  h1 : M2 x1 a.MT
  h2 : M1 x2 a.G
  h4 : M2 x4 a.W
  h5 : M2 x5 a.U
  h6 : M2 x6 (a.P 0)
  h7 : M2 x7 (a.P 1)
  h8 : M2 x8 (a.P 2)
  h9 : M2 x9 (a.P 3)
  h10 : M2 x10 a.DH

variable {a : Reals} {x0 : S4096x1024.Idx → EReal} {x1 : S16x1024.Idx → EReal} {x2 : S1024.Idx → EReal} {x4 : S1024x3328.Idx → EReal}
  {x5 : S4112x256.Idx → EReal} {x6 x7 x8 x9 : S4112x768.Idx → EReal} {x10 : S4112x1024.Idx → EReal} (h : Is a x0 x1 x2 x4 x5 x6 x7 x8 x9 x10)

include h

/-! ## The norm's input -/

theorem v0_real : M2 (val_main_v0 (F := Ideal) x0 x1) a.R0 := by
  intro i
  have b0 : (i 0).val < 4112 := (i 0).isLt
  unfold val_main_v0 Reals.R0
  by_cases hj : (i 0).val < 16
  · rw [if_pos hj]
    refine Eq.trans (concatenate_pair_apply_left 0 x1 x0 concatenates_S16x1024_S4096x1024_S4112x1024_d0 i rfl (ix2 (⟨(i 0).val, hj⟩ : Fin 16) (i 1)) fun b => ?_) (h.h1 _)
    match b with
    | ⟨0, _⟩ => rfl
    | ⟨1, _⟩ => rfl
  · rw [if_neg hj]
    refine Eq.trans (concatenate_pair_apply_right 0 x1 x0 concatenates_S16x1024_S4096x1024_S4112x1024_d0 i rfl rfl
      (ix2 (⟨(i 0).val - 16, by omega⟩ : Fin 4096) (i 1)) (fun b hb => ?_) ?_) (h.h0 _)
    · match b with
      | ⟨0, _⟩ => exact absurd rfl hb
      | ⟨1, _⟩ => rfl
    · show (i 0).val - 16 + 16 = (i 0).val
      omega

theorem v6_real : M2 (val_main_v6 (F := Ideal) x0 x1) (fun r => xc 1024 (a.R0 r)) := by
  intro i
  simp only [val_main_v6_apply, val_main_v5_apply, val_main_v4_apply, val_main_v3_apply, val_main_v2_apply, val_main_v1_apply, val_main_cst, val_main_cst_0,
    pointwise, v0_real h _, lit_1024, zero_add, ← coe_sum, div_1024, ← EReal.coe_sub]
  rfl

theorem v13_real : M2 (val_main_v13 (F := Ideal) x0 x1) (fun r _ => var 1024 (a.R0 r)) := by
  intro i
  simp only [val_main_v13_apply, val_main_v12_apply, val_main_v11_apply, val_main_v10_apply, val_main_v9_apply, val_main_v8_apply, val_main_v7_apply,
    val_main_cst_1, val_main_cst_2, val_main_cst_3, pointwise, v6_real h _, lit_1024, lit_eps, zero_add, ← EReal.coe_mul, ← coe_sum, div_1024, ← EReal.coe_add]
  rfl

theorem v14_real : M2 (val_main_v14 (F := Ideal) x0 x1) (fun r _ => rs 1024 (a.R0 r)) := by
  intro i
  simp only [val_main_v14_apply, pointwise, v13_real h _, rsqrt_var]

theorem v17_real : M2 (val_main_v17 (F := Ideal) x0 x1) (fun r _ => -(1 / 2) * (rs 1024 (a.R0 r) / var 1024 (a.R0 r))) := by
  intro i
  simp only [val_main_v17_apply, val_main_v16_apply, val_main_v15_apply, val_main_cst_4, pointwise, v13_real h _, v14_real h _, lit_mhalf, div_var, ← EReal.coe_mul]

theorem v19_real : M2 (val_main_v19 (F := Ideal) x0 x1) (fun r => xh 1024 (a.R0 r)) := by
  intro i
  simp only [val_main_v19_apply, val_main_v18_apply, pointwise, v6_real h _, v14_real h _, ← EReal.coe_mul]
  rfl

/-! ## The gradient of its output -/

/-- One of the four segments of 768 columns. -/
theorem seg_real (n : ℕ) (hn : n < 4) (x : S4112x768.Idx → EReal) (hx : M2 x (a.P n)) (i : S4112x3328.Idx) (hi : 256 + 768 * n ≤ (i 1).val ∧ (i 1).val < 256 + 768 * (n + 1))
    (y : EReal) (hy : y = x (ix2 (i 0) (⟨(i 1).val - (256 + 768 * n), by omega⟩ : Fin 768))) : y = ((a.D (i 0).val (i 1).val : ℝ) : EReal) := by
  rw [hy]
  refine (hx _).trans (congrArg Real.toEReal ?_)
  unfold Reals.D
  rw [if_neg (by omega), show ((i 1).val - 256) / 768 = n by omega, show ((i 1).val - 256) % 768 = (i 1).val - (256 + 768 * n) by omega]
  rfl

theorem v32_real : M2 (val_main_v32 (F := Ideal) x5 x6 x7 x8 x9) a.D := by
  intro i
  have b1 : (i 1).val < 3328 := (i 1).isLt
  unfold val_main_v32
  by_cases h0 : (i 1).val < 256
  · refine Eq.trans (concatenate_apply_piece 1 _ _ i 0 (by show 0 < 5; decide) S4112x256 x5 rfl rfl 0 rfl (ix2 (i 0) (⟨(i 1).val, h0⟩ : Fin 256)) (fun b hb => ?_) ?_) ((h.h5 _).trans (congrArg Real.toEReal ?_))
    · match b with
      | ⟨0, _⟩ => rfl
      | ⟨1, _⟩ => exact absurd rfl hb
    · show 0 + (i 1).val = (i 1).val; omega
    · unfold Reals.D
      exact (if_pos h0).symm
  by_cases h1 : (i 1).val < 1024
  · refine seg_real h 0 (by decide) x6 h.h6 i ⟨by omega, by omega⟩ _ (concatenate_apply_piece 1 _ _ i 1 (by show 1 < 5; decide) S4112x768 x6 rfl rfl 256 rfl _ (fun b hb => ?_) ?_)
    · match b with
      | ⟨0, _⟩ => rfl
      | ⟨1, _⟩ => exact absurd rfl hb
    · show 256 + ((i 1).val - (256 + 768 * 0)) = (i 1).val; omega
  by_cases h2 : (i 1).val < 1792
  · refine seg_real h 1 (by decide) x7 h.h7 i ⟨by omega, by omega⟩ _ (concatenate_apply_piece 1 _ _ i 2 (by show 2 < 5; decide) S4112x768 x7 rfl rfl 1024 rfl _ (fun b hb => ?_) ?_)
    · match b with
      | ⟨0, _⟩ => rfl
      | ⟨1, _⟩ => exact absurd rfl hb
    · show 1024 + ((i 1).val - (256 + 768 * 1)) = (i 1).val; omega
  by_cases h3 : (i 1).val < 2560
  · refine seg_real h 2 (by decide) x8 h.h8 i ⟨by omega, by omega⟩ _ (concatenate_apply_piece 1 _ _ i 3 (by show 3 < 5; decide) S4112x768 x8 rfl rfl 1792 rfl _ (fun b hb => ?_) ?_)
    · match b with
      | ⟨0, _⟩ => rfl
      | ⟨1, _⟩ => exact absurd rfl hb
    · show 1792 + ((i 1).val - (256 + 768 * 2)) = (i 1).val; omega
  · refine seg_real h 3 (by decide) x9 h.h9 i ⟨by omega, by omega⟩ _ (concatenate_apply_piece 1 _ _ i 4 (by show 4 < 5; decide) S4112x768 x9 rfl rfl 2560 rfl _ (fun b hb => ?_) ?_)
    · match b with
      | ⟨0, _⟩ => rfl
      | ⟨1, _⟩ => exact absurd rfl hb
    · show 2560 + ((i 1).val - (256 + 768 * 3)) = (i 1).val; omega

theorem v36_real : M2 (val_main_v36 (F := Ideal) x4 x5 x6 x7 x8 x9 x10) a.DO := by
  intro i
  simp only [val_main_v36_apply, val_main_v35_apply, pointwise, v32_real h _, h.h4 _, h.h10 _, ← EReal.coe_mul, ← coe_sum, ← EReal.coe_add]
  rfl

theorem v37_real : M2 (val_main_v37 (F := Ideal) x4 x5 x6 x7 x8 x9 x10) a.DO := by
  intro i
  simp only [val_main_v37, pointwise, v36_real h _]

/-! ## The gradients -/

theorem v72_real : M2 (val_main_v72 (F := Ideal) x4 x5 x6 x7 x8 x9 x10) (fun _ => a.DB) := by
  intro i
  simp only [val_main_v72_apply, val_main_v40_apply, val_main_v39_apply, val_main_v38_apply, val_main_cst_5, val_main_cst_6, pointwise, v36_real h _,
    zero_add, ← coe_sum, Fin.sum_univ_one]
  simp only [Nat.zero_mul, Nat.zero_add]
  rfl

theorem v71_real : M2 (val_main_v71 (F := Ideal) x0 x1 x4 x5 x6 x7 x8 x9 x10) (fun _ => a.DG) := by
  intro i
  simp only [val_main_v71_apply, val_main_v46_apply, val_main_v43_apply, val_main_v42_apply, val_main_v41_apply, val_main_cst_7, val_main_cst_8, pointwise,
    v19_real h _, v37_real h _, zero_add, ← EReal.coe_mul, ← coe_sum, Fin.sum_univ_one]
  simp only [Nat.zero_mul, Nat.zero_add]
  rfl

theorem v45_real : M2 (val_main_v45 (F := Ideal) x2 x4 x5 x6 x7 x8 x9 x10) (fun r k => a.DO r k * a.G k) := by
  intro i
  simp only [val_main_v45_apply, val_main_v44_apply, val_main_v20_apply, pointwise, v37_real h _, h.h2 _, ← EReal.coe_mul]

theorem v56_real : M2 (val_main_v56 (F := Ideal) x0 x1 x2 x4 x5 x6 x7 x8 x9 x10) (fun r _ => lnt 1024 (fun k => a.DO r k * a.G k) (a.R0 r)) := by
  intro i
  simp only [val_main_v56_apply, val_main_v55_apply, val_main_v54_apply, val_main_v53_apply, val_main_v52_apply, val_main_v49_apply, val_main_v48_apply, val_main_v47_apply,
    val_main_cst_9, val_main_cst_10, val_main_cst_11, pointwise, v6_real h _, v45_real h _, v17_real h _, lit_1024, zero_add, ← EReal.coe_mul, ← coe_sum, Fin.sum_univ_one, div_1024]
  simp only [Nat.mul_one, Nat.add_zero]
  rfl

theorem v60_real : M2 (val_main_v60 (F := Ideal) x0 x1 x2 x4 x5 x6 x7 x8 x9 x10) (fun r => lng 1024 (fun k => a.DO r k * a.G k) (a.R0 r)) := by
  intro i
  simp only [val_main_v60_apply, val_main_v59_apply, val_main_v58_apply, val_main_v57_apply, val_main_v51_apply, val_main_v50_apply,
    pointwise, v6_real h _, v14_real h _, v45_real h _, v56_real h _, ← EReal.coe_mul, ← EReal.coe_add]
  rfl

theorem v68_real : M2 (val_main_v68 (F := Ideal) x0 x1 x2 x4 x5 x6 x7 x8 x9 x10) a.DX := by
  intro i
  simp only [val_main_v68_apply, val_main_v67_apply, val_main_v66_apply, val_main_v65_apply, val_main_v64_apply, val_main_v63_apply, val_main_v62_apply, val_main_v61_apply,
    val_main_cst_12, val_main_cst_13, val_main_cst_14, pointwise, v60_real h _, lit_1024, zero_add, ← EReal.coe_neg, ← coe_sum, Fin.sum_univ_one, div_1024, ← EReal.coe_add]
  simp only [Nat.mul_one, Nat.add_zero]
  exact congrArg Real.toEReal (lng_eq 1024 (by norm_num) _ _ _)

theorem v69_real : M2 (val_main_v69 (F := Ideal) x0 x1 x2 x4 x5 x6 x7 x8 x9 x10) a.DX := by
  intro i
  rw [val_main_v69_apply, v68_real h _]

end Cert.Reference5Ideal.In
-- ==== Proof.InReal.lean ====
module

public import proofs.«01_k».proof.Proof.Gen.Kernel5Ideal.Skeleton
public import proofs.«01_k».proof.Proof.InRef
public import proofs.«01_k».proof.Proof.PostBlocks

@[expose] public section

set_option maxRecDepth 16384

noncomputable section

namespace Cert.Kernel5Ideal.In

open Idealize.ShloMosaic Idealize.ShloMosaic.TcCoe
open Cert.Kernel5Ideal.Gen Cert.Post Cert.In
open Cert.KernelIdeal.Ret (coe_sum div_coe)
open Cert.Kernel2Ideal.Post (Rows Col lit_1024 div_1024)

/-! # The body over the real numbers -/

theorem lit_0 : Ideal.ofBits FTy.f32 0x00000000#32 = ((0 : ℝ) : EReal) := by simp [Ideal.ofBits, Ideal.ieee]

/-- The condition on the row. -/
theorem mask : ∀ t : Fin 6, ∀ i : Fin 704,
    Scalar.cmpi .sge (Scalar.muli (BitVec.ofNat 32 t.val) 704#32 + BitVec.ofNat 32 i.val) 112#32 = if 112 ≤ 704 * t.val + i.val then 1#1 else 0#1 := by
  decide +kernel

/-- The condition on the point. -/
theorem first : ∀ t : Fin 6, Scalar.cmpi .eq (BitVec.ofNat 32 t.val) 0#32 = if t.val = 0 then 1#1 else 0#1 := by decide +kernel

theorem sel_real {p : Prop} [Decidable p] (x : ℝ) :
    Scalar.select (if p then 1#1 else 0#1) ((x : ℝ) : EReal) ((0 : ℝ) : EReal) = ((if p then x else 0 : ℝ) : EReal) := by
  by_cases h : p
  · rw [if_pos h, if_pos h]; rfl
  · rw [if_neg h, if_neg h]; rfl

/-- The mask of a point's rows. -/
def Mask (v : S704x1.Idx → BitVec 1) (n : ℕ) : Prop := ∀ i : Fin 704, v (ix2 i (0 : Fin 1)) = if 112 ≤ n + i.val then 1#1 else 0#1

theorem mask_real (i : grid0.Coords) (t : Fin 6) (hi : (i 0).val = t.val) : Mask (k0_pay7 i) (704 * t.val) := by
  intro r
  have e : List.foldl (fun n a => n * (![704, 1] : Fin 2 → ℕ) a + ((ix2 r (0 : Fin 1) : S704x1.Idx) a).val) 0 [0] = r.val := by
    show 0 * 704 + r.val = r.val; omega
  have hm : IntOp.cmpi .sge (IntOp.addi (Scalar.muli (BitVec.ofNat 32 t.val) 704#32)
      (BitVec.ofNat 32 (List.foldl (fun n a => n * (![704, 1] : Fin 2 → ℕ) a + ((ix2 r (0 : Fin 1) : S704x1.Idx) a).val) 0 [0]))) 112#32
      = if 112 ≤ 704 * t.val + r.val then 1#1 else 0#1 := by
    rw [e]; exact mask t r
  simp only [k0_pay7, pointwise, hi]
  exact hm

variable {v : S704x1.Idx → BitVec 1} {n : ℕ} {u : S704x256.Idx → EReal} {p0 p1 p2 p3 : S704x768.Idx → EReal} {dh xx : S704x1024.Idx → EReal} {lg : S1x1024.Idx → EReal}
  {w : S256x1024.Idx → EReal} {w0 w1 w2 w3 : S768x1024.Idx → EReal} {U DH XX WT : ℕ → ℕ → ℝ} {P : ℕ → ℕ → ℕ → ℝ} {G RS : ℕ → ℝ}

/-- Rows cut off above row 112. -/
def cut (n : ℕ) (X : ℕ → ℕ → ℝ) (i j : ℕ) : ℝ := if 112 ≤ n + i then X i j else 0

theorem u_real (i : grid0.Coords) (hm : Mask (k0_pay7 i) n) (hu : Rows u U) : Rows (k0_pay10 (F := Ideal) i u) (cut n U) := by
  intro r j
  unfold k0_pay10
  generalize k0_pay7 i = v at hm ⊢
  simp only [pointwise, ↓reduceDIte, show ¬(704 : ℕ) = 1 by decide, hm _, hu _ _, lit_0, sel_real]
  rfl

theorem id8_real (hx : Rows xx XX) : Rows (k0_pay8 (F := Ideal) xx) XX := by
  intro i j
  simp only [k0_pay8, pointwise, hx _ _]

theorem id9_real (hx : Rows dh DH) : Rows (k0_pay9 (F := Ideal) dh) DH := by
  intro i j
  simp only [k0_pay9, pointwise, hx _ _]

theorem id11_real (hw : Rows w WT) : Rows (k0_pay11 (F := Ideal) w) WT := by
  intro i j
  simp only [k0_pay11, pointwise, hw _ _]

theorem id13_real (hp : Rows p3 (P 3)) : Rows (k0_pay13 (F := Ideal) p3) (P 3) := by
  intro i j
  simp only [k0_pay13, pointwise, hp _ _]

theorem id15_real (hm : Mask v n) : Mask (k0_pay15 v) n := by
  intro i
  simp only [k0_pay15, pointwise, hm _]

theorem id20_real {r : S704x1.Idx → EReal} (hr : Col r RS) : Col (k0_pay20 (F := Ideal) r) RS := by
  intro i
  simp only [k0_pay20, pointwise, hr _]

theorem z14 : k0_pay14 (F := Ideal) = ((0 : ℝ) : EReal) := lit_0

/-- The gradient of the norm's output without its last segment. -/
theorem bA_real {u' : S704x256.Idx → EReal} (hm : Mask v n) (hd : Rows dh DH) (hu : Rows u' (cut n U)) (hw : Rows w WT) (h0 : Rows p0 (P 0)) (h1 : Rows p1 (P 1)) (h2 : Rows p2 (P 2))
    (hw0 : Rows w0 fun j k => WT (256 + 768 * 0 + j) k) (hw1 : Rows w1 fun j k => WT (256 + 768 * 1 + j) k) (hw2 : Rows w2 fun j k => WT (256 + 768 * 2 + j) k) :
    Rows (k0_pay12 (F := Ideal) v dh u' w (constant S704x1024 .f32 0x00000000#32) p0 w0 p1 w1 p2 w2)
      (fun i k => DH i k + ∑ j : Fin 256, cut n U i j.val * WT j.val k + ∑ j : Fin 768, cut n (P 0) i j.val * WT (256 + 768 * 0 + j.val) k
        + ∑ j : Fin 768, cut n (P 1) i j.val * WT (256 + 768 * 1 + j.val) k + ∑ j : Fin 768, cut n (P 2) i j.val * WT (256 + 768 * 2 + j.val) k) := by
  intro i j
  have z : Scalar.truncf (F := Ideal) .bf16 bitsLt_bf16_f32 (Scalar.ofBits (F := Ideal) .f32 0x00000000#32) = ((0 : ℝ) : EReal) := lit_0
  unfold k0_pay12
  rw [z]
  simp only [pointwise, ↓reduceDIte, show ¬(704 : ℕ) = 1 by decide, hm _, hd _ _, hu _ _, hw _ _, h0 _ _, h1 _ _, h2 _ _, hw0 _ _, hw1 _ _, hw2 _ _, lit_0, sel_real,
    zero_add, ← EReal.coe_mul, ← coe_sum, ← EReal.coe_add]
  rfl

section
variable {v69 : S704x1024.Idx → EReal} {v71 : S704x768.Idx → EReal} {Q D : ℕ → ℕ → ℝ}

theorem bD_real (hm : Mask v n) (hq : Rows v69 Q) (h3 : Rows v71 (P 3)) (hw3 : Rows w3 fun j k => WT (256 + 768 * 3 + j) k) :
    Rows (k0_pay16 (F := Ideal) v69 v71 k0_pay14 v w3) (fun i k => Q i k + ∑ j : Fin 768, cut n (P 3) i j.val * WT (256 + 768 * 3 + j.val) k) := by
  intro i j
  rw [z14]
  simp only [k0_pay16, pointwise, ↓reduceDIte, show ¬(704 : ℕ) = 1 by decide, hm _, hq _ _, h3 _ _, hw3 _ _, lit_0, sel_real,
    zero_add, ← EReal.coe_mul, ← coe_sum, ← EReal.coe_add]
  rfl

variable {z : EReal} (h : Rows (k0_pay16 (F := Ideal) v69 v71 z v w3) D)

include h

theorem bG_real (hx : Rows xx XX) {acc : S1x1024.Idx → EReal} {A : ℕ → ℝ} (ha : Rows acc fun _ => A) :
    Rows (k0_pay17 (F := Ideal) xx v69 v71 z v w3 acc) (fun _ k => A k + ∑ i : Fin 704, D i.val k * XX i.val k) := by
  intro i j
  unfold k0_pay17
  generalize k0_pay16 (F := Ideal) v69 v71 z v w3 = V at h ⊢
  simp only [pointwise, h _ _, hx _ _, ha _ _, zero_add, ← EReal.coe_mul, ← coe_sum, ← EReal.coe_add]

theorem bB_real {acc : S1x1024.Idx → EReal} {A : ℕ → ℝ} (ha : Rows acc fun _ => A) :
    Rows (k0_pay18 (F := Ideal) v69 v71 z v w3 acc) (fun _ k => A k + ∑ i : Fin 704, D i.val k) := by
  intro i j
  unfold k0_pay18
  generalize k0_pay16 (F := Ideal) v69 v71 z v w3 = V at h ⊢
  simp only [pointwise, h _ _, ha _ _, zero_add, ← coe_sum, ← EReal.coe_add]

theorem bS_real (hg : Rows lg fun _ => G) : Rows (k0_pay19 (F := Ideal) v69 v71 z v w3 lg) (fun i k => D i k * G k) := by
  intro i j
  unfold k0_pay19
  generalize k0_pay16 (F := Ideal) v69 v71 z v w3 = V at h ⊢
  simp only [pointwise, ↓reduceDIte, show ¬(1024 : ℕ) = 1 by decide, h _ _, hg _ _, ← EReal.coe_mul]

theorem b21_real (hg : Rows lg fun _ => G) (hx : Rows xx XX) :
    Col (k0_pay21 (F := Ideal) xx v69 v71 z v w3 lg) (fun i => mean 1024 fun k => D i k * G k * XX i k) := by
  intro i
  have h2 := bS_real h hg
  unfold k0_pay21
  generalize k0_pay19 (F := Ideal) v69 v71 z v w3 lg = V at h2 ⊢
  simp only [pointwise, h2 _ _, hx _ _, lit_1024, zero_add, ← EReal.coe_mul, ← coe_sum, div_1024]
  rfl

theorem b22_real (hg : Rows lg fun _ => G) :
    Rows (k0_pay22 (F := Ideal) v69 v71 z v w3 lg) (fun i k => D i k * G k - mean 1024 fun k => D i k * G k) := by
  intro i j
  have h2 := bS_real h hg
  unfold k0_pay22
  generalize k0_pay19 (F := Ideal) v69 v71 z v w3 lg = V at h2 ⊢
  simp only [pointwise, ↓reduceDIte, show ¬(704 : ℕ) = 1 by decide, h2 _ _, lit_1024, zero_add, ← coe_sum, div_1024, ← EReal.coe_sub]
  rfl

/-- The gradient of the norm's input. -/
theorem bX_real (hg : Rows lg fun _ => G) (hx : Rows xx XX) {r : S704x1.Idx → EReal} (hr : Col r RS) :
    Rows (k0_pay1 (F := Ideal) xx r (k0_pay21 (F := Ideal) xx v69 v71 z v w3 lg) (k0_pay22 (F := Ideal) v69 v71 z v w3 lg))
      (fun i => lnb 1024 (fun k => D i k * G k) (XX i) (RS i)) := by
  intro i j
  have h1 := b21_real h hg hx
  have h2 := b22_real h hg
  generalize k0_pay21 (F := Ideal) xx v69 v71 z v w3 lg = V1 at h1 ⊢
  generalize k0_pay22 (F := Ideal) v69 v71 z v w3 lg = V2 at h2 ⊢
  simp only [k0_pay1, pointwise, ↓reduceDIte, show ¬(704 : ℕ) = 1 by decide, h1 _, h2 _ _, hx _ _, hr _, ← EReal.coe_mul, ← EReal.coe_sub]
  rfl

end

/-- The first 16 rows' gradient, at the first point only. -/
theorem bM_real {r q : S704x1.Idx → EReal} {d : S704x1024.Idx → EReal} {X : ℕ → ℕ → ℝ} (h : Rows (k0_pay1 (F := Ideal) xx r q d) X) (t : Fin 6)
    {acc : S16x1024.Idx → EReal} {A : ℕ → ℕ → ℝ} (ha : Rows acc A) :
    Rows (k0_pay3 (F := Ideal) (BitVec.ofNat 32 t.val) xx r q d acc) (fun i k => A i k + if t.val = 0 then X (112 + i) k else 0) := by
  intro i j
  unfold k0_pay3
  generalize k0_pay1 (F := Ideal) xx r q d = V at h ⊢
  rw [first]
  have hi := i.isLt
  have ea : shapeCast S16x1024 acc shapeCasts_S16x1024_S16x1024 (ix2 i j) = ((A i.val j.val : ℝ) : EReal) := by
    simp only [pointwise, ha _ _]
  by_cases h0 : t.val = 0
  · rw [if_pos h0]
    have e : extractStridedSlice S16x1024 ![112, 0] V slices_S704x1024_o112_0_S16x1024 (ix2 i j) = ((X (112 + i.val) j.val : ℝ) : EReal) :=
      (extractStridedSlice_apply ![112, 0] V slices_S704x1024_o112_0_S16x1024 (ix2 i j) (ix2 (⟨112 + i.val, by omega⟩ : Fin 704) j) (fun a => match a with
        | ⟨0, _⟩ => rfl
        | ⟨1, _⟩ => (Nat.zero_add _).symm)).trans (h _ _)
    exact (congrArg₂ (· + ·) ea e).trans ((EReal.coe_add _ _).symm.trans (by simp only [if_pos h0]))
  · rw [if_neg h0]
    exact (congrArg₂ (· + ·) ea lit_0).trans ((EReal.coe_add _ _).symm.trans (by simp only [if_neg h0]))

end Cert.Kernel5Ideal.In
-- ==== Proof.InHost.lean ====
module

public import proofs.«01_k».proof.Proof.InBody
public import proofs.«01_k».proof.Proof.InReal
public import Idealize.ShloMosaic.Lib.StableHlo.RunRead
public import Idealize.ShloMosaic.Lib.Pipeline.ValueKit

@[expose] public section

set_option maxRecDepth 16384

noncomputable section

namespace Cert.Kernel5Ideal.In

open Idealize.ShloMosaic Idealize.ShloMosaic.TcCoe
open Idealize.SL Idealize.SL.Sem
open Cert.Kernel5Ideal.Gen Cert.Post Cert.Lanes Cert.In
open Cert.Kernel2Ideal.Post (Rows Rows.of_eq Col)
open Cert.Reference2Ideal.Post (M1 M2 pad_real zero_real rows_of_m2)
open Cert.Reference5Ideal.In (v14_real v19_real)

/-! # The arrays the host prepares for the region, and the blocks a point reads -/

/-- The padding's value. -/
def zeroP : FVec Ideal S_ .f32 := sitofp .f32 (constantI S_ 32 0#32)

/-- The meta tokens' rows and the input's. -/
def catX {α : Type} (a : S16x1024.Idx → α) (b : S4096x1024.Idx → α) : S4112x1024.Idx → α :=
  concatenate S4112x1024 0 [⟨S16x1024, a⟩, ⟨S4096x1024, b⟩] concatenates_S16x1024_S4096x1024_S4112x1024_d0

theorem catX_eq {α : Type} (a : S16x1024.Idx → α) (b : S4096x1024.Idx → α) :
    concatenate S4112x1024 0 [⟨S16x1024, a⟩, ⟨S4096x1024, b⟩] concatenates_S16x1024_S4096x1024_S4112x1024_d0 = catX a b := rfl

/-- A projection's gradient below 112 rows of zeros. -/
def padP (x : S4112x768.Idx → EReal) : S4224x768.Idx → EReal :=
  truncf (F := Ideal) .bf16 (pad S4224x768 ![112, 0] ![0, 0] ![0, 0] x zeroP pads_S4112x768_S4224x768_11200_000 h_S_) bitsLt_bf16_f32

section
variable (m : (ℓ : Loc nD τ sig) → Buf (Elt Ideal) ℓ) (c : Dev nD)

theorem V_u : V m c main_v15 = pad S4224x256 ![112, 0] ![0, 0] ![0, 0] (m (c, Proc.devRef .tc main_arg5)) zeroP pads_S4112x256_S4224x256_11200_000 h_S_ := by
  unfold V
  after_reads_simp [catX_eq]
  rfl

theorem V_p0 : V m c main_v17 = padP (m (c, Proc.devRef .tc main_arg6)) := by
  unfold V
  after_reads_simp [catX_eq]
  rfl

theorem V_p1 : V m c main_v19 = padP (m (c, Proc.devRef .tc main_arg7)) := by
  unfold V
  after_reads_simp [catX_eq]
  rfl

theorem V_p2 : V m c main_v21 = padP (m (c, Proc.devRef .tc main_arg8)) := by
  unfold V
  after_reads_simp [catX_eq]
  rfl

theorem V_p3 : V m c main_v23 = padP (m (c, Proc.devRef .tc main_arg9)) := by
  unfold V
  after_reads_simp [catX_eq]
  rfl

theorem V_dh : V m c main_v24 = pad S4224x1024 ![112, 0] ![0, 0] ![0, 0] (m (c, Proc.devRef .tc main_arg10)) zeroP pads_S4112x1024_S4224x1024_11200_000 h_S_ := by
  unfold V
  after_reads_simp [catX_eq]
  rfl

theorem V_xh : V m c main_v27 = pad S4224x1024 ![112, 0] ![0, 0] ![0, 0]
      (Cert.Reference5Ideal.Read.val_main_v19 (F := Ideal) (m (c, Proc.devRef .tc main_arg0)) (m (c, Proc.devRef .tc main_arg1))) zeroP
        pads_S4112x1024_S4224x1024_11200_000 h_S_ := by
  unfold V
  after_reads_simp [catX_eq]
  rfl

theorem V_rs : V m c main_v28 = pad S4224x1 ![112, 0] ![0, 0] ![0, 0]
      (Cert.Reference5Ideal.Read.val_main_v14 (F := Ideal) (m (c, Proc.devRef .tc main_arg0)) (m (c, Proc.devRef .tc main_arg1))) zeroP
        pads_S4112x1_S4224x1_11200_000 h_S_ := by
  unfold V
  after_reads_simp [catX_eq]
  rfl

theorem V_g : V m c main_v29 = broadcastInDim S1x1024 ![1] bcast_S1024_S1x1024_1 (m (c, Proc.devRef .tc main_arg2)) := by
  unfold V
  after_reads_simp [catX_eq]

theorem V_w : V m c main_v31 = truncf (F := Ideal) .bf16 (transpose S3328x1024 [1, 0] (m (c, Proc.devRef .tc main_arg4)) transposes_S1024x3328_S3328x1024_1_0)
      bitsLt_bf16_f32 := by
  unfold V
  after_reads_simp [catX_eq]

/-- The arguments of device `c` hold the real numbers `a`. -/
def Args (a : Reals) : Prop :=
  Cert.Reference5Ideal.In.Is a (m (c, Proc.devRef .tc main_arg0)) (m (c, Proc.devRef .tc main_arg1)) (m (c, Proc.devRef .tc main_arg2))
    (m (c, Proc.devRef .tc main_arg4)) (m (c, Proc.devRef .tc main_arg5)) (m (c, Proc.devRef .tc main_arg6)) (m (c, Proc.devRef .tc main_arg7))
    (m (c, Proc.devRef .tc main_arg8)) (m (c, Proc.devRef .tc main_arg9)) (m (c, Proc.devRef .tc main_arg10))
end

/-! ## The blocks -/

theorem idxIn : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0])

theorem idxOut : ∀ t : Fin cfg0.N, win0_11.index t = ![0, 0] ∧ win0_12.index t = ![0, 0] ∧ win0_13.index t = ![0, 0] :=
  (by decide +kernel : ∀ t : Fin grid0.N, win0_11.index t = ![0, 0] ∧ win0_12.index t = ![0, 0] ∧ win0_13.index t = ![0, 0])

theorem points : cfg0.N = 6 := by decide +kernel

theorem coord : ∀ t : Fin cfg0.N, (grid0.coords t 0).val = t.val :=
  (by decide +kernel : ∀ t : Fin grid0.N, (grid0.coords t 0).val = t.val)

/-- The row of the arrays that is row `i` of the block of point `t`. -/
def rowOf (t : Fin cfg0.N) (i : Fin 704) : Fin 4224 :=
  ⟨704 * t.val + i.val, by have : t.val < 6 := lt_of_lt_of_eq t.isLt points; omega⟩

section
variable (m : (ℓ : Loc nD τ sig) → Buf (Elt Ideal) ℓ) (c : Dev nD) (t : Fin cfg0.N)

theorem iblk0 (i : Fin 704) (l : Fin 256) : iblk m c 0 t (ix2 i l) = V m c main_v15 (ix2 (rowOf t i) l) := by
  blk_ext [iblk, rowOf, (idxIn t).1]
theorem iblk1 (i : Fin 704) (l : Fin 768) : iblk m c 1 t (ix2 i l) = V m c main_v17 (ix2 (rowOf t i) l) := by
  blk_ext [iblk, rowOf, (idxIn t).2.1]
theorem iblk2 (i : Fin 704) (l : Fin 768) : iblk m c 2 t (ix2 i l) = V m c main_v19 (ix2 (rowOf t i) l) := by
  blk_ext [iblk, rowOf, (idxIn t).2.2.1]
theorem iblk3 (i : Fin 704) (l : Fin 768) : iblk m c 3 t (ix2 i l) = V m c main_v21 (ix2 (rowOf t i) l) := by
  blk_ext [iblk, rowOf, (idxIn t).2.2.2.1]
theorem iblk4 (i : Fin 704) (l : Fin 768) : iblk m c 4 t (ix2 i l) = V m c main_v23 (ix2 (rowOf t i) l) := by
  blk_ext [iblk, rowOf, (idxIn t).2.2.2.2.1]
theorem iblk5 (i : Fin 704) (l : Fin 1024) : iblk m c 5 t (ix2 i l) = V m c main_v24 (ix2 (rowOf t i) l) := by
  blk_ext [iblk, rowOf, (idxIn t).2.2.2.2.2.1]
theorem iblk6 (i : Fin 704) (l : Fin 1024) : iblk m c 6 t (ix2 i l) = V m c main_v27 (ix2 (rowOf t i) l) := by
  blk_ext [iblk, rowOf, (idxIn t).2.2.2.2.2.2.1]
theorem iblk7 (i : Fin 704) (l : Fin 1) : iblk m c 7 t (ix2 i l) = V m c main_v28 (ix2 (rowOf t i) l) := by
  blk_ext [iblk, rowOf, (idxIn t).2.2.2.2.2.2.2.1]
theorem iblk8 (i : Fin 1) (l : Fin 1024) : iblk m c 8 t (ix2 i l) = V m c main_v29 (ix2 i l) := by
  blk_ext [iblk, (idxIn t).2.2.2.2.2.2.2.2.1]
theorem iblk9 (i : Fin 3328) (l : Fin 1024) : iblk m c 9 t (ix2 i l) = V m c main_v31 (ix2 i l) := by
  blk_ext [iblk, (idxIn t).2.2.2.2.2.2.2.2.2]
end

theorem padP_rows {x : S4112x768.Idx → EReal} {X : ℕ → ℕ → ℝ} (h : M2 x X) : Rows (padP x) (Cert.Post.pad X) :=
  rows_of_m2 (pad_real h _ zero_real pads_S4112x768_S4224x768_11200_000 h_S_)

variable {m : (ℓ : Loc nD τ sig) → Buf (Elt Ideal) ℓ} {c : Dev nD} {a : Reals} (A : Args m c a) (t : Fin cfg0.N)

include A

theorem u_rows : Rows (V m c main_v15 : S4224x256.Idx → EReal) (Cert.Post.pad a.U) := by
  rw [V_u]; exact rows_of_m2 (pad_real A.h5 _ zero_real pads_S4112x256_S4224x256_11200_000 h_S_)
theorem dh_rows : Rows (V m c main_v24 : S4224x1024.Idx → EReal) (Cert.Post.pad a.DH) := by
  rw [V_dh]; exact rows_of_m2 (pad_real A.h10 _ zero_real pads_S4112x1024_S4224x1024_11200_000 h_S_)
theorem xh_rows : Rows (V m c main_v27 : S4224x1024.Idx → EReal) (Cert.Post.pad fun r => xh 1024 (a.R0 r)) := by
  rw [V_xh]; exact rows_of_m2 (pad_real (v19_real A) _ zero_real pads_S4112x1024_S4224x1024_11200_000 h_S_)
theorem rs_rows : Rows (V m c main_v28 : S4224x1.Idx → EReal) (Cert.Post.pad fun r _ => rs 1024 (a.R0 r)) := by
  rw [V_rs]; exact rows_of_m2 (pad_real (v14_real A) _ zero_real pads_S4112x1_S4224x1_11200_000 h_S_)

theorem uB : Rows (iblk m c 0 t : S704x256.Idx → EReal) (fun i => Cert.Post.pad a.U (704 * t.val + i)) := fun i j => (iblk0 m c t i j).trans (u_rows A _ _)
theorem p0B : Rows (iblk m c 1 t : S704x768.Idx → EReal) (fun i => Cert.Post.pad (a.P 0) (704 * t.val + i)) :=
  fun i j => (iblk1 m c t i j).trans ((congrFun (V_p0 m c) _).trans (padP_rows A.h6 _ _))
theorem p1B : Rows (iblk m c 2 t : S704x768.Idx → EReal) (fun i => Cert.Post.pad (a.P 1) (704 * t.val + i)) :=
  fun i j => (iblk2 m c t i j).trans ((congrFun (V_p1 m c) _).trans (padP_rows A.h7 _ _))
theorem p2B : Rows (iblk m c 3 t : S704x768.Idx → EReal) (fun i => Cert.Post.pad (a.P 2) (704 * t.val + i)) :=
  fun i j => (iblk3 m c t i j).trans ((congrFun (V_p2 m c) _).trans (padP_rows A.h8 _ _))
theorem p3B : Rows (iblk m c 4 t : S704x768.Idx → EReal) (fun i => Cert.Post.pad (a.P 3) (704 * t.val + i)) :=
  fun i j => (iblk4 m c t i j).trans ((congrFun (V_p3 m c) _).trans (padP_rows A.h9 _ _))
theorem dhB : Rows (iblk m c 5 t : S704x1024.Idx → EReal) (fun i => Cert.Post.pad a.DH (704 * t.val + i)) := fun i j => (iblk5 m c t i j).trans (dh_rows A _ _)
theorem xB : Rows (iblk m c 6 t : S704x1024.Idx → EReal) (fun i => Cert.Post.pad (fun r => xh 1024 (a.R0 r)) (704 * t.val + i)) :=
  fun i j => (iblk6 m c t i j).trans (xh_rows A _ _)
theorem rB : Col (iblk m c 7 t : S704x1.Idx → EReal) (fun i => Cert.Post.pad (fun r _ => rs 1024 (a.R0 r)) (704 * t.val + i) 0) :=
  fun i => (iblk7 m c t i 0).trans (rs_rows A _ _)
theorem gB : Rows (iblk m c 8 t : S1x1024.Idx → EReal) (fun _ => a.G) := fun i j => by rw [iblk8, V_g]; exact (A.h2 _).trans rfl

theorem wB {H o : ℕ} (h : o + H ≤ 3328) : Rows (someRows (iblk m c 9 t : S3328x1024.Idx → EReal) o h) (fun j k => a.W k (o + j)) := fun i k => by
  have hi := i.isLt
  refine (iblk9 m c t (⟨o + i.val, by omega⟩ : Fin 3328) k).trans ((congrFun (V_w m c) _).trans ?_)
  exact (transpose_apply [1, 0] _ transposes_S1024x3328_S3328x1024_1_0 (ix2 (⟨o + i.val, by omega⟩ : Fin 3328) k) (ix2 k (⟨o + i.val, by omega⟩ : Fin 3328)) fun b => match b with
    | ⟨0, _⟩ => rfl
    | ⟨1, _⟩ => rfl).trans (A.h4 _)

/-! ## The gradient of the norm's output -/

omit A in
/-- Rows of zeros stay rows of zeros. -/
theorem cut_pad (X : ℕ → ℕ → ℝ) (n i j : ℕ) : cut n (fun i => Cert.Post.pad X (n + i)) i j = Cert.Post.pad X (n + i) j := by
  unfold cut
  by_cases h : 112 ≤ n + i
  · rw [if_pos h]
  · unfold Cert.Post.pad
    rw [if_neg h, if_neg h]

theorem do_rows : Rows (at' (F := Ideal) m c t fun u p0 p1 p2 p3 dh _ _ _ w w0 w1 w2 w3 i => bD u p0 p1 p2 p3 dh w w0 w1 w2 w3 i)
    (fun i => Cert.Post.pad a.DO (704 * t.val + i)) := by
  have hm := mask_real (grid0.coords t) ⟨t.val, lt_of_lt_of_eq t.isLt points⟩ (coord t)
  refine Rows.of_eq (bD_real (P := fun d i => Cert.Post.pad (a.P d) (704 * t.val + i)) (WT := fun j k => a.W k j) (id15_real hm)
    (bA_real (P := fun d i => Cert.Post.pad (a.P d) (704 * t.val + i)) (WT := fun j k => a.W k j) hm (id9_real (dhB A t)) (u_real _ hm (uB A t))
      (id11_real (Rows.of_eq (wB A t _) fun i k _ => congrArg (a.W k) (Nat.zero_add i))) (p0B A t) (p1B A t) (p2B A t) (wB A t _) (wB A t _) (wB A t _))
    (id13_real (P := fun d i => Cert.Post.pad (a.P d) (704 * t.val + i)) (p3B A t)) (wB A t _)) fun i k _ => ?_
  rw [← kD_eq a (704 * t.val + i) k]
  unfold kD
  rw [Fin.sum_univ_four]
  simp only [cut_pad, ← add_assoc]
  rfl

end Cert.Kernel5Ideal.In
-- ==== Proof.InOut.lean ====
module

public import proofs.«01_k».proof.Proof.InHost
public import proofs.«01_k».proof.Proof.PostOut

@[expose] public section

set_option maxRecDepth 16384

noncomputable section

namespace Cert.Kernel5Ideal.In

open Idealize.ShloMosaic Idealize.ShloMosaic.TcCoe
open Idealize.SL Idealize.SL.Sem
open Cert.Kernel5Ideal.Gen Cert.Post Cert.Lanes Cert.In
open Cert.Kernel2Ideal.Post (Rows Rows.of_eq Col arr)
open Cert.Reference2Ideal.Post (m2_of_rows)

/-! # The result arrays of the fifth region -/

variable {m : (ℓ : Loc nD τ sig) → Buf (Elt Ideal) ℓ} {c : Dev nD} {a : Reals} (A : Args m c a) (t : Fin cfg0.N)

variable (a) in
/-- The norm's sums over the rows seen. -/
def gSum (n k : ℕ) : ℝ := ∑ R ∈ Finset.range (704 * n), Cert.Post.pad a.DO R k * Cert.Post.pad (fun r => xh 1024 (a.R0 r)) R k

variable (a) in
def bSum (n k : ℕ) : ℝ := ∑ R ∈ Finset.range (704 * n), Cert.Post.pad a.DO R k

theorem m_zero : Rows (k0_pay4 (F := Ideal)) (fun _ _ => 0) := fun _ _ => lit_0

theorem g_zero : Rows (k0_pay5 (F := Ideal)) (fun _ => gSum a 0) := by
  intro i j
  simp only [gSum, Nat.mul_zero, Finset.sum_range_zero]
  exact lit_0

theorem b_zero : Rows (k0_pay6 (F := Ideal)) (fun _ => bSum a 0) := by
  intro i j
  simp only [bSum, Nat.mul_zero, Finset.sum_range_zero]
  exact lit_0

include A

/-- The first point adds the gradient of the meta tokens, the others nothing. -/
theorem m_step {acc : S16x1024.Idx → EReal} {Y : ℕ → ℕ → ℝ} (h : Rows acc Y) :
    Rows (at' (F := Ideal) m c t fM acc) (fun i k => Y i k + if t.val = 0 then a.DX i k else 0) := by
  have e : BitVec.ofNat 32 (grid0.coords t 0).val = BitVec.ofNat 32 t.val := congrArg (BitVec.ofNat 32) (coord t)
  unfold at' fM bM
  rw [e]
  refine Rows.of_eq (bM_real (bX_real (do_rows A t) (gB A t) (id8_real (xB A t)) (id20_real (rB A t))) ⟨t.val, lt_of_lt_of_eq t.isLt points⟩ h) fun i k _ => congrArg (Y i k + ·) ?_
  by_cases h0 : t.val = 0
  · simp only [h0, if_true, Nat.mul_zero, Nat.zero_add, pad_add]
    rfl
  · simp only [h0, if_false]

theorem g_step {acc : S1x1024.Idx → EReal} (h : Rows acc fun _ => gSum a t.val) : Rows (at' (F := Ideal) m c t fG acc) (fun _ => gSum a (t.val + 1)) :=
  Rows.of_eq (bG_real (do_rows A t) (id8_real (xB A t)) h) fun _ k _ =>
    sum_step (fun R => Cert.Post.pad a.DO R k * Cert.Post.pad (fun r => xh 1024 (a.R0 r)) R k) t.val

theorem b_step {acc : S1x1024.Idx → EReal} (h : Rows acc fun _ => bSum a t.val) : Rows (at' (F := Ideal) m c t fB acc) (fun _ => bSum a (t.val + 1)) :=
  Rows.of_eq (bB_real (do_rows A t) h) fun _ k _ => sum_step (fun R => Cert.Post.pad a.DO R k) t.val

theorem m_rows (n : ℕ) (hn : n < cfg0.N) : Rows (mAt (F := Ideal) m c n hn) a.DX := by
  induction n with
  | zero =>
    have e : mAt (F := Ideal) m c 0 hn = _ := m_first m c ⟨0, hn⟩ rfl (show ¬2 ≤ 0 by decide) (show ¬0 % 6 = 5 by decide)
    rw [e]
    exact Rows.of_eq (m_step A ⟨0, hn⟩ m_zero) fun i k _ => by rw [if_pos rfl, zero_add]
  | succ n ih =>
    have hN : n + 1 < 6 := lt_of_lt_of_eq hn points
    have e : mAt (F := Ideal) m c (n + 1) hn = _ := m_next m c ⟨n + 1, hn⟩ (show ¬(n + 1) % 6 = 0 by omega) (Nat.lt_of_succ_lt hn)
    rw [e]
    exact Rows.of_eq (m_step A ⟨n + 1, hn⟩ (ih (Nat.lt_of_succ_lt hn))) fun i k _ => by rw [if_neg (Nat.succ_ne_zero n), add_zero]

theorem g_rows (n : ℕ) (hn : n < cfg0.N) : Rows (gAt (F := Ideal) m c n hn) (fun _ => gSum a (n + 1)) := by
  induction n with
  | zero =>
    have e : gAt (F := Ideal) m c 0 hn = _ := g_first m c ⟨0, hn⟩ rfl (show ¬2 ≤ 0 by decide) (show ¬0 % 6 = 5 by decide)
    rw [e]
    exact g_step A ⟨0, hn⟩ g_zero
  | succ n ih =>
    have hN : n + 1 < 6 := lt_of_lt_of_eq hn points
    have e : gAt (F := Ideal) m c (n + 1) hn = _ := g_next m c ⟨n + 1, hn⟩ (show ¬(n + 1) % 6 = 0 by omega) (Nat.lt_of_succ_lt hn)
    rw [e]
    exact g_step A ⟨n + 1, hn⟩ (ih (Nat.lt_of_succ_lt hn))

theorem b_rows (n : ℕ) (hn : n < cfg0.N) : Rows (bAt (F := Ideal) m c n hn) (fun _ => bSum a (n + 1)) := by
  induction n with
  | zero =>
    have e : bAt (F := Ideal) m c 0 hn = _ := b_first m c ⟨0, hn⟩ rfl (show ¬2 ≤ 0 by decide) (show ¬0 % 6 = 5 by decide)
    rw [e]
    exact b_step A ⟨0, hn⟩ b_zero
  | succ n ih =>
    have hN : n + 1 < 6 := lt_of_lt_of_eq hn points
    have e : bAt (F := Ideal) m c (n + 1) hn = _ := b_next m c ⟨n + 1, hn⟩ (show ¬(n + 1) % 6 = 0 by omega) (Nat.lt_of_succ_lt hn)
    rw [e]
    exact b_step A ⟨n + 1, hn⟩ (ih (Nat.lt_of_succ_lt hn))

/-! ## What the last point leaves -/

omit A in
theorem flush12 : ∀ t : Fin cfg0.N, (cfg0.win 12).flush t = true → t.val = 5 := by decide +kernel
omit A in
theorem flush13 : ∀ t : Fin cfg0.N, (cfg0.win 13).flush t = true → t.val = 5 := by decide +kernel

theorem dlg_rows (ht : t.val = 5) : Rows (gAt (F := Ideal) m c t.val t.isLt) (fun _ => a.DG) := by
  have hw := g_rows A t.val t.isLt
  rw [show t.val + 1 = 6 by omega] at hw
  exact Rows.of_eq hw fun _ _ _ => all_DG _ _

theorem dlb_rows (ht : t.val = 5) : Rows (bAt (F := Ideal) m c t.val t.isLt) (fun _ => a.DB) := by
  have hw := b_rows A t.val t.isLt
  rw [show t.val + 1 = 6 by omega] at hw
  exact Rows.of_eq hw fun _ _ _ => all_DB _ _

/-! ## The arrays -/

omit A in
theorem emb11 (G : S16x1024.Idx → EReal) (t : Fin cfg0.N) (y : S16x1024.Idx) : G ((win0_11.blk t).view.emb y) = G (ix2 (y 0) (y 1)) := by
  blk_ext [(idxOut t).1]
omit A in
theorem emb12 (G : S1x1024.Idx → EReal) (t : Fin cfg0.N) (y : S1x1024.Idx) : G ((win0_12.blk t).view.emb y) = G (ix2 (y 0) (y 1)) := by
  blk_ext [(idxOut t).2.1]
omit A in
theorem emb13 (G : S1x1024.Idx → EReal) (t : Fin cfg0.N) (y : S1x1024.Idx) : G ((win0_13.blk t).view.emb y) = G (ix2 (y 0) (y 1)) := by
  blk_ext [(idxOut t).2.2]

theorem arr11 : (dats m 0 c).arrAt 11 cfg0.N = arr 16 1024 a.DX := by
  refine (dats m 0 c).arrAt_eq_of_covers 11 _ (by decide +kernel) fun t hf y => ?_
  blk_simp
  rw [after0_11]
  exact (m2_of_rows (m_rows A t.val t.isLt) y).trans (emb11 (arr 16 1024 a.DX) t y).symm

theorem arr12 : (dats m 0 c).arrAt 12 cfg0.N = arr 1 1024 (fun _ => a.DG) := by
  refine (dats m 0 c).arrAt_eq_of_covers 12 _ (by decide +kernel) fun t hf y => ?_
  have ht := flush12 t hf
  blk_simp
  rw [after0_12]
  exact (m2_of_rows (dlg_rows A t ht) y).trans (emb12 (arr 1 1024 fun _ => a.DG) t y).symm

theorem arr13 : (dats m 0 c).arrAt 13 cfg0.N = arr 1 1024 (fun _ => a.DB) := by
  refine (dats m 0 c).arrAt_eq_of_covers 13 _ (by decide +kernel) fun t hf y => ?_
  have ht := flush13 t hf
  blk_simp
  rw [after0_13]
  exact (m2_of_rows (dlb_rows A t ht) y).trans (emb13 (arr 1 1024 fun _ => a.DB) t y).symm

end Cert.Kernel5Ideal.In
-- ==== Proof.Finite5.lean ====
module

public import proofs.«01_k».proof.Defs
public import proofs.«01_k».proof.Proof.Gen.Pre_finite5
public import proofs.«01_k».proof.Proof.Finite2
public import proofs.«01_k».proof.Proof.InRef

@[expose] public section

set_option maxRecDepth 16384

noncomputable section

namespace Cert.Finite5

open Idealize.ShloMosaic Idealize.ShloMosaic.TcCoe
open Cert.Pre_finite5 Cert.Pre_finite5.Gen
open Cert.Finite (and_one)
open Cert.Finite2 (real_of_reduce toR2 toR1 m2_toR m1_toR)
open Cert.Reference5Ideal.In (Is)

/-! # Finite arguments of the fifth program are real numbers -/

/-- The arguments' real numbers. -/
def reals (x0 : S4096x1024.Idx → EReal) (x1 : S16x1024.Idx → EReal) (x2 : S1024.Idx → EReal) (x4 : S1024x3328.Idx → EReal) (x5 : S4112x256.Idx → EReal)
    (x6 x7 x8 x9 : S4112x768.Idx → EReal) (x10 : S4112x1024.Idx → EReal) : Cert.In.Reals where
  X := toR2 x0
  MT := toR2 x1
  G := toR1 x2
  W := toR2 x4
  U := toR2 x5
  P := fun n => match n with
    | 0 => toR2 x6
    | 1 => toR2 x7
    | 2 => toR2 x8
    | _ => toR2 x9
  DH := toR2 x10

theorem is_reals {x0 : S4096x1024.Idx → EReal} {x1 : S16x1024.Idx → EReal} {x2 x3 : S1024.Idx → EReal} {x4 : S1024x3328.Idx → EReal} {x5 : S4112x256.Idx → EReal}
    {x6 x7 x8 x9 : S4112x768.Idx → EReal} {x10 : S4112x1024.Idx → EReal}
    (h : Cert.Pre_finite5.fn (F := Ideal) x0 x1 x2 x3 x4 x5 x6 x7 x8 x9 x10 = fun _ => 1#1) :
    Is (reals x0 x1 x2 x4 x5 x6 x7 x8 x9 x10) x0 x1 x2 x4 x5 x6 x7 x8 x9 x10 := by
  have h0 := congrFun h ix0
  obtain ⟨ha, hb⟩ := and_one h0
  obtain ⟨hc, hd⟩ := and_one ha
  obtain ⟨h0, h1⟩ := and_one hc
  obtain ⟨h2, h4⟩ := and_one hd
  obtain ⟨he, hf⟩ := and_one hb
  obtain ⟨hg, h7⟩ := and_one he
  obtain ⟨h5, h6⟩ := and_one hg
  obtain ⟨hi, h10⟩ := and_one hf
  obtain ⟨h8, h9⟩ := and_one hi
  exact ⟨m2_toR (real_of_reduce h0), m2_toR (real_of_reduce h1), m1_toR (real_of_reduce h2), m2_toR (real_of_reduce h4),
    m2_toR (real_of_reduce h5), m2_toR (real_of_reduce h6), m2_toR (real_of_reduce h7), m2_toR (real_of_reduce h8), m2_toR (real_of_reduce h9),
    m2_toR (real_of_reduce h10)⟩

end Cert.Finite5
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Pre_finite4
public import proofs.«01_k».proof.Proof.Finite
public import proofs.«01_k».proof.Proof.PostOut
public import proofs.«01_k».proof.Proof.Finite2
public import proofs.«01_k».proof.Proof.MlpOut
public import Idealize.ShloMosaic.Adequacy
public import Idealize.ShloMosaic.Init
public import proofs.«01_k».proof.Proof.DownOut
public import proofs.«01_k».proof.Proof.Finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.InOut
public import proofs.«01_k».proof.Proof.Finite5

@[expose] public section

noncomputable section

namespace Cert.Proof

open Idealize.ShloMosaic Idealize.SL.Sem Cert.Kernel

/-- The reference's program has no semaphore, so its frame is the run of its host operations. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

open Cert.KernelIdeal.Ret Cert.Finite

/-- One device's arguments, as real numbers. -/
theorem args_of_finite {m : (ℓ : Loc Cert.KernelIdeal.nD Cert.KernelIdeal.τ Cert.KernelIdeal.sig) → Buf (Elt Ideal) ℓ}
    (hm : Cert.Pre_KernelIdeal_finite m) (c : Dev Cert.KernelIdeal.nD) :
    Args m c (toR (m ((c.tc : Thread Cert.KernelIdeal.nD Cert.KernelIdeal.τ).loc Cert.KernelIdeal.main_arg0)))
      (toR (m ((c.tc : Thread Cert.KernelIdeal.nD Cert.KernelIdeal.τ).loc Cert.KernelIdeal.main_arg1)))
      (toR (m ((c.tc : Thread Cert.KernelIdeal.nD Cert.KernelIdeal.τ).loc Cert.KernelIdeal.main_arg2)))
      (toR (m ((c.tc : Thread Cert.KernelIdeal.nD Cert.KernelIdeal.τ).loc Cert.KernelIdeal.main_arg3))) :=
  have h := isArg_all (hm c)
  ⟨h.1, h.2.1, h.2.2.1, h.2.2.2⟩

/-- The kernel's three gradients are the reference's. -/
theorem algebraic : Cert.algebraic_KernelIdeal_ReferenceIdeal_pre_finite := by
  intro m g m' g' hm hargs
  refine ⟨fun c => outArr (gdq (toR (m ((c.tc : Thread _ _).loc Cert.KernelIdeal.main_arg1)))
      (toR (m ((c.tc : Thread _ _).loc Cert.KernelIdeal.main_arg2))) (toR (m ((c.tc : Thread _ _).loc Cert.KernelIdeal.main_arg3)))),
    fun c => outArr (gdk (toR (m ((c.tc : Thread _ _).loc Cert.KernelIdeal.main_arg0)))
      (toR (m ((c.tc : Thread _ _).loc Cert.KernelIdeal.main_arg2))) (toR (m ((c.tc : Thread _ _).loc Cert.KernelIdeal.main_arg3)))),
    fun c => outArr (gdv (toR (m ((c.tc : Thread _ _).loc Cert.KernelIdeal.main_arg0)))
      (toR (m ((c.tc : Thread _ _).loc Cert.KernelIdeal.main_arg1))) (toR (m ((c.tc : Thread _ _).loc Cert.KernelIdeal.main_arg3)))),
    ?_, ?_⟩
  · refine (θ_run _ _ _).mono (fun r h c => ?_) (Cert.KernelIdeal.Value.run_blocks m g)
    have A := args_of_finite hm c
    obtain ⟨h0, h1, h2, hk⟩ := h c
    exact ⟨h0.trans (arr7 A), h1.trans (arr8 A), h2.trans (arr9 A), hk⟩
  · refine (θ_run _ _ _).mono (fun r h c => ?_) (Cert.ReferenceIdeal.Value.run (F := Ideal) m' g')
    obtain ⟨a0, a1, a2, a3⟩ := isArg_all (hm c)
    obtain ⟨e0, e1, e2, e3⟩ := hargs c
    obtain ⟨h0, h1, h2, hk⟩ := h c
    refine ⟨h0.trans ?_, h1.trans ?_, h2.trans ?_, hk⟩
    · rw [Cert.ReferenceIdeal.Read.val_main_v135_eq, e1, e2, e3]
      exact Cert.ReferenceIdeal.Ret.ref_dq a1 a2 a3
    · rw [Cert.ReferenceIdeal.Read.val_main_v138_eq, e0, e2, e3]
      exact Cert.ReferenceIdeal.Ret.ref_dk a0 a2 a3
    · rw [Cert.ReferenceIdeal.Read.val_main_v141_eq, e0, e1, e3]
      exact Cert.ReferenceIdeal.Ret.ref_dv a0 a1 a3

/-- The named constants are the ones the kernel's literals stand for. -/
theorem preserves : Cert.preserves_Kernel_KernelIdeal := by
  refine ⟨?_, ?_, ?_, ?_, ?_, ?_, ?_, ?_, ?_, ?_, ?_, ?_⟩ <;> exact IdealRules.named_const.statement Cert.KernelIdeal.κ _ .f32 _ _ rfl

/-! ## The second program -/

theorem reference2_frame : Cert.quiescent_Reference2Ideal := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run (F := Ideal) m ρ)

set_option maxHeartbeats 2000000 in
open Cert.Post Cert.Reference2Ideal.Post in
/-- The backward pass through the mixing gives the reference's seven results. -/
theorem algebraic2 : Cert.algebraic_Kernel2Ideal_Reference2Ideal_pre_finite2 := by
  intro m g m' g' hm hargs
  have hA : ∀ c, ∃ a : Reals, Cert.Kernel2Ideal.Post.Args m c a := fun c => ⟨_, Cert.Finite2.is_reals (hm c)⟩
  choose a A using hA
  refine ⟨fun c => Cert.Kernel2Ideal.Post.arr 4224 768 (pad fun r => rdo ((a c).DY r) ((a c).G r) ((a c).O r) (a c).GG),
    fun c => Cert.Kernel2Ideal.Post.arr 4224 768 (pad fun r => rdg ((a c).DY r) ((a c).G r) ((a c).O r) (a c).GG (a c).GB),
    fun c => Cert.Kernel2Ideal.Post.arr 4224 256 (pad (a c).DY),
    fun c => Cert.Kernel2Ideal.Post.arr 4224 1024 (pad fun r k => al * (a c).D1 r k),
    fun c => Cert.Kernel2Ideal.Post.arr 1024 1024 (fun j k => ∑ r : Fin 4112, (a c).YC r.val j * (a c).D1 r.val k),
    fun c => Cert.Kernel2Ideal.Post.arr 2 1024 (fun r k => if r = 0 then ∑ r : Fin 4112, xh 1024 ((a c).R1 r.val) k * (a c).DH r.val k
      else ∑ r : Fin 4112, (a c).DH r.val k),
    fun c => Cert.Kernel2Ideal.Post.arr 2 768 (fun r k => if r = 0 then ∑ r : Fin 4112, roxh ((a c).O r.val) k * (a c).DN r.val k
      else ∑ r : Fin 4112, (a c).DN r.val k), ?_, ?_⟩
  · refine (θ_run _ _ _).mono (fun r h c => ?_) (Cert.Kernel2Ideal.Value.run_blocks m g)
    obtain ⟨h0, h1, h2, h3, h4, h5, h6, hk⟩ := h c
    exact ⟨h0.trans (Cert.Kernel2Ideal.Post.arr10 (A c)), h1.trans (Cert.Kernel2Ideal.Post.arr11 (A c)), h2.trans (Cert.Kernel2Ideal.Post.arr12 (A c)),
      h3.trans (Cert.Kernel2Ideal.Post.arr13 (A c)), h4.trans (Cert.Kernel2Ideal.Post.arr14 (A c)), h5.trans (Cert.Kernel2Ideal.Post.arr15 (A c)),
      h6.trans (Cert.Kernel2Ideal.Post.arr16 (A c)), hk⟩
  · refine (θ_run _ _ _).mono (fun r h c => ?_) (Cert.Reference2Ideal.Value.run (F := Ideal) m' g')
    have B := A c
    unfold Cert.Kernel2Ideal.Post.Args at B
    obtain ⟨e0, e1, e2, e3, e4, e5, e6, e7, e8, e9, e10⟩ := hargs c
    replace e0 : StableHlo.launchContents m' c (Proc.devRef .tc Cert.Reference2Ideal.main_arg0) = _ := e0
    replace e1 : StableHlo.launchContents m' c (Proc.devRef .tc Cert.Reference2Ideal.main_arg1) = _ := e1
    replace e2 : StableHlo.launchContents m' c (Proc.devRef .tc Cert.Reference2Ideal.main_arg2) = _ := e2
    replace e3 : StableHlo.launchContents m' c (Proc.devRef .tc Cert.Reference2Ideal.main_arg3) = _ := e3
    replace e4 : StableHlo.launchContents m' c (Proc.devRef .tc Cert.Reference2Ideal.main_arg4) = _ := e4
    replace e5 : StableHlo.launchContents m' c (Proc.devRef .tc Cert.Reference2Ideal.main_arg5) = _ := e5
    replace e6 : StableHlo.launchContents m' c (Proc.devRef .tc Cert.Reference2Ideal.main_arg6) = _ := e6
    replace e7 : StableHlo.launchContents m' c (Proc.devRef .tc Cert.Reference2Ideal.main_arg7) = _ := e7
    replace e9 : StableHlo.launchContents m' c (Proc.devRef .tc Cert.Reference2Ideal.main_arg9) = _ := e9
    replace e10 : StableHlo.launchContents m' c (Proc.devRef .tc Cert.Reference2Ideal.main_arg10) = _ := e10
    obtain ⟨h0, h1, h2, h3, h4, h5, h6, hk⟩ := h c
    refine ⟨h0.trans ?_, h1.trans ?_, h2.trans ?_, h3.trans ?_, h4.trans ?_, h5.trans ?_, h6.trans ?_, hk⟩
    · rw [Cert.Reference2Ideal.Read.val_main_v139_eq, e0, e1, e2, e3, e4, e5, e6, e7, e9, e10]
      exact funext (v139_real B)
    · rw [Cert.Reference2Ideal.Read.val_main_v141_eq, e0, e1, e2, e3, e4, e5, e6, e7, e9, e10]
      exact funext (v141_real B)
    · rw [Cert.Reference2Ideal.Read.val_main_v142_eq, e0, e1, e2, e3, e4, e5, e6, e7, e9, e10]
      exact funext (v142_real B)
    · rw [Cert.Reference2Ideal.Read.val_main_v143_eq, e0, e1, e2, e3, e4, e5, e6, e7, e9, e10]
      exact funext (v143_real B)
    · rw [Cert.Reference2Ideal.Read.val_main_v144_eq, e0, e1, e2, e3, e4, e5, e6, e7, e9, e10]
      exact funext (v144_real B)
    · rw [Cert.Reference2Ideal.Read.val_main_v147_eq, e0, e1, e2, e3, e4, e5, e6, e9, e10]
      exact funext (v147_real B)
    · rw [Cert.Reference2Ideal.Read.val_main_v150_eq, e0, e1, e2, e3, e4, e5, e6, e7, e9, e10]
      exact funext (v150_real B)

/-! ## The third program -/

theorem reference3_frame : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

open Cert.Mlp Cert.Reference3Ideal.Mlp in
/-- The backward pass through the squared relu gives the reference's three results, whatever the arguments. -/
theorem algebraic3 : Cert.algebraic_Kernel3Ideal_Reference3Ideal := by
  intro m g m' g' _ hargs
  have hA : ∀ c, ∃ a : Nums, Cert.Kernel3Ideal.Mlp.Args m c a := fun c => exists_is _ _ _ _
  choose a A using hA
  refine ⟨fun c => Cert.Kernel3Ideal.Mlp.arr3 8 1024 512 (fun d k j => (a c).gU k (512 * d + j)),
    fun c => Cert.Kernel3Ideal.Mlp.arr3 8 512 1024 (fun d j k => (a c).gD (512 * d + j) k),
    fun c => Cert.Kernel3Ideal.Mlp.arr2 4224 1024 (padE (a c).gH), ?_, ?_⟩
  · refine (θ_run _ _ _).mono (fun r h c => ?_) (Cert.Kernel3Ideal.Value.run_blocks m g)
    obtain ⟨h0, h1, h2, hk⟩ := h c
    exact ⟨h0.trans (Cert.Kernel3Ideal.Mlp.arr5 (A c)), h1.trans (Cert.Kernel3Ideal.Mlp.arr6 (A c)), h2.trans (Cert.Kernel3Ideal.Mlp.arr7 (A c)), hk⟩
  · refine (θ_run _ _ _).mono (fun r h c => ?_) (Cert.Reference3Ideal.Value.run (F := Ideal) m' g')
    have B := A c
    unfold Cert.Kernel3Ideal.Mlp.Args at B
    obtain ⟨e0, e1, e2, e3⟩ := hargs c
    obtain ⟨h0, h1, h2, hk⟩ := h c
    refine ⟨h0.trans ?_, h1.trans ?_, h2.trans ?_, hk⟩
    · rw [Cert.Reference3Ideal.Read.val_main_v20_eq, e0, e1, e2, e3]
      exact funext (v20_eq B)
    · rw [Cert.Reference3Ideal.Read.val_main_v22_eq, e0, e1, e3]
      exact funext (v22_eq B)
    · rw [Cert.Reference3Ideal.Read.val_main_v23_eq, e0, e1, e2, e3]
      exact funext (v23_eq B)

/-! ## The fourth program -/

theorem reference4_frame : Cert.quiescent_Reference4Ideal := fun m ρ _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

set_option maxHeartbeats 2000000 in
open Cert.Down Cert.Reference4Ideal.Down in
/-- The second norm, the loss and their gradients give the reference's five results. -/
theorem algebraic4 : Cert.algebraic_Kernel4Ideal_Reference4Ideal_pre_finite4 := by
  intro m g m' g' hm hargs
  have hA : ∀ c, ∃ a : Reals, Cert.Kernel4Ideal.Down.Args m c a := fun c => ⟨_, Cert.Finite4.is_reals (hm c)⟩
  choose a A using hA
  refine ⟨fun c => Cert.Kernel2Ideal.Post.arr 4224 1024 (Cert.Post.pad (a c).DR), fun c => Cert.Kernel2Ideal.Post.arr 4224 1024 (Cert.Post.pad (a c).DR),
    fun c => Cert.Kernel2Ideal.Post.arr 8 128 (fun _ _ => (a c).LOSS), fun c => Cert.Kernel2Ideal.Post.arr 1 1024 (fun _ => (a c).DG),
    fun c => Cert.Kernel2Ideal.Post.arr 1 1024 (fun _ => (a c).DB), ?_, ?_⟩
  · refine (θ_run _ _ _).mono (fun r h c => ?_) (Cert.Kernel4Ideal.Value.run_blocks m g)
    obtain ⟨h0, h1, h2, h3, h4, hk⟩ := h c
    exact ⟨h0.trans (Cert.Kernel4Ideal.Down.arr10 (A c)), h1.trans (Cert.Kernel4Ideal.Down.arr11 (A c)), h2.trans (Cert.Kernel4Ideal.Down.arr12 (A c)),
      h3.trans (Cert.Kernel4Ideal.Down.arr13 (A c)), h4.trans (Cert.Kernel4Ideal.Down.arr14 (A c)), hk⟩
  · refine (θ_run _ _ _).mono (fun r h c => ?_) (Cert.Reference4Ideal.Value.run (F := Ideal) m' g')
    have B := A c
    unfold Cert.Kernel4Ideal.Down.Args at B
    obtain ⟨e0, e1, e2, e3, e4, e5, e6, e7⟩ := hargs c
    replace e0 : StableHlo.launchContents m' c (Proc.devRef .tc Cert.Reference4Ideal.main_arg0) = _ := e0
    replace e1 : StableHlo.launchContents m' c (Proc.devRef .tc Cert.Reference4Ideal.main_arg1) = _ := e1
    replace e2 : StableHlo.launchContents m' c (Proc.devRef .tc Cert.Reference4Ideal.main_arg2) = _ := e2
    replace e3 : StableHlo.launchContents m' c (Proc.devRef .tc Cert.Reference4Ideal.main_arg3) = _ := e3
    replace e4 : StableHlo.launchContents m' c (Proc.devRef .tc Cert.Reference4Ideal.main_arg4) = _ := e4
    replace e5 : StableHlo.launchContents m' c (Proc.devRef .tc Cert.Reference4Ideal.main_arg5) = _ := e5
    replace e6 : StableHlo.launchContents m' c (Proc.devRef .tc Cert.Reference4Ideal.main_arg6) = _ := e6
    replace e7 : StableHlo.launchContents m' c (Proc.devRef .tc Cert.Reference4Ideal.main_arg7) = _ := e7
    obtain ⟨h0, h1, h2, h3, h4, hk⟩ := h c
    refine ⟨h0.trans ?_, h1.trans ?_, h2.trans ?_, h3.trans ?_, h4.trans ?_, hk⟩
    · rw [Cert.Reference4Ideal.Read.val_main_v102_eq, e0, e1, e2, e3, e4, e5, e6, e7]
      exact funext (v102_real B)
    · rw [Cert.Reference4Ideal.Read.val_main_v103_eq, e0, e1, e2, e3, e4, e5, e6, e7]
      exact funext (v103_real B)
    · rw [Cert.Reference4Ideal.Read.val_main_v104_eq, e0, e1, e2, e3, e4, e5, e6, e7]
      exact funext (v104_real B)
    · rw [Cert.Reference4Ideal.Read.val_main_v105_eq, e0, e1, e2, e3, e4, e5, e6, e7]
      exact funext (v105_real B)
    · rw [Cert.Reference4Ideal.Read.val_main_v106_eq, e0, e1, e2, e3, e4, e5, e6, e7]
      exact funext (v106_real B)

/-! ## The fifth program -/

theorem reference5_frame : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

set_option maxHeartbeats 2000000 in
open Cert.In Cert.Reference5Ideal.In in
/-- The input norm's backward pass gives three of the reference's results: the gradients of the meta tokens and of the norm's parameters. -/
theorem algebraic5 : Cert.algebraic_Kernel5Ideal_Reference5Ideal_pre_finite5 := by
  intro m g m' g' hm hargs
  have hA : ∀ c, ∃ a : Reals, Cert.Kernel5Ideal.In.Args m c a := fun c => ⟨_, Cert.Finite5.is_reals (hm c)⟩
  choose a A using hA
  refine ⟨fun c => Cert.Kernel2Ideal.Post.arr 16 1024 (a c).DX, fun c => Cert.Kernel2Ideal.Post.arr 1 1024 (fun _ => (a c).DG),
    fun c => Cert.Kernel2Ideal.Post.arr 1 1024 (fun _ => (a c).DB), ?_, ?_⟩
  · refine (θ_run _ _ _).mono (fun r h c => ?_) (Cert.Kernel5Ideal.Value.run_blocks m g)
    obtain ⟨h0, h1, h2, hk⟩ := h c
    exact ⟨h0.trans (Cert.Kernel5Ideal.In.arr11 (A c)), h1.trans (Cert.Kernel5Ideal.In.arr12 (A c)), h2.trans (Cert.Kernel5Ideal.In.arr13 (A c)), hk⟩
  · refine (θ_run _ _ _).mono (fun r h c => ?_) (Cert.Reference5Ideal.Value.run (F := Ideal) m' g')
    have B := A c
    unfold Cert.Kernel5Ideal.In.Args at B
    obtain ⟨e0, e1, e2, _, e4, e5, e6, e7, e8, e9, e10⟩ := hargs c
    obtain ⟨h0, h1, h2, hk⟩ := h c
    refine ⟨h0.trans ?_, h1.trans ?_, h2.trans ?_, hk⟩
    · rw [Cert.Reference5Ideal.Read.val_main_v69_eq, e0, e1, e2, e4, e5, e6, e7, e8, e9, e10]
      exact funext (v69_real B)
    · rw [Cert.Reference5Ideal.Read.val_main_v71_eq, e0, e1, e4, e5, e6, e7, e8, e9, e10]
      exact funext (v71_real B)
    · rw [Cert.Reference5Ideal.Read.val_main_v72_eq, e4, e5, e6, e7, e8, e9, e10]
      exact funext (v72_real B)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite2.Gen.facts, Cert.Pre_finite4.Gen.facts, Cert.Pre_finite5.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, fun m ρ _ => Cert.Kernel4Ideal.Gen.frame m ρ,
  reference4_frame, fun m ρ _ => reference4_frame m ρ trivial,
  fun m ρ _ => Cert.Kernel5.Gen.frame m ρ, fun m ρ _ => Cert.Kernel5Ideal.Gen.frame m ρ, fun m ρ _ => Cert.Kernel5Ideal.Gen.frame m ρ,
  reference5_frame, fun m ρ _ => reference5_frame m ρ trivial,
  preserves, algebraic, trivial, algebraic2, trivial, algebraic3, trivial, algebraic4, trivial, algebraic5⟩

end Cert.Proof

end
